-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v99)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v99) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v90_0)) (v1 : (c : Dev Cert.Kernel5Ideal.nD) → Buf (Elt Ideal) ((c.tc : Thread Cert.Kernel5Ideal.nD Cert.Kernel5Ideal.τ).loc Cert.Kernel5Ideal.main_v90_1)) (v2 : (c : Dev Cert.Kernel5Ideal.nD) → Buf (Elt Ideal) ((c.tc : Thread Cert.Kernel5Ideal.nD Cert.Kernel5Ideal.τ).loc Cert.Kernel5Ideal.main_v90_2)) (v3 : (c : Dev Cert.Kernel5Ideal.nD) → Buf (Elt Ideal) ((c.tc : Thread Cert.Kernel5Ideal.nD Cert.Kernel5Ideal.τ).loc Cert.Kernel5Ideal.main_v90_3)) (v4 : (c : Dev Cert.Kernel5Ideal.nD) → Buf (Elt Ideal) ((c.tc : Thread Cert.Kernel5Ideal.nD Cert.Kernel5Ideal.τ).loc Cert.Kernel5Ideal.main_v90_4)) (v5 : (c : Dev Cert.Kernel5Ideal.nD) → Buf (Elt Ideal) ((c.tc : Thread Cert.Kernel5Ideal.nD Cert.Kernel5Ideal.τ).loc Cert.Kernel5Ideal.main_v90_5)) (v6 : (c : Dev Cert.Kernel5Ideal.nD) → Buf (Elt Ideal) ((c.tc : Thread Cert.Kernel5Ideal.nD Cert.Kernel5Ideal.τ).loc Cert.Kernel5Ideal.main_v90_6)) (v7 : (c : Dev Cert.Kernel5Ideal.nD) → Buf (Elt Ideal) ((c.tc : Thread Cert.Kernel5Ideal.nD Cert.Kernel5Ideal.τ).loc Cert.Kernel5Ideal.main_v90_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v90_0) = v0 c
          ∧ r.2.mem ((c.tc : Thread Cert.Kernel5Ideal.nD Cert.Kernel5Ideal.τ).loc Cert.Kernel5Ideal.main_v90_1) = v1 c
          ∧ r.2.mem ((c.tc : Thread Cert.Kernel5Ideal.nD Cert.Kernel5Ideal.τ).loc Cert.Kernel5Ideal.main_v90_2) = v2 c
          ∧ r.2.mem ((c.tc : Thread Cert.Kernel5Ideal.nD Cert.Kernel5Ideal.τ).loc Cert.Kernel5Ideal.main_v90_3) = v3 c
          ∧ r.2.mem ((c.tc : Thread Cert.Kernel5Ideal.nD Cert.Kernel5Ideal.τ).loc Cert.Kernel5Ideal.main_v90_4) = v4 c
          ∧ r.2.mem ((c.tc : Thread Cert.Kernel5Ideal.nD Cert.Kernel5Ideal.τ).loc Cert.Kernel5Ideal.main_v90_5) = v5 c
          ∧ r.2.mem ((c.tc : Thread Cert.Kernel5Ideal.nD Cert.Kernel5Ideal.τ).loc Cert.Kernel5Ideal.main_v90_6) = v6 c
          ∧ r.2.mem ((c.tc : Thread Cert.Kernel5Ideal.nD Cert.Kernel5Ideal.τ).loc Cert.Kernel5Ideal.main_v90_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v182) = v0 c
          ∧ r.2.mem ((c.tc : Thread Cert.Reference5Ideal.nD Cert.Reference5Ideal.τ).loc Cert.Reference5Ideal.main_v185) = v1 c
          ∧ r.2.mem ((c.tc : Thread Cert.Reference5Ideal.nD Cert.Reference5Ideal.τ).loc Cert.Reference5Ideal.main_v186) = v2 c
          ∧ r.2.mem ((c.tc : Thread Cert.Reference5Ideal.nD Cert.Reference5Ideal.τ).loc Cert.Reference5Ideal.main_v188) = v3 c
          ∧ r.2.mem ((c.tc : Thread Cert.Reference5Ideal.nD Cert.Reference5Ideal.τ).loc Cert.Reference5Ideal.main_v193) = v4 c
          ∧ r.2.mem ((c.tc : Thread Cert.Reference5Ideal.nD Cert.Reference5Ideal.τ).loc Cert.Reference5Ideal.main_v198) = v5 c
          ∧ r.2.mem ((c.tc : Thread Cert.Reference5Ideal.nD Cert.Reference5Ideal.τ).loc Cert.Reference5Ideal.main_v200) = v6 c
          ∧ r.2.mem ((c.tc : Thread Cert.Reference5Ideal.nD Cert.Reference5Ideal.τ).loc Cert.Reference5Ideal.main_v201) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x6144 : Shape := ⟨2, ![16384, 6144]⟩
abbrev S1x2048 : Shape := ⟨2, ![1, 2048]⟩
abbrev S_ : Shape := ⟨0, ![]⟩
abbrev S127 : Shape := ⟨1, ![127]⟩
abbrev S1 : Shape := ⟨1, ![1]⟩
abbrev S128 : Shape := ⟨1, ![128]⟩
abbrev S64 : Shape := ⟨1, ![64]⟩
abbrev S64x1 : Shape := ⟨2, ![64, 1]⟩
abbrev S1x128 : Shape := ⟨2, ![1, 128]⟩
abbrev S64x128 : Shape := ⟨2, ![64, 128]⟩
abbrev S128x1 : Shape := ⟨2, ![128, 1]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩
abbrev S8192x128 : Shape := ⟨2, ![8192, 128]⟩
abbrev S4 : Shape := ⟨1, ![4]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x512 : Shape := ⟨3, ![4, 128, 512]⟩
abbrev S4x128x256 : Shape := ⟨3, ![4, 128, 256]⟩
abbrev S4x1x512 : Shape := ⟨3, ![4, 1, 512]⟩
abbrev S2048 : Shape := ⟨1, ![2048]⟩
abbrev S2x8192x6144 : Shape := ⟨3, ![2, 8192, 6144]⟩
abbrev S2x8192x2048 : Shape := ⟨3, ![2, 8192, 2048]⟩
abbrev S1x512x1024 : Shape := ⟨3, ![1, 512, 1024]⟩
abbrev S1x512x2048 : Shape := ⟨3, ![1, 512, 2048]⟩
abbrev S4x256x512 : Shape := ⟨3, ![4, 256, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 135
  | .vmem => 16
  | .smem => 0
  | _ => 0

abbrev hbmTy0_0 (i : Nat) : BufTy := match i % 128 with
  | 0 => ⟨S16384x6144, .bf16⟩
  | 1 => ⟨S1x2048, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S127, .f32⟩
  | 10 => ⟨S_, .f32⟩
  | 11 => ⟨S127, .f32⟩
  | 12 => ⟨S127, .f32⟩
  | 13 => ⟨S1, .f32⟩
  | 14 => ⟨S_, .f32⟩
  | 15 => ⟨S127, .f32⟩
  | 16 => ⟨S127, .f32⟩
  | 17 => ⟨S127, .f32⟩
  | 18 => ⟨S127, .f32⟩
  | 19 => ⟨S1, .f32⟩
  | 20 => ⟨S127, .f32⟩
  | 21 => ⟨S127, .f32⟩
  | 22 => ⟨S127, .f32⟩
  | 23 => ⟨S1, .f32⟩
  | 24 => ⟨S128, .f32⟩
  | 25 => ⟨S_, .f32⟩
  | 26 => ⟨S128, .f32⟩
  | 27 => ⟨S128, .f32⟩
  | 28 => ⟨S_, .f32⟩
  | 29 => ⟨S128, .f32⟩
  | 30 => ⟨S128, .f32⟩
  | 31 => ⟨S64, .f32⟩
  | 32 => ⟨S_, .f32⟩
  | 33 => ⟨S64, .f32⟩
  | 34 => ⟨S64, .f32⟩
  | 35 => ⟨S64x1, .f32⟩
  | 36 => ⟨S1x128, .f32⟩
  | 37 => ⟨S64x128, .f32⟩
  | 38 => ⟨S64x128, .f32⟩
  | 39 => ⟨S64x128, .f32⟩
  | 40 => ⟨S128, .f32⟩
  | 41 => ⟨S128x1, .f32⟩
  | 42 => ⟨S1x128, .f32⟩
  | 43 => ⟨S128x128, .f32⟩
  | 44 => ⟨S128x128, .f32⟩
  | 45 => ⟨S128x128, .f32⟩
  | 46 => ⟨S64x128, .f32⟩
  | 47 => ⟨S64x1x128, .f32⟩
  | 48 => ⟨S64x128, .f32⟩
  | 49 => ⟨S64x1x128, .f32⟩
  | 50 => ⟨S128x128, .f32⟩
  | 51 => ⟨S1x128x128, .f32⟩
  | 52 => ⟨S128x128, .f32⟩
  | 53 => ⟨S1x128x128, .f32⟩
  | 54 => ⟨S64x128x128, .f32⟩
  | 55 => ⟨S64x128x128, .f32⟩
  | 56 => ⟨S64x128x128, .f32⟩
  | 57 => ⟨S64x128x128, .f32⟩
  | 58 => ⟨S64x128x128, .f32⟩
  | 59 => ⟨S64x128x128, .f32⟩
  | 60 => ⟨S64x128x128, .f32⟩
  | 61 => ⟨S8192x128, .f32⟩
  | 62 => ⟨S64x128x128, .f32⟩
  | 63 => ⟨S64x128x128, .f32⟩
  | 64 => ⟨S64x128x128, .f32⟩
  | 65 => ⟨S64x128x128, .f32⟩
  | 66 => ⟨S64x128x128, .f32⟩
  | 67 => ⟨S64x128x128, .f32⟩
  | 68 => ⟨S64x128x128, .f32⟩
  | 69 => ⟨S8192x128, .f32⟩
  | 70 => ⟨S4, .f32⟩
  | 71 => ⟨S_, .f32⟩
  | 72 => ⟨S4, .f32⟩
  | 73 => ⟨S4, .f32⟩
  | 74 => ⟨S_, .f32⟩
  | 75 => ⟨S4, .f32⟩
  | 76 => ⟨S4, .f32⟩
  | 77 => ⟨S4, .f32⟩
  | 78 => ⟨S4, .f32⟩
  | 79 => ⟨S4, .f32⟩
  | 80 => ⟨S128, .f32⟩
  | 81 => ⟨S128x1, .f32⟩
  | 82 => ⟨S1x128, .f32⟩
  | 83 => ⟨S128x128, .f32⟩
  | 84 => ⟨S128x128, .f32⟩
  | 85 => ⟨S128x128, .f32⟩
  | 86 => ⟨S_, .f32⟩
  | 87 => ⟨S128x128, .f32⟩
  | 88 => ⟨S128x128, .i1⟩
  | 89 => ⟨S4x1x1, .f32⟩
  | 90 => ⟨S_, .f32⟩
  | 91 => ⟨S128x128, .f32⟩
  | 92 => ⟨S128x128, .f32⟩
  | 93 => ⟨S1x128x128, .f32⟩
  | 94 => ⟨S4x128x128, .f32⟩
  | 95 => ⟨S4x128x128, .f32⟩
  | 96 => ⟨S4x128x128, .f32⟩
  | 97 => ⟨S4x128x128, .f32⟩
  | 98 => ⟨S_, .f32⟩
  | 99 => ⟨S_, .f32⟩
  | 100 => ⟨S4x128x128, .i1⟩
  | 101 => ⟨S4x128x128, .f32⟩
  | 102 => ⟨S4x128x128, .f32⟩
  | 103 => ⟨S4x1, .f32⟩
  | 104 => ⟨S_, .f32⟩
  | 105 => ⟨S128, .f32⟩
  | 106 => ⟨S128, .f32⟩
  | 107 => ⟨S1x128, .f32⟩
  | 108 => ⟨S4x128, .f32⟩
  | 109 => ⟨S4x128, .f32⟩
  | 110 => ⟨S4x128, .f32⟩
  | 111 => ⟨S4x128, .f32⟩
  | 112 => ⟨S4x128x1, .f32⟩
  | 113 => ⟨S4x1, .f32⟩
  | 114 => ⟨S_, .f32⟩
  | 115 => ⟨S128, .f32⟩
  | 116 => ⟨S128, .f32⟩
  | 117 => ⟨S1x128, .f32⟩
  | 118 => ⟨S4x128, .f32⟩
  | 119 => ⟨S4x128, .f32⟩
  | 120 => ⟨S4x128, .f32⟩
  | 121 => ⟨S4x128, .f32⟩
  | 122 => ⟨S4x128x1, .f32⟩
  | 123 => ⟨S_, .f32⟩
  | 124 => ⟨S4, .f32⟩
  | 125 => ⟨S4, .f32⟩
  | 126 => ⟨S4, .f32⟩
  | 127 => ⟨S4x1x1, .f32⟩
  | _ => ⟨S16384x6144, .bf16⟩

abbrev hbmTy0_1 (i : Nat) : BufTy := match i % 128 with
  | 0 => ⟨S4x128x512, .f32⟩
  | 1 => ⟨S4x128x256, .f32⟩
  | 2 => ⟨S4x1x512, .f32⟩
  | 3 => ⟨S2048, .f32⟩
  | 4 => ⟨S1x2048, .f32⟩
  | 5 => ⟨S2x8192x6144, .bf16⟩
  | 6 => ⟨S2x8192x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S4x128x128, .f32⟩
  | .local _ .vmem, ⟨9, _⟩ => ⟨S4x128x512, .f32⟩
  | .local _ .vmem, ⟨10, _⟩ => ⟨S4x128x256, .f32⟩
  | .local _ .vmem, ⟨11, _⟩ => ⟨S4x1x512, .f32⟩
  | .local _ .vmem, ⟨12, _⟩ => ⟨S1x2048, .f32⟩
  | .local _ .vmem, ⟨13, _⟩ => ⟨S1x512x2048, .bf16⟩
  | .local _ .vmem, ⟨14, _⟩ => ⟨S1x512x2048, .bf16⟩
  | .local _ .vmem, ⟨15, _⟩ => ⟨S4x256x512, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_3 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_10 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_11 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x6144 : Shape := ⟨2, ![16384, 6144]⟩
abbrev S1x2048 : Shape := ⟨2, ![1, 2048]⟩
abbrev S2x8192x6144 : Shape := ⟨3, ![2, 8192, 6144]⟩
abbrev S2x8192x1024 : Shape := ⟨3, ![2, 8192, 1024]⟩
abbrev S2x8192x2048 : Shape := ⟨3, ![2, 8192, 2048]⟩
abbrev S2x8192x4x256 : Shape := ⟨4, ![2, 8192, 4, 256]⟩
abbrev S2x8192x4x512 : Shape := ⟨4, ![2, 8192, 4, 512]⟩
abbrev S2x64x128x4x256 : Shape := ⟨5, ![2, 64, 128, 4, 256]⟩
abbrev S64x2x4x128x256 : Shape := ⟨5, ![64, 2, 4, 128, 256]⟩
abbrev S2x64x128x4x512 : Shape := ⟨5, ![2, 64, 128, 4, 512]⟩
abbrev S64x2x4x128x512 : Shape := ⟨5, ![64, 2, 4, 128, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S2x4x256x512 : Shape := ⟨4, ![2, 4, 256, 512]⟩
abbrev S1x2x4x128x256 : Shape := ⟨5, ![1, 2, 4, 128, 256]⟩
abbrev S2x4x128x256 : Shape := ⟨4, ![2, 4, 128, 256]⟩
abbrev S1x2x4x128x512 : Shape := ⟨5, ![1, 2, 4, 128, 512]⟩
abbrev S2x4x128x512 : Shape := ⟨4, ![2, 4, 128, 512]⟩
abbrev S2x4x128x128 : Shape := ⟨4, ![2, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S2x8192x4 : Shape := ⟨3, ![2, 8192, 4]⟩
abbrev S2x8192x4x1 : Shape := ⟨4, ![2, 8192, 4, 1]⟩
abbrev S2048 : Shape := ⟨1, ![2048]⟩
abbrev S1x1x2048 : Shape := ⟨3, ![1, 1, 2048]⟩

abbrev nBuf : Space → Nat
  | .hbm => 180
  | .vmem => 0
  | .smem => 0
  | _ => 0

abbrev hbmTy0_0 (i : Nat) : BufTy := match i % 128 with
  | 0 => ⟨S16384x6144, .bf16⟩
  | 1 => ⟨S1x2048, .f32⟩
  | 2 => ⟨S16384x6144, .f32⟩
  | 3 => ⟨S2x8192x6144, .f32⟩
  | 4 => ⟨S2x8192x1024, .f32⟩
  | 5 => ⟨S2x8192x1024, .f32⟩
  | 6 => ⟨S2x8192x2048, .f32⟩
  | 7 => ⟨S2x8192x2048, .f32⟩
  | 8 => ⟨S2x8192x4x256, .f32⟩
  | 9 => ⟨S2x8192x4x256, .f32⟩
  | 10 => ⟨S2x8192x4x512, .f32⟩
  | 11 => ⟨S2x64x128x4x256, .f32⟩
  | 12 => ⟨S64x2x4x128x256, .f32⟩
  | 13 => ⟨S2x64x128x4x256, .f32⟩
  | 14 => ⟨S64x2x4x128x256, .f32⟩
  | 15 => ⟨S2x64x128x4x512, .f32⟩
  | 16 => ⟨S64x2x4x128x512, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S4, .f32⟩
  | 26 => ⟨S4, .f32⟩
  | 27 => ⟨S128, .f32⟩
  | 28 => ⟨S128x1, .f32⟩
  | 29 => ⟨S1x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .i1⟩
  | 36 => ⟨S4x1x1, .f32⟩
  | 37 => ⟨S_, .f32⟩
  | 38 => ⟨S128x128, .f32⟩
  | 39 => ⟨S128x128, .f32⟩
  | 40 => ⟨S1x128x128, .f32⟩
  | 41 => ⟨S4x128x128, .f32⟩
  | 42 => ⟨S4x128x128, .f32⟩
  | 43 => ⟨S4x128x128, .f32⟩
  | 44 => ⟨S4x128x128, .f32⟩
  | 45 => ⟨S_, .f32⟩
  | 46 => ⟨S_, .f32⟩
  | 47 => ⟨S4x128x128, .i1⟩
  | 48 => ⟨S4x128x128, .f32⟩
  | 49 => ⟨S4x128x128, .f32⟩
  | 50 => ⟨S4x1, .f32⟩
  | 51 => ⟨S_, .f32⟩
  | 52 => ⟨S128, .f32⟩
  | 53 => ⟨S128, .f32⟩
  | 54 => ⟨S1x128, .f32⟩
  | 55 => ⟨S4x128, .f32⟩
  | 56 => ⟨S4x128, .f32⟩
  | 57 => ⟨S4x128, .f32⟩
  | 58 => ⟨S4x128, .f32⟩
  | 59 => ⟨S4x128x1, .f32⟩
  | 60 => ⟨S4x1, .f32⟩
  | 61 => ⟨S_, .f32⟩
  | 62 => ⟨S128, .f32⟩
  | 63 => ⟨S128, .f32⟩
  | 64 => ⟨S1x128, .f32⟩
  | 65 => ⟨S4x128, .f32⟩
  | 66 => ⟨S4x128, .f32⟩
  | 67 => ⟨S4x128, .f32⟩
  | 68 => ⟨S4x128, .f32⟩
  | 69 => ⟨S4x128x1, .f32⟩
  | 70 => ⟨S_, .f32⟩
  | 71 => ⟨S4, .f32⟩
  | 72 => ⟨S4, .f32⟩
  | 73 => ⟨S4, .f32⟩
  | 74 => ⟨S4x1x1, .f32⟩
  | 75 => ⟨S_, .f32⟩
  | 76 => ⟨S2x4x256x512, .f32⟩
  | 77 => ⟨S_, .f32⟩
  | 78 => ⟨S64x2x4x128x512, .f32⟩
  | 79 => ⟨S_, .i32⟩
  | 80 => ⟨S64x2x4x128x256, .f32⟩
  | 81 => ⟨S64x2x4x128x256, .f32⟩
  | 82 => ⟨S64x2x4x128x512, .f32⟩
  | 83 => ⟨S4x128x128, .f32⟩
  | 84 => ⟨S4x128x1, .f32⟩
  | 85 => ⟨S4x1x1, .f32⟩
  | 86 => ⟨S4x128x1, .f32⟩
  | 87 => ⟨S_, .i32⟩
  | 88 => ⟨S2x4x256x512, .f32⟩
  | 89 => ⟨S64x2x4x128x512, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x2x4x128x256, .f32⟩
  | 97 => ⟨S2x4x128x256, .f32⟩
  | 98 => ⟨S_, .i32⟩
  | 99 => ⟨S_, .i32⟩
  | 100 => ⟨S_, .i32⟩
  | 101 => ⟨S_, .i32⟩
  | 102 => ⟨S1x2x4x128x256, .f32⟩
  | 103 => ⟨S2x4x128x256, .f32⟩
  | 104 => ⟨S_, .i32⟩
  | 105 => ⟨S_, .i32⟩
  | 106 => ⟨S_, .i32⟩
  | 107 => ⟨S_, .i32⟩
  | 108 => ⟨S1x2x4x128x512, .f32⟩
  | 109 => ⟨S2x4x128x512, .f32⟩
  | 110 => ⟨S2x4x128x128, .f32⟩
  | 111 => ⟨S1x4x128x128, .f32⟩
  | 112 => ⟨S2x4x128x128, .f32⟩
  | 113 => ⟨S2x4x128x128, .f32⟩
  | 114 => ⟨S2x4x128x512, .f32⟩
  | 115 => ⟨S2x4x128x512, .f32⟩
  | 116 => ⟨S1x4x128x1, .f32⟩
  | 117 => ⟨S2x4x128x512, .f32⟩
  | 118 => ⟨S2x4x128x512, .f32⟩
  | 119 => ⟨S1x4x1x1, .f32⟩
  | 120 => ⟨S2x4x256x512, .f32⟩
  | 121 => ⟨S2x4x256x512, .f32⟩
  | 122 => ⟨S1x4x128x1, .f32⟩
  | 123 => ⟨S2x4x128x256, .f32⟩
  | 124 => ⟨S2x4x128x256, .f32⟩
  | 125 => ⟨S2x4x256x512, .f32⟩
  | 126 => ⟨S2x4x256x512, .f32⟩
  | 127 => ⟨S2x4x128x512, .f32⟩
  | _ => ⟨S16384x6144, .bf16⟩

abbrev hbmTy0_1 (i : Nat) : BufTy := match i % 128 with
  | 0 => ⟨S1x2x4x128x512, .f32⟩
  | 1 => ⟨S_, .i32⟩
  | 2 => ⟨S_, .i32⟩
  | 3 => ⟨S_, .i32⟩
  | 4 => ⟨S_, .i32⟩
  | 5 => ⟨S64x2x4x128x512, .f32⟩
  | 6 => ⟨S_, .i32⟩
  | 7 => ⟨S_, .i32⟩
  | 8 => ⟨S2x64x128x4x512, .f32⟩
  | 9 => ⟨S2x8192x4x512, .f32⟩
  | 10 => ⟨S_, .f32⟩
  | 11 => ⟨S2x8192x4, .f32⟩
  | 12 => ⟨S2x8192x4x1, .f32⟩
  | 13 => ⟨S_, .f32⟩
  | 14 => ⟨S2x8192x4x1, .f32⟩
  | 15 => ⟨S2x8192x4x1, .f32⟩
  | 16 => ⟨S2x8192x4x512, .f32⟩
  | 17 => ⟨S2x8192x4x512, .f32⟩
  | 18 => ⟨S2x8192x4x512, .f32⟩
  | 19 => ⟨S_, .f32⟩
  | 20 => ⟨S2x8192x4, .f32⟩
  | 21 => ⟨S2x8192x4x1, .f32⟩
  | 22 => ⟨S_, .f32⟩
  | 23 => ⟨S2x8192x4x1, .f32⟩
  | 24 => ⟨S2x8192x4x1, .f32⟩
  | 25 => ⟨S2x8192x4x512, .f32⟩
  | 26 => ⟨S2x8192x4x512, .f32⟩
  | 27 => ⟨S_, .f32⟩
  | 28 => ⟨S2x8192x4x1, .f32⟩
  | 29 => ⟨S2x8192x4x1, .f32⟩
  | 30 => ⟨S2x8192x4x1, .f32⟩
  | 31 => ⟨S2x8192x4x512, .f32⟩
  | 32 => ⟨S2x8192x4x512, .f32⟩
  | 33 => ⟨S2x8192x2048, .f32⟩
  | 34 => ⟨S2048, .f32⟩
  | 35 => ⟨S1x1x2048, .f32⟩
  | 36 => ⟨S2x8192x2048, .f32⟩
  | 37 => ⟨S2x8192x2048, .f32⟩
  | 38 => ⟨S16384x6144, .f32⟩
  | 39 => ⟨S2x8192x6144, .f32⟩
  | 40 => ⟨S2x8192x2048, .f32⟩
  | 41 => ⟨S2x8192x2048, .f32⟩
  | 42 => ⟨S2x8192x2048, .f32⟩
  | 43 => ⟨S_, .f32⟩
  | 44 => ⟨S2x8192x2048, .f32⟩
  | 45 => ⟨S2x8192x2048, .f32⟩
  | 46 => ⟨S_, .f32⟩
  | 47 => ⟨S2x8192x2048, .f32⟩
  | 48 => ⟨S2x8192x2048, .f32⟩
  | 49 => ⟨S2x8192x2048, .f32⟩
  | 50 => ⟨S2x8192x2048, .f32⟩
  | 51 => ⟨S2x8192x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_c : Ref sig .tc := ⟨.hbm, 79, rfl⟩
abbrev main_v64_0 : Ref sig .tc := ⟨.hbm, 80, rfl⟩
abbrev main_v64_1 : Ref sig .tc := ⟨.hbm, 81, rfl⟩
abbrev main_v64_2 : Ref sig .tc := ⟨.hbm, 82, rfl⟩
abbrev main_v64_3 : Ref sig .tc := ⟨.hbm, 83, rfl⟩
abbrev main_v64_4 : Ref sig .tc := ⟨.hbm, 84, rfl⟩
abbrev main_v64_5 : Ref sig .tc := ⟨.hbm, 85, rfl⟩
abbrev main_v64_6 : Ref sig .tc := ⟨.hbm, 86, rfl⟩
abbrev main_v64_7 : Ref sig .tc := ⟨.hbm, 87, rfl⟩
abbrev main_v64_8 : Ref sig .tc := ⟨.hbm, 88, rfl⟩
abbrev main_v64_9 : Ref sig .tc := ⟨.hbm, 89, rfl⟩
abbrev main_while0c_c_23 : Ref sig .tc := ⟨.hbm, 90, rfl⟩
abbrev main_while0c_v96 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_call1_v0 : Ref sig .tc := ⟨.hbm, 96, rfl⟩
abbrev main_while0b_v96 : Ref sig .tc := ⟨.hbm, 97, rfl⟩
abbrev main_while0b_call2_c : Ref sig .tc := ⟨.hbm, 98, rfl⟩
abbrev main_while0b_call2_c_0 : Ref sig .tc := ⟨.hbm, 99, rfl⟩
abbrev main_while0b_call2_c_1 : Ref sig .tc := ⟨.hbm, 100, rfl⟩
abbrev main_while0b_call2_c_2 : Ref sig .tc := ⟨.hbm, 101, rfl⟩
abbrev main_while0b_call2_v0 : Ref sig .tc := ⟨.hbm, 102, rfl⟩
abbrev main_while0b_v97 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_c_1 : Ref sig .tc := ⟨.hbm, 106, rfl⟩
abbrev main_while0b_call3_c_2 : Ref sig .tc := ⟨.hbm, 107, rfl⟩
abbrev main_while0b_call3_v0 : Ref sig .tc := ⟨.hbm, 108, rfl⟩
abbrev main_while0b_v98 : Ref sig .tc := ⟨.hbm, 109, rfl⟩
abbrev main_while0b_v99 : Ref sig .tc := ⟨.hbm, 110, rfl⟩
abbrev main_while0b_v100 : Ref sig .tc := ⟨.hbm, 111, rfl⟩
abbrev main_while0b_v101 : Ref sig .tc := ⟨.hbm, 112, rfl⟩
abbrev main_while0b_v102 : Ref sig .tc := ⟨.hbm, 113, rfl⟩
abbrev main_while0b_v103 : Ref sig .tc := ⟨.hbm, 114, rfl⟩
abbrev main_while0b_v104 : Ref sig .tc := ⟨.hbm, 115, rfl⟩
abbrev main_while0b_v105 : Ref sig .tc := ⟨.hbm, 116, rfl⟩
abbrev main_while0b_v106 : Ref sig .tc := ⟨.hbm, 117, rfl⟩
abbrev main_while0b_v107 : Ref sig .tc := ⟨.hbm, 118, rfl⟩
abbrev main_while0b_v108 : Ref sig .tc := ⟨.hbm, 119, rfl⟩
abbrev main_while0b_v109 : Ref sig .tc := ⟨.hbm, 120, rfl⟩
abbrev main_while0b_v110 : Ref sig .tc := ⟨.hbm, 121, rfl⟩
abbrev main_while0b_v111 : Ref sig .tc := ⟨.hbm, 122, rfl⟩
abbrev main_while0b_v112 : Ref sig .tc := ⟨.hbm, 123, rfl⟩
abbrev main_while0b_v113 : Ref sig .tc := ⟨.hbm, 124, rfl⟩
abbrev main_while0b_v114 : Ref sig .tc := ⟨.hbm, 125, rfl⟩
abbrev main_while0b_v115 : Ref sig .tc := ⟨.hbm, 126, rfl⟩
abbrev main_while0b_v116 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v117 : Ref sig .tc := ⟨.hbm, 133, rfl⟩
abbrev main_while0b_c_23 : Ref sig .tc := ⟨.hbm, 134, rfl⟩
abbrev main_while0b_v118 : Ref sig .tc := ⟨.hbm, 135, rfl⟩
abbrev main_v65 : Ref sig .tc := ⟨.hbm, 136, rfl⟩
abbrev main_v66 : Ref sig .tc := ⟨.hbm, 137, rfl⟩
abbrev main_cst_9 : Ref sig .tc := ⟨.hbm, 138, rfl⟩
abbrev main_v67 : Ref sig .tc := ⟨.hbm, 139, rfl⟩
abbrev main_v68 : Ref sig .tc := ⟨.hbm, 140, rfl⟩
abbrev main_cst_10 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_cst_11 : Ref sig .tc := ⟨.hbm, 147, rfl⟩
abbrev main_v74 : Ref sig .tc := ⟨.hbm, 148, rfl⟩
abbrev main_v75 : Ref sig .tc := ⟨.hbm, 149, rfl⟩
abbrev main_cst_12 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_cst_13 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_call5_v0 : Ref sig .tc := ⟨.hbm, 169, rfl⟩
abbrev main_call5_v1 : Ref sig .tc := ⟨.hbm, 170, rfl⟩
abbrev main_call5_cst : Ref sig .tc := ⟨.hbm, 171, rfl⟩
abbrev main_call5_v2 : Ref sig .tc := ⟨.hbm, 172, rfl⟩
abbrev main_call5_v3 : Ref sig .tc := ⟨.hbm, 173, rfl⟩
abbrev main_call5_cst_0 : Ref sig .tc := ⟨.hbm, 174, rfl⟩
abbrev main_call5_v4 : Ref sig .tc := ⟨.hbm, 175, rfl⟩
abbrev main_call5_v5 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x1024 : Shape := ⟨2, ![16384, 1024]⟩
abbrev S1x1024x1024 : Shape := ⟨3, ![1, 1024, 1024]⟩
abbrev S2x4x1024 : Shape := ⟨3, ![2, 4, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 24
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024x1024, .f32⟩
  | .hbm, ⟨3, _⟩ => ⟨S2x4x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S1024x1024, .bf16⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x1024x5632, .f32⟩
  | .hbm, ⟨15, _⟩ => ⟨S1024x5632, .f32⟩
  | .hbm, ⟨16, _⟩ => ⟨S1024x5632, .bf16⟩
  | .hbm, ⟨17, _⟩ => ⟨S1x2816x1024, .f32⟩
  | .hbm, ⟨18, _⟩ => ⟨S2816x1024, .f32⟩
  | .hbm, ⟨19, _⟩ => ⟨S2816x1024, .bf16⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1x1024x1024 : Shape := ⟨3, ![1, 1024, 1024]⟩
abbrev S2x4x1024 : Shape := ⟨3, ![2, 4, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024x1024, .f32⟩
  | .hbm, ⟨3, _⟩ => ⟨S2x4x1024, .f32⟩
  | .hbm, ⟨4, _⟩ => ⟨S2x1024x5632, .f32⟩
  | .hbm, ⟨5, _⟩ => ⟨S2x2816x1024, .f32⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S1x1x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1x1024, .f32⟩
  | .hbm, ⟨29, _⟩ => ⟨S1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1x1024x5632, .f32⟩
  | .hbm, ⟨47, _⟩ => ⟨S1024x5632, .f32⟩
  | .hbm, ⟨48, _⟩ => ⟨S1x2816x1024, .f32⟩
  | .hbm, ⟨49, _⟩ => ⟨S2816x1024, .f32⟩
  | .hbm, ⟨50, _⟩ => ⟨S16384x5632, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x1024, .f32⟩
  | .hbm, ⟨64, _⟩ => ⟨S1x1x1024, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel3.lean ====
abbrev S16384x2048 : Shape := ⟨2, ![16384, 2048]⟩
abbrev S2x8192x1024 : Shape := ⟨3, ![2, 8192, 1024]⟩
abbrev S1x2048x1024 : Shape := ⟨3, ![1, 2048, 1024]⟩
abbrev S2x4x1024 : Shape := ⟨3, ![2, 4, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S2048x1024 : Shape := ⟨2, ![2048, 1024]⟩
abbrev S1x1x1024 : Shape := ⟨3, ![1, 1, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 25
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2x8192x1024, .f32⟩
  | .hbm, ⟨2, _⟩ => ⟨S1x2048x1024, .f32⟩
  | .hbm, ⟨3, _⟩ => ⟨S2x4x1024, .f32⟩
  | .hbm, ⟨4, _⟩ => ⟨S2x1024x5632, .f32⟩
  | .hbm, ⟨5, _⟩ => ⟨S2x2816x1024, .f32⟩
  | .hbm, ⟨6, _⟩ => ⟨S16384x1024, .f32⟩
  | .hbm, ⟨7, _⟩ => ⟨S2048x1024, .f32⟩
  | .hbm, ⟨8, _⟩ => ⟨S2048x1024, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x2816x1024, .f32⟩
  | .hbm, ⟨19, _⟩ => ⟨S2816x1024, .f32⟩
  | .hbm, ⟨20, _⟩ => ⟨S2816x1024, .bf16⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x2048 : Shape := ⟨2, ![16384, 2048]⟩
abbrev S2x8192x1024 : Shape := ⟨3, ![2, 8192, 1024]⟩
abbrev S1x2048x1024 : Shape := ⟨3, ![1, 2048, 1024]⟩
abbrev S2x4x1024 : Shape := ⟨3, ![2, 4, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S2048x1024 : Shape := ⟨2, ![2048, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 84
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x8192x1024, .f32⟩
  | .hbm, ⟨2, _⟩ => ⟨S1x2048x1024, .f32⟩
  | .hbm, ⟨3, _⟩ => ⟨S2x4x1024, .f32⟩
  | .hbm, ⟨4, _⟩ => ⟨S2x1024x5632, .f32⟩
  | .hbm, ⟨5, _⟩ => ⟨S2x2816x1024, .f32⟩
  | .hbm, ⟨6, _⟩ => ⟨S16384x1024, .f32⟩
  | .hbm, ⟨7, _⟩ => ⟨S16384x2048, .f32⟩
  | .hbm, ⟨8, _⟩ => ⟨S2048x1024, .f32⟩
  | .hbm, ⟨9, _⟩ => ⟨S16384x1024, .f32⟩
  | .hbm, ⟨10, _⟩ => ⟨S1x1x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1x1024, .f32⟩
  | .hbm, ⟨30, _⟩ => ⟨S1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024x5632, .f32⟩
  | .hbm, ⟨48, _⟩ => ⟨S1024x5632, .f32⟩
  | .hbm, ⟨49, _⟩ => ⟨S1x2816x1024, .f32⟩
  | .hbm, ⟨50, _⟩ => ⟨S2816x1024, .f32⟩
  | .hbm, ⟨51, _⟩ => ⟨S16384x5632, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x1024, .f32⟩
  | .hbm, ⟨65, _⟩ => ⟨S1x1x1024, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x4x1024 : Shape := ⟨3, ![2, 4, 1024]⟩
abbrev S1x1024x6144 : Shape := ⟨3, ![1, 1024, 6144]⟩
abbrev S_ : Shape := ⟨0, ![]⟩
abbrev S127 : Shape := ⟨1, ![127]⟩
abbrev S1 : Shape := ⟨1, ![1]⟩
abbrev S128 : Shape := ⟨1, ![128]⟩
abbrev S64 : Shape := ⟨1, ![64]⟩
abbrev S64x1 : Shape := ⟨2, ![64, 1]⟩
abbrev S1x128 : Shape := ⟨2, ![1, 128]⟩
abbrev S64x128 : Shape := ⟨2, ![64, 128]⟩
abbrev S128x1 : Shape := ⟨2, ![128, 1]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩
abbrev S8192x128 : Shape := ⟨2, ![8192, 128]⟩
abbrev S4 : Shape := ⟨1, ![4]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x512 : Shape := ⟨3, ![4, 128, 512]⟩
abbrev S4x128x256 : Shape := ⟨3, ![4, 128, 256]⟩
abbrev S4x1x512 : Shape := ⟨3, ![4, 1, 512]⟩
abbrev S16384x1024 : Shape := ⟨2, ![16384, 1024]⟩
abbrev S1x1x1024 : Shape := ⟨3, ![1, 1, 1024]⟩
abbrev S1024 : Shape := ⟨1, ![1024]⟩
abbrev S1x1024 : Shape := ⟨2, ![1, 1024]⟩
abbrev S1024x6144 : Shape := ⟨2, ![1024, 6144]⟩
abbrev S16384x6144 : Shape := ⟨2, ![16384, 6144]⟩
abbrev S512x1024 : Shape := ⟨2, ![512, 1024]⟩
abbrev S512x128 : Shape := ⟨2, ![512, 128]⟩
abbrev S512x6144 : Shape := ⟨2, ![512, 6144]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩

abbrev nBuf : Space → Nat
  | .hbm => 139
  | .vmem => 10
  | .smem => 0
  | _ => 0

abbrev hbmTy0_0 (i : Nat) : BufTy := match i % 128 with
  | 0 => ⟨S2x8192x1024, .f32⟩
  | 1 => ⟨S2x4x1024, .f32⟩
  | 2 => ⟨S1x1024x6144, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S127, .f32⟩
  | 11 => ⟨S_, .f32⟩
  | 12 => ⟨S127, .f32⟩
  | 13 => ⟨S127, .f32⟩
  | 14 => ⟨S1, .f32⟩
  | 15 => ⟨S_, .f32⟩
  | 16 => ⟨S127, .f32⟩
  | 17 => ⟨S127, .f32⟩
  | 18 => ⟨S127, .f32⟩
  | 19 => ⟨S127, .f32⟩
  | 20 => ⟨S1, .f32⟩
  | 21 => ⟨S127, .f32⟩
  | 22 => ⟨S127, .f32⟩
  | 23 => ⟨S127, .f32⟩
  | 24 => ⟨S1, .f32⟩
  | 25 => ⟨S128, .f32⟩
  | 26 => ⟨S_, .f32⟩
  | 27 => ⟨S128, .f32⟩
  | 28 => ⟨S128, .f32⟩
  | 29 => ⟨S_, .f32⟩
  | 30 => ⟨S128, .f32⟩
  | 31 => ⟨S128, .f32⟩
  | 32 => ⟨S64, .f32⟩
  | 33 => ⟨S_, .f32⟩
  | 34 => ⟨S64, .f32⟩
  | 35 => ⟨S64, .f32⟩
  | 36 => ⟨S64x1, .f32⟩
  | 37 => ⟨S1x128, .f32⟩
  | 38 => ⟨S64x128, .f32⟩
  | 39 => ⟨S64x128, .f32⟩
  | 40 => ⟨S64x128, .f32⟩
  | 41 => ⟨S128, .f32⟩
  | 42 => ⟨S128x1, .f32⟩
  | 43 => ⟨S1x128, .f32⟩
  | 44 => ⟨S128x128, .f32⟩
  | 45 => ⟨S128x128, .f32⟩
  | 46 => ⟨S128x128, .f32⟩
  | 47 => ⟨S64x128, .f32⟩
  | 48 => ⟨S64x1x128, .f32⟩
  | 49 => ⟨S64x128, .f32⟩
  | 50 => ⟨S64x1x128, .f32⟩
  | 51 => ⟨S128x128, .f32⟩
  | 52 => ⟨S1x128x128, .f32⟩
  | 53 => ⟨S128x128, .f32⟩
  | 54 => ⟨S1x128x128, .f32⟩
  | 55 => ⟨S64x128x128, .f32⟩
  | 56 => ⟨S64x128x128, .f32⟩
  | 57 => ⟨S64x128x128, .f32⟩
  | 58 => ⟨S64x128x128, .f32⟩
  | 59 => ⟨S64x128x128, .f32⟩
  | 60 => ⟨S64x128x128, .f32⟩
  | 61 => ⟨S64x128x128, .f32⟩
  | 62 => ⟨S8192x128, .f32⟩
  | 63 => ⟨S64x128x128, .f32⟩
  | 64 => ⟨S64x128x128, .f32⟩
  | 65 => ⟨S64x128x128, .f32⟩
  | 66 => ⟨S64x128x128, .f32⟩
  | 67 => ⟨S64x128x128, .f32⟩
  | 68 => ⟨S64x128x128, .f32⟩
  | 69 => ⟨S64x128x128, .f32⟩
  | 70 => ⟨S8192x128, .f32⟩
  | 71 => ⟨S4, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S4, .f32⟩
  | 79 => ⟨S4, .f32⟩
  | 80 => ⟨S4, .f32⟩
  | 81 => ⟨S128, .f32⟩
  | 82 => ⟨S128x1, .f32⟩
  | 83 => ⟨S1x128, .f32⟩
  | 84 => ⟨S128x128, .f32⟩
  | 85 => ⟨S128x128, .f32⟩
  | 86 => ⟨S128x128, .f32⟩
  | 87 => ⟨S_, .f32⟩
  | 88 => ⟨S128x128, .f32⟩
  | 89 => ⟨S128x128, .i1⟩
  | 90 => ⟨S4x1x1, .f32⟩
  | 91 => ⟨S_, .f32⟩
  | 92 => ⟨S128x128, .f32⟩
  | 93 => ⟨S128x128, .f32⟩
  | 94 => ⟨S1x128x128, .f32⟩
  | 95 => ⟨S4x128x128, .f32⟩
  | 96 => ⟨S4x128x128, .f32⟩
  | 97 => ⟨S4x128x128, .f32⟩
  | 98 => ⟨S4x128x128, .f32⟩
  | 99 => ⟨S_, .f32⟩
  | 100 => ⟨S_, .f32⟩
  | 101 => ⟨S4x128x128, .i1⟩
  | 102 => ⟨S4x128x128, .f32⟩
  | 103 => ⟨S4x128x128, .f32⟩
  | 104 => ⟨S4x1, .f32⟩
  | 105 => ⟨S_, .f32⟩
  | 106 => ⟨S128, .f32⟩
  | 107 => ⟨S128, .f32⟩
  | 108 => ⟨S1x128, .f32⟩
  | 109 => ⟨S4x128, .f32⟩
  | 110 => ⟨S4x128, .f32⟩
  | 111 => ⟨S4x128, .f32⟩
  | 112 => ⟨S4x128, .f32⟩
  | 113 => ⟨S4x128x1, .f32⟩
  | 114 => ⟨S4x1, .f32⟩
  | 115 => ⟨S_, .f32⟩
  | 116 => ⟨S128, .f32⟩
  | 117 => ⟨S128, .f32⟩
  | 118 => ⟨S1x128, .f32⟩
  | 119 => ⟨S4x128, .f32⟩
  | 120 => ⟨S4x128, .f32⟩
  | 121 => ⟨S4x128, .f32⟩
  | 122 => ⟨S4x128, .f32⟩
  | 123 => ⟨S4x128x1, .f32⟩
  | 124 => ⟨S_, .f32⟩
  | 125 => ⟨S4, .f32⟩
  | 126 => ⟨S4, .f32⟩
  | 127 => ⟨S4, .f32⟩
  | _ => ⟨S2x8192x1024, .f32⟩

abbrev hbmTy0_1 (i : Nat) : BufTy := match i % 128 with
  | 0 => ⟨S4x1x1, .f32⟩
  | 1 => ⟨S4x128x512, .f32⟩
  | 2 => ⟨S4x128x256, .f32⟩
  | 3 => ⟨S4x1x512, .f32⟩
  | 4 => ⟨S16384x1024, .f32⟩
  | 5 => ⟨S1x1x1024, .f32⟩
  | 6 => ⟨S1024, .f32⟩
  | 7 => ⟨S1x1024, .f32⟩
  | 8 => ⟨S1024x6144, .f32⟩
  | 9 => ⟨S1024x6144, .bf16⟩
  | 10 => ⟨S16384x6144, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x6144, .bf16⟩
  | .local _ .vmem, ⟨9, _⟩ => ⟨S512x6144, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_cst_1 : Ref sig .tc := ⟨.hbm, 26, rfl⟩
abbrev main_v1 : Ref sig .tc := ⟨.hbm, 27, rfl⟩
abbrev main_v2 : Ref sig .tc := ⟨.hbm, 28, rfl⟩
abbrev main_cst_2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_3 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_4 : Ref sig .tc := ⟨.hbm, 72, rfl⟩
abbrev main_v44 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_7 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_8 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v67 : Ref sig .tc := ⟨.hbm, 103, rfl⟩
abbrev main_v68 : Ref sig .tc := ⟨.hbm, 104, rfl⟩
abbrev main_cst_9 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_10 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_11 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x8192x1024 : Shape := ⟨3, ![2, 8192, 1024]⟩
abbrev S2x4x1024 : Shape := ⟨3, ![2, 4, 1024]⟩
abbrev S1x1024x6144 : Shape := ⟨3, ![1, 1024, 6144]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1024x6144 : Shape := ⟨2, ![1024, 6144]⟩
abbrev S2x8192x6144 : Shape := ⟨3, ![2, 8192, 6144]⟩
abbrev S2x8192x2048 : Shape := ⟨3, ![2, 8192, 2048]⟩
abbrev S127 : Shape := ⟨1, ![127]⟩
abbrev S1 : Shape := ⟨1, ![1]⟩
abbrev S128 : Shape := ⟨1, ![128]⟩
abbrev S2x8192x4x256 : Shape := ⟨4, ![2, 8192, 4, 256]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S2x8192x4x128 : Shape := ⟨4, ![2, 8192, 4, 128]⟩
abbrev S16384x6144 : Shape := ⟨2, ![16384, 6144]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x4x1024, .f32⟩
  | .hbm, ⟨2, _⟩ => ⟨S1x1024x6144, .f32⟩
  | .hbm, ⟨3, _⟩ => ⟨S1x1x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x6144, .f32⟩
  | .hbm, ⟨22, _⟩ => ⟨S2x8192x6144, .f32⟩
  | .hbm, ⟨23, _⟩ => ⟨S2x8192x1024, .f32⟩
  | .hbm, ⟨24, _⟩ => ⟨S2x8192x1024, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S127, .f32⟩
  | .hbm, ⟨35, _⟩ => ⟨S_, .f32⟩
  | .hbm, ⟨36, _⟩ => ⟨S127, .f32⟩
  | .hbm, ⟨37, _⟩ => ⟨S127, .f32⟩
  | .hbm, ⟨38, _⟩ => ⟨S1, .f32⟩
  | .hbm, ⟨39, _⟩ => ⟨S_, .f32⟩
  | .hbm, ⟨40, _⟩ => ⟨S127, .f32⟩
  | .hbm, ⟨41, _⟩ => ⟨S127, .f32⟩
  | .hbm, ⟨42, _⟩ => ⟨S127, .f32⟩
  | .hbm, ⟨43, _⟩ => ⟨S127, .f32⟩
  | .hbm, ⟨44, _⟩ => ⟨S1, .f32⟩
  | .hbm, ⟨45, _⟩ => ⟨S127, .f32⟩
  | .hbm, ⟨46, _⟩ => ⟨S127, .f32⟩
  | .hbm, ⟨47, _⟩ => ⟨S127, .f32⟩
  | .hbm, ⟨48, _⟩ => ⟨S1, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S2x8192x4x256, .f32⟩
  | .hbm, ⟨57, _⟩ => ⟨S8192, .f32⟩
  | .hbm, ⟨58, _⟩ => ⟨S8192x1, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S1x8192x1x128, .f32⟩
  | .hbm, ⟨65, _⟩ => ⟨S8192x128, .f32⟩
  | .hbm, ⟨66, _⟩ => ⟨S1x8192x1x128, .f32⟩
  | .hbm, ⟨67, _⟩ => ⟨S2x8192x4x128, .f32⟩
  | .hbm, ⟨68, _⟩ => ⟨S2x8192x4x128, .f32⟩
  | .hbm, ⟨69, _⟩ => ⟨S2x8192x4x128, .f32⟩
  | .hbm, ⟨70, _⟩ => ⟨S2x8192x4x128, .f32⟩
  | .hbm, ⟨71, _⟩ => ⟨S2x8192x4x128, .f32⟩
  | .hbm, ⟨72, _⟩ => ⟨S2x8192x4x128, .f32⟩
  | .hbm, ⟨73, _⟩ => ⟨S2x8192x4x128, .f32⟩
  | .hbm, ⟨74, _⟩ => ⟨S2x8192x4x128, .f32⟩
  | .hbm, ⟨75, _⟩ => ⟨S2x8192x4x128, .f32⟩
  | .hbm, ⟨76, _⟩ => ⟨S2x8192x4x128, .f32⟩
  | .hbm, ⟨77, _⟩ => ⟨S2x8192x4x128, .f32⟩
  | .hbm, ⟨78, _⟩ => ⟨S2x8192x4x128, .f32⟩
  | .hbm, ⟨79, _⟩ => ⟨S2x8192x4x256, .f32⟩
  | .hbm, ⟨80, _⟩ => ⟨S2x8192x1024, .f32⟩
  | .hbm, ⟨81, _⟩ => ⟨S2x8192x4x256, .f32⟩
  | .hbm, ⟨82, _⟩ => ⟨S8192, .f32⟩
  | .hbm, ⟨83, _⟩ => ⟨S8192x1, .f32⟩
  | .hbm, ⟨84, _⟩ => ⟨S1x128, .f32⟩
  | .hbm, ⟨85, _⟩ => ⟨S8192x128, .f32⟩
  | .hbm, ⟨86, _⟩ => ⟨S8192x128, .f32⟩
  | .hbm, ⟨87, _⟩ => ⟨S8192x128, .f32⟩
  | .hbm, ⟨88, _⟩ => ⟨S8192x128, .f32⟩
  | .hbm, ⟨89, _⟩ => ⟨S1x8192x1x128, .f32⟩
  | .hbm, ⟨90, _⟩ => ⟨S8192x128, .f32⟩
  | .hbm, ⟨91, _⟩ => ⟨S1x8192x1x128, .f32⟩
  | .hbm, ⟨92, _⟩ => ⟨S2x8192x4x128, .f32⟩
  | .hbm, ⟨93, _⟩ => ⟨S2x8192x4x128, .f32⟩
  | .hbm, ⟨94, _⟩ => ⟨S2x8192x4x128, .f32⟩
  | .hbm, ⟨95, _⟩ => ⟨S2x8192x4x128, .f32⟩
  | .hbm, ⟨96, _⟩ => ⟨S2x8192x4x128, .f32⟩
  | .hbm, ⟨97, _⟩ => ⟨S2x8192x4x128, .f32⟩
  | .hbm, ⟨98, _⟩ => ⟨S2x8192x4x128, .f32⟩
  | .hbm, ⟨99, _⟩ => ⟨S2x8192x4x128, .f32⟩
  | .hbm, ⟨100, _⟩ => ⟨S2x8192x4x128, .f32⟩
  | .hbm, ⟨101, _⟩ => ⟨S2x8192x4x128, .f32⟩
  | .hbm, ⟨102, _⟩ => ⟨S2x8192x4x128, .f32⟩
  | .hbm, ⟨103, _⟩ => ⟨S2x8192x4x128, .f32⟩
  | .hbm, ⟨104, _⟩ => ⟨S2x8192x4x256, .f32⟩
  | .hbm, ⟨105, _⟩ => ⟨S_, .f32⟩
  | .hbm, ⟨106, _⟩ => ⟨S2x8192x4x256, .f32⟩
  | .hbm, ⟨107, _⟩ => ⟨S2x8192x4x256, .f32⟩
  | .hbm, ⟨108, _⟩ => ⟨S2x8192x1024, .f32⟩
  | .hbm, ⟨109, _⟩ => ⟨S2x8192x6144, .f32⟩
  | .hbm, ⟨110, _⟩ => ⟨S2x8192x6144, .bf16⟩
  | .hbm, ⟨111, _⟩ => ⟨S16384x6144, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_cst : Ref sig .tc := ⟨.hbm, 32, rfl⟩
abbrev main_call0_v3 : Ref sig .tc := ⟨.hbm, 33, rfl⟩
abbrev main_call0_v4 : Ref sig .tc := ⟨.hbm, 34, rfl⟩
abbrev main_call0_cst_0 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_6 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x4x1024 : Shape := ⟨3, ![2, 4, 1024]⟩
abbrev S1024 : Shape := ⟨1, ![1024]⟩
abbrev S1024x1536 : Shape := ⟨2, ![1024, 1536]⟩
abbrev S1x1024x1072 : Shape := ⟨3, ![1, 1024, 1072]⟩
abbrev S128 : Shape := ⟨1, ![128]⟩
abbrev S1024x256 : Shape := ⟨2, ![1024, 256]⟩
abbrev S1024x1024 : Shape := ⟨2, ![1024, 1024]⟩
abbrev S1024x512 : Shape := ⟨2, ![1024, 512]⟩
abbrev S512x1024 : Shape := ⟨2, ![512, 1024]⟩
abbrev S8 : Shape := ⟨1, ![8]⟩
abbrev S_ : Shape := ⟨0, ![]⟩
abbrev S128x1 : Shape := ⟨2, ![128, 1]⟩
abbrev S64 : Shape := ⟨1, ![64]⟩
abbrev S64x1 : Shape := ⟨2, ![64, 1]⟩
abbrev S1x128 : Shape := ⟨2, ![1, 128]⟩
abbrev S64x128 : Shape := ⟨2, ![64, 128]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩
abbrev S8192x128 : Shape := ⟨2, ![8192, 128]⟩
abbrev S8192x8 : Shape := ⟨2, ![8192, 8]⟩
abbrev S8x8192 : Shape := ⟨2, ![8, 8192]⟩
abbrev S1024x1072 : Shape := ⟨2, ![1024, 1072]⟩
abbrev S1024x48 : Shape := ⟨2, ![1024, 48]⟩
abbrev S1024x4x4x3 : Shape := ⟨4, ![1024, 4, 4, 3]⟩
abbrev S1024x4x3x4 : Shape := ⟨4, ![1024, 4, 3, 4]⟩
abbrev S1024x4x12 : Shape := ⟨3, ![1024, 4, 12]⟩
abbrev S1024x4x16 : Shape := ⟨3, ![1024, 4, 16]⟩
abbrev S1024x64 : Shape := ⟨2, ![1024, 64]⟩
abbrev S64x1024 : Shape := ⟨2, ![64, 1024]⟩
abbrev S16384x1024 : Shape := ⟨2, ![16384, 1024]⟩
abbrev S1x1024 : Shape := ⟨2, ![1, 1024]⟩
abbrev S1x1x1024 : Shape := ⟨3, ![1, 1, 1024]⟩
abbrev S2x4x512x1024 : Shape := ⟨4, ![2, 4, 512, 1024]⟩
abbrev S2x4x8192x128 : Shape := ⟨4, ![2, 4, 8192, 128]⟩
abbrev S2x4x8192x64 : Shape := ⟨4, ![2, 4, 8192, 64]⟩
abbrev S2x4x16x80x512 : Shape := ⟨5, ![2, 4, 16, 80, 512]⟩
abbrev S2x4x64x80x128 : Shape := ⟨5, ![2, 4, 64, 80, 128]⟩
abbrev S2x4x64x32768 : Shape := ⟨4, ![2, 4, 64, 32768]⟩
abbrev S2x4x16x8192 : Shape := ⟨4, ![2, 4, 16, 8192]⟩
abbrev S512x128 : Shape := ⟨2, ![512, 128]⟩
abbrev S8x512 : Shape := ⟨2, ![8, 512]⟩
abbrev S1x4x32x1024 : Shape := ⟨4, ![1, 4, 32, 1024]⟩
abbrev S1x4x512x128 : Shape := ⟨4, ![1, 4, 512, 128]⟩
abbrev S1x4x512x64 : Shape := ⟨4, ![1, 4, 512, 64]⟩
abbrev S1x4x1x80x512 : Shape := ⟨5, ![1, 4, 1, 80, 512]⟩
abbrev S1x4x4x80x128 : Shape := ⟨5, ![1, 4, 4, 80, 128]⟩
abbrev S1x4x64x2048 : Shape := ⟨4, ![1, 4, 64, 2048]⟩
abbrev S1x4x16x512 : Shape := ⟨4, ![1, 4, 16, 512]⟩
abbrev S32x16x128 : Shape := ⟨3, ![32, 16, 128]⟩
abbrev S512 : Shape := ⟨1, ![512]⟩
abbrev S512x1 : Shape := ⟨2, ![512, 1]⟩
abbrev S32x128 : Shape := ⟨2, ![32, 128]⟩
abbrev S32x1x128 : Shape := ⟨3, ![32, 1, 128]⟩
abbrev S1x1x32x128 : Shape := ⟨4, ![1, 1, 32, 128]⟩
abbrev S1x1x512x128 : Shape := ⟨4, ![1, 1, 512, 128]⟩
abbrev S512x64 : Shape := ⟨2, ![512, 64]⟩
abbrev S1x1x512x64 : Shape := ⟨4, ![1, 1, 512, 64]⟩
abbrev S512x512 : Shape := ⟨2, ![512, 512]⟩
abbrev S16x512 : Shape := ⟨2, ![16, 512]⟩
abbrev S64x512 : Shape := ⟨2, ![64, 512]⟩
abbrev S1x1x1x64x512 : Shape := ⟨5, ![1, 1, 1, 64, 512]⟩
abbrev S1x1x1x16x512 : Shape := ⟨5, ![1, 1, 1, 16, 512]⟩
abbrev S1x1x1x64x128 : Shape := ⟨5, ![1, 1, 1, 64, 128]⟩
abbrev S16x128 : Shape := ⟨2, ![16, 128]⟩
abbrev S1x1x1x16x128 : Shape := ⟨5, ![1, 1, 1, 16, 128]⟩
abbrev S48x512 : Shape := ⟨2, ![48, 512]⟩
abbrev S1x1x64x128 : Shape := ⟨4, ![1, 1, 64, 128]⟩
abbrev S1x1x16x512 : Shape := ⟨4, ![1, 1, 16, 512]⟩

abbrev nBuf : Space → Nat
  | .hbm => 128
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x4x1024, .f32⟩
  | .hbm, ⟨2, _⟩ => ⟨S1024, .f32⟩
  | .hbm, ⟨3, _⟩ => ⟨S1024x1536, .f32⟩
  | .hbm, ⟨4, _⟩ => ⟨S1x1024x1072, .f32⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S128, .i1⟩
  | .hbm, ⟨9, _⟩ => ⟨S128, .i1⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x1024, .f32⟩
  | .hbm, ⟨15, _⟩ => ⟨S1024x1024, .bf16⟩
  | .hbm, ⟨16, _⟩ => ⟨S1024x256, .f32⟩
  | .hbm, ⟨17, _⟩ => ⟨S1024x256, .f32⟩
  | .hbm, ⟨18, _⟩ => ⟨S1024x512, .f32⟩
  | .hbm, ⟨19, _⟩ => ⟨S512x1024, .f32⟩
  | .hbm, ⟨20, _⟩ => ⟨S512x1024, .bf16⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S128, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64x1, .f32⟩
  | .hbm, ⟨46, _⟩ => ⟨S1x128, .f32⟩
  | .hbm, ⟨47, _⟩ => ⟨S64x128, .f32⟩
  | .hbm, ⟨48, _⟩ => ⟨S64x128, .f32⟩
  | .hbm, ⟨49, _⟩ => ⟨S64x128, .f32⟩
  | .hbm, ⟨50, _⟩ => ⟨S128, .f32⟩
  | .hbm, ⟨51, _⟩ => ⟨S128x1, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S64x128, .f32⟩
  | .hbm, ⟨57, _⟩ => ⟨S64x1x128, .f32⟩
  | .hbm, ⟨58, _⟩ => ⟨S64x128, .f32⟩
  | .hbm, ⟨59, _⟩ => ⟨S64x1x128, .f32⟩
  | .hbm, ⟨60, _⟩ => ⟨S128x128, .f32⟩
  | .hbm, ⟨61, _⟩ => ⟨S1x128x128, .f32⟩
  | .hbm, ⟨62, _⟩ => ⟨S128x128, .f32⟩
  | .hbm, ⟨63, _⟩ => ⟨S1x128x128, .f32⟩
  | .hbm, ⟨64, _⟩ => ⟨S64x128x128, .f32⟩
  | .hbm, ⟨65, _⟩ => ⟨S64x128x128, .f32⟩
  | .hbm, ⟨66, _⟩ => ⟨S64x128x128, .f32⟩
  | .hbm, ⟨67, _⟩ => ⟨S64x128x128, .f32⟩
  | .hbm, ⟨68, _⟩ => ⟨S64x128x128, .f32⟩
  | .hbm, ⟨69, _⟩ => ⟨S64x128x128, .f32⟩
  | .hbm, ⟨70, _⟩ => ⟨S64x128x128, .f32⟩
  | .hbm, ⟨71, _⟩ => ⟨S8192x128, .f32⟩
  | .hbm, ⟨72, _⟩ => ⟨S64x128x128, .f32⟩
  | .hbm, ⟨73, _⟩ => ⟨S64x128x128, .f32⟩
  | .hbm, ⟨74, _⟩ => ⟨S64x128x128, .f32⟩
  | .hbm, ⟨75, _⟩ => ⟨S64x128x128, .f32⟩
  | .hbm, ⟨76, _⟩ => ⟨S64x128x128, .f32⟩
  | .hbm, ⟨77, _⟩ => ⟨S64x128x128, .f32⟩
  | .hbm, ⟨78, _⟩ => ⟨S64x128x128, .f32⟩
  | .hbm, ⟨79, _⟩ => ⟨S8192x128, .f32⟩
  | .hbm, ⟨80, _⟩ => ⟨S_, .f32⟩
  | .hbm, ⟨81, _⟩ => ⟨S_, .f32⟩
  | .hbm, ⟨82, _⟩ => ⟨S8192x128, .i1⟩
  | .hbm, ⟨83, _⟩ => ⟨S8192x128, .f32⟩
  | .hbm, ⟨84, _⟩ => ⟨S8192x128, .f32⟩
  | .hbm, ⟨85, _⟩ => ⟨S_, .f32⟩
  | .hbm, ⟨86, _⟩ => ⟨S_, .f32⟩
  | .hbm, ⟨87, _⟩ => ⟨S8192x128, .i1⟩
  | .hbm, ⟨88, _⟩ => ⟨S8192x128, .f32⟩
  | .hbm, ⟨89, _⟩ => ⟨S8192x128, .f32⟩
  | .hbm, ⟨90, _⟩ => ⟨S8192x128, .f32⟩
  | .hbm, ⟨91, _⟩ => ⟨S_, .f32⟩
  | .hbm, ⟨92, _⟩ => ⟨S_, .f32⟩
  | .hbm, ⟨93, _⟩ => ⟨S8192x128, .i1⟩
  | .hbm, ⟨94, _⟩ => ⟨S8192x128, .f32⟩
  | .hbm, ⟨95, _⟩ => ⟨S8192x128, .f32⟩
  | .hbm, ⟨96, _⟩ => ⟨S8192x8, .f32⟩
  | .hbm, ⟨97, _⟩ => ⟨S8x8192, .f32⟩
  | .hbm, ⟨98, _⟩ => ⟨S8192x8, .f32⟩
  | .hbm, ⟨99, _⟩ => ⟨S8x8192, .f32⟩
  | .hbm, ⟨100, _⟩ => ⟨S1024x1072, .f32⟩
  | .hbm, ⟨101, _⟩ => ⟨S1024x1024, .f32⟩
  | .hbm, ⟨102, _⟩ => ⟨S1024x1024, .f32⟩
  | .hbm, ⟨103, _⟩ => ⟨S1024x1024, .bf16⟩
  | .hbm, ⟨104, _⟩ => ⟨S1024x1072, .f32⟩
  | .hbm, ⟨105, _⟩ => ⟨S1024x48, .f32⟩
  | .hbm, ⟨106, _⟩ => ⟨S1024x4x4x3, .f32⟩
  | .hbm, ⟨107, _⟩ => ⟨S1024x4x3x4, .f32⟩
  | .hbm, ⟨108, _⟩ => ⟨S1024x4x12, .f32⟩
  | .hbm, ⟨109, _⟩ => ⟨S_, .i32⟩
  | .hbm, ⟨110, _⟩ => ⟨S_, .f32⟩
  | .hbm, ⟨111, _⟩ => ⟨S1024x4x16, .f32⟩
  | .hbm, ⟨112, _⟩ => ⟨S1024x64, .f32⟩
  | .hbm, ⟨113, _⟩ => ⟨S64x1024, .f32⟩
  | .hbm, ⟨114, _⟩ => ⟨S64x1024, .bf16⟩
  | .hbm, ⟨115, _⟩ => ⟨S16384x1024, .f32⟩
  | .hbm, ⟨116, _⟩ => ⟨S1x1024, .f32⟩
  | .hbm, ⟨117, _⟩ => ⟨S1x1x1024, .f32⟩
  | .hbm, ⟨118, _⟩ => ⟨S1024, .f32⟩
  | .hbm, ⟨119, _⟩ => ⟨S1x1024, .f32⟩
  | .hbm, ⟨120, _⟩ => ⟨S2x4x512x1024, .bf16⟩
  | .hbm, ⟨121, _⟩ => ⟨S2x4x512x1024, .bf16⟩
  | .hbm, ⟨122, _⟩ => ⟨S2x4x8192x128, .bf16⟩
  | .hbm, ⟨123, _⟩ => ⟨S2x4x8192x64, .bf16⟩
  | .hbm, ⟨124, _⟩ => ⟨S2x4x16x80x512, .bf16⟩
  | .hbm, ⟨125, _⟩ => ⟨S2x4x64x80x128, .bf16⟩
  | .hbm, ⟨126, _⟩ => ⟨S2x4x64x32768, .bf16⟩
  | .hbm, ⟨127, _⟩ => ⟨S2x4x16x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S512x1024, .bf16⟩
  | .local _ .vmem, ⟨6, _⟩ => ⟨S1024x1024, .bf16⟩
  | .local _ .vmem, ⟨7, _⟩ => ⟨S64x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S1x4x32x1024, .bf16⟩
  | .local _ .vmem, ⟨19, _⟩ => ⟨S1x4x32x1024, .bf16⟩
  | .local _ .vmem, ⟨20, _⟩ => ⟨S1x4x32x1024, .bf16⟩
  | .local _ .vmem, ⟨21, _⟩ => ⟨S1x4x32x1024, .bf16⟩
  | .local _ .vmem, ⟨22, _⟩ => ⟨S1x4x512x128, .bf16⟩
  | .local _ .vmem, ⟨23, _⟩ => ⟨S1x4x512x128, .bf16⟩
  | .local _ .vmem, ⟨24, _⟩ => ⟨S1x4x512x64, .bf16⟩
  | .local _ .vmem, ⟨25, _⟩ => ⟨S1x4x512x64, .bf16⟩
  | .local _ .vmem, ⟨26, _⟩ => ⟨S1x4x1x80x512, .bf16⟩
  | .local _ .vmem, ⟨27, _⟩ => ⟨S1x4x1x80x512, .bf16⟩
  | .local _ .vmem, ⟨28, _⟩ => ⟨S1x4x4x80x128, .bf16⟩
  | .local _ .vmem, ⟨29, _⟩ => ⟨S1x4x4x80x128, .bf16⟩
  | .local _ .vmem, ⟨30, _⟩ => ⟨S1x4x64x2048, .bf16⟩
  | .local _ .vmem, ⟨31, _⟩ => ⟨S1x4x64x2048, .bf16⟩
  | .local _ .vmem, ⟨32, _⟩ => ⟨S1x4x16x512, .f32⟩
  | .local _ .vmem, ⟨33, _⟩ => ⟨S1x4x16x512, .f32⟩
  | .local _ .vmem, ⟨34, _⟩ => ⟨S32x16x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v64 : Ref sig .tc := ⟨.hbm, 84, rfl⟩
abbrev main_cst_10 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_12 : Ref sig .tc := ⟨.hbm, 109, rfl⟩
abbrev main_call3_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90_0 : Ref sig .tc := ⟨.hbm, 120, rfl⟩
abbrev main_v90_1 : Ref sig .tc := ⟨.hbm, 121, rfl⟩
abbrev main_v90_2 : Ref sig .tc := ⟨.hbm, 122, rfl⟩
abbrev main_v90_3 : Ref sig .tc := ⟨.hbm, 123, rfl⟩
abbrev main_v90_4 : Ref sig .tc := ⟨.hbm, 124, rfl⟩
abbrev main_v90_5 : Ref sig .tc := ⟨.hbm, 125, rfl⟩
abbrev main_v90_6 : Ref sig .tc := ⟨.hbm, 126, rfl⟩
abbrev main_v90_7 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_17 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_19 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x1x80x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x4x80x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x64x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S2x8192x1024 : Shape := ⟨3, ![2, 8192, 1024]⟩
abbrev S2x4x1024 : Shape := ⟨3, ![2, 4, 1024]⟩
abbrev S1024 : Shape := ⟨1, ![1024]⟩
abbrev S1024x1536 : Shape := ⟨2, ![1024, 1536]⟩
abbrev S1x1024x1072 : Shape := ⟨3, ![1, 1024, 1072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x1536 : Shape := ⟨3, ![2, 8192, 1536]⟩
abbrev S2x8192x256 : Shape := ⟨3, ![2, 8192, 256]⟩
abbrev S2x8192x4x64 : Shape := ⟨4, ![2, 8192, 4, 64]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x4x8 : Shape := ⟨4, ![2, 8192, 4, 8]⟩
abbrev S2x8192x4x48 : Shape := ⟨4, ![2, 8192, 4, 48]⟩
abbrev S1024x1072 : Shape := ⟨2, ![1024, 1072]⟩
abbrev S2x8192x1072 : Shape := ⟨3, ![2, 8192, 1072]⟩
abbrev S2x8192x16x64 : Shape := ⟨4, ![2, 8192, 16, 64]⟩
abbrev S2x8192x16x8 : Shape := ⟨4, ![2, 8192, 16, 8]⟩
abbrev S2x8192x16x48 : Shape := ⟨4, ![2, 8192, 16, 48]⟩
abbrev S2x8192x48 : Shape := ⟨3, ![2, 8192, 48]⟩
abbrev S8x64 : Shape := ⟨2, ![8, 64]⟩
abbrev S1x8x1x64 : Shape := ⟨4, ![1, 8, 1, 64]⟩
abbrev S16x8x64x64 : Shape := ⟨4, ![16, 8, 64, 64]⟩
abbrev S8192x64 : Shape := ⟨2, ![8192, 64]⟩
abbrev S2x4x8192x64 : Shape := ⟨4, ![2, 4, 8192, 64]⟩
abbrev S1x1x8192x64 : Shape := ⟨4, ![1, 1, 8192, 64]⟩
abbrev S2x4x8192x128 : Shape := ⟨4, ![2, 4, 8192, 128]⟩
abbrev S2x64x128x4x4x64 : Shape := ⟨6, ![2, 64, 128, 4, 4, 64]⟩
abbrev S2x4x64x64x4x128 : Shape := ⟨6, ![2, 4, 64, 64, 4, 128]⟩
abbrev S2x8192x4x4x3 : Shape := ⟨5, ![2, 8192, 4, 4, 3]⟩
abbrev S2x4x3x4x8192 : Shape := ⟨5, ![2, 4, 3, 4, 8192]⟩
abbrev S2x4x12x8192 : Shape := ⟨4, ![2, 4, 12, 8192]⟩
abbrev S2x4x512x1024 : Shape := ⟨4, ![2, 4, 512, 1024]⟩
abbrev S2x16x512x4x64 : Shape := ⟨5, ![2, 16, 512, 4, 64]⟩
abbrev S2x4x16x64x512 : Shape := ⟨5, ![2, 4, 16, 64, 512]⟩
abbrev S2x4x16x16x512 : Shape := ⟨5, ![2, 4, 16, 16, 512]⟩
abbrev S2x4x16x80x512 : Shape := ⟨5, ![2, 4, 16, 80, 512]⟩
abbrev S2x64x128x4x64 : Shape := ⟨5, ![2, 64, 128, 4, 64]⟩
abbrev S2x4x64x64x128 : Shape := ⟨5, ![2, 4, 64, 64, 128]⟩
abbrev S2x4x64x16x128 : Shape := ⟨5, ![2, 4, 64, 16, 128]⟩
abbrev S2x4x64x80x128 : Shape := ⟨5, ![2, 4, 64, 80, 128]⟩
abbrev S2x4x64x32768 : Shape := ⟨4, ![2, 4, 64, 32768]⟩
abbrev S2x4x16x8192 : Shape := ⟨4, ![2, 4, 16, 8192]⟩

abbrev nBuf : Space → Nat
  | .hbm => 226
  | .vmem => 0
  | .smem => 0
  | _ => 0

abbrev hbmTy0_0 (i : Nat) : BufTy := match i % 128 with
  | 0 => ⟨S2x8192x1024, .f32⟩
  | 1 => ⟨S2x4x1024, .f32⟩
  | 2 => ⟨S1024, .f32⟩
  | 3 => ⟨S1024x1536, .f32⟩
  | 4 => ⟨S1x1024x1072, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S2x8192x1536, .f32⟩
  | 22 => ⟨S2x8192x256, .f32⟩
  | 23 => ⟨S2x8192x256, .f32⟩
  | 24 => ⟨S2x8192x256, .f32⟩
  | 25 => ⟨S2x8192x256, .f32⟩
  | 26 => ⟨S2x8192x256, .f32⟩
  | 27 => ⟨S2x8192x256, .f32⟩
  | 28 => ⟨S2x8192x4x64, .f32⟩
  | 29 => ⟨S2x8192x4x64, .f32⟩
  | 30 => ⟨S2x8192x4x64, .f32⟩
  | 31 => ⟨S2x8192x4x64, .f32⟩
  | 32 => ⟨S2x8192x4x64, .f32⟩
  | 33 => ⟨S2x8192x4x64, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8192, .f32⟩
  | 49 => ⟨S8192x1, .f32⟩
  | 50 => ⟨S1x8, .f32⟩
  | 51 => ⟨S8192x8, .f32⟩
  | 52 => ⟨S8192x8, .f32⟩
  | 53 => ⟨S8192x8, .f32⟩
  | 54 => ⟨S8192x8, .f32⟩
  | 55 => ⟨S1x8192x1x8, .f32⟩
  | 56 => ⟨S8192x8, .f32⟩
  | 57 => ⟨S1x8192x1x8, .f32⟩
  | 58 => ⟨S2x8192x4x8, .f32⟩
  | 59 => ⟨S2x8192x4x8, .f32⟩
  | 60 => ⟨S2x8192x4x8, .f32⟩
  | 61 => ⟨S2x8192x4x8, .f32⟩
  | 62 => ⟨S2x8192x4x8, .f32⟩
  | 63 => ⟨S2x8192x4x8, .f32⟩
  | 64 => ⟨S2x8192x4x8, .f32⟩
  | 65 => ⟨S2x8192x4x8, .f32⟩
  | 66 => ⟨S2x8192x4x8, .f32⟩
  | 67 => ⟨S2x8192x4x8, .f32⟩
  | 68 => ⟨S2x8192x4x8, .f32⟩
  | 69 => ⟨S2x8192x4x8, .f32⟩
  | 70 => ⟨S2x8192x4x48, .f32⟩
  | 71 => ⟨S2x8192x4x64, .f32⟩
  | 72 => ⟨S8192, .f32⟩
  | 73 => ⟨S8192x1, .f32⟩
  | 74 => ⟨S1x8, .f32⟩
  | 75 => ⟨S8192x8, .f32⟩
  | 76 => ⟨S8192x8, .f32⟩
  | 77 => ⟨S8192x8, .f32⟩
  | 78 => ⟨S8192x8, .f32⟩
  | 79 => ⟨S1x8192x1x8, .f32⟩
  | 80 => ⟨S8192x8, .f32⟩
  | 81 => ⟨S1x8192x1x8, .f32⟩
  | 82 => ⟨S2x8192x4x8, .f32⟩
  | 83 => ⟨S2x8192x4x8, .f32⟩
  | 84 => ⟨S2x8192x4x8, .f32⟩
  | 85 => ⟨S2x8192x4x8, .f32⟩
  | 86 => ⟨S2x8192x4x8, .f32⟩
  | 87 => ⟨S2x8192x4x8, .f32⟩
  | 88 => ⟨S2x8192x4x8, .f32⟩
  | 89 => ⟨S2x8192x4x8, .f32⟩
  | 90 => ⟨S2x8192x4x8, .f32⟩
  | 91 => ⟨S2x8192x4x8, .f32⟩
  | 92 => ⟨S2x8192x4x8, .f32⟩
  | 93 => ⟨S2x8192x4x8, .f32⟩
  | 94 => ⟨S2x8192x4x48, .f32⟩
  | 95 => ⟨S2x8192x4x64, .f32⟩
  | 96 => ⟨S8192, .f32⟩
  | 97 => ⟨S8192x1, .f32⟩
  | 98 => ⟨S1x8, .f32⟩
  | 99 => ⟨S8192x8, .f32⟩
  | 100 => ⟨S8192x8, .f32⟩
  | 101 => ⟨S8192x8, .f32⟩
  | 102 => ⟨S8192x8, .f32⟩
  | 103 => ⟨S1x8192x1x8, .f32⟩
  | 104 => ⟨S8192x8, .f32⟩
  | 105 => ⟨S1x8192x1x8, .f32⟩
  | 106 => ⟨S2x8192x4x8, .f32⟩
  | 107 => ⟨S2x8192x4x8, .f32⟩
  | 108 => ⟨S2x8192x4x8, .f32⟩
  | 109 => ⟨S2x8192x4x8, .f32⟩
  | 110 => ⟨S2x8192x4x8, .f32⟩
  | 111 => ⟨S2x8192x4x8, .f32⟩
  | 112 => ⟨S2x8192x4x8, .f32⟩
  | 113 => ⟨S2x8192x4x8, .f32⟩
  | 114 => ⟨S2x8192x4x8, .f32⟩
  | 115 => ⟨S2x8192x4x8, .f32⟩
  | 116 => ⟨S2x8192x4x8, .f32⟩
  | 117 => ⟨S2x8192x4x8, .f32⟩
  | 118 => ⟨S2x8192x4x48, .f32⟩
  | 119 => ⟨S2x8192x4x64, .f32⟩
  | 120 => ⟨S1x1x1024, .f32⟩
  | 121 => ⟨S1024, .f32⟩
  | 122 => ⟨S2x8192x1024, .f32⟩
  | 123 => ⟨S_, .f32⟩
  | 124 => ⟨S2x8192, .f32⟩
  | 125 => ⟨S2x8192x1, .f32⟩
  | 126 => ⟨S_, .f32⟩
  | 127 => ⟨S2x8192x1, .f32⟩
  | _ => ⟨S2x8192x1024, .f32⟩

abbrev hbmTy0_1 (i : Nat) : BufTy := match i % 128 with
  | 0 => ⟨S2x8192x1, .f32⟩
  | 1 => ⟨S_, .f32⟩
  | 2 => ⟨S2x8192x1, .f32⟩
  | 3 => ⟨S2x8192x1, .f32⟩
  | 4 => ⟨S2x8192x1, .f32⟩
  | 5 => ⟨S2x8192x1024, .f32⟩
  | 6 => ⟨S2x8192x1024, .f32⟩
  | 7 => ⟨S1x1x1024, .f32⟩
  | 8 => ⟨S2x8192x1024, .f32⟩
  | 9 => ⟨S2x8192x1024, .f32⟩
  | 10 => ⟨S1024x1072, .f32⟩
  | 11 => ⟨S2x8192x1072, .f32⟩
  | 12 => ⟨S2x8192x1024, .f32⟩
  | 13 => ⟨S2x8192x16x64, .f32⟩
  | 14 => ⟨S8192, .f32⟩
  | 15 => ⟨S8192x1, .f32⟩
  | 16 => ⟨S1x8, .f32⟩
  | 17 => ⟨S8192x8, .f32⟩
  | 18 => ⟨S8192x8, .f32⟩
  | 19 => ⟨S8192x8, .f32⟩
  | 20 => ⟨S8192x8, .f32⟩
  | 21 => ⟨S1x8192x1x8, .f32⟩
  | 22 => ⟨S8192x8, .f32⟩
  | 23 => ⟨S1x8192x1x8, .f32⟩
  | 24 => ⟨S2x8192x16x8, .f32⟩
  | 25 => ⟨S2x8192x16x8, .f32⟩
  | 26 => ⟨S2x8192x16x8, .f32⟩
  | 27 => ⟨S2x8192x16x8, .f32⟩
  | 28 => ⟨S2x8192x16x8, .f32⟩
  | 29 => ⟨S2x8192x16x8, .f32⟩
  | 30 => ⟨S2x8192x16x8, .f32⟩
  | 31 => ⟨S2x8192x16x8, .f32⟩
  | 32 => ⟨S2x8192x16x8, .f32⟩
  | 33 => ⟨S2x8192x16x8, .f32⟩
  | 34 => ⟨S2x8192x16x8, .f32⟩
  | 35 => ⟨S2x8192x16x8, .f32⟩
  | 36 => ⟨S2x8192x16x48, .f32⟩
  | 37 => ⟨S2x8192x16x64, .f32⟩
  | 38 => ⟨S_, .f32⟩
  | 39 => ⟨S2x8192x16x64, .f32⟩
  | 40 => ⟨S2x8192x16x64, .f32⟩
  | 41 => ⟨S2x8192x48, .f32⟩
  | 42 => ⟨S2x8192x48, .f32⟩
  | 43 => ⟨S2x8192x48, .f32⟩
  | 44 => ⟨S_, .f32⟩
  | 45 => ⟨S2x8192x48, .f32⟩
  | 46 => ⟨S2x8192x48, .f32⟩
  | 47 => ⟨S_, .f32⟩
  | 48 => ⟨S2x8192x48, .f32⟩
  | 49 => ⟨S2x8192x48, .f32⟩
  | 50 => ⟨S8x64, .i32⟩
  | 51 => ⟨S8x64, .i32⟩
  | 52 => ⟨S_, .i32⟩
  | 53 => ⟨S8x64, .i32⟩
  | 54 => ⟨S8x64, .i32⟩
  | 55 => ⟨S8x64, .i1⟩
  | 56 => ⟨S8x64, .f32⟩
  | 57 => ⟨S1x8x1x64, .f32⟩
  | 58 => ⟨S16x8x64x64, .f32⟩
  | 59 => ⟨S8192x64, .f32⟩
  | 60 => ⟨S2x4x8192x64, .f32⟩
  | 61 => ⟨S1x1x8192x64, .f32⟩
  | 62 => ⟨S2x4x8192x64, .f32⟩
  | 63 => ⟨S2x4x8192x128, .f32⟩
  | 64 => ⟨S_, .f32⟩
  | 65 => ⟨S2x8192x16x64, .f32⟩
  | 66 => ⟨S2x8192x16x64, .f32⟩
  | 67 => ⟨S2x64x128x4x4x64, .f32⟩
  | 68 => ⟨S2x4x64x64x4x128, .f32⟩
  | 69 => ⟨S2x8192x4x4x3, .f32⟩
  | 70 => ⟨S2x4x3x4x8192, .f32⟩
  | 71 => ⟨S2x4x12x8192, .f32⟩
  | 72 => ⟨S2x4x8192x64, .f32⟩
  | 73 => ⟨S2x4x512x1024, .f32⟩
  | 74 => ⟨S2x4x512x1024, .bf16⟩
  | 75 => ⟨S2x4x8192x64, .f32⟩
  | 76 => ⟨S2x4x512x1024, .f32⟩
  | 77 => ⟨S2x4x512x1024, .bf16⟩
  | 78 => ⟨S2x4x8192x128, .bf16⟩
  | 79 => ⟨S2x4x8192x64, .f32⟩
  | 80 => ⟨S2x4x8192x64, .bf16⟩
  | 81 => ⟨S2x16x512x4x64, .f32⟩
  | 82 => ⟨S2x4x16x64x512, .f32⟩
  | 83 => ⟨S_, .f32⟩
  | 84 => ⟨S2x4x16x16x512, .f32⟩
  | 85 => ⟨S2x4x16x80x512, .f32⟩
  | 86 => ⟨S2x4x16x80x512, .bf16⟩
  | 87 => ⟨S2x64x128x4x64, .f32⟩
  | 88 => ⟨S2x4x64x64x128, .f32⟩
  | 89 => ⟨S_, .f32⟩
  | 90 => ⟨S2x4x64x16x128, .f32⟩
  | 91 => ⟨S2x4x64x80x128, .f32⟩
  | 92 => ⟨S2x4x64x80x128, .bf16⟩
  | 93 => ⟨S2x4x64x32768, .f32⟩
  | 94 => ⟨S2x4x64x32768, .bf16⟩
  | 95 => ⟨S_, .f32⟩
  | 96 => ⟨S_, .f32⟩
  | 97 => ⟨S2x4x16x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_cst_6 : Ref sig .tc := ⟨.hbm, 123, rfl⟩
abbrev main_v111 : Ref sig .tc := ⟨.hbm, 124, rfl⟩
abbrev main_v112 : Ref sig .tc := ⟨.hbm, 125, rfl⟩
abbrev main_cst_7 : Ref sig .tc := ⟨.hbm, 126, rfl⟩
abbrev main_v113 : Ref sig .tc := ⟨.hbm, 127, rfl⟩
abbrev main_v114 : Ref sig .tc := ⟨.hbm, 128, rfl⟩
abbrev main_cst_8 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_cst_9 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_cst_10 : Ref sig .tc := ⟨.hbm, 172, rfl⟩
abbrev main_v156 : Ref sig .tc := ⟨.hbm, 173, rfl⟩
abbrev main_v157 : Ref sig .tc := ⟨.hbm, 174, rfl⟩
abbrev main_cst_11 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_c : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_cst_12 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_cst_13 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_cst_14 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_cst_15 : Ref sig .tc := ⟨.hbm, 223, rfl⟩
abbrev main_call0_v0 : Ref sig .tc := ⟨.hbm, 224, rfl⟩
abbrev main_v201 : Ref sig .tc := ⟨.hbm, 225, rfl⟩

abbrev nD : Nat := 1
abbrev τ : Topo := Topo.v7x

variable {F : FTy → Type} [FloatOps F]
-- ==== Proof.Ret.Blocks.lean ====
/-
  The retention's kernel, the pieces one grid point writes: four chunks of 128 positions, four heads each. A head's
  state is pushed forward once a chunk, and a chunk's output in a head is one tile of the block. Here are the two
  steps as functions of the blocks they read, and how a list of such writes reads back.
-/
module

public import proofs.«01_k».proof.Proof.Gen.KernelIdeal.Value
public import Idealize.ShloMosaic.Lib.Pointwise
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.KernelIdeal.Chunks

open Cert.KernelIdeal Cert.KernelIdeal.Gen

variable {F : FTy → Type} [FloatOps F]

/-! ## The tiles a chunk and a head read -/

/-- Chunk `n`, head `h` of a block of queries or keys. -/
def keyT (x : Vec F S1x512x1024 .bf16) (n h : Fin 4) : Vec F S1x128x256 .bf16 :=
  View.ld x (Rect.unit ![0, 128 * n.val, 256 * h.val] S1x128x256.size (by revert n h; decide))

/-- Chunk `n`, head `h` of a block of values or gates. -/
def valT (x : Vec F S1x512x2048 .bf16) (n h : Fin 4) : Vec F S1x128x512 .bf16 :=
  View.ld x (Rect.unit ![0, 128 * n.val, 512 * h.val] S1x128x512.size (by revert n h; decide))

/-- Head `h` of the table of decays inside a chunk. -/
def decT (x : Vec F S4x128x128 .f32) (h : Fin 4) : Vec F S1x128x128 .f32 :=
  View.ld x (Rect.unit ![h.val, 0, 0] S1x128x128.size (by revert h; decide))

/-- Head `h` of the table of the queries' decays. -/
def qdT (x : Vec F S4x128x512 .f32) (h : Fin 4) : Vec F S1x128x512 .f32 :=
  View.ld x (Rect.unit ![h.val, 0, 0] S1x128x512.size (by revert h; decide))

/-- Head `h` of the table of the keys' decays. -/
def kdT (x : Vec F S4x128x256 .f32) (h : Fin 4) : Vec F S1x128x256 .f32 :=
  View.ld x (Rect.unit ![h.val, 0, 0] S1x128x256.size (by revert h; decide))

/-- Head `h` of the table of a chunk's decays. -/
def cdT (x : Vec F S4x1x512 .f32) (h : Fin 4) : Vec F S1x1x512 .f32 :=
  View.ld x (Rect.unit ![h.val, 0, 0] S1x1x512.size (by revert h; decide))

/-- Head `h` of the norm's weight. -/
def gnT (x : Vec F S1x2048 .f32) (h : Fin 4) : Vec F S1x512 .f32 :=
  View.ld x (Rect.unit ![0, 512 * h.val] S1x512.size (by revert h; decide))

/-- Head `h` of the state. -/
def stT (x : Vec F S4x256x512 .f32) (h : Fin 4) : Vec F S1x256x512 .f32 :=
  View.ld x (Rect.unit ![h.val, 0, 0] S1x256x512.size (by revert h; decide))

/-! ## The two steps -/

/-- A head's state after a chunk: the state decayed, and the chunk's keys times its values. -/
def upd (k : Vec F S1x128x256 .bf16) (v : Vec F S1x128x512 .bf16) (kd : Vec F S1x128x256 .f32)
    (cd : Vec F S1x1x512 .f32) (st : Vec F S1x256x512 .f32) : Vec F S1x256x512 .f32 :=
  k0_pay10 (k0_pay5 v) (k0_pay7 st) (k0_pay9 k kd) cd

/-- A head's output of a chunk: the chunk's own part and the state's part, normed and gated. -/
def outB (q k : Vec F S1x128x256 .bf16) (v : Vec F S1x128x512 .bf16) (de : Vec F S1x128x128 .f32)
    (st : Vec F S1x256x512 .f32) (qd : Vec F S1x128x512 .f32) (gn : Vec F S1x512 .f32)
    (g : Vec F S1x128x512 .bf16) : Vec F S1x128x512 .bf16 :=
  k0_pay11 (k0_pay6 q k v de) (k0_pay8 q st qd) gn g

/-- The states after one more chunk in one head. -/
def push (x1 : Vec F S1x512x1024 .bf16) (x2 : Vec F S1x512x2048 .bf16) (x6 : Vec F S4x128x256 .f32)
    (x7 : Vec F S4x1x512 .f32) (n h : Fin 4) (s : Fin 4 → Vec F S1x256x512 .f32) : Fin 4 → Vec F S1x256x512 .f32 :=
  Function.update s h (upd (keyT x1 n h) (valT x2 n h) (kdT x6 h) (cdT x7 h) (s h))

/-- The states after the first `g` steps, chunk by chunk and head by head. -/
def states (x1 : Vec F S1x512x1024 .bf16) (x2 : Vec F S1x512x2048 .bf16) (x6 : Vec F S4x128x256 .f32)
    (x7 : Vec F S4x1x512 .f32) (s : Fin 4 → Vec F S1x256x512 .f32) : ℕ → Fin 4 → Vec F S1x256x512 .f32
  | 0 => s
  | g + 1 => push x1 x2 x6 x7 (Fin.ofNat 4 (g / 4)) (Fin.ofNat 4 g) (states x1 x2 x6 x7 s g)

/-- Chunk `n`, head `h` of the block's output, on states `s`. -/
def tileO (x0 x1 : Vec F S1x512x1024 .bf16) (x2 x3 : Vec F S1x512x2048 .bf16) (x4 : Vec F S4x128x128 .f32)
    (x5 : Vec F S4x128x512 .f32) (x8 : Vec F S1x2048 .f32) (n h : Fin 4)
    (s : Fin 4 → Vec F S1x256x512 .f32) : Vec F S1x128x512 .bf16 :=
  outB (keyT x0 n h) (keyT x1 n h) (valT x2 n h) (decT x4 h) (s h) (qdT x5 h) (gnT x8 h) (valT x3 n h)

/-! ## How the writes read back -/

/-- Four heads' states as one buffer. -/
def pack (s : Fin 4 → Vec F S1x256x512 .f32) : Vec F S4x256x512 .f32 := fun i => s (i 0) (ix3 0 (i 1) (i 2))

/-- Sixteen tiles as one block. -/
def packO (o : Fin 4 → Fin 4 → Vec F S1x128x512 .bf16) : Vec F S1x512x2048 .bf16 := fun i =>
  o ⟨(i 1).val / 128, Nat.div_lt_of_lt_mul (i 1).isLt⟩ ⟨(i 2).val / 512, Nat.div_lt_of_lt_mul (i 2).isLt⟩
    (ix3 0 ⟨(i 1).val % 128, Nat.mod_lt _ (by decide)⟩ ⟨(i 2).val % 512, Nat.mod_lt _ (by decide)⟩)

theorem idx3 {n0 n1 n2 : ℕ} (i j : (⟨3, ![n0, n1, n2]⟩ : Shape).Idx) (h0 : (i 0).val = (j 0).val)
    (h1 : (i 1).val = (j 1).val) (h2 : (i 2).val = (j 2).val) : i = j := by
  funext a
  fin_cases a
  exacts [Fin.ext h0, Fin.ext h1, Fin.ext h2]

theorem mem_head (h h' : Fin 4) (inb : ∀ a, (![h.val, 0, 0] : Fin 3 → ℕ) a + S1x256x512.size a ≤ S4x256x512.size a)
    (d : Fin 256) (v : Fin 512) :
    (ix3 h' d v : S4x256x512.Idx) ∈ (Rect.unit (s := S4x256x512) ![h.val, 0, 0] S1x256x512.size inb).set ↔ h' = h := by
  rw [Rect.mem_set_unit]
  constructor
  · intro H
    have := H 0
    have e0 : h.val ≤ h'.val ∧ h'.val < h.val + 1 := this
    exact Fin.ext (by omega)
  · rintro rfl a
    fin_cases a
    · exact ⟨le_refl _, Nat.lt_succ_self _⟩
    · exact ⟨Nat.zero_le _, (Nat.zero_add 256).symm ▸ d.isLt⟩
    · exact ⟨Nat.zero_le _, (Nat.zero_add 512).symm ▸ v.isLt⟩

/-- One more write of a head: that head's state is the payload, the others stay. -/
theorem canon_push (h : Fin 4) (inb : ∀ a, (![h.val, 0, 0] : Fin 3 → ℕ) a + S1x256x512.size a ≤ S4x256x512.size a)
    (w : Vec F S1x256x512 .f32) (L : List (View.Piece (Elt F) S4x256x512 .f32)) (s : Fin 4 → Vec F S1x256x512 .f32)
    (hL : View.canon L = pack s) :
    View.canon ((⟨Rect.unit ![h.val, 0, 0] S1x256x512.size inb, w⟩ : View.Piece (Elt F) S4x256x512 .f32) :: L)
      = pack (Function.update s h w) := by
  funext i
  obtain ⟨h', d, v, rfl⟩ : ∃ (h' : Fin 4) (d : Fin 256) (v : Fin 512), i = (ix3 h' d v : S4x256x512.Idx) :=
    ⟨i 0, i 1, i 2, idx3 _ _ rfl rfl rfl⟩
  by_cases e : h' = h
  · subst e
    have hx : (ix3 h' d v : S4x256x512.Idx)
        = (Rect.unit (s := S4x256x512) ![h'.val, 0, 0] S1x256x512.size inb).emb (ix3 (0 : Fin 1) d v : S1x256x512.Idx) := by
      refine idx3 _ _ ?_ ?_ ?_
      · exact (Rect.idx_unit_val (s := S4x256x512) ![h'.val, 0, 0] S1x256x512.size inb (ix3 (0 : Fin 1) d v : S1x256x512.Idx) 0).symm
      · exact ((Rect.idx_unit_val (s := S4x256x512) ![h'.val, 0, 0] S1x256x512.size inb (ix3 (0 : Fin 1) d v : S1x256x512.Idx) 1).trans (Nat.zero_add _)).symm
      · exact ((Rect.idx_unit_val (s := S4x256x512) ![h'.val, 0, 0] S1x256x512.size inb (ix3 (0 : Fin 1) d v : S1x256x512.Idx) 2).trans (Nat.zero_add _)).symm
    have key : View.canon ((⟨Rect.unit ![h'.val, 0, 0] S1x256x512.size inb, w⟩ : View.Piece (Elt F) S4x256x512 .f32) :: L)
        (ix3 h' d v : S4x256x512.Idx) = w (ix3 (0 : Fin 1) d v : S1x256x512.Idx) := by
      rw [hx]
      exact View.canon_cons_emb (Rect.unit (s := S4x256x512) ![h'.val, 0, 0] S1x256x512.size inb) w L _
    refine key.trans ?_
    have hu : Function.update s h' w h' = w := Function.update_self ..
    exact (congrFun hu (ix3 0 d v)).symm
  · have hn : (ix3 h' d v : S4x256x512.Idx) ∉ (Rect.unit (s := S4x256x512) ![h.val, 0, 0] S1x256x512.size inb).set :=
      fun H => e ((mem_head h h' inb d v).mp H)
    have key : View.canon ((⟨Rect.unit ![h.val, 0, 0] S1x256x512.size inb, w⟩ : View.Piece (Elt F) S4x256x512 .f32) :: L)
        (ix3 h' d v : S4x256x512.Idx) = View.canon L (ix3 h' d v : S4x256x512.Idx) :=
      View.canon_cons_of_not_mem (s := S4x256x512) ⟨Rect.unit ![h.val, 0, 0] S1x256x512.size inb, w⟩ L hn
    refine key.trans ?_
    rw [hL]
    have hu : Function.update s h w h' = s h' := Function.update_of_ne e ..
    exact (congrFun hu (ix3 0 d v)).symm

theorem ld_head (x : Vec F S4x256x512 .f32) (h : Fin 4) (d : Fin 256) (v : Fin 512) :
    stT x h (ix3 0 d v) = x (ix3 h d v) := by
  refine View.ld_unit_apply_of _ _ _ _ _ _ fun a => ?_
  fin_cases a
  · rfl
  · exact (Nat.zero_add _).symm
  · exact (Nat.zero_add _).symm

theorem stT_pack (s : Fin 4 → Vec F S1x256x512 .f32) (h : Fin 4) : stT (pack s) h = s h := by
  funext i
  obtain ⟨d, v, rfl⟩ : ∃ (d : Fin 256) (v : Fin 512), i = (ix3 0 d v : S1x256x512.Idx) :=
    ⟨i 1, i 2, idx3 _ _ (by have := (i 0).isLt; change (i 0).val < 1 at this; change (i 0).val = 0; omega) rfl rfl⟩
  exact ld_head _ h d v

theorem pack_stT (x : Vec F S4x256x512 .f32) : pack (stT x) = x := by
  funext i
  exact (ld_head x (i 0) (i 1) (i 2)).trans (congrArg x (idx3 _ _ rfl rfl rfl))

/-- A head read back from covering writes. -/
theorem read_pack {sig : RefSig} {κ : Kind} {sp : Space} (v : View sig κ sp S4x256x512 .f32) (h : Fin 4)
    (inb : ∀ a, (![h.val, 0, 0] : Fin 3 → ℕ) a + S1x256x512.size a ≤ S4x256x512.size a)
    (L : List (View.Piece (Elt F) S4x256x512 .f32)) (s : Fin 4 → Vec F S1x256x512 .f32) (hL : View.canon L = pack s) :
    v.readCov L (Rect.unit (s := S4x256x512) ![h.val, 0, 0] S1x256x512.size inb).toLoadRect = s h := by
  rw [View.readCov_eq_canon', hL]
  exact stT_pack s h

/-- A tile of a block made of tiles. -/
theorem tile_packO (o : Fin 4 → Fin 4 → Vec F S1x128x512 .bf16) (n h : Fin 4)
    (inb : ∀ a, (![0, 128 * n.val, 512 * h.val] : Fin 3 → ℕ) a + S1x128x512.size a ≤ S1x512x2048.size a)
    (x : S1x128x512.Idx) :
    o n h x = packO o ((Rect.unit (s := S1x512x2048) ![0, 128 * n.val, 512 * h.val] S1x128x512.size inb).emb x) := by
  have e1 := Rect.idx_unit_val (s := S1x512x2048) ![0, 128 * n.val, 512 * h.val] S1x128x512.size inb x 1
  have e2 := Rect.idx_unit_val (s := S1x512x2048) ![0, 128 * n.val, 512 * h.val] S1x128x512.size inb x 2
  have l0 : (x 0).val < 1 := (x 0).isLt
  have l1 : (x 1).val < 128 := (x 1).isLt
  have l2 : (x 2).val < 512 := (x 2).isLt
  change _ = 128 * n.val + (x 1).val at e1
  change _ = 512 * h.val + (x 2).val at e2
  have c1 : n = ⟨((Rect.unit (s := S1x512x2048) ![0, 128 * n.val, 512 * h.val] S1x128x512.size inb).idx x 1).val / 128,
      Nat.div_lt_of_lt_mul (Fin.isLt _)⟩ := Fin.ext (by show n.val = _ / 128; rw [e1]; omega)
  have c2 : h = ⟨((Rect.unit (s := S1x512x2048) ![0, 128 * n.val, 512 * h.val] S1x128x512.size inb).idx x 2).val / 512,
      Nat.div_lt_of_lt_mul (Fin.isLt _)⟩ := Fin.ext (by show h.val = _ / 512; rw [e2]; omega)
  have cx : x = (ix3 0 ⟨((Rect.unit (s := S1x512x2048) ![0, 128 * n.val, 512 * h.val] S1x128x512.size inb).idx x 1).val % 128,
      Nat.mod_lt _ (by decide)⟩ ⟨((Rect.unit (s := S1x512x2048) ![0, 128 * n.val, 512 * h.val] S1x128x512.size inb).idx x 2).val % 512,
      Nat.mod_lt _ (by decide)⟩ : S1x128x512.Idx) := idx3 _ _ (by show (x 0).val = 0; omega)
        (by show (x 1).val = _ % 128; rw [e1]; omega) (by show (x 2).val = _ % 512; rw [e2]; omega)
  exact (congrFun (congrFun (congrArg o c1) _) x).trans ((congrFun (congrArg (o _) c2) x).trans (congrArg (o _ _) cx))

end Cert.KernelIdeal.Chunks
-- ==== Proof.Ret.Spec.lean ====
/-
  The retention over the extended reals, head by head and chunk by chunk: a chunk's output is its own part, weighted by
  the decays between its positions, and the part the state brings; the state decays and takes the chunk in. A
  position's output is then centred, divided by its root mean square, scaled, and gated.
-/
module

public import Idealize.ShloMosaic.PureOps.Ideal.Laws
public import Idealize.ShloMosaic.Lib.Pointwise
public import Mathlib.Algebra.BigOperators.Fin

@[expose] public section

noncomputable section

open Idealize.ShloMosaic
open scoped BigOperators

namespace Cert.Ret

/-- An array of extended reals with two axes. -/
abbrev Mat (n k : ℕ) := Fin n → Fin k → EReal

/-- The state after a chunk: the old state decayed, and the chunk's decayed keys times its values. -/
def next (st : Mat 256 512) (cd : EReal) (k : Mat 128 256) (kd : Fin 128 → EReal) (v : Mat 128 512) : Mat 256 512 :=
  fun d w => st d w * cd + ∑ j, k j d * kd j * v j w

/-- A chunk's output: its own part and the state's part. -/
def mixed (q k : Mat 128 256) (v : Mat 128 512) (de : Mat 128 128) (st : Mat 256 512) (qd : Fin 128 → EReal) : Mat 128 512 :=
  fun i w => ∑ j, (∑ d, q i d * k j d) * de i j * v j w + (∑ d, q i d * st d w) * qd i

/-- A row less its mean. -/
def centred (x : Fin 512 → EReal) : Fin 512 → EReal := fun w => x w - Ideal.div (∑ u, x u) (Ideal.ofBits FTy.f32 0x44000000#32)

/-- A row less its mean, over the root of its variance. -/
def normed (x : Fin 512 → EReal) : Fin 512 → EReal := fun w =>
  centred x w * Ideal.rsqrt (Ideal.div (∑ u, centred x u * centred x u) (Ideal.ofBits FTy.f32 0x44000000#32)
    + Ideal.ofBits FTy.f32 0x358637BD#32)

/-- A gate times its logistic, times the scaled row. -/
def gated (g : EReal) (x : Fin 512 → EReal) (gn : EReal) (w : Fin 512) : EReal := g * Ideal.logistic g * (normed x w * gn)

/-! ## The whole retention, from the projection array -/

/-- The row of position `i` of chunk `n` of sequence `b`. -/
def row (b n i : ℕ) : Fin 16384 := Fin.ofNat 16384 (8192 * b + 128 * n + i)

/-- A column of the projection. -/
def col (o : ℕ) : Fin 6144 := Fin.ofNat 6144 o

variable (P : (⟨2, ![16384, 6144]⟩ : Shape).Idx → EReal) (gn : Fin 2048 → EReal)
variable (de : Fin 4 → Mat 128 128) (qd kd : Fin 4 → Fin 128 → EReal) (cd : Fin 4 → EReal)

/-- The queries, keys, values and gates of chunk `n` of sequence `b` in head `h`. -/
def qs (b n h : ℕ) : Mat 128 256 := fun i d => P (ix2 (row b n i.val) (col (256 * h + d.val)))
def ks (b n h : ℕ) : Mat 128 256 := fun i d => P (ix2 (row b n i.val) (col (1024 + 256 * h + d.val)))
def vs (b n h : ℕ) : Mat 128 512 := fun i w => P (ix2 (row b n i.val) (col (2048 + 512 * h + w.val)))
def gs (b n h : ℕ) : Mat 128 512 := fun i w => P (ix2 (row b n i.val) (col (4096 + 512 * h + w.val)))

/-- The state before chunk `n`. -/
def st (b : ℕ) (h : Fin 4) : ℕ → Mat 256 512
  | 0 => fun _ _ => 0
  | n + 1 => next (st b h n) (cd h) (ks P b n h.val) (kd h) (vs P b n h.val)

/-- A chunk's output before the norm. -/
def raw (b : ℕ) (h : Fin 4) (n : ℕ) : Mat 128 512 :=
  mixed (qs P b n h.val) (ks P b n h.val) (vs P b n h.val) (de h) (st P kd cd b h n) (qd h)

/-- The result at sequence `b`, chunk `n`, head `h`, position `i`, column `w`. -/
def res (b : ℕ) (h : Fin 4) (n : ℕ) (i : Fin 128) (w : Fin 512) : EReal :=
  gated (gs P b n h.val i w) (raw P de qd kd cd b h n i) (gn (Fin.ofNat 2048 (512 * h.val + w.val))) w

end Cert.Ret

end
-- ==== Proof.Ret.Steps2.lean ====
/-
  One step of the retention's kernel, read at an index.
-/
module

public import proofs.«01_k».proof.Proof.Ret.Blocks
public import proofs.«01_k».proof.Proof.Ret.Spec

@[expose] public section

set_option maxRecDepth 16384

noncomputable section

open Idealize.ShloMosaic Idealize.ShloMosaic.TcCoe Idealize.SL.Sem
open scoped BigOperators

namespace Cert.KernelIdeal.Chunks

open Cert.KernelIdeal Cert.KernelIdeal.Gen Cert.Ret

theorem own_at (q k : Vec Ideal S1x128x256 .bf16) (v : Vec Ideal S1x128x512 .bf16) (de : Vec Ideal S1x128x128 .f32)
    (i : Fin 128) (w : Fin 512) :
    k0_pay6 (F := Ideal) q k v de (ix2 i w)
      = ∑ j : Fin 128, (∑ d : Fin 256, q (ix3 0 i d) * k (ix3 0 j d)) * de (ix3 0 i j) * v (ix3 0 j w) := by
  unfold k0_pay6 k0_pay3 k0_pay4 k0_pay5
  pointwise

theorem cross_at (q : Vec Ideal S1x128x256 .bf16) (st : Vec Ideal S1x256x512 .f32) (qd : Vec Ideal S1x128x512 .f32)
    (i : Fin 128) (w : Fin 512) :
    k0_pay8 (F := Ideal) q st qd (ix2 i w)
      = (∑ d : Fin 256, q (ix3 0 i d) * st (ix3 0 d w)) * qd (ix3 0 i w) := by
  unfold k0_pay8 k0_pay7 k0_pay3
  pointwise

theorem upd_at (k : Vec Ideal S1x128x256 .bf16) (v : Vec Ideal S1x128x512 .bf16) (kd : Vec Ideal S1x128x256 .f32)
    (cd : Vec Ideal S1x1x512 .f32) (st : Vec Ideal S1x256x512 .f32) (d : Fin 256) (w : Fin 512) :
    upd (F := Ideal) k v kd cd st (ix3 0 d w)
      = st (ix3 0 d w) * cd (ix3 0 0 w) + ∑ j : Fin 128, k (ix3 0 j d) * kd (ix3 0 j d) * v (ix3 0 j w) := by
  unfold upd k0_pay10 k0_pay9 k0_pay7 k0_pay5 k0_pay4
  pointwise

theorem tail_at (x y : FVec Ideal S128x512 .f32) (gn : Vec Ideal S1x512 .f32) (g : Vec Ideal S1x128x512 .bf16)
    (i : Fin 128) (w : Fin 512) :
    k0_pay11 (F := Ideal) x y gn g (ix3 0 i w)
      = gated (g (ix3 0 i w)) (fun u => x (ix2 i u) + y (ix2 i u)) (gn (ix2 0 w)) w := by
  unfold k0_pay11
  pointwise
  rfl

end Cert.KernelIdeal.Chunks

end
-- ==== Proof.Ret.Steps.lean ====
/-
  The retention's reference: its run's result as the last operations applied to state 64 of the recurrence. Before every
  condition of the loop the buffers carry a state, the tables and the trip's number; a trip carries them on.
-/
module

public import proofs.«01_k».proof.Proof.Gen.ReferenceIdeal.Run
public import proofs.«01_k».proof.Proof.Gen.ReferenceIdeal.Step

@[expose] public section

set_option maxRecDepth 16384

noncomputable section

namespace Cert.ReferenceIdeal.Steps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The loop's buffers hold the state `s`, the tables, and trip number `j`. -/
structure Carries (W : Valuation τ sig (Elt F)) (s : State F) (j : ℕ) : Prop where
  state : W (Proc.devRef .tc main_v64_8) = s.main_v64_8
  outs : W (Proc.devRef .tc main_v64_9) = s.main_v64_9
  qs : W (Proc.devRef .tc main_v64_0) = s.main_v64_0
  ks : W (Proc.devRef .tc main_v64_1) = s.main_v64_1
  vs : W (Proc.devRef .tc main_v64_2) = s.main_v64_2
  trip : W (Proc.devRef .tc main_v64_7) = constantI S_ 32 (BitVec.ofNat 32 j)
  dec : W (Proc.devRef .tc main_v64_3) = K_main_v39 (F := F)
  qdec : W (Proc.devRef .tc main_v64_4) = K_main_v48 (F := F)
  cdec : W (Proc.devRef .tc main_v64_5) = K_main_v61 (F := F)
  kdec : W (Proc.devRef .tc main_v64_6) = K_main_v57 (F := F)

variable {W : Valuation τ sig (Elt F)} {s : State F} {j : ℕ}

theorem q_eq (h : Carries W s j) : res_main_while0b_v96 W = b5 j s := by
  unfold res_main_while0b_v96 b5 b4
  rw [h.qs, h.trip]; rfl

theorem k_eq (h : Carries W s j) : res_main_while0b_v97 W = b11 j s := by
  unfold res_main_while0b_v97 b11 b10
  rw [h.ks, h.trip]; rfl

theorem v_eq (h : Carries W s j) : res_main_while0b_v98 W = b17 j s := by
  unfold res_main_while0b_v98 b17 b16
  rw [h.vs, h.trip]; rfl

theorem next_state (h : Carries W s j) : Value.step_main_v64_8 W = b34 j s := by
  unfold Value.step_main_v64_8
  rw [k_eq h, v_eq h, h.state, h.cdec, h.kdec]; rfl

theorem next_outs (h : Carries W s j) : Value.step_main_v64_9 W = b41 j s := by
  unfold Value.step_main_v64_9
  rw [q_eq h, k_eq h, v_eq h, h.state, h.dec, h.qdec, h.outs, h.trip]; rfl

theorem next_trip (h : Carries W s j) : step_main_v64_7 W = constantI S_ 32 (BitVec.ofNat 32 (j + 1)) := by
  unfold step_main_v64_7
  rw [h.trip]
  funext i
  show BitVec.ofNat 32 j + 1#32 = BitVec.ofNat 32 (j + 1)
  simp only [BitVec.ofNat_add]

/-- A trip carries the next state. -/
theorem Carries.next (h : Carries W s j) : Carries (STEP W) (step j s) (j + 1) :=
  ⟨(STEP_main_v64_8 W).trans (next_state h), (STEP_main_v64_9 W).trans (next_outs h), (STEP_main_v64_0 W).trans h.qs,
    (STEP_main_v64_1 W).trans h.ks, (STEP_main_v64_2 W).trans h.vs, (STEP_main_v64_7 W).trans (next_trip h),
    (STEP_main_v64_3 W).trans h.dec, (STEP_main_v64_4 W).trans h.qdec, (STEP_main_v64_5 W).trans h.cdec, (STEP_main_v64_6 W).trans h.kdec⟩

/-- The states of the recurrence, from a projection array. -/
def states (P : (⟨S16384x6144, .bf16⟩ : BufTy).Contents (Elt F)) : ℕ → State F
  | 0 => init P
  | n + 1 => step n (states P n)

variable (m : (ℓ : Loc nD τ sig) → Buf (Elt F) ℓ) (ρ : Dev nD → PrngReg) (c : Dev nD)

set_option maxRecDepth 65536 in
set_option maxHeartbeats 500000 in
theorem start : Carries (entryContents preI m c) (init (m ((c.tc : Thread nD τ).loc main_arg0))) 0 := by
  constructor <;> (simp only [entryContents, afterL_cons, afterL_nil]; after_reads_simp) <;> rfl

theorem carries : ∀ k, Carries (STEP^[k] (entryContents preI m c)) (states (m ((c.tc : Thread nD τ).loc main_arg0)) k) k
  | 0 => start m c
  | k + 1 => by
    rw [Function.iterate_succ_apply']
    exact (carries k).next

/-- What the operations after the loop make of the state they find. -/
theorem last_eq (h : Carries W s j) {A : (⟨S16384x6144, .bf16⟩ : BufTy).Contents (Elt F)}
    (hA : W (Proc.devRef .tc main_arg0) = A) {B : (⟨S1x2048, .f32⟩ : BufTy).Contents (Elt F)}
    (hB : W (Proc.devRef .tc main_arg1) = B) : out_main_v95 W = R_main_v95 s A B := by
  unfold out_main_v95 R_main_v95
  rw [h.outs, hA, hB]; rfl

theorem run : θ_run (defs (F := F)) (onTc (τ := τ) (main (F := F))) ⟨m, fun _ => 0, ρ⟩ fun r => ∀ c : Dev nD,
      r.2.mem ((c.tc : Thread nD τ).loc main_v95)
        = R_main_v95 (states (m ((c.tc : Thread nD τ).loc main_arg0)) 64) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (last_eq (carries m c 64) (iter_main_arg0 m c 64) (iter_main_arg1 m c 64)), (h c).2⟩) (Value.run m ρ)

end Cert.ReferenceIdeal.Steps

end
-- ==== Proof.Ret.Ref.lean ====
/-
  The retention's reference: its recurrence's states and outputs are the states and outputs of the retention, chunk by
  chunk.
-/
module

public import proofs.«01_k».proof.Proof.Ret.Steps
public import proofs.«01_k».proof.Proof.Ret.Spec
public import Idealize.ShloMosaic.Lib.Pointwise
public import Idealize.ShloMosaic.Lib.Tactic

@[expose] public section

set_option maxRecDepth 16384

noncomputable section

open Idealize.ShloMosaic Idealize.ShloMosaic.TcCoe Idealize.SL.Sem Idealize.ShloMosaic.StableHlo
open scoped BigOperators

namespace Cert.ReferenceIdeal.Chunks

open Cert.ReferenceIdeal Cert.ReferenceIdeal.Gen Cert.ReferenceIdeal.Step Cert.ReferenceIdeal.Steps Cert.Ret

/-! ## The chunks of the projection -/

theorem split_at (P : FVec Ideal S16384x6144 .bf16) (b : Fin 2) (t : Fin 8192) (o : Fin 6144) :
    A_main_v1 (F := Ideal) P (ix3 b t o) = P (ix2 ⟨b.val * 8192 + t.val, by omega⟩ o) := by
  unfold A_main_v1 A_main_v0
  pointwise

theorem chunks_qk (A : FVec Ideal S2x8192x1024 .f32) (n : Fin 64) (b : Fin 2) (h : Fin 4) (i : Fin 128) (d : Fin 256) :
    transpose S64x2x4x128x256 [1, 0, 3, 2, 4] (shapeCast S2x64x128x4x256 (shapeCast S2x8192x4x256 A shapeCasts_S2x8192x1024_S2x8192x4x256)
      shapeCasts_S2x8192x4x256_S2x64x128x4x256) transposes_S2x64x128x4x256_S64x2x4x128x256_1_0_3_2_4 (ix5 n b h i d)
      = A (ix3 b ⟨n.val * 128 + i.val, by omega⟩ ⟨h.val * 256 + d.val, by omega⟩) := by
  pointwise

theorem chunks_v (A : FVec Ideal S2x8192x2048 .f32) (n : Fin 64) (b : Fin 2) (h : Fin 4) (i : Fin 128) (d : Fin 512) :
    transpose S64x2x4x128x512 [1, 0, 3, 2, 4] (shapeCast S2x64x128x4x512 (shapeCast S2x8192x4x512 A shapeCasts_S2x8192x2048_S2x8192x4x512)
      shapeCasts_S2x8192x4x512_S2x64x128x4x512) transposes_S2x64x128x4x512_S64x2x4x128x512_1_0_3_2_4 (ix5 n b h i d)
      = A (ix3 b ⟨n.val * 128 + i.val, by omega⟩ ⟨h.val * 512 + d.val, by omega⟩) := by
  pointwise

variable (P : FVec Ideal S16384x6144 .bf16)

theorem q_at (n : Fin 64) (b : Fin 2) (h : Fin 4) (i : Fin 128) (d : Fin 256) :
    A_main_v10 (F := Ideal) P (ix5 n b h i d) = qs P b.val n.val h.val i d := by
  unfold A_main_v10 A_main_v9 A_main_v6
  refine (chunks_qk _ n b h i d).trans ?_
  unfold A_main_v2
  pointwise
  refine (split_at P _ _ _).trans ?_
  unfold qs row col
  congr 2 <;> refine Fin.ext ?_ <;> simp only [Fin.ofNat] <;> omega

theorem k_at (n : Fin 64) (b : Fin 2) (h : Fin 4) (i : Fin 128) (d : Fin 256) :
    A_main_v12 (F := Ideal) P (ix5 n b h i d) = ks P b.val n.val h.val i d := by
  unfold A_main_v12 A_main_v11 A_main_v7
  refine (chunks_qk _ n b h i d).trans ?_
  unfold A_main_v3
  pointwise
  refine (split_at P _ _ _).trans ?_
  unfold ks row col
  congr 2 <;> refine Fin.ext ?_ <;> simp only [Fin.ofNat] <;> omega

theorem v_at (n : Fin 64) (b : Fin 2) (h : Fin 4) (i : Fin 128) (d : Fin 512) :
    A_main_v14 (F := Ideal) P (ix5 n b h i d) = vs P b.val n.val h.val i d := by
  unfold A_main_v14 A_main_v13 A_main_v8
  refine (chunks_v _ n b h i d).trans ?_
  unfold A_main_v4
  pointwise
  refine (split_at P _ _ _).trans ?_
  unfold vs row col
  congr 2 <;> refine Fin.ext ?_ <;> simp only [Fin.ofNat] <;> omega

/-! ## A trip's chunk -/

theorem start_val : ∀ n : Fin 64, (BitVec.ofNat 32 n.val).toInt = n.val := by decide

theorem pick_qk (x : FVec Ideal S64x2x4x128x256 .f32) (a0 a1 a2 a3 : (⟨S_, .i32⟩ : BufTy).Contents (Elt Ideal))
    (h0 : a0 = constantI S_ 32 0#32) (h1 : a1 = constantI S_ 32 0#32) (h2 : a2 = constantI S_ 32 0#32) (h3 : a3 = constantI S_ 32 0#32)
    (n : Fin 64) (b : Fin 2) (h : Fin 4) (i : Fin 128) (d : Fin 256) :
    shapeCast S2x4x128x256 (Host.dynamicSlice S1x2x4x128x256 x (fun k => (((![(constantI S_ 32 (BitVec.ofNat 32 n.val) : (⟨S_, .i32⟩ : BufTy).Contents (Elt Ideal)), a0, a1, a2, a3] : Fin 5 → (⟨S_, .i32⟩ : BufTy).Contents (Elt Ideal))) k (Shape.Idx.first h_S_)).toInt) sliceFits_S64x2x4x128x256_S1x2x4x128x256)
      shapeCasts_S1x2x4x128x256_S2x4x128x256 (ix4 b h i d) = x (ix5 n b h i d) := by
  subst h0 h1 h2 h3
  have c : ∀ (A : FVec Ideal S1x2x4x128x256 .f32), shapeCast S2x4x128x256 A shapeCasts_S1x2x4x128x256_S2x4x128x256 (ix4 b h i d) = A (ix5 0 b h i d) := by
    intro A
    pointwise
  rw [c, Host.dynamicSlice_apply]
  refine congrArg x (funext fun a => Fin.ext ?_)
  fin_cases a
  · refine congrArg (· + 0) (Host.clampedStart_of_le (s := S64x2x4x128x256) (t := S1x2x4x128x256) rfl _ 0 n.val ?_ (Nat.succ_le_of_lt n.isLt))
    exact start_val n
  · exact (congrArg (· + b.val) (Host.clampedStart_of_le (s := S64x2x4x128x256) (t := S1x2x4x128x256) rfl _ 1 0 rfl (le_refl _))).trans (Nat.zero_add _)
  · exact (congrArg (· + h.val) (Host.clampedStart_of_le (s := S64x2x4x128x256) (t := S1x2x4x128x256) rfl _ 2 0 rfl (le_refl _))).trans (Nat.zero_add _)
  · exact (congrArg (· + i.val) (Host.clampedStart_of_le (s := S64x2x4x128x256) (t := S1x2x4x128x256) rfl _ 3 0 rfl (le_refl _))).trans (Nat.zero_add _)
  · exact (congrArg (· + d.val) (Host.clampedStart_of_le (s := S64x2x4x128x256) (t := S1x2x4x128x256) rfl _ 4 0 rfl (le_refl _))).trans (Nat.zero_add _)

theorem pick_v (x : FVec Ideal S64x2x4x128x512 .f32) (a0 a1 a2 a3 : (⟨S_, .i32⟩ : BufTy).Contents (Elt Ideal))
    (h0 : a0 = constantI S_ 32 0#32) (h1 : a1 = constantI S_ 32 0#32) (h2 : a2 = constantI S_ 32 0#32) (h3 : a3 = constantI S_ 32 0#32)
    (n : Fin 64) (b : Fin 2) (h : Fin 4) (i : Fin 128) (d : Fin 512) :
    shapeCast S2x4x128x512 (Host.dynamicSlice S1x2x4x128x512 x (fun k => (((![(constantI S_ 32 (BitVec.ofNat 32 n.val) : (⟨S_, .i32⟩ : BufTy).Contents (Elt Ideal)), a0, a1, a2, a3] : Fin 5 → (⟨S_, .i32⟩ : BufTy).Contents (Elt Ideal))) k (Shape.Idx.first h_S_)).toInt) sliceFits_S64x2x4x128x512_S1x2x4x128x512)
      shapeCasts_S1x2x4x128x512_S2x4x128x512 (ix4 b h i d) = x (ix5 n b h i d) := by
  subst h0 h1 h2 h3
  have c : ∀ (A : FVec Ideal S1x2x4x128x512 .f32), shapeCast S2x4x128x512 A shapeCasts_S1x2x4x128x512_S2x4x128x512 (ix4 b h i d) = A (ix5 0 b h i d) := by
    intro A
    pointwise
  rw [c, Host.dynamicSlice_apply]
  refine congrArg x (funext fun a => Fin.ext ?_)
  fin_cases a
  · refine congrArg (· + 0) (Host.clampedStart_of_le (s := S64x2x4x128x512) (t := S1x2x4x128x512) rfl _ 0 n.val ?_ (Nat.succ_le_of_lt n.isLt))
    exact start_val n
  · exact (congrArg (· + b.val) (Host.clampedStart_of_le (s := S64x2x4x128x512) (t := S1x2x4x128x512) rfl _ 1 0 rfl (le_refl _))).trans (Nat.zero_add _)
  · exact (congrArg (· + h.val) (Host.clampedStart_of_le (s := S64x2x4x128x512) (t := S1x2x4x128x512) rfl _ 2 0 rfl (le_refl _))).trans (Nat.zero_add _)
  · exact (congrArg (· + i.val) (Host.clampedStart_of_le (s := S64x2x4x128x512) (t := S1x2x4x128x512) rfl _ 3 0 rfl (le_refl _))).trans (Nat.zero_add _)
  · exact (congrArg (· + d.val) (Host.clampedStart_of_le (s := S64x2x4x128x512) (t := S1x2x4x128x512) rfl _ 4 0 rfl (le_refl _))).trans (Nat.zero_add _)

/-- The reference's states, over the extended reals. -/
abbrev sts (n : ℕ) : State Ideal := states (F := Ideal) P n

theorem keeps (n : ℕ) : (sts P n).main_v64_0 = A_main_v10 (F := Ideal) P ∧ (sts P n).main_v64_1 = A_main_v12 (F := Ideal) P ∧ (sts P n).main_v64_2 = A_main_v14 (F := Ideal) P := by
  induction n with
  | zero => exact ⟨rfl, rfl, rfl⟩
  | succ n ih => exact ih

variable (n : Fin 64) (b : Fin 2) (h : Fin 4)

theorem bq_at (i : Fin 128) (d : Fin 256) : b5 n.val (sts P n.val) (ix4 b h i d) = qs P b.val n.val h.val i d := by
  unfold b5 b4
  rw [(keeps P n.val).1]
  exact (pick_qk _ _ _ _ _ rfl rfl rfl rfl n b h i d).trans (q_at P n b h i d)

theorem bk_at (i : Fin 128) (d : Fin 256) : b11 n.val (sts P n.val) (ix4 b h i d) = ks P b.val n.val h.val i d := by
  unfold b11 b10
  rw [(keeps P n.val).2.1]
  exact (pick_qk _ _ _ _ _ rfl rfl rfl rfl n b h i d).trans (k_at P n b h i d)

theorem bv_at (i : Fin 128) (w : Fin 512) : b17 n.val (sts P n.val) (ix4 b h i w) = vs P b.val n.val h.val i w := by
  unfold b17 b16
  rw [(keeps P n.val).2.2]
  exact (pick_v _ _ _ _ _ rfl rfl rfl rfl n b h i w).trans (v_at P n b h i w)

/-! ## The tables and the recurrence -/

/-- The decays between a chunk's positions, of the queries, of the keys, and of a chunk. -/
def tde : Fin 4 → Mat 128 128 := fun h i j => K_main_v39 (F := Ideal) (ix3 h i j)
def tqd : Fin 4 → Fin 128 → EReal := fun h i => K_main_v48 (F := Ideal) (ix3 h i 0)
def tkd : Fin 4 → Fin 128 → EReal := fun h i => K_main_v57 (F := Ideal) (ix3 h i 0)
def tcd : Fin 4 → EReal := fun h => K_main_v61 (F := Ideal) (ix3 h 0 0)

theorem b34_at (s : State Ideal) (j : ℕ) (d : Fin 256) (w : Fin 512) :
    b34 j s (ix4 b h d w) = s.main_v64_8 (ix4 b h d w) * tcd h
      + ∑ i : Fin 128, b11 j s (ix4 b h i d) * tkd h i * b17 j s (ix4 b h i w) := by
  unfold b34 b29 b28 b27 b33 b32 b31 b30
  pointwise
  rfl

theorem b35_at (s : State Ideal) (j : ℕ) (i : Fin 128) (w : Fin 512) :
    b35 j s (ix4 b h i w) = ∑ k : Fin 128, (∑ d : Fin 256, b5 j s (ix4 b h i d) * b11 j s (ix4 b h k d)) * tde h i k * b17 j s (ix4 b h k w)
      + (∑ d : Fin 256, b5 j s (ix4 b h i d) * s.main_v64_8 (ix4 b h d w)) * tqd h i := by
  unfold b35 b22 b21 b20 b19 b18 b26 b25 b24 b23
  pointwise
  rfl

theorem zero_at (d : Fin 256) (w : Fin 512) : K_main_v62 (F := Ideal) (ix4 b h d w) = 0 := by
  unfold K_main_v62 K_main_cst_7
  pointwise

theorem state_at (n : ℕ) (hn : n ≤ 64) (b : Fin 2) (h : Fin 4) (d : Fin 256) (w : Fin 512) :
    (sts P n).main_v64_8 (ix4 b h d w) = st P tkd tcd b.val h n d w := by
  induction n generalizing d w with
  | zero => exact zero_at b h d w
  | succ n ih =>
    show b34 n (sts P n) (ix4 b h d w) = _
    rw [b34_at, ih (by omega)]
    refine congrArg (_ + ·) (Finset.sum_congr rfl fun i _ => ?_)
    exact congrArg₂ (· * ·) (congrArg (· * tkd h i) (bk_at P ⟨n, by omega⟩ b h i d)) (bv_at P ⟨n, by omega⟩ b h i w)

theorem out_at (n : Fin 64) (b : Fin 2) (h : Fin 4) (i : Fin 128) (w : Fin 512) :
    b35 n.val (sts P n.val) (ix4 b h i w) = raw P tde tqd tkd tcd b.val h n.val i w := by
  rw [b35_at]
  simp only [bq_at, bk_at, bv_at, state_at P n.val (by omega)]
  rfl

end Cert.ReferenceIdeal.Chunks

end
-- ==== Proof.Ret.Host.lean ====
/-
  The retention's kernel, what its blocks hold: the projection's rows of the point's four chunks, and the tables, which
  are the reference's.
-/
module

public import proofs.«01_k».proof.Proof.Ret.Steps2
public import proofs.«01_k».proof.Proof.Ret.Ref

@[expose] public section

set_option maxRecDepth 16384

noncomputable section

open Idealize.ShloMosaic Idealize.ShloMosaic.TcCoe Idealize.SL.Sem
open Idealize.ShloMosaic.Pipeline (Dat)
open scoped BigOperators

namespace Cert.KernelIdeal.Chunks

open Cert.KernelIdeal Cert.KernelIdeal.Gen Cert.Ret
open Cert.ReferenceIdeal.Chunks (tde tqd tkd tcd)

variable (m : (ℓ : Loc nD τ sig) → Buf (Elt Ideal) ℓ) (c : Dev nD)

/-- The projection array, and the norm's weight. -/
abbrev proj : S16384x6144.Idx → EReal := m (c.tc.loc main_arg0)
abbrev wgt : Fin 2048 → EReal := fun x => (m (c.tc.loc main_arg1) : S1x2048.Idx → EReal) (ix2 0 x)

/-! ## The arrays the host leaves for the call -/

theorem parted (A : FVec Ideal S16384x6144 .bf16) (b : Fin 2) (t : Fin 8192) (o : Fin 6144) :
    shapeCast S2x8192x6144 A shapeCasts_S16384x6144_S2x8192x6144 (ix3 b t o) = A (ix2 ⟨b.val * 8192 + t.val, by omega⟩ o) := by
  pointwise

theorem x_at (b : Fin 2) (t : Fin 8192) (o : Fin 6144) :
    (V m c main_v95 : S2x8192x6144.Idx → EReal) (ix3 b t o) = proj m c (ix2 ⟨b.val * 8192 + t.val, by omega⟩ o) := by
  have e : (V m c main_v95 : S2x8192x6144.Idx → EReal) = (shapeCast S2x8192x6144 (m (c.tc.loc main_arg0) : FVec Ideal S16384x6144 .bf16) shapeCasts_S16384x6144_S2x8192x6144 : FVec Ideal S2x8192x6144 .bf16) := by
    simp only [V, hostOps0, hostOps0_1, hostOps0_2, hostOps0_3, hostOps0_4, List.flatten_cons, List.flatten_nil, List.append_nil, List.cons_append, List.nil_append]; after_results_simp; rfl
  rw [e]
  exact parted _ b t o

theorem gn_at (x : Fin 2048) : (V m c main_v94 : S1x2048.Idx → EReal) (ix2 0 x) = wgt m c x := by
  have e : (V m c main_v94 : S1x2048.Idx → EReal) = (broadcastInDim S1x2048 ![1] bcast_S2048_S1x2048_1 (shapeCast S2048 (m (c.tc.loc main_arg1) : FVec Ideal S1x2048 .f32) shapeCasts_S1x2048_S2048) : FVec Ideal S1x2048 .f32) := by
    simp only [V, hostOps0, hostOps0_1, hostOps0_2, hostOps0_3, hostOps0_4, List.flatten_cons, List.flatten_nil, List.append_nil, List.cons_append, List.nil_append]; after_results_simp; rfl
  rw [e]
  pointwise

theorem de_at (h : Fin 4) (i j : Fin 128) : (V m c main_v67 : S4x128x128.Idx → EReal) (ix3 h i j) = tde h i j := by
  have e : (V m c main_v67 : S4x128x128.Idx → EReal) = Cert.ReferenceIdeal.Step.K_main_v39 (F := Ideal) := by
    simp only [V, hostOps0, hostOps0_1, hostOps0_2, hostOps0_3, hostOps0_4, List.flatten_cons, List.flatten_nil, List.append_nil, List.cons_append, List.nil_append]; after_results_simp; rfl
  rw [e]
  rfl

theorem qd_at (h : Fin 4) (i : Fin 128) (w : Fin 512) : (V m c main_v90 : S4x128x512.Idx → EReal) (ix3 h i w) = tqd h i := by
  have e : (V m c main_v90 : S4x128x512.Idx → EReal) = (broadcastInDim S4x128x512 ![0, 1, 2] bcast_S4x128x1_S4x128x512_0_1_2 (Cert.ReferenceIdeal.Step.K_main_v48 (F := Ideal) : FVec Ideal S4x128x1 .f32) : FVec Ideal S4x128x512 .f32) := by
    simp only [V, hostOps0, hostOps0_1, hostOps0_2, hostOps0_3, hostOps0_4, List.flatten_cons, List.flatten_nil, List.append_nil, List.cons_append, List.nil_append]; after_results_simp; rfl
  rw [e]
  pointwise
  rfl

theorem kd_at (h : Fin 4) (i : Fin 128) (d : Fin 256) : (V m c main_v91 : S4x128x256.Idx → EReal) (ix3 h i d) = tkd h i := by
  have e : (V m c main_v91 : S4x128x256.Idx → EReal) = (broadcastInDim S4x128x256 ![0, 1, 2] bcast_S4x128x1_S4x128x256_0_1_2 (Cert.ReferenceIdeal.Step.K_main_v57 (F := Ideal) : FVec Ideal S4x128x1 .f32) : FVec Ideal S4x128x256 .f32) := by
    simp only [V, hostOps0, hostOps0_1, hostOps0_2, hostOps0_3, hostOps0_4, List.flatten_cons, List.flatten_nil, List.append_nil, List.cons_append, List.nil_append]; after_results_simp; rfl
  rw [e]
  pointwise
  rfl

theorem cd_at (h : Fin 4) (w : Fin 512) : (V m c main_v92 : S4x1x512.Idx → EReal) (ix3 h 0 w) = tcd h := by
  have e : (V m c main_v92 : S4x1x512.Idx → EReal) = (broadcastInDim S4x1x512 ![0, 1, 2] bcast_S4x1x1_S4x1x512_0_1_2 (Cert.ReferenceIdeal.Step.K_main_v61 (F := Ideal) : FVec Ideal S4x1x1 .f32) : FVec Ideal S4x1x512 .f32) := by
    simp only [V, hostOps0, hostOps0_1, hostOps0_2, hostOps0_3, hostOps0_4, List.flatten_cons, List.flatten_nil, List.append_nil, List.cons_append, List.nil_append]; after_results_simp; rfl
  rw [e]
  pointwise
  rfl

/-! ## The blocks: point `t` reads chunks 4 (t mod 16) … of sequence t / 16, and the tables whole -/

theorem b0_at (t : Fin cfg0.N) (r : Fin 512) (k : Fin 1024) (ht : t.val < 32) :
    (iblk m c 0 t : S1x512x1024.Idx → EReal) (ix3 0 r k)
      = (V m c main_v95 : S2x8192x6144.Idx → EReal) (ix3 ⟨t.val / 16, by omega⟩ ⟨512 * (t.val % 16) + r.val, by omega⟩ ⟨0 + k.val, by omega⟩) := by
  unfold iblk
  rw [View.read_apply]
  show V m c main_v95 _ = V m c main_v95 _
  congr 1
  funext a
  apply Fin.ext
  match a with
  | ⟨0, _⟩ => show win0_0.index t 0 * 1 + 1 * 0 = t.val / 16
              rw [(by decide +kernel : ∀ t : Fin grid0.N, win0_0.index t 0 = t.val / 16) t]; omega
  | ⟨1, _⟩ => show win0_0.index t 1 * 512 + 1 * r.val = 512 * (t.val % 16) + r.val
              rw [(by decide +kernel : ∀ t : Fin grid0.N, win0_0.index t 1 = t.val % 16) t]; omega
  | ⟨2, _⟩ => show win0_0.index t 2 * 1024 + 1 * k.val = 0 + k.val
              rw [(by decide +kernel : ∀ t : Fin grid0.N, win0_0.index t 2 = 0) t]; omega

theorem b1_at (t : Fin cfg0.N) (r : Fin 512) (k : Fin 1024) (ht : t.val < 32) :
    (iblk m c 1 t : S1x512x1024.Idx → EReal) (ix3 0 r k)
      = (V m c main_v95 : S2x8192x6144.Idx → EReal) (ix3 ⟨t.val / 16, by omega⟩ ⟨512 * (t.val % 16) + r.val, by omega⟩ ⟨1024 + k.val, by omega⟩) := by
  unfold iblk
  rw [View.read_apply]
  show V m c main_v95 _ = V m c main_v95 _
  congr 1
  funext a
  apply Fin.ext
  match a with
  | ⟨0, _⟩ => show win0_1.index t 0 * 1 + 1 * 0 = t.val / 16
              rw [(by decide +kernel : ∀ t : Fin grid0.N, win0_1.index t 0 = t.val / 16) t]; omega
  | ⟨1, _⟩ => show win0_1.index t 1 * 512 + 1 * r.val = 512 * (t.val % 16) + r.val
              rw [(by decide +kernel : ∀ t : Fin grid0.N, win0_1.index t 1 = t.val % 16) t]; omega
  | ⟨2, _⟩ => show win0_1.index t 2 * 1024 + 1 * k.val = 1024 + k.val
              rw [(by decide +kernel : ∀ t : Fin grid0.N, win0_1.index t 2 = 1) t]; omega

theorem b2_at (t : Fin cfg0.N) (r : Fin 512) (k : Fin 2048) (ht : t.val < 32) :
    (iblk m c 2 t : S1x512x2048.Idx → EReal) (ix3 0 r k)
      = (V m c main_v95 : S2x8192x6144.Idx → EReal) (ix3 ⟨t.val / 16, by omega⟩ ⟨512 * (t.val % 16) + r.val, by omega⟩ ⟨2048 + k.val, by omega⟩) := by
  unfold iblk
  rw [View.read_apply]
  show V m c main_v95 _ = V m c main_v95 _
  congr 1
  funext a
  apply Fin.ext
  match a with
  | ⟨0, _⟩ => show win0_2.index t 0 * 1 + 1 * 0 = t.val / 16
              rw [(by decide +kernel : ∀ t : Fin grid0.N, win0_2.index t 0 = t.val / 16) t]; omega
  | ⟨1, _⟩ => show win0_2.index t 1 * 512 + 1 * r.val = 512 * (t.val % 16) + r.val
              rw [(by decide +kernel : ∀ t : Fin grid0.N, win0_2.index t 1 = t.val % 16) t]; omega
  | ⟨2, _⟩ => show win0_2.index t 2 * 2048 + 1 * k.val = 2048 + k.val
              rw [(by decide +kernel : ∀ t : Fin grid0.N, win0_2.index t 2 = 1) t]; omega

theorem b3_at (t : Fin cfg0.N) (r : Fin 512) (k : Fin 2048) (ht : t.val < 32) :
    (iblk m c 3 t : S1x512x2048.Idx → EReal) (ix3 0 r k)
      = (V m c main_v95 : S2x8192x6144.Idx → EReal) (ix3 ⟨t.val / 16, by omega⟩ ⟨512 * (t.val % 16) + r.val, by omega⟩ ⟨4096 + k.val, by omega⟩) := by
  unfold iblk
  rw [View.read_apply]
  show V m c main_v95 _ = V m c main_v95 _
  congr 1
  funext a
  apply Fin.ext
  match a with
  | ⟨0, _⟩ => show win0_3.index t 0 * 1 + 1 * 0 = t.val / 16
              rw [(by decide +kernel : ∀ t : Fin grid0.N, win0_3.index t 0 = t.val / 16) t]; omega
  | ⟨1, _⟩ => show win0_3.index t 1 * 512 + 1 * r.val = 512 * (t.val % 16) + r.val
              rw [(by decide +kernel : ∀ t : Fin grid0.N, win0_3.index t 1 = t.val % 16) t]; omega
  | ⟨2, _⟩ => show win0_3.index t 2 * 2048 + 1 * k.val = 4096 + k.val
              rw [(by decide +kernel : ∀ t : Fin grid0.N, win0_3.index t 2 = 2) t]; omega

theorem b4_at (t : Fin cfg0.N) (h : Fin 4) (i : Fin 128) (k : Fin 128) :
    (iblk m c 4 t : S4x128x128.Idx → EReal) (ix3 h i k) = (V m c main_v67 : S4x128x128.Idx → EReal) (ix3 h i k) := by
  unfold iblk
  rw [View.read_apply]
  show V m c main_v67 _ = V m c main_v67 _
  congr 1
  funext a
  apply Fin.ext
  match a with
  | ⟨0, _⟩ => show win0_4.index t 0 * 4 + 1 * h.val = h.val
              rw [(by decide +kernel : ∀ t : Fin grid0.N, win0_4.index t 0 = 0) t]; omega
  | ⟨1, _⟩ => show win0_4.index t 1 * 128 + 1 * i.val = i.val
              rw [(by decide +kernel : ∀ t : Fin grid0.N, win0_4.index t 1 = 0) t]; omega
  | ⟨2, _⟩ => show win0_4.index t 2 * 128 + 1 * k.val = k.val
              rw [(by decide +kernel : ∀ t : Fin grid0.N, win0_4.index t 2 = 0) t]; omega

theorem b5_at (t : Fin cfg0.N) (h : Fin 4) (i : Fin 128) (k : Fin 512) :
    (iblk m c 5 t : S4x128x512.Idx → EReal) (ix3 h i k) = (V m c main_v90 : S4x128x512.Idx → EReal) (ix3 h i k) := by
  unfold iblk
  rw [View.read_apply]
  show V m c main_v90 _ = V m c main_v90 _
  congr 1
  funext a
  apply Fin.ext
  match a with
  | ⟨0, _⟩ => show win0_5.index t 0 * 4 + 1 * h.val = h.val
              rw [(by decide +kernel : ∀ t : Fin grid0.N, win0_5.index t 0 = 0) t]; omega
  | ⟨1, _⟩ => show win0_5.index t 1 * 128 + 1 * i.val = i.val
              rw [(by decide +kernel : ∀ t : Fin grid0.N, win0_5.index t 1 = 0) t]; omega
  | ⟨2, _⟩ => show win0_5.index t 2 * 512 + 1 * k.val = k.val
              rw [(by decide +kernel : ∀ t : Fin grid0.N, win0_5.index t 2 = 0) t]; omega

theorem b6_at (t : Fin cfg0.N) (h : Fin 4) (i : Fin 128) (k : Fin 256) :
    (iblk m c 6 t : S4x128x256.Idx → EReal) (ix3 h i k) = (V m c main_v91 : S4x128x256.Idx → EReal) (ix3 h i k) := by
  unfold iblk
  rw [View.read_apply]
  show V m c main_v91 _ = V m c main_v91 _
  congr 1
  funext a
  apply Fin.ext
  match a with
  | ⟨0, _⟩ => show win0_6.index t 0 * 4 + 1 * h.val = h.val
              rw [(by decide +kernel : ∀ t : Fin grid0.N, win0_6.index t 0 = 0) t]; omega
  | ⟨1, _⟩ => show win0_6.index t 1 * 128 + 1 * i.val = i.val
              rw [(by decide +kernel : ∀ t : Fin grid0.N, win0_6.index t 1 = 0) t]; omega
  | ⟨2, _⟩ => show win0_6.index t 2 * 256 + 1 * k.val = k.val
              rw [(by decide +kernel : ∀ t : Fin grid0.N, win0_6.index t 2 = 0) t]; omega

theorem b7_at (t : Fin cfg0.N) (h : Fin 4) (i : Fin 1) (k : Fin 512) :
    (iblk m c 7 t : S4x1x512.Idx → EReal) (ix3 h i k) = (V m c main_v92 : S4x1x512.Idx → EReal) (ix3 h i k) := by
  unfold iblk
  rw [View.read_apply]
  show V m c main_v92 _ = V m c main_v92 _
  congr 1
  funext a
  apply Fin.ext
  match a with
  | ⟨0, _⟩ => show win0_7.index t 0 * 4 + 1 * h.val = h.val
              rw [(by decide +kernel : ∀ t : Fin grid0.N, win0_7.index t 0 = 0) t]; omega
  | ⟨1, _⟩ => show win0_7.index t 1 * 1 + 1 * i.val = i.val
              rw [(by decide +kernel : ∀ t : Fin grid0.N, win0_7.index t 1 = 0) t]; omega
  | ⟨2, _⟩ => show win0_7.index t 2 * 512 + 1 * k.val = k.val
              rw [(by decide +kernel : ∀ t : Fin grid0.N, win0_7.index t 2 = 0) t]; omega

theorem b8_at (t : Fin cfg0.N) (k : Fin 2048) :
    (iblk m c 8 t : S1x2048.Idx → EReal) (ix2 0 k) = (V m c main_v94 : S1x2048.Idx → EReal) (ix2 0 k) := by
  unfold iblk
  rw [View.read_apply]
  show V m c main_v94 _ = V m c main_v94 _
  congr 1
  funext a
  apply Fin.ext
  match a with
  | ⟨0, _⟩ => show win0_8.index t 0 * 1 + 1 * 0 = 0
              rw [(by decide +kernel : ∀ t : Fin grid0.N, win0_8.index t 0 = 0) t]
  | ⟨1, _⟩ => show win0_8.index t 1 * 2048 + 1 * k.val = k.val
              rw [(by decide +kernel : ∀ t : Fin grid0.N, win0_8.index t 1 = 0) t]; omega

/-! ## The tiles a chunk and a head read -/

theorem q_tile (t : Fin cfg0.N) (ht : t.val < 32) (n h : Fin 4) (i : Fin 128) (d : Fin 256) :
    keyT (F := Ideal) (iblk m c 0 t) n h (ix3 0 i d) = qs (proj m c) (t.val / 16) (4 * (t.val % 16) + n.val) h.val i d := by
  refine (View.ld_unit_apply_of _ _ _ _ _ (ix3 0 ⟨128 * n.val + i.val, by omega⟩ ⟨256 * h.val + d.val, by omega⟩) fun a => ?_).trans ?_
  · fin_cases a
    · rfl
    · rfl
    · rfl
  refine ((b0_at m c t _ _ ht).trans (x_at m c _ _ _)).trans ?_
  unfold qs row col
  congr 2 <;> refine Fin.ext ?_ <;> simp only [Fin.ofNat] <;> omega

theorem k_tile (t : Fin cfg0.N) (ht : t.val < 32) (n h : Fin 4) (i : Fin 128) (d : Fin 256) :
    keyT (F := Ideal) (iblk m c 1 t) n h (ix3 0 i d) = ks (proj m c) (t.val / 16) (4 * (t.val % 16) + n.val) h.val i d := by
  refine (View.ld_unit_apply_of _ _ _ _ _ (ix3 0 ⟨128 * n.val + i.val, by omega⟩ ⟨256 * h.val + d.val, by omega⟩) fun a => ?_).trans ?_
  · fin_cases a
    · rfl
    · rfl
    · rfl
  refine ((b1_at m c t _ _ ht).trans (x_at m c _ _ _)).trans ?_
  unfold ks row col
  congr 2 <;> refine Fin.ext ?_ <;> simp only [Fin.ofNat] <;> omega

theorem v_tile (t : Fin cfg0.N) (ht : t.val < 32) (n h : Fin 4) (i : Fin 128) (d : Fin 512) :
    valT (F := Ideal) (iblk m c 2 t) n h (ix3 0 i d) = vs (proj m c) (t.val / 16) (4 * (t.val % 16) + n.val) h.val i d := by
  refine (View.ld_unit_apply_of _ _ _ _ _ (ix3 0 ⟨128 * n.val + i.val, by omega⟩ ⟨512 * h.val + d.val, by omega⟩) fun a => ?_).trans ?_
  · fin_cases a
    · rfl
    · rfl
    · rfl
  refine ((b2_at m c t _ _ ht).trans (x_at m c _ _ _)).trans ?_
  unfold vs row col
  congr 2 <;> refine Fin.ext ?_ <;> simp only [Fin.ofNat] <;> omega

theorem g_tile (t : Fin cfg0.N) (ht : t.val < 32) (n h : Fin 4) (i : Fin 128) (d : Fin 512) :
    valT (F := Ideal) (iblk m c 3 t) n h (ix3 0 i d) = gs (proj m c) (t.val / 16) (4 * (t.val % 16) + n.val) h.val i d := by
  refine (View.ld_unit_apply_of _ _ _ _ _ (ix3 0 ⟨128 * n.val + i.val, by omega⟩ ⟨512 * h.val + d.val, by omega⟩) fun a => ?_).trans ?_
  · fin_cases a
    · rfl
    · rfl
    · rfl
  refine ((b3_at m c t _ _ ht).trans (x_at m c _ _ _)).trans ?_
  unfold gs row col
  congr 2 <;> refine Fin.ext ?_ <;> simp only [Fin.ofNat] <;> omega

theorem de_tile (t : Fin cfg0.N) (h : Fin 4) (i j : Fin 128) :
    decT (F := Ideal) (iblk m c 4 t) h (ix3 0 i j) = tde h i j := by
  refine (View.ld_unit_apply_of _ _ _ _ _ (ix3 h i j) fun a => ?_).trans ?_
  · fin_cases a
    · rfl
    · exact (Nat.zero_add _).symm
    · exact (Nat.zero_add _).symm
  exact (b4_at m c t _ _ _).trans (de_at m c h i j)

theorem qd_tile (t : Fin cfg0.N) (h : Fin 4) (i : Fin 128) (w : Fin 512) :
    qdT (F := Ideal) (iblk m c 5 t) h (ix3 0 i w) = tqd h i := by
  refine (View.ld_unit_apply_of _ _ _ _ _ (ix3 h i w) fun a => ?_).trans ?_
  · fin_cases a
    · rfl
    · exact (Nat.zero_add _).symm
    · exact (Nat.zero_add _).symm
  exact (b5_at m c t _ _ _).trans (qd_at m c h i w)

theorem kd_tile (t : Fin cfg0.N) (h : Fin 4) (i : Fin 128) (d : Fin 256) :
    kdT (F := Ideal) (iblk m c 6 t) h (ix3 0 i d) = tkd h i := by
  refine (View.ld_unit_apply_of _ _ _ _ _ (ix3 h i d) fun a => ?_).trans ?_
  · fin_cases a
    · rfl
    · exact (Nat.zero_add _).symm
    · exact (Nat.zero_add _).symm
  exact (b6_at m c t _ _ _).trans (kd_at m c h i d)

theorem cd_tile (t : Fin cfg0.N) (h : Fin 4) (w : Fin 512) :
    cdT (F := Ideal) (iblk m c 7 t) h (ix3 0 0 w) = tcd h := by
  refine (View.ld_unit_apply_of _ _ _ _ _ (ix3 h 0 w) fun a => ?_).trans ?_
  · fin_cases a
    · rfl
    · exact (Nat.zero_add _).symm
    · exact (Nat.zero_add _).symm
  exact (b7_at m c t _ _ _).trans (cd_at m c h w)

theorem gn_tile (t : Fin cfg0.N) (h : Fin 4) (w : Fin 512) :
    gnT (F := Ideal) (iblk m c 8 t) h (ix2 0 w) = wgt m c (Fin.ofNat 2048 (512 * h.val + w.val)) := by
  refine (View.ld_unit_apply_of _ _ _ _ _ (ix2 0 ⟨512 * h.val + w.val, by omega⟩) fun a => ?_).trans ?_
  · fin_cases a
    · rfl
    · rfl
  refine ((b8_at m c t _).trans (gn_at m c _)).trans (congrArg (wgt m c) (Fin.ext ?_))
  simp only [Fin.ofNat]; omega

end Cert.KernelIdeal.Chunks

end
-- ==== Proof.Ret.First.lean ====
/-
  The retention's kernel at the first point of a sequence, where the state starts from zero: its sixteen steps
  in order. Each step reads the head's state that the step before it left, writes the head's next state, and writes one
  tile of the output.
-/
module

public import proofs.«01_k».proof.Proof.Ret.Blocks

@[expose] public section

set_option maxRecDepth 16384

noncomputable section

open Idealize.ShloMosaic Idealize.ShloMosaic.TcCoe Idealize.SL.Sem

namespace Cert.KernelIdeal.Chunks.First

open Cert.KernelIdeal Cert.KernelIdeal.Gen Cert.KernelIdeal.Chunks

variable {F : FTy → Type} [FloatOps F]
variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x256 .f32) (harg8 : arg8.IsWhole) (arg9 : Memref sig .tc .vmem S4x1x512 .f32) (harg9 : arg9.IsWhole) (arg10 : Memref sig .tc .vmem S1x2048 .f32) (harg10 : arg10.IsWhole) (arg11 : Memref sig .tc .vmem S1x512x2048 .bf16) (harg11 : arg11.IsWhole) (arg12 : Memref sig .tc .vmem S4x256x512 .f32) (harg12 : arg12.IsWhole) (hc0 : cond0_0 i) (x0 : Vec F S1x512x1024 .bf16) (x1 : Vec F S1x512x1024 .bf16) (x2 : Vec F S1x512x2048 .bf16) (x3 : Vec F S1x512x2048 .bf16) (x4 : Vec F S4x128x128 .f32) (x5 : Vec F S4x128x512 .f32) (x6 : Vec F S4x128x256 .f32) (x7 : Vec F S4x1x512 .f32) (x8 : Vec F S1x2048 .f32)

theorem list_0 : View.canon (kernelRun0_A.sl.HS0_1 (F := F)) = pack (stT (F := F) k0_pay2) := by
  unfold kernelRun0_A.sl.HS0_1
  refine (View.canon_cons_unit_lit _ _ _ fun a => by fin_cases a <;> rfl).trans (pack_stT _).symm

theorem read_0 : kernelRun0_A.sl.v15 c arg12 = stT (F := F) k0_pay2 0 := by
  unfold kernelRun0_A.sl.v15
  exact read_pack _ 0 inb_S4x256x512_S1x256x512_0_0_0 _ _ list_0

theorem list_1 : View.canon (kernelRun0_A.sl.HS0_2 c arg3 harg3 arg4 harg4 arg8 harg8 arg9 harg9 arg12 x1 x2 x6 x7) = pack (states x1 x2 x6 x7 (stT (F := F) k0_pay2) 1) := by
  unfold kernelRun0_A.sl.HS0_2
  simp only [kernelRun0_A.sl.r, kernelRun0_A.sl.r_2, kernelRun0_A.sl.r_4, kernelRun0_A.sl.r_5, read_0, View.readAt_eq_ld, Memref.IsWhole.read_unread]
  exact canon_push 0 inb_S4x256x512_S1x256x512_0_0_0 (upd (keyT x1 0 0) (valT x2 0 0) (kdT x6 0) (cdT x7 0) ((states x1 x2 x6 x7 (stT (F := F) k0_pay2) 0) 0)) _ _ (list_0)

theorem read_1 : kernelRun0_A.sl.v78 c arg3 harg3 arg4 harg4 arg8 harg8 arg9 harg9 arg12 x1 x2 x6 x7 = (states x1 x2 x6 x7 (stT (F := F) k0_pay2) 1) 1 := by
  unfold kernelRun0_A.sl.v78
  exact read_pack _ 1 inb_S4x256x512_S1x256x512_1_0_0 _ _ (list_1 c arg3 harg3 arg4 harg4 arg8 harg8 arg9 harg9 arg12 x1 x2 x6 x7)

theorem list_2 : View.canon (kernelRun0_A.sl.HS0_3 c arg3 harg3 arg4 harg4 arg8 harg8 arg9 harg9 arg12 x1 x2 x6 x7) = pack (states x1 x2 x6 x7 (stT (F := F) k0_pay2) 2) := by
  unfold kernelRun0_A.sl.HS0_3
  simp only [kernelRun0_A.sl.r_8, read_1, View.readAt_eq_ld, Memref.IsWhole.read_unread]
  exact canon_push 1 inb_S4x256x512_S1x256x512_1_0_0 (upd (keyT x1 0 1) (valT x2 0 1) (kdT x6 1) (cdT x7 1) ((states x1 x2 x6 x7 (stT (F := F) k0_pay2) 1) 1)) _ _ (list_1 c arg3 harg3 arg4 harg4 arg8 harg8 arg9 harg9 arg12 x1 x2 x6 x7)

theorem read_2 : kernelRun0_A.sl.v141 c arg3 harg3 arg4 harg4 arg8 harg8 arg9 harg9 arg12 x1 x2 x6 x7 = (states x1 x2 x6 x7 (stT (F := F) k0_pay2) 2) 2 := by
  unfold kernelRun0_A.sl.v141
  exact read_pack _ 2 inb_S4x256x512_S1x256x512_2_0_0 _ _ (list_2 c arg3 harg3 arg4 harg4 arg8 harg8 arg9 harg9 arg12 x1 x2 x6 x7)

theorem list_3 : View.canon (kernelRun0_A.sl.HS0_4 c arg3 harg3 arg4 harg4 arg8 harg8 arg9 harg9 arg12 x1 x2 x6 x7) = pack (states x1 x2 x6 x7 (stT (F := F) k0_pay2) 3) := by
  unfold kernelRun0_A.sl.HS0_4
  simp only [kernelRun0_A.sl.r_10, kernelRun0_A.sl.r_11, read_2, View.readAt_eq_ld, Memref.IsWhole.read_unread]
  exact canon_push 2 inb_S4x256x512_S1x256x512_2_0_0 (upd (keyT x1 0 2) (valT x2 0 2) (kdT x6 2) (cdT x7 2) ((states x1 x2 x6 x7 (stT (F := F) k0_pay2) 2) 2)) _ _ (list_2 c arg3 harg3 arg4 harg4 arg8 harg8 arg9 harg9 arg12 x1 x2 x6 x7)

theorem read_3 : kernelRun0_A.sl.v204 c arg3 harg3 arg4 harg4 arg8 harg8 arg9 harg9 arg12 x1 x2 x6 x7 = (states x1 x2 x6 x7 (stT (F := F) k0_pay2) 3) 3 := by
  unfold kernelRun0_A.sl.v204
  exact read_pack _ 3 inb_S4x256x512_S1x256x512_3_0_0 _ _ (list_3 c arg3 harg3 arg4 harg4 arg8 harg8 arg9 harg9 arg12 x1 x2 x6 x7)

theorem list_4 : View.canon (kernelRun0_A.sl.HS0_5 c arg3 harg3 arg4 harg4 arg8 harg8 arg9 harg9 arg12 x1 x2 x6 x7) = pack (states x1 x2 x6 x7 (stT (F := F) k0_pay2) 4) := by
  unfold kernelRun0_A.sl.HS0_5
  simp only [kernelRun0_A.sl.r_14, kernelRun0_A.sl.r_15, read_3, View.readAt_eq_ld, Memref.IsWhole.read_unread]
  exact canon_push 3 inb_S4x256x512_S1x256x512_3_0_0 (upd (keyT x1 0 3) (valT x2 0 3) (kdT x6 3) (cdT x7 3) ((states x1 x2 x6 x7 (stT (F := F) k0_pay2) 3) 3)) _ _ (list_3 c arg3 harg3 arg4 harg4 arg8 harg8 arg9 harg9 arg12 x1 x2 x6 x7)

theorem read_4 : kernelRun0_A.sl.v267 c arg3 harg3 arg4 harg4 arg8 harg8 arg9 harg9 arg12 x1 x2 x6 x7 = (states x1 x2 x6 x7 (stT (F := F) k0_pay2) 4) 0 := by
  unfold kernelRun0_A.sl.v267
  exact read_pack _ 0 inb_S4x256x512_S1x256x512_0_0_0 _ _ (list_4 c arg3 harg3 arg4 harg4 arg8 harg8 arg9 harg9 arg12 x1 x2 x6 x7)

theorem list_5 : View.canon (kernelRun0_A.sl.HS0_6 c arg3 harg3 arg4 harg4 arg8 harg8 arg9 harg9 arg12 x1 x2 x6 x7) = pack (states x1 x2 x6 x7 (stT (F := F) k0_pay2) 5) := by
  unfold kernelRun0_A.sl.HS0_6
  simp only [kernelRun0_A.sl.r_19, kernelRun0_A.sl.r_20, kernelRun0_A.sl.r_22, read_4, View.readAt_eq_ld, Memref.IsWhole.read_unread]
  exact canon_push 0 inb_S4x256x512_S1x256x512_0_0_0 (upd (keyT x1 1 0) (valT x2 1 0) (kdT x6 0) (cdT x7 0) ((states x1 x2 x6 x7 (stT (F := F) k0_pay2) 4) 0)) _ _ (list_4 c arg3 harg3 arg4 harg4 arg8 harg8 arg9 harg9 arg12 x1 x2 x6 x7)

theorem read_5 : kernelRun0_A.sl.v330 c arg3 harg3 arg4 harg4 arg8 harg8 arg9 harg9 arg12 x1 x2 x6 x7 = (states x1 x2 x6 x7 (stT (F := F) k0_pay2) 5) 1 := by
  unfold kernelRun0_A.sl.v330
  exact read_pack _ 1 inb_S4x256x512_S1x256x512_1_0_0 _ _ (list_5 c arg3 harg3 arg4 harg4 arg8 harg8 arg9 harg9 arg12 x1 x2 x6 x7)

theorem list_6 : View.canon (kernelRun0_A.sl.HS0_7 c arg3 harg3 arg4 harg4 arg8 harg8 arg9 harg9 arg12 x1 x2 x6 x7) = pack (states x1 x2 x6 x7 (stT (F := F) k0_pay2) 6) := by
  unfold kernelRun0_A.sl.HS0_7
  simp only [kernelRun0_A.sl.r_25, kernelRun0_A.sl.r_27, kernelRun0_A.sl.r_29, read_5, View.readAt_eq_ld, Memref.IsWhole.read_unread]
  exact canon_push 1 inb_S4x256x512_S1x256x512_1_0_0 (upd (keyT x1 1 1) (valT x2 1 1) (kdT x6 1) (cdT x7 1) ((states x1 x2 x6 x7 (stT (F := F) k0_pay2) 5) 1)) _ _ (list_5 c arg3 harg3 arg4 harg4 arg8 harg8 arg9 harg9 arg12 x1 x2 x6 x7)

theorem read_6 : kernelRun0_A.sl.v393 c arg3 harg3 arg4 harg4 arg8 harg8 arg9 harg9 arg12 x1 x2 x6 x7 = (states x1 x2 x6 x7 (stT (F := F) k0_pay2) 6) 2 := by
  unfold kernelRun0_A.sl.v393
  exact read_pack _ 2 inb_S4x256x512_S1x256x512_2_0_0 _ _ (list_6 c arg3 harg3 arg4 harg4 arg8 harg8 arg9 harg9 arg12 x1 x2 x6 x7)

theorem list_7 : View.canon (kernelRun0_A.sl.HS0_8 c arg3 harg3 arg4 harg4 arg8 harg8 arg9 harg9 arg12 x1 x2 x6 x7) = pack (states x1 x2 x6 x7 (stT (F := F) k0_pay2) 7) := by
  unfold kernelRun0_A.sl.HS0_8
  simp only [kernelRun0_A.sl.r_33, read_6, View.readAt_eq_ld, Memref.IsWhole.read_unread]
  exact canon_push 2 inb_S4x256x512_S1x256x512_2_0_0 (upd (keyT x1 1 2) (valT x2 1 2) (kdT x6 2) (cdT x7 2) ((states x1 x2 x6 x7 (stT (F := F) k0_pay2) 6) 2)) _ _ (list_6 c arg3 harg3 arg4 harg4 arg8 harg8 arg9 harg9 arg12 x1 x2 x6 x7)

theorem read_7 : kernelRun0_A.sl.v456 c arg3 harg3 arg4 harg4 arg8 harg8 arg9 harg9 arg12 x1 x2 x6 x7 = (states x1 x2 x6 x7 (stT (F := F) k0_pay2) 7) 3 := by
  unfold kernelRun0_A.sl.v456
  exact read_pack _ 3 inb_S4x256x512_S1x256x512_3_0_0 _ _ (list_7 c arg3 harg3 arg4 harg4 arg8 harg8 arg9 harg9 arg12 x1 x2 x6 x7)

theorem list_8 : View.canon (kernelRun0_A.sl.HS0_9 c arg3 harg3 arg4 harg4 arg8 harg8 arg9 harg9 arg12 x1 x2 x6 x7) = pack (states x1 x2 x6 x7 (stT (F := F) k0_pay2) 8) := by
  unfold kernelRun0_A.sl.HS0_9
  simp only [kernelRun0_A.sl.r_35, read_7, View.readAt_eq_ld, Memref.IsWhole.read_unread]
  exact canon_push 3 inb_S4x256x512_S1x256x512_3_0_0 (upd (keyT x1 1 3) (valT x2 1 3) (kdT x6 3) (cdT x7 3) ((states x1 x2 x6 x7 (stT (F := F) k0_pay2) 7) 3)) _ _ (list_7 c arg3 harg3 arg4 harg4 arg8 harg8 arg9 harg9 arg12 x1 x2 x6 x7)

theorem read_8 : kernelRun0_A.sl.v519 c arg3 harg3 arg4 harg4 arg8 harg8 arg9 harg9 arg12 x1 x2 x6 x7 = (states x1 x2 x6 x7 (stT (F := F) k0_pay2) 8) 0 := by
  unfold kernelRun0_A.sl.v519
  exact read_pack _ 0 inb_S4x256x512_S1x256x512_0_0_0 _ _ (list_8 c arg3 harg3 arg4 harg4 arg8 harg8 arg9 harg9 arg12 x1 x2 x6 x7)

theorem list_9 : View.canon (kernelRun0_A.sl.HS0_10 c arg3 harg3 arg4 harg4 arg8 harg8 arg9 harg9 arg12 x1 x2 x6 x7) = pack (states x1 x2 x6 x7 (stT (F := F) k0_pay2) 9) := by
  unfold kernelRun0_A.sl.HS0_10
  simp only [kernelRun0_A.sl.r_39, kernelRun0_A.sl.r_40, read_8, View.readAt_eq_ld, Memref.IsWhole.read_unread]
  exact canon_push 0 inb_S4x256x512_S1x256x512_0_0_0 (upd (keyT x1 2 0) (valT x2 2 0) (kdT x6 0) (cdT x7 0) ((states x1 x2 x6 x7 (stT (F := F) k0_pay2) 8) 0)) _ _ (list_8 c arg3 harg3 arg4 harg4 arg8 harg8 arg9 harg9 arg12 x1 x2 x6 x7)

theorem read_9 : kernelRun0_A.sl.v582 c arg3 harg3 arg4 harg4 arg8 harg8 arg9 harg9 arg12 x1 x2 x6 x7 = (states x1 x2 x6 x7 (stT (F := F) k0_pay2) 9) 1 := by
  unfold kernelRun0_A.sl.v582
  exact read_pack _ 1 inb_S4x256x512_S1x256x512_1_0_0 _ _ (list_9 c arg3 harg3 arg4 harg4 arg8 harg8 arg9 harg9 arg12 x1 x2 x6 x7)

theorem list_10 : View.canon (kernelRun0_A.sl.HS0_11 c arg3 harg3 arg4 harg4 arg8 harg8 arg9 harg9 arg12 x1 x2 x6 x7) = pack (states x1 x2 x6 x7 (stT (F := F) k0_pay2) 10) := by
  unfold kernelRun0_A.sl.HS0_11
  simp only [kernelRun0_A.sl.r_45, kernelRun0_A.sl.r_46, kernelRun0_A.sl.r_48, read_9, View.readAt_eq_ld, Memref.IsWhole.read_unread]
  exact canon_push 1 inb_S4x256x512_S1x256x512_1_0_0 (upd (keyT x1 2 1) (valT x2 2 1) (kdT x6 1) (cdT x7 1) ((states x1 x2 x6 x7 (stT (F := F) k0_pay2) 9) 1)) _ _ (list_9 c arg3 harg3 arg4 harg4 arg8 harg8 arg9 harg9 arg12 x1 x2 x6 x7)

theorem read_10 : kernelRun0_A.sl.v645 c arg3 harg3 arg4 harg4 arg8 harg8 arg9 harg9 arg12 x1 x2 x6 x7 = (states x1 x2 x6 x7 (stT (F := F) k0_pay2) 10) 2 := by
  unfold kernelRun0_A.sl.v645
  exact read_pack _ 2 inb_S4x256x512_S1x256x512_2_0_0 _ _ (list_10 c arg3 harg3 arg4 harg4 arg8 harg8 arg9 harg9 arg12 x1 x2 x6 x7)

theorem list_11 : View.canon (kernelRun0_A.sl.HS0_12 c arg3 harg3 arg4 harg4 arg8 harg8 arg9 harg9 arg12 x1 x2 x6 x7) = pack (states x1 x2 x6 x7 (stT (F := F) k0_pay2) 11) := by
  unfold kernelRun0_A.sl.HS0_12
  simp only [kernelRun0_A.sl.r_51, kernelRun0_A.sl.r_53, kernelRun0_A.sl.r_55, read_10, View.readAt_eq_ld, Memref.IsWhole.read_unread]
  exact canon_push 2 inb_S4x256x512_S1x256x512_2_0_0 (upd (keyT x1 2 2) (valT x2 2 2) (kdT x6 2) (cdT x7 2) ((states x1 x2 x6 x7 (stT (F := F) k0_pay2) 10) 2)) _ _ (list_10 c arg3 harg3 arg4 harg4 arg8 harg8 arg9 harg9 arg12 x1 x2 x6 x7)

theorem read_11 : kernelRun0_A.sl.v708 c arg3 harg3 arg4 harg4 arg8 harg8 arg9 harg9 arg12 x1 x2 x6 x7 = (states x1 x2 x6 x7 (stT (F := F) k0_pay2) 11) 3 := by
  unfold kernelRun0_A.sl.v708
  exact read_pack _ 3 inb_S4x256x512_S1x256x512_3_0_0 _ _ (list_11 c arg3 harg3 arg4 harg4 arg8 harg8 arg9 harg9 arg12 x1 x2 x6 x7)

theorem list_12 : View.canon (kernelRun0_A.sl.HS0_13 c arg3 harg3 arg4 harg4 arg8 harg8 arg9 harg9 arg12 x1 x2 x6 x7) = pack (states x1 x2 x6 x7 (stT (F := F) k0_pay2) 12) := by
  unfold kernelRun0_A.sl.HS0_13
  simp only [kernelRun0_A.sl.r_57, kernelRun0_A.sl.r_59, kernelRun0_A.sl.r_61, kernelRun0_A.sl.r_62, read_11, View.readAt_eq_ld, Memref.IsWhole.read_unread]
  exact canon_push 3 inb_S4x256x512_S1x256x512_3_0_0 (upd (keyT x1 2 3) (valT x2 2 3) (kdT x6 3) (cdT x7 3) ((states x1 x2 x6 x7 (stT (F := F) k0_pay2) 11) 3)) _ _ (list_11 c arg3 harg3 arg4 harg4 arg8 harg8 arg9 harg9 arg12 x1 x2 x6 x7)

theorem read_12 : kernelRun0_A.sl.v771 c arg3 harg3 arg4 harg4 arg8 harg8 arg9 harg9 arg12 x1 x2 x6 x7 = (states x1 x2 x6 x7 (stT (F := F) k0_pay2) 12) 0 := by
  unfold kernelRun0_A.sl.v771
  exact read_pack _ 0 inb_S4x256x512_S1x256x512_0_0_0 _ _ (list_12 c arg3 harg3 arg4 harg4 arg8 harg8 arg9 harg9 arg12 x1 x2 x6 x7)

theorem list_13 : View.canon (kernelRun0_A.sl.HS0_14 c arg3 harg3 arg4 harg4 arg8 harg8 arg9 harg9 arg12 x1 x2 x6 x7) = pack (states x1 x2 x6 x7 (stT (F := F) k0_pay2) 13) := by
  unfold kernelRun0_A.sl.HS0_14
  simp only [kernelRun0_A.sl.r_66, read_12, View.readAt_eq_ld, Memref.IsWhole.read_unread]
  exact canon_push 0 inb_S4x256x512_S1x256x512_0_0_0 (upd (keyT x1 3 0) (valT x2 3 0) (kdT x6 0) (cdT x7 0) ((states x1 x2 x6 x7 (stT (F := F) k0_pay2) 12) 0)) _ _ (list_12 c arg3 harg3 arg4 harg4 arg8 harg8 arg9 harg9 arg12 x1 x2 x6 x7)

theorem read_13 : kernelRun0_A.sl.v834 c arg3 harg3 arg4 harg4 arg8 harg8 arg9 harg9 arg12 x1 x2 x6 x7 = (states x1 x2 x6 x7 (stT (F := F) k0_pay2) 13) 1 := by
  unfold kernelRun0_A.sl.v834
  exact read_pack _ 1 inb_S4x256x512_S1x256x512_1_0_0 _ _ (list_13 c arg3 harg3 arg4 harg4 arg8 harg8 arg9 harg9 arg12 x1 x2 x6 x7)

theorem list_14 : View.canon (kernelRun0_A.sl.HS0_15 c arg3 harg3 arg4 harg4 arg8 harg8 arg9 harg9 arg12 x1 x2 x6 x7) = pack (states x1 x2 x6 x7 (stT (F := F) k0_pay2) 14) := by
  unfold kernelRun0_A.sl.HS0_15
  simp only [kernelRun0_A.sl.r_68, kernelRun0_A.sl.r_69, read_13, View.readAt_eq_ld, Memref.IsWhole.read_unread]
  exact canon_push 1 inb_S4x256x512_S1x256x512_1_0_0 (upd (keyT x1 3 1) (valT x2 3 1) (kdT x6 1) (cdT x7 1) ((states x1 x2 x6 x7 (stT (F := F) k0_pay2) 13) 1)) _ _ (list_13 c arg3 harg3 arg4 harg4 arg8 harg8 arg9 harg9 arg12 x1 x2 x6 x7)

theorem read_14 : kernelRun0_A.sl.v897 c arg3 harg3 arg4 harg4 arg8 harg8 arg9 harg9 arg12 x1 x2 x6 x7 = (states x1 x2 x6 x7 (stT (F := F) k0_pay2) 14) 2 := by
  unfold kernelRun0_A.sl.v897
  exact read_pack _ 2 inb_S4x256x512_S1x256x512_2_0_0 _ _ (list_14 c arg3 harg3 arg4 harg4 arg8 harg8 arg9 harg9 arg12 x1 x2 x6 x7)

theorem list_15 : View.canon (kernelRun0_A.sl.HS0_16 c arg3 harg3 arg4 harg4 arg8 harg8 arg9 harg9 arg12 x1 x2 x6 x7) = pack (states x1 x2 x6 x7 (stT (F := F) k0_pay2) 15) := by
  unfold kernelRun0_A.sl.HS0_16
  simp only [kernelRun0_A.sl.r_73, kernelRun0_A.sl.r_74, read_14, View.readAt_eq_ld, Memref.IsWhole.read_unread]
  exact canon_push 2 inb_S4x256x512_S1x256x512_2_0_0 (upd (keyT x1 3 2) (valT x2 3 2) (kdT x6 2) (cdT x7 2) ((states x1 x2 x6 x7 (stT (F := F) k0_pay2) 14) 2)) _ _ (list_14 c arg3 harg3 arg4 harg4 arg8 harg8 arg9 harg9 arg12 x1 x2 x6 x7)

theorem read_15 : kernelRun0_A.sl.v960 c arg3 harg3 arg4 harg4 arg8 harg8 arg9 harg9 arg12 x1 x2 x6 x7 = (states x1 x2 x6 x7 (stT (F := F) k0_pay2) 15) 3 := by
  unfold kernelRun0_A.sl.v960
  exact read_pack _ 3 inb_S4x256x512_S1x256x512_3_0_0 _ _ (list_15 c arg3 harg3 arg4 harg4 arg8 harg8 arg9 harg9 arg12 x1 x2 x6 x7)

set_option maxHeartbeats 1000000 in
/-- The state the point leaves. -/
theorem state_eq : View.canon (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7 x8).2.1 = pack (states x1 x2 x6 x7 (stT (F := F) k0_pay2) 16) := by
  unfold kernelRun0_A
  dsimp only
  simp only [kernelRun0_A.sl.r_78, kernelRun0_A.sl.r_79, kernelRun0_A.sl.r_81, read_15, View.readAt_eq_ld, Memref.IsWhole.read_unread]
  exact canon_push 3 inb_S4x256x512_S1x256x512_3_0_0 (upd (keyT x1 3 3) (valT x2 3 3) (kdT x6 3) (cdT x7 3) ((states x1 x2 x6 x7 (stT (F := F) k0_pay2) 15) 3)) _ _ (list_15 c arg3 harg3 arg4 harg4 arg8 harg8 arg9 harg9 arg12 x1 x2 x6 x7)

set_option maxHeartbeats 1000000 in
/-- The block the point leaves. -/
theorem block_eq : View.canon (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7 x8).1 = packO (fun n h => tileO x0 x1 x2 x3 x4 x5 x8 n h (states x1 x2 x6 x7 (stT (F := F) k0_pay2) (4 * n.val + h.val))) := by
  funext y
  refine View.canon_apply_of_pieces (packO (fun n h => tileO x0 x1 x2 x3 x4 x5 x8 n h (states x1 x2 x6 x7 (stT (F := F) k0_pay2) (4 * n.val + h.val)))) _ ?_ y (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 y)
  unfold kernelRun0_A
  dsimp only
  simp only [kernelRun0_A.sl.r_83, kernelRun0_A.sl.r_80, kernelRun0_A.sl.r_82, kernelRun0_A.sl.r_84, kernelRun0_A.sl.r_76, kernelRun0_A.sl.r_72, kernelRun0_A.sl.r_75, kernelRun0_A.sl.r_77, kernelRun0_A.sl.r_70, kernelRun0_A.sl.r_67, kernelRun0_A.sl.r_68, kernelRun0_A.sl.r_69, kernelRun0_A.sl.r_71, kernelRun0_A.sl.r_64, kernelRun0_A.sl.r_63, kernelRun0_A.sl.r_65, kernelRun0_A.sl.r_58, kernelRun0_A.sl.r_60, kernelRun0_A.sl.r_56, kernelRun0_A.sl.r_52, kernelRun0_A.sl.r_54, kernelRun0_A.sl.r_49, kernelRun0_A.sl.r_44, kernelRun0_A.sl.r_47, kernelRun0_A.sl.r_48, kernelRun0_A.sl.r_50, kernelRun0_A.sl.r_42, kernelRun0_A.sl.r_38, kernelRun0_A.sl.r_40, kernelRun0_A.sl.r_41, kernelRun0_A.sl.r_43, kernelRun0_A.sl.r_36, kernelRun0_A.sl.r_34, kernelRun0_A.sl.r_35, kernelRun0_A.sl.r_37, kernelRun0_A.sl.r_31, kernelRun0_A.sl.r_32, kernelRun0_A.sl.r_30, kernelRun0_A.sl.r_26, kernelRun0_A.sl.r_28, kernelRun0_A.sl.r_24, kernelRun0_A.sl.r_21, kernelRun0_A.sl.r_23, kernelRun0_A.sl.r_17, kernelRun0_A.sl.r_13, kernelRun0_A.sl.r_15, kernelRun0_A.sl.r_16, kernelRun0_A.sl.r_18, kernelRun0_A.sl.r_12, kernelRun0_A.sl.r_9, kernelRun0_A.sl.r_10, kernelRun0_A.sl.r_11, kernelRun0_A.sl.r_6, kernelRun0_A.sl.r_7, kernelRun0_A.sl.r_1, kernelRun0_A.sl.r_3, read_0, read_1, read_2, read_3, read_4, read_5, read_6, read_7, read_8, read_9, read_10, read_11, read_12, read_13, read_14, read_15, View.readAt_eq_ld, Memref.IsWhole.read_unread]
  refine List.forall_mem_cons.2 ⟨fun x => tile_packO (fun n h => tileO x0 x1 x2 x3 x4 x5 x8 n h (states x1 x2 x6 x7 (stT (F := F) k0_pay2) (4 * n.val + h.val))) 3 3 inb_S1x512x2048_S1x128x512_0_384_1536 x, ?_⟩
  refine List.forall_mem_cons.2 ⟨fun x => tile_packO (fun n h => tileO x0 x1 x2 x3 x4 x5 x8 n h (states x1 x2 x6 x7 (stT (F := F) k0_pay2) (4 * n.val + h.val))) 3 2 inb_S1x512x2048_S1x128x512_0_384_1024 x, ?_⟩
  refine List.forall_mem_cons.2 ⟨fun x => tile_packO (fun n h => tileO x0 x1 x2 x3 x4 x5 x8 n h (states x1 x2 x6 x7 (stT (F := F) k0_pay2) (4 * n.val + h.val))) 3 1 inb_S1x512x2048_S1x128x512_0_384_512 x, ?_⟩
  refine List.forall_mem_cons.2 ⟨fun x => tile_packO (fun n h => tileO x0 x1 x2 x3 x4 x5 x8 n h (states x1 x2 x6 x7 (stT (F := F) k0_pay2) (4 * n.val + h.val))) 3 0 inb_S1x512x2048_S1x128x512_0_384_0 x, ?_⟩
  refine List.forall_mem_cons.2 ⟨fun x => tile_packO (fun n h => tileO x0 x1 x2 x3 x4 x5 x8 n h (states x1 x2 x6 x7 (stT (F := F) k0_pay2) (4 * n.val + h.val))) 2 3 inb_S1x512x2048_S1x128x512_0_256_1536 x, ?_⟩
  refine List.forall_mem_cons.2 ⟨fun x => tile_packO (fun n h => tileO x0 x1 x2 x3 x4 x5 x8 n h (states x1 x2 x6 x7 (stT (F := F) k0_pay2) (4 * n.val + h.val))) 2 2 inb_S1x512x2048_S1x128x512_0_256_1024 x, ?_⟩
  refine List.forall_mem_cons.2 ⟨fun x => tile_packO (fun n h => tileO x0 x1 x2 x3 x4 x5 x8 n h (states x1 x2 x6 x7 (stT (F := F) k0_pay2) (4 * n.val + h.val))) 2 1 inb_S1x512x2048_S1x128x512_0_256_512 x, ?_⟩
  refine List.forall_mem_cons.2 ⟨fun x => tile_packO (fun n h => tileO x0 x1 x2 x3 x4 x5 x8 n h (states x1 x2 x6 x7 (stT (F := F) k0_pay2) (4 * n.val + h.val))) 2 0 inb_S1x512x2048_S1x128x512_0_256_0 x, ?_⟩
  refine List.forall_mem_cons.2 ⟨fun x => tile_packO (fun n h => tileO x0 x1 x2 x3 x4 x5 x8 n h (states x1 x2 x6 x7 (stT (F := F) k0_pay2) (4 * n.val + h.val))) 1 3 inb_S1x512x2048_S1x128x512_0_128_1536 x, ?_⟩
  refine List.forall_mem_cons.2 ⟨fun x => tile_packO (fun n h => tileO x0 x1 x2 x3 x4 x5 x8 n h (states x1 x2 x6 x7 (stT (F := F) k0_pay2) (4 * n.val + h.val))) 1 2 inb_S1x512x2048_S1x128x512_0_128_1024 x, ?_⟩
  refine List.forall_mem_cons.2 ⟨fun x => tile_packO (fun n h => tileO x0 x1 x2 x3 x4 x5 x8 n h (states x1 x2 x6 x7 (stT (F := F) k0_pay2) (4 * n.val + h.val))) 1 1 inb_S1x512x2048_S1x128x512_0_128_512 x, ?_⟩
  refine List.forall_mem_cons.2 ⟨fun x => tile_packO (fun n h => tileO x0 x1 x2 x3 x4 x5 x8 n h (states x1 x2 x6 x7 (stT (F := F) k0_pay2) (4 * n.val + h.val))) 1 0 inb_S1x512x2048_S1x128x512_0_128_0 x, ?_⟩
  refine List.forall_mem_cons.2 ⟨fun x => tile_packO (fun n h => tileO x0 x1 x2 x3 x4 x5 x8 n h (states x1 x2 x6 x7 (stT (F := F) k0_pay2) (4 * n.val + h.val))) 0 3 inb_S1x512x2048_S1x128x512_0_0_1536 x, ?_⟩
  refine List.forall_mem_cons.2 ⟨fun x => tile_packO (fun n h => tileO x0 x1 x2 x3 x4 x5 x8 n h (states x1 x2 x6 x7 (stT (F := F) k0_pay2) (4 * n.val + h.val))) 0 2 inb_S1x512x2048_S1x128x512_0_0_1024 x, ?_⟩
  refine List.forall_mem_cons.2 ⟨fun x => tile_packO (fun n h => tileO x0 x1 x2 x3 x4 x5 x8 n h (states x1 x2 x6 x7 (stT (F := F) k0_pay2) (4 * n.val + h.val))) 0 1 inb_S1x512x2048_S1x128x512_0_0_512 x, ?_⟩
  refine List.forall_mem_cons.2 ⟨fun x => tile_packO (fun n h => tileO x0 x1 x2 x3 x4 x5 x8 n h (states x1 x2 x6 x7 (stT (F := F) k0_pay2) (4 * n.val + h.val))) 0 0 inb_S1x512x2048_S1x128x512_0_0_0 x, ?_⟩
  exact fun _ h => absurd h List.not_mem_nil

end Cert.KernelIdeal.Chunks.First
-- ==== Proof.Ret.FirstCase.lean ====
/-
  What a point of case A leaves, as words in the blocks it reads: the states it carries on and the block it writes.
-/
module

public import proofs.«01_k».proof.Proof.Ret.First
public import proofs.«01_k».proof.Proof.Gen.KernelIdeal.Frame

@[expose] public section

set_option maxRecDepth 16384

noncomputable section

open Idealize.ShloMosaic Idealize.ShloMosaic.TcCoe Idealize.SL.Sem

namespace Cert.KernelIdeal.Chunks.First

open Cert.KernelIdeal Cert.KernelIdeal.Gen

variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x256 .f32) (harg8 : arg8.IsWhole) (arg9 : Memref sig .tc .vmem S4x1x512 .f32) (harg9 : arg9.IsWhole) (arg10 : Memref sig .tc .vmem S1x2048 .f32) (harg10 : arg10.IsWhole) (arg11 : Memref sig .tc .vmem S1x512x2048 .bf16) (harg11 : arg11.IsWhole) (arg12 : Memref sig .tc .vmem S4x256x512 .f32) (harg12 : arg12.IsWhole) (hc0 : cond0_0 i) (x0 : Vec Ideal S1x512x1024 .bf16) (x1 : Vec Ideal S1x512x1024 .bf16) (x2 : Vec Ideal S1x512x2048 .bf16) (x3 : Vec Ideal S1x512x2048 .bf16) (x4 : Vec Ideal S4x128x128 .f32) (x5 : Vec Ideal S4x128x512 .f32) (x6 : Vec Ideal S4x128x256 .f32) (x7 : Vec Ideal S4x1x512 .f32) (x8 : Vec Ideal S1x2048 .f32)

theorem carried_eq : sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 = pack (states (F := Ideal) x1 x2 x6 x7 (stT (F := Ideal) (k0_pay2 (F := Ideal))) 16) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  exact state_eq c i arg2 harg2 arg3 harg3 arg4 harg4 arg5 harg5 arg6 harg6 arg7 harg7 arg8 harg8 arg9 harg9 arg10 harg10 arg11 harg11 arg12 harg12 hc0 x0 x1 x2 x3 x4 x5 x6 x7 x8

theorem written_eq : out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 = packO (fun n h => tileO (F := Ideal) x0 x1 x2 x3 x4 x5 x8 n h (states (F := Ideal) x1 x2 x6 x7 (stT (F := Ideal) (k0_pay2 (F := Ideal))) (4 * n.val + h.val))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  exact block_eq c i arg2 harg2 arg3 harg3 arg4 harg4 arg5 harg5 arg6 harg6 arg7 harg7 arg8 harg8 arg9 harg9 arg10 harg10 arg11 harg11 arg12 harg12 hc0 x0 x1 x2 x3 x4 x5 x6 x7 x8

end Cert.KernelIdeal.Chunks.First

end
-- ==== Proof.Ret.Later.lean ====
/-
  The retention's kernel at a later point of a sequence, which goes on from the state it finds: its sixteen steps
  in order. Each step reads the head's state that the step before it left, writes the head's next state, and writes one
  tile of the output.
-/
module

public import proofs.«01_k».proof.Proof.Ret.Blocks

@[expose] public section

set_option maxRecDepth 16384

noncomputable section

open Idealize.ShloMosaic Idealize.ShloMosaic.TcCoe Idealize.SL.Sem

namespace Cert.KernelIdeal.Chunks.Later

open Cert.KernelIdeal Cert.KernelIdeal.Gen Cert.KernelIdeal.Chunks

variable {F : FTy → Type} [FloatOps F]
variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x256 .f32) (harg8 : arg8.IsWhole) (arg9 : Memref sig .tc .vmem S4x1x512 .f32) (harg9 : arg9.IsWhole) (arg10 : Memref sig .tc .vmem S1x2048 .f32) (harg10 : arg10.IsWhole) (arg11 : Memref sig .tc .vmem S1x512x2048 .bf16) (harg11 : arg11.IsWhole) (arg12 : Memref sig .tc .vmem S4x256x512 .f32) (harg12 : arg12.IsWhole) (hc0 : ¬cond0_0 i) (x0 : Vec F S1x512x1024 .bf16) (x1 : Vec F S1x512x1024 .bf16) (x2 : Vec F S1x512x2048 .bf16) (x3 : Vec F S1x512x2048 .bf16) (x4 : Vec F S4x128x128 .f32) (x5 : Vec F S4x128x512 .f32) (x6 : Vec F S4x128x256 .f32) (x7 : Vec F S4x1x512 .f32) (x8 : Vec F S1x2048 .f32) (xs0 : Vec F S4x256x512 .f32)

theorem read_1 : kernelRun0_B.sl.v78 c arg12 harg12 xs0 = stT xs0 1 := by
  unfold kernelRun0_B.sl.v78
  rw [View.readAt_eq_ld, harg12.read_unread]
  rfl

theorem read_2 : kernelRun0_B.sl.v141 c arg12 harg12 xs0 = stT xs0 2 := by
  unfold kernelRun0_B.sl.v141
  rw [View.readAt_eq_ld, harg12.read_unread]
  rfl

theorem read_3 : kernelRun0_B.sl.v204 c arg12 harg12 xs0 = stT xs0 3 := by
  unfold kernelRun0_B.sl.v204
  rw [View.readAt_eq_ld, harg12.read_unread]
  rfl

theorem list_4 : View.canon (kernelRun0_B.sl.HS0_4 c arg3 harg3 arg4 harg4 arg8 harg8 arg9 harg9 arg12 harg12 x1 x2 x6 x7 xs0) = pack (states x1 x2 x6 x7 (stT xs0) 4) := by
  unfold kernelRun0_B.sl.HS0_4
  simp only [kernelRun0_B.sl.r_14, kernelRun0_B.sl.r_15, kernelRun0_B.sl.r_10, kernelRun0_B.sl.r_11, kernelRun0_B.sl.r_8, kernelRun0_B.sl.r, kernelRun0_B.sl.r_2, kernelRun0_B.sl.r_4, kernelRun0_B.sl.r_5, read_1, read_2, read_3, View.readAt_eq_ld, Memref.IsWhole.read_unread]
  have h0 : View.canon ([] : List (View.Piece (Elt F) S4x256x512 .f32)) = pack (stT (View.canon [])) := (pack_stT _).symm
  have h1 := canon_push 0 inb_S4x256x512_S1x256x512_0_0_0 (upd (keyT x1 0 0) (valT x2 0 0) (kdT x6 0) (cdT x7 0) ((states x1 x2 x6 x7 (stT xs0) 0) 0)) _ _ h0
  have h2 := canon_push 1 inb_S4x256x512_S1x256x512_1_0_0 (upd (keyT x1 0 1) (valT x2 0 1) (kdT x6 1) (cdT x7 1) ((states x1 x2 x6 x7 (stT xs0) 1) 1)) _ _ h1
  have h3 := canon_push 2 inb_S4x256x512_S1x256x512_2_0_0 (upd (keyT x1 0 2) (valT x2 0 2) (kdT x6 2) (cdT x7 2) ((states x1 x2 x6 x7 (stT xs0) 2) 2)) _ _ h2
  refine (canon_push 3 inb_S4x256x512_S1x256x512_3_0_0 (upd (keyT x1 0 3) (valT x2 0 3) (kdT x6 3) (cdT x7 3) ((states x1 x2 x6 x7 (stT xs0) 3) 3)) _ _ h3).trans (congrArg pack ?_)
  funext h
  fin_cases h <;> rfl

theorem read_4 : kernelRun0_B.sl.v267 c arg3 harg3 arg4 harg4 arg8 harg8 arg9 harg9 arg12 harg12 x1 x2 x6 x7 xs0 = (states x1 x2 x6 x7 (stT xs0) 4) 0 := by
  unfold kernelRun0_B.sl.v267
  exact read_pack _ 0 inb_S4x256x512_S1x256x512_0_0_0 _ _ (list_4 c arg3 harg3 arg4 harg4 arg8 harg8 arg9 harg9 arg12 harg12 x1 x2 x6 x7 xs0)

theorem list_5 : View.canon (kernelRun0_B.sl.HS0_5 c arg3 harg3 arg4 harg4 arg8 harg8 arg9 harg9 arg12 harg12 x1 x2 x6 x7 xs0) = pack (states x1 x2 x6 x7 (stT xs0) 5) := by
  unfold kernelRun0_B.sl.HS0_5
  simp only [kernelRun0_B.sl.r_19, kernelRun0_B.sl.r_20, kernelRun0_B.sl.r_22, read_4, View.readAt_eq_ld, Memref.IsWhole.read_unread]
  exact canon_push 0 inb_S4x256x512_S1x256x512_0_0_0 (upd (keyT x1 1 0) (valT x2 1 0) (kdT x6 0) (cdT x7 0) ((states x1 x2 x6 x7 (stT xs0) 4) 0)) _ _ (list_4 c arg3 harg3 arg4 harg4 arg8 harg8 arg9 harg9 arg12 harg12 x1 x2 x6 x7 xs0)

theorem read_5 : kernelRun0_B.sl.v330 c arg3 harg3 arg4 harg4 arg8 harg8 arg9 harg9 arg12 harg12 x1 x2 x6 x7 xs0 = (states x1 x2 x6 x7 (stT xs0) 5) 1 := by
  unfold kernelRun0_B.sl.v330
  exact read_pack _ 1 inb_S4x256x512_S1x256x512_1_0_0 _ _ (list_5 c arg3 harg3 arg4 harg4 arg8 harg8 arg9 harg9 arg12 harg12 x1 x2 x6 x7 xs0)

theorem list_6 : View.canon (kernelRun0_B.sl.HS0_6 c arg3 harg3 arg4 harg4 arg8 harg8 arg9 harg9 arg12 harg12 x1 x2 x6 x7 xs0) = pack (states x1 x2 x6 x7 (stT xs0) 6) := by
  unfold kernelRun0_B.sl.HS0_6
  simp only [kernelRun0_B.sl.r_25, kernelRun0_B.sl.r_27, kernelRun0_B.sl.r_29, read_5, View.readAt_eq_ld, Memref.IsWhole.read_unread]
  exact canon_push 1 inb_S4x256x512_S1x256x512_1_0_0 (upd (keyT x1 1 1) (valT x2 1 1) (kdT x6 1) (cdT x7 1) ((states x1 x2 x6 x7 (stT xs0) 5) 1)) _ _ (list_5 c arg3 harg3 arg4 harg4 arg8 harg8 arg9 harg9 arg12 harg12 x1 x2 x6 x7 xs0)

theorem read_6 : kernelRun0_B.sl.v393 c arg3 harg3 arg4 harg4 arg8 harg8 arg9 harg9 arg12 harg12 x1 x2 x6 x7 xs0 = (states x1 x2 x6 x7 (stT xs0) 6) 2 := by
  unfold kernelRun0_B.sl.v393
  exact read_pack _ 2 inb_S4x256x512_S1x256x512_2_0_0 _ _ (list_6 c arg3 harg3 arg4 harg4 arg8 harg8 arg9 harg9 arg12 harg12 x1 x2 x6 x7 xs0)

theorem list_7 : View.canon (kernelRun0_B.sl.HS0_7 c arg3 harg3 arg4 harg4 arg8 harg8 arg9 harg9 arg12 harg12 x1 x2 x6 x7 xs0) = pack (states x1 x2 x6 x7 (stT xs0) 7) := by
  unfold kernelRun0_B.sl.HS0_7
  simp only [kernelRun0_B.sl.r_33, read_6, View.readAt_eq_ld, Memref.IsWhole.read_unread]
  exact canon_push 2 inb_S4x256x512_S1x256x512_2_0_0 (upd (keyT x1 1 2) (valT x2 1 2) (kdT x6 2) (cdT x7 2) ((states x1 x2 x6 x7 (stT xs0) 6) 2)) _ _ (list_6 c arg3 harg3 arg4 harg4 arg8 harg8 arg9 harg9 arg12 harg12 x1 x2 x6 x7 xs0)

theorem read_7 : kernelRun0_B.sl.v456 c arg3 harg3 arg4 harg4 arg8 harg8 arg9 harg9 arg12 harg12 x1 x2 x6 x7 xs0 = (states x1 x2 x6 x7 (stT xs0) 7) 3 := by
  unfold kernelRun0_B.sl.v456
  exact read_pack _ 3 inb_S4x256x512_S1x256x512_3_0_0 _ _ (list_7 c arg3 harg3 arg4 harg4 arg8 harg8 arg9 harg9 arg12 harg12 x1 x2 x6 x7 xs0)

theorem list_8 : View.canon (kernelRun0_B.sl.HS0_8 c arg3 harg3 arg4 harg4 arg8 harg8 arg9 harg9 arg12 harg12 x1 x2 x6 x7 xs0) = pack (states x1 x2 x6 x7 (stT xs0) 8) := by
  unfold kernelRun0_B.sl.HS0_8
  simp only [kernelRun0_B.sl.r_35, read_7, View.readAt_eq_ld, Memref.IsWhole.read_unread]
  exact canon_push 3 inb_S4x256x512_S1x256x512_3_0_0 (upd (keyT x1 1 3) (valT x2 1 3) (kdT x6 3) (cdT x7 3) ((states x1 x2 x6 x7 (stT xs0) 7) 3)) _ _ (list_7 c arg3 harg3 arg4 harg4 arg8 harg8 arg9 harg9 arg12 harg12 x1 x2 x6 x7 xs0)

theorem read_8 : kernelRun0_B.sl.v519 c arg3 harg3 arg4 harg4 arg8 harg8 arg9 harg9 arg12 harg12 x1 x2 x6 x7 xs0 = (states x1 x2 x6 x7 (stT xs0) 8) 0 := by
  unfold kernelRun0_B.sl.v519
  exact read_pack _ 0 inb_S4x256x512_S1x256x512_0_0_0 _ _ (list_8 c arg3 harg3 arg4 harg4 arg8 harg8 arg9 harg9 arg12 harg12 x1 x2 x6 x7 xs0)

theorem list_9 : View.canon (kernelRun0_B.sl.HS0_9 c arg3 harg3 arg4 harg4 arg8 harg8 arg9 harg9 arg12 harg12 x1 x2 x6 x7 xs0) = pack (states x1 x2 x6 x7 (stT xs0) 9) := by
  unfold kernelRun0_B.sl.HS0_9
  simp only [kernelRun0_B.sl.r_39, kernelRun0_B.sl.r_40, read_8, View.readAt_eq_ld, Memref.IsWhole.read_unread]
  exact canon_push 0 inb_S4x256x512_S1x256x512_0_0_0 (upd (keyT x1 2 0) (valT x2 2 0) (kdT x6 0) (cdT x7 0) ((states x1 x2 x6 x7 (stT xs0) 8) 0)) _ _ (list_8 c arg3 harg3 arg4 harg4 arg8 harg8 arg9 harg9 arg12 harg12 x1 x2 x6 x7 xs0)

theorem read_9 : kernelRun0_B.sl.v582 c arg3 harg3 arg4 harg4 arg8 harg8 arg9 harg9 arg12 harg12 x1 x2 x6 x7 xs0 = (states x1 x2 x6 x7 (stT xs0) 9) 1 := by
  unfold kernelRun0_B.sl.v582
  exact read_pack _ 1 inb_S4x256x512_S1x256x512_1_0_0 _ _ (list_9 c arg3 harg3 arg4 harg4 arg8 harg8 arg9 harg9 arg12 harg12 x1 x2 x6 x7 xs0)

theorem list_10 : View.canon (kernelRun0_B.sl.HS0_10 c arg3 harg3 arg4 harg4 arg8 harg8 arg9 harg9 arg12 harg12 x1 x2 x6 x7 xs0) = pack (states x1 x2 x6 x7 (stT xs0) 10) := by
  unfold kernelRun0_B.sl.HS0_10
  simp only [kernelRun0_B.sl.r_45, kernelRun0_B.sl.r_46, kernelRun0_B.sl.r_48, read_9, View.readAt_eq_ld, Memref.IsWhole.read_unread]
  exact canon_push 1 inb_S4x256x512_S1x256x512_1_0_0 (upd (keyT x1 2 1) (valT x2 2 1) (kdT x6 1) (cdT x7 1) ((states x1 x2 x6 x7 (stT xs0) 9) 1)) _ _ (list_9 c arg3 harg3 arg4 harg4 arg8 harg8 arg9 harg9 arg12 harg12 x1 x2 x6 x7 xs0)

theorem read_10 : kernelRun0_B.sl.v645 c arg3 harg3 arg4 harg4 arg8 harg8 arg9 harg9 arg12 harg12 x1 x2 x6 x7 xs0 = (states x1 x2 x6 x7 (stT xs0) 10) 2 := by
  unfold kernelRun0_B.sl.v645
  exact read_pack _ 2 inb_S4x256x512_S1x256x512_2_0_0 _ _ (list_10 c arg3 harg3 arg4 harg4 arg8 harg8 arg9 harg9 arg12 harg12 x1 x2 x6 x7 xs0)

theorem list_11 : View.canon (kernelRun0_B.sl.HS0_11 c arg3 harg3 arg4 harg4 arg8 harg8 arg9 harg9 arg12 harg12 x1 x2 x6 x7 xs0) = pack (states x1 x2 x6 x7 (stT xs0) 11) := by
  unfold kernelRun0_B.sl.HS0_11
  simp only [kernelRun0_B.sl.r_51, kernelRun0_B.sl.r_53, kernelRun0_B.sl.r_55, read_10, View.readAt_eq_ld, Memref.IsWhole.read_unread]
  exact canon_push 2 inb_S4x256x512_S1x256x512_2_0_0 (upd (keyT x1 2 2) (valT x2 2 2) (kdT x6 2) (cdT x7 2) ((states x1 x2 x6 x7 (stT xs0) 10) 2)) _ _ (list_10 c arg3 harg3 arg4 harg4 arg8 harg8 arg9 harg9 arg12 harg12 x1 x2 x6 x7 xs0)

theorem read_11 : kernelRun0_B.sl.v708 c arg3 harg3 arg4 harg4 arg8 harg8 arg9 harg9 arg12 harg12 x1 x2 x6 x7 xs0 = (states x1 x2 x6 x7 (stT xs0) 11) 3 := by
  unfold kernelRun0_B.sl.v708
  exact read_pack _ 3 inb_S4x256x512_S1x256x512_3_0_0 _ _ (list_11 c arg3 harg3 arg4 harg4 arg8 harg8 arg9 harg9 arg12 harg12 x1 x2 x6 x7 xs0)

theorem list_12 : View.canon (kernelRun0_B.sl.HS0_12 c arg3 harg3 arg4 harg4 arg8 harg8 arg9 harg9 arg12 harg12 x1 x2 x6 x7 xs0) = pack (states x1 x2 x6 x7 (stT xs0) 12) := by
  unfold kernelRun0_B.sl.HS0_12
  simp only [kernelRun0_B.sl.r_57, kernelRun0_B.sl.r_59, kernelRun0_B.sl.r_61, kernelRun0_B.sl.r_62, read_11, View.readAt_eq_ld, Memref.IsWhole.read_unread]
  exact canon_push 3 inb_S4x256x512_S1x256x512_3_0_0 (upd (keyT x1 2 3) (valT x2 2 3) (kdT x6 3) (cdT x7 3) ((states x1 x2 x6 x7 (stT xs0) 11) 3)) _ _ (list_11 c arg3 harg3 arg4 harg4 arg8 harg8 arg9 harg9 arg12 harg12 x1 x2 x6 x7 xs0)

theorem read_12 : kernelRun0_B.sl.v771 c arg3 harg3 arg4 harg4 arg8 harg8 arg9 harg9 arg12 harg12 x1 x2 x6 x7 xs0 = (states x1 x2 x6 x7 (stT xs0) 12) 0 := by
  unfold kernelRun0_B.sl.v771
  exact read_pack _ 0 inb_S4x256x512_S1x256x512_0_0_0 _ _ (list_12 c arg3 harg3 arg4 harg4 arg8 harg8 arg9 harg9 arg12 harg12 x1 x2 x6 x7 xs0)

theorem list_13 : View.canon (kernelRun0_B.sl.HS0_13 c arg3 harg3 arg4 harg4 arg8 harg8 arg9 harg9 arg12 harg12 x1 x2 x6 x7 xs0) = pack (states x1 x2 x6 x7 (stT xs0) 13) := by
  unfold kernelRun0_B.sl.HS0_13
  simp only [kernelRun0_B.sl.r_66, read_12, View.readAt_eq_ld, Memref.IsWhole.read_unread]
  exact canon_push 0 inb_S4x256x512_S1x256x512_0_0_0 (upd (keyT x1 3 0) (valT x2 3 0) (kdT x6 0) (cdT x7 0) ((states x1 x2 x6 x7 (stT xs0) 12) 0)) _ _ (list_12 c arg3 harg3 arg4 harg4 arg8 harg8 arg9 harg9 arg12 harg12 x1 x2 x6 x7 xs0)

theorem read_13 : kernelRun0_B.sl.v834 c arg3 harg3 arg4 harg4 arg8 harg8 arg9 harg9 arg12 harg12 x1 x2 x6 x7 xs0 = (states x1 x2 x6 x7 (stT xs0) 13) 1 := by
  unfold kernelRun0_B.sl.v834
  exact read_pack _ 1 inb_S4x256x512_S1x256x512_1_0_0 _ _ (list_13 c arg3 harg3 arg4 harg4 arg8 harg8 arg9 harg9 arg12 harg12 x1 x2 x6 x7 xs0)

theorem list_14 : View.canon (kernelRun0_B.sl.HS0_14 c arg3 harg3 arg4 harg4 arg8 harg8 arg9 harg9 arg12 harg12 x1 x2 x6 x7 xs0) = pack (states x1 x2 x6 x7 (stT xs0) 14) := by
  unfold kernelRun0_B.sl.HS0_14
  simp only [kernelRun0_B.sl.r_68, kernelRun0_B.sl.r_69, read_13, View.readAt_eq_ld, Memref.IsWhole.read_unread]
  exact canon_push 1 inb_S4x256x512_S1x256x512_1_0_0 (upd (keyT x1 3 1) (valT x2 3 1) (kdT x6 1) (cdT x7 1) ((states x1 x2 x6 x7 (stT xs0) 13) 1)) _ _ (list_13 c arg3 harg3 arg4 harg4 arg8 harg8 arg9 harg9 arg12 harg12 x1 x2 x6 x7 xs0)

theorem read_14 : kernelRun0_B.sl.v897 c arg3 harg3 arg4 harg4 arg8 harg8 arg9 harg9 arg12 harg12 x1 x2 x6 x7 xs0 = (states x1 x2 x6 x7 (stT xs0) 14) 2 := by
  unfold kernelRun0_B.sl.v897
  exact read_pack _ 2 inb_S4x256x512_S1x256x512_2_0_0 _ _ (list_14 c arg3 harg3 arg4 harg4 arg8 harg8 arg9 harg9 arg12 harg12 x1 x2 x6 x7 xs0)

theorem list_15 : View.canon (kernelRun0_B.sl.HS0_15 c arg3 harg3 arg4 harg4 arg8 harg8 arg9 harg9 arg12 harg12 x1 x2 x6 x7 xs0) = pack (states x1 x2 x6 x7 (stT xs0) 15) := by
  unfold kernelRun0_B.sl.HS0_15
  simp only [kernelRun0_B.sl.r_73, kernelRun0_B.sl.r_74, read_14, View.readAt_eq_ld, Memref.IsWhole.read_unread]
  exact canon_push 2 inb_S4x256x512_S1x256x512_2_0_0 (upd (keyT x1 3 2) (valT x2 3 2) (kdT x6 2) (cdT x7 2) ((states x1 x2 x6 x7 (stT xs0) 14) 2)) _ _ (list_14 c arg3 harg3 arg4 harg4 arg8 harg8 arg9 harg9 arg12 harg12 x1 x2 x6 x7 xs0)

theorem read_15 : kernelRun0_B.sl.v960 c arg3 harg3 arg4 harg4 arg8 harg8 arg9 harg9 arg12 harg12 x1 x2 x6 x7 xs0 = (states x1 x2 x6 x7 (stT xs0) 15) 3 := by
  unfold kernelRun0_B.sl.v960
  exact read_pack _ 3 inb_S4x256x512_S1x256x512_3_0_0 _ _ (list_15 c arg3 harg3 arg4 harg4 arg8 harg8 arg9 harg9 arg12 harg12 x1 x2 x6 x7 xs0)

set_option maxHeartbeats 1000000 in
/-- The state the point leaves. -/
theorem state_eq : View.canon (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1 = pack (states x1 x2 x6 x7 (stT xs0) 16) := by
  unfold kernelRun0_B
  dsimp only
  simp only [kernelRun0_B.sl.r_78, kernelRun0_B.sl.r_79, kernelRun0_B.sl.r_81, read_15, View.readAt_eq_ld, Memref.IsWhole.read_unread]
  exact canon_push 3 inb_S4x256x512_S1x256x512_3_0_0 (upd (keyT x1 3 3) (valT x2 3 3) (kdT x6 3) (cdT x7 3) ((states x1 x2 x6 x7 (stT xs0) 15) 3)) _ _ (list_15 c arg3 harg3 arg4 harg4 arg8 harg8 arg9 harg9 arg12 harg12 x1 x2 x6 x7 xs0)

set_option maxHeartbeats 1000000 in
/-- The block the point leaves. -/
theorem block_eq : View.canon (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 x8 xs0).1 = packO (fun n h => tileO x0 x1 x2 x3 x4 x5 x8 n h (states x1 x2 x6 x7 (stT xs0) (4 * n.val + h.val))) := by
  funext y
  refine View.canon_apply_of_pieces (packO (fun n h => tileO x0 x1 x2 x3 x4 x5 x8 n h (states x1 x2 x6 x7 (stT xs0) (4 * n.val + h.val)))) _ ?_ y (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 y)
  unfold kernelRun0_B
  dsimp only
  simp only [kernelRun0_B.sl.r_83, kernelRun0_B.sl.r_80, kernelRun0_B.sl.r_82, kernelRun0_B.sl.r_84, kernelRun0_B.sl.r_76, kernelRun0_B.sl.r_72, kernelRun0_B.sl.r_75, kernelRun0_B.sl.r_77, kernelRun0_B.sl.r_70, kernelRun0_B.sl.r_67, kernelRun0_B.sl.r_68, kernelRun0_B.sl.r_69, kernelRun0_B.sl.r_71, kernelRun0_B.sl.r_64, kernelRun0_B.sl.r_63, kernelRun0_B.sl.r_65, kernelRun0_B.sl.r_58, kernelRun0_B.sl.r_60, kernelRun0_B.sl.r_56, kernelRun0_B.sl.r_52, kernelRun0_B.sl.r_54, kernelRun0_B.sl.r_49, kernelRun0_B.sl.r_44, kernelRun0_B.sl.r_47, kernelRun0_B.sl.r_48, kernelRun0_B.sl.r_50, kernelRun0_B.sl.r_42, kernelRun0_B.sl.r_38, kernelRun0_B.sl.r_40, kernelRun0_B.sl.r_41, kernelRun0_B.sl.r_43, kernelRun0_B.sl.r_36, kernelRun0_B.sl.r_34, kernelRun0_B.sl.r_35, kernelRun0_B.sl.r_37, kernelRun0_B.sl.r_31, kernelRun0_B.sl.r_32, kernelRun0_B.sl.r_30, kernelRun0_B.sl.r_26, kernelRun0_B.sl.r_28, kernelRun0_B.sl.r_24, kernelRun0_B.sl.r_21, kernelRun0_B.sl.r_23, kernelRun0_B.sl.r_17, kernelRun0_B.sl.r_13, kernelRun0_B.sl.r_15, kernelRun0_B.sl.r_16, kernelRun0_B.sl.r_18, kernelRun0_B.sl.r_12, kernelRun0_B.sl.r_9, kernelRun0_B.sl.r_10, kernelRun0_B.sl.r_11, kernelRun0_B.sl.r_6, kernelRun0_B.sl.r_7, kernelRun0_B.sl.r_1, kernelRun0_B.sl.r_3, read_1, read_2, read_3, read_4, read_5, read_6, read_7, read_8, read_9, read_10, read_11, read_12, read_13, read_14, read_15, View.readAt_eq_ld, Memref.IsWhole.read_unread]
  refine List.forall_mem_cons.2 ⟨fun x => tile_packO (fun n h => tileO x0 x1 x2 x3 x4 x5 x8 n h (states x1 x2 x6 x7 (stT xs0) (4 * n.val + h.val))) 3 3 inb_S1x512x2048_S1x128x512_0_384_1536 x, ?_⟩
  refine List.forall_mem_cons.2 ⟨fun x => tile_packO (fun n h => tileO x0 x1 x2 x3 x4 x5 x8 n h (states x1 x2 x6 x7 (stT xs0) (4 * n.val + h.val))) 3 2 inb_S1x512x2048_S1x128x512_0_384_1024 x, ?_⟩
  refine List.forall_mem_cons.2 ⟨fun x => tile_packO (fun n h => tileO x0 x1 x2 x3 x4 x5 x8 n h (states x1 x2 x6 x7 (stT xs0) (4 * n.val + h.val))) 3 1 inb_S1x512x2048_S1x128x512_0_384_512 x, ?_⟩
  refine List.forall_mem_cons.2 ⟨fun x => tile_packO (fun n h => tileO x0 x1 x2 x3 x4 x5 x8 n h (states x1 x2 x6 x7 (stT xs0) (4 * n.val + h.val))) 3 0 inb_S1x512x2048_S1x128x512_0_384_0 x, ?_⟩
  refine List.forall_mem_cons.2 ⟨fun x => tile_packO (fun n h => tileO x0 x1 x2 x3 x4 x5 x8 n h (states x1 x2 x6 x7 (stT xs0) (4 * n.val + h.val))) 2 3 inb_S1x512x2048_S1x128x512_0_256_1536 x, ?_⟩
  refine List.forall_mem_cons.2 ⟨fun x => tile_packO (fun n h => tileO x0 x1 x2 x3 x4 x5 x8 n h (states x1 x2 x6 x7 (stT xs0) (4 * n.val + h.val))) 2 2 inb_S1x512x2048_S1x128x512_0_256_1024 x, ?_⟩
  refine List.forall_mem_cons.2 ⟨fun x => tile_packO (fun n h => tileO x0 x1 x2 x3 x4 x5 x8 n h (states x1 x2 x6 x7 (stT xs0) (4 * n.val + h.val))) 2 1 inb_S1x512x2048_S1x128x512_0_256_512 x, ?_⟩
  refine List.forall_mem_cons.2 ⟨fun x => tile_packO (fun n h => tileO x0 x1 x2 x3 x4 x5 x8 n h (states x1 x2 x6 x7 (stT xs0) (4 * n.val + h.val))) 2 0 inb_S1x512x2048_S1x128x512_0_256_0 x, ?_⟩
  refine List.forall_mem_cons.2 ⟨fun x => tile_packO (fun n h => tileO x0 x1 x2 x3 x4 x5 x8 n h (states x1 x2 x6 x7 (stT xs0) (4 * n.val + h.val))) 1 3 inb_S1x512x2048_S1x128x512_0_128_1536 x, ?_⟩
  refine List.forall_mem_cons.2 ⟨fun x => tile_packO (fun n h => tileO x0 x1 x2 x3 x4 x5 x8 n h (states x1 x2 x6 x7 (stT xs0) (4 * n.val + h.val))) 1 2 inb_S1x512x2048_S1x128x512_0_128_1024 x, ?_⟩
  refine List.forall_mem_cons.2 ⟨fun x => tile_packO (fun n h => tileO x0 x1 x2 x3 x4 x5 x8 n h (states x1 x2 x6 x7 (stT xs0) (4 * n.val + h.val))) 1 1 inb_S1x512x2048_S1x128x512_0_128_512 x, ?_⟩
  refine List.forall_mem_cons.2 ⟨fun x => tile_packO (fun n h => tileO x0 x1 x2 x3 x4 x5 x8 n h (states x1 x2 x6 x7 (stT xs0) (4 * n.val + h.val))) 1 0 inb_S1x512x2048_S1x128x512_0_128_0 x, ?_⟩
  refine List.forall_mem_cons.2 ⟨fun x => tile_packO (fun n h => tileO x0 x1 x2 x3 x4 x5 x8 n h (states x1 x2 x6 x7 (stT xs0) (4 * n.val + h.val))) 0 3 inb_S1x512x2048_S1x128x512_0_0_1536 x, ?_⟩
  refine List.forall_mem_cons.2 ⟨fun x => tile_packO (fun n h => tileO x0 x1 x2 x3 x4 x5 x8 n h (states x1 x2 x6 x7 (stT xs0) (4 * n.val + h.val))) 0 2 inb_S1x512x2048_S1x128x512_0_0_1024 x, ?_⟩
  refine List.forall_mem_cons.2 ⟨fun x => tile_packO (fun n h => tileO x0 x1 x2 x3 x4 x5 x8 n h (states x1 x2 x6 x7 (stT xs0) (4 * n.val + h.val))) 0 1 inb_S1x512x2048_S1x128x512_0_0_512 x, ?_⟩
  refine List.forall_mem_cons.2 ⟨fun x => tile_packO (fun n h => tileO x0 x1 x2 x3 x4 x5 x8 n h (states x1 x2 x6 x7 (stT xs0) (4 * n.val + h.val))) 0 0 inb_S1x512x2048_S1x128x512_0_0_0 x, ?_⟩
  exact fun _ h => absurd h List.not_mem_nil

end Cert.KernelIdeal.Chunks.Later
-- ==== Proof.Ret.LaterCase.lean ====
/-
  What a point of case B leaves, as words in the blocks it reads: the states it carries on and the block it writes.
-/
module

public import proofs.«01_k».proof.Proof.Ret.Later
public import proofs.«01_k».proof.Proof.Gen.KernelIdeal.Frame

@[expose] public section

set_option maxRecDepth 16384

noncomputable section

open Idealize.ShloMosaic Idealize.ShloMosaic.TcCoe Idealize.SL.Sem

namespace Cert.KernelIdeal.Chunks.Later

open Cert.KernelIdeal Cert.KernelIdeal.Gen

variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x256 .f32) (harg8 : arg8.IsWhole) (arg9 : Memref sig .tc .vmem S4x1x512 .f32) (harg9 : arg9.IsWhole) (arg10 : Memref sig .tc .vmem S1x2048 .f32) (harg10 : arg10.IsWhole) (arg11 : Memref sig .tc .vmem S1x512x2048 .bf16) (harg11 : arg11.IsWhole) (arg12 : Memref sig .tc .vmem S4x256x512 .f32) (harg12 : arg12.IsWhole) (hc0 : ¬cond0_0 i) (x0 : Vec Ideal S1x512x1024 .bf16) (x1 : Vec Ideal S1x512x1024 .bf16) (x2 : Vec Ideal S1x512x2048 .bf16) (x3 : Vec Ideal S1x512x2048 .bf16) (x4 : Vec Ideal S4x128x128 .f32) (x5 : Vec Ideal S4x128x512 .f32) (x6 : Vec Ideal S4x128x256 .f32) (x7 : Vec Ideal S4x1x512 .f32) (x8 : Vec Ideal S1x2048 .f32) (xs0 : Vec Ideal S4x256x512 .f32)

theorem carried_eq : sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = pack (states (F := Ideal) x1 x2 x6 x7 (stT (F := Ideal) xs0) 16) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0)]
  exact state_eq c i arg2 harg2 arg3 harg3 arg4 harg4 arg5 harg5 arg6 harg6 arg7 harg7 arg8 harg8 arg9 harg9 arg10 harg10 arg11 harg11 arg12 harg12 hc0 x0 x1 x2 x3 x4 x5 x6 x7 x8 xs0

theorem written_eq : out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = packO (fun n h => tileO (F := Ideal) x0 x1 x2 x3 x4 x5 x8 n h (states (F := Ideal) x1 x2 x6 x7 (stT (F := Ideal) xs0) (4 * n.val + h.val))) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0)]
  exact block_eq c i arg2 harg2 arg3 harg3 arg4 harg4 arg5 harg5 arg6 harg6 arg7 harg7 arg8 harg8 arg9 harg9 arg10 harg10 arg11 harg11 arg12 harg12 hc0 x0 x1 x2 x3 x4 x5 x6 x7 x8 xs0

end Cert.KernelIdeal.Chunks.Later

end
-- ==== Proof.Ret.Points.lean ====
/-
  The retention's kernel, point by point: the states it carries are the recurrence's, so every block it writes is the
  retention's rows of its four chunks.
-/
module

public import proofs.«01_k».proof.Proof.Ret.Host
public import proofs.«01_k».proof.Proof.Ret.FirstCase
public import proofs.«01_k».proof.Proof.Ret.LaterCase
public import proofs.«01_k».proof.Proof.Gen.KernelIdeal.Frame
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)
open scoped BigOperators

namespace Cert.KernelIdeal.Chunks

open Cert.KernelIdeal Cert.KernelIdeal.Gen Cert.KernelIdeal.Value Cert.Ret
open Cert.ReferenceIdeal.Chunks (tde tqd tkd tcd)

variable (m : (ℓ : Loc nD τ sig) → Buf (Elt Ideal) ℓ) (c : Dev nD)

/-- The recurrence's state before chunk `n` of sequence `b`, on the projection the call is given. -/
abbrev stAt (b : ℕ) (h : Fin 4) (n : ℕ) : Mat 256 512 := st (proj m c) tkd tcd b h n

/-- The states after `g` steps of point `t`, from the states `s`. -/
abbrev stepsAt (t : Fin cfg0.N) (s : Fin 4 → Vec Ideal S1x256x512 .f32) (g : ℕ) : Fin 4 → Vec Ideal S1x256x512 .f32 :=
  states (F := Ideal) (iblk m c 1 t) (iblk m c 2 t) (iblk m c 6 t) (iblk m c 7 t) s g

/-- One update on the recurrence's state gives its next state. -/
theorem upd_next (t : Fin cfg0.N) (ht : t.val < 32) (n h : Fin 4) (s : Vec Ideal S1x256x512 .f32)
    (hs : ∀ (d : Fin 256) (w : Fin 512), s (ix3 0 d w) = stAt m c (t.val / 16) h (4 * (t.val % 16) + n.val) d w)
    (d : Fin 256) (w : Fin 512) :
    upd (F := Ideal) (keyT (iblk m c 1 t) n h) (valT (iblk m c 2 t) n h) (kdT (iblk m c 6 t) h) (cdT (iblk m c 7 t) h) s (ix3 0 d w)
      = stAt m c (t.val / 16) h (4 * (t.val % 16) + n.val + 1) d w := by
  rw [upd_at, hs, cd_tile]
  simp only [k_tile m c t ht, v_tile m c t ht, kd_tile]
  rfl

/-- After `g` steps head `h` has taken in the chunks its turn came for. -/
theorem steps_at (t : Fin cfg0.N) (ht : t.val < 32) (s : Fin 4 → Vec Ideal S1x256x512 .f32)
    (hs : ∀ (h : Fin 4) (d : Fin 256) (w : Fin 512), s h (ix3 0 d w) = stAt m c (t.val / 16) h (4 * (t.val % 16)) d w) :
    ∀ g ≤ 16, ∀ (h : Fin 4) (d : Fin 256) (w : Fin 512),
      stepsAt m c t s g h (ix3 0 d w) = stAt m c (t.val / 16) h (4 * (t.val % 16) + (g + 3 - h.val) / 4) d w
  | 0, _, h, d, w => by
      have e : (0 + 3 - h.val) / 4 = 0 := by omega
      rw [e]
      exact hs h d w
  | g + 1, hg, h, d, w => by
      have ih := steps_at t ht s hs g (by omega)
      show push (F := Ideal) (iblk m c 1 t) (iblk m c 2 t) (iblk m c 6 t) (iblk m c 7 t) (Fin.ofNat 4 (g / 4)) (Fin.ofNat 4 g) (stepsAt m c t s g) h (ix3 0 d w) = _
      unfold push
      have hq : (Fin.ofNat 4 (g / 4)).val = g / 4 := by simp only [Fin.ofNat]; omega
      have hr : (Fin.ofNat 4 g).val = g % 4 := by simp only [Fin.ofNat]
      by_cases e : h = Fin.ofNat 4 g
      · have hv : h.val = g % 4 := (congrArg Fin.val e).trans hr
        rw [← e, Function.update_self]
        have e1 : (g + 1 + 3 - h.val) / 4 = g / 4 + 1 := by omega
        have e0 : (g + 3 - h.val) / 4 = g / 4 := by omega
        rw [e1]
        have := upd_next m c t ht (Fin.ofNat 4 (g / 4)) h (stepsAt m c t s g h) (fun d w => by rw [ih h d w, e0, hq]) d w
        rw [hq] at this
        exact this
      · have hv : h.val ≠ g % 4 := fun x => e (Fin.ext (x.trans hr.symm))
        rw [Function.update_of_ne e, ih h d w]
        have e1 : (g + 1 + 3 - h.val) / 4 = (g + 3 - h.val) / 4 := by omega
        rw [e1]

/-- The result the retention has at a position, on the arrays the call is given. -/
abbrev resAt (b : ℕ) (h : Fin 4) (n : ℕ) (i : Fin 128) (w : Fin 512) : EReal :=
  res (proj m c) (wgt m c) tde tqd tkd tcd b h n i w

/-- A head's output of a chunk, on the recurrence's state. -/
theorem tile_at (t : Fin cfg0.N) (ht : t.val < 32) (n h : Fin 4) (s : Fin 4 → Vec Ideal S1x256x512 .f32)
    (hs : ∀ (d : Fin 256) (w : Fin 512), s h (ix3 0 d w) = stAt m c (t.val / 16) h (4 * (t.val % 16) + n.val) d w)
    (i : Fin 128) (w : Fin 512) :
    tileO (F := Ideal) (iblk m c 0 t) (iblk m c 1 t) (iblk m c 2 t) (iblk m c 3 t) (iblk m c 4 t) (iblk m c 5 t) (iblk m c 8 t) n h s (ix3 0 i w)
      = resAt m c (t.val / 16) h (4 * (t.val % 16) + n.val) i w := by
  unfold tileO outB
  rw [tail_at, g_tile m c t ht, gn_tile]
  simp only [own_at, cross_at, q_tile m c t ht, k_tile m c t ht, v_tile m c t ht, de_tile, qd_tile, hs]
  rfl

/-! ## The carried states, by recursion on the point -/

theorem zero_at (h : Fin 4) (d : Fin 256) (w : Fin 512) : stT (F := Ideal) (k0_pay2 (F := Ideal)) h (ix3 0 d w) = 0 := by
  rw [ld_head]
  unfold k0_pay2
  pointwise

/-- What the point starts from: zeros at a sequence's first point, the carried states later. -/
def startAt (t : Fin cfg0.N) : Fin 4 → Vec Ideal S1x256x512 .f32 :=
  if t.val % 16 = 0 then stT (F := Ideal) (k0_pay2 (F := Ideal))
  else stT (F := Ideal) (outsAt0 m c (t.val - 1) (by omega)).2

theorem carried (t : Fin cfg0.N) : (outsAt0 m c t.val t.isLt).2 = pack (stepsAt m c t (startAt m c t) 16) := by
  unfold startAt
  by_cases h0 : t.val % 16 = 0
  · rw [if_pos h0, outsAt0_A m c t h0]
    dsimp only
    rw [First.carried_eq]
  · rw [if_neg h0, outsAt0_B m c t h0]
    dsimp only
    rw [Later.carried_eq]

theorem written (t : Fin cfg0.N) : (outsAt0 m c t.val t.isLt).1
    = packO (fun n h => tileO (F := Ideal) (iblk m c 0 t) (iblk m c 1 t) (iblk m c 2 t) (iblk m c 3 t) (iblk m c 4 t) (iblk m c 5 t) (iblk m c 8 t) n h (stepsAt m c t (startAt m c t) (4 * n.val + h.val))) := by
  unfold startAt
  by_cases h0 : t.val % 16 = 0
  · rw [if_pos h0, outsAt0_A m c t h0]
    dsimp only
    rw [First.written_eq]
  · rw [if_neg h0, outsAt0_B m c t h0]
    dsimp only
    rw [Later.written_eq]

/-- Every point starts from the recurrence's states. -/
theorem start_at : ∀ (n : ℕ) (hn : n < cfg0.N) (h : Fin 4) (d : Fin 256) (w : Fin 512),
    startAt m c ⟨n, hn⟩ h (ix3 0 d w) = stAt m c (n / 16) h (4 * (n % 16)) d w
  | 0, hn, h, d, w => by
      unfold startAt
      rw [if_pos (show (0 : ℕ) % 16 = 0 from rfl), zero_at]
      rfl
  | n + 1, hn, h, d, w => by
      have hN : n + 1 < 32 := lt_of_lt_of_eq hn (show cfg0.N = 32 from N_0)
      unfold startAt
      by_cases h0 : (n + 1) % 16 = 0
      · rw [if_pos h0, zero_at]
        have e : 4 * ((n + 1) % 16) = 0 := by omega
        rw [e]
        rfl
      · rw [if_neg h0]
        have hc := carried m c ⟨n, by omega⟩
        show stT (F := Ideal) (outsAt0 m c n _).2 h (ix3 0 d w) = _
        rw [hc, stT_pack]
        refine (steps_at m c ⟨n, by omega⟩ (by show n < 32; omega) _ (start_at n (by omega)) 16 le_rfl h d w).trans ?_
        have e1 : n / 16 = (n + 1) / 16 := by omega
        have e2 : 4 * (n % 16) + (16 + 3 - h.val) / 4 = 4 * ((n + 1) % 16) := by omega
        show stAt m c (n / 16) h (4 * (n % 16) + (16 + 3 - h.val) / 4) d w = _
        rw [e1, e2]

/-- The block a point writes, at an index. -/
theorem block_at (t : Fin cfg0.N) (ht : t.val < 32) (r : Fin 512) (x : Fin 2048) :
    (outsAt0 m c t.val t.isLt).1 (ix3 0 r x)
      = resAt m c (t.val / 16) ⟨x.val / 512, by omega⟩ (4 * (t.val % 16) + r.val / 128) ⟨r.val % 128, by omega⟩ ⟨x.val % 512, by omega⟩ := by
  rw [written]
  unfold packO
  refine tile_at m c t ht ⟨r.val / 128, by omega⟩ ⟨x.val / 512, by omega⟩ _ (fun d w => ?_) _ _
  refine (steps_at m c t ht _ (start_at m c t.val t.isLt) _ (by show 4 * (r.val / 128) + x.val / 512 ≤ 16; omega) _ d w).trans ?_
  have e : (4 * (r.val / 128) + x.val / 512 + 3 - x.val / 512) / 4 = r.val / 128 := by omega
  show stAt m c _ _ (4 * (t.val % 16) + (4 * (r.val / 128) + x.val / 512 + 3 - x.val / 512) / 4) d w = _
  rw [e]

/-- The array the call leaves, at an index. -/
theorem array_at (b : Fin 2) (t : Fin 8192) (x : Fin 2048) :
    (G9 m c : S2x8192x2048.Idx → EReal) (ix3 b t x)
      = resAt m c b.val ⟨x.val / 512, by omega⟩ (t.val / 128) ⟨t.val % 128, by omega⟩ ⟨x.val % 512, by omega⟩ := by
  have hp : pt9Of (ix3 b t x) = 16 * b.val + t.val / 512 := by
    simp [pt9Of, run9Of]
  have h : pt9Of (ix3 b t x) < cfg0.N := by
    rw [hp, show cfg0.N = 32 from N_0]; omega
  unfold G9
  rw [dif_pos h, ← outsAt0_sweep m c _ h]
  have hl : loc9Of (ix3 b t x) = (ix3 0 ⟨t.val % 512, by omega⟩ x : S1x512x2048.Idx) := by
    refine idx3 _ _ ?_ rfl ?_
    · show b.val % 1 = 0; omega
    · show x.val % 2048 = x.val; omega
  rw [hl]
  refine (block_at m c ⟨_, h⟩ (by show pt9Of (ix3 b t x) < 32; omega) ⟨t.val % 512, by omega⟩ x).trans ?_
  show resAt m c (pt9Of (ix3 b t x) / 16) _ (4 * (pt9Of (ix3 b t x) % 16) + t.val % 512 / 128) ⟨t.val % 512 % 128, _⟩ _ = _
  have e1 : pt9Of (ix3 b t x) / 16 = b.val := by omega
  have e2 : 4 * (pt9Of (ix3 b t x) % 16) + t.val % 512 / 128 = t.val / 128 := by omega
  have e3 : (⟨t.val % 512 % 128, by omega⟩ : Fin 128) = ⟨t.val % 128, by omega⟩ := Fin.ext (by show t.val % 512 % 128 = t.val % 128; omega)
  rw [e1, e2, e3]

end Cert.KernelIdeal.Chunks

end
-- ==== Proof.Ret.RefTail.lean ====
/-
  The retention's reference, its result: the outputs the recurrence gathers, normed, scaled and gated.
-/
module

public import proofs.«01_k».proof.Proof.Ret.Ref

@[expose] public section

set_option maxRecDepth 16384

noncomputable section

open Idealize.ShloMosaic Idealize.ShloMosaic.TcCoe Idealize.SL.Sem Idealize.ShloMosaic.StableHlo
open scoped BigOperators

namespace Cert.ReferenceIdeal.Chunks

open Cert.ReferenceIdeal Cert.ReferenceIdeal.Gen Cert.ReferenceIdeal.Step Cert.ReferenceIdeal.Steps Cert.Ret

/-! ## The outputs the recurrence gathers -/

/-- The starts of trip `j`'s window. -/
abbrev starts (j : ℕ) (a0 a1 a2 a3 : (⟨S_, .i32⟩ : BufTy).Contents (Elt Ideal)) : Fin 5 → Int :=
  fun k => (((![(constantI S_ 32 (BitVec.ofNat 32 j) : (⟨S_, .i32⟩ : BufTy).Contents (Elt Ideal)), a0, a1, a2, a3] : Fin 5 → (⟨S_, .i32⟩ : BufTy).Contents (Elt Ideal))) k (Shape.Idx.first h_S_)).toInt

theorem clamp0 (j : Fin 64) (a0 a1 a2 a3 : (⟨S_, .i32⟩ : BufTy).Contents (Elt Ideal)) :
    Host.clampedStart S64x2x4x128x512 S1x2x4x128x512 rfl (starts j.val a0 a1 a2 a3) 0 = j.val := by
  refine Host.clampedStart_of_le (s := S64x2x4x128x512) (t := S1x2x4x128x512) rfl _ 0 j.val ?_ (Nat.succ_le_of_lt j.isLt)
  exact start_val j

theorem clampS (j : ℕ) (a : Fin 5) (ha : a ≠ 0) :
    Host.clampedStart S64x2x4x128x512 S1x2x4x128x512 rfl
      (starts j (constantI S_ 32 0#32) (constantI S_ 32 0#32) (constantI S_ 32 0#32) (constantI S_ 32 0#32)) a = 0 := by
  fin_cases a
  · exact absurd rfl ha
  all_goals exact Host.clampedStart_of_le (s := S64x2x4x128x512) (t := S1x2x4x128x512) rfl _ _ 0 rfl (le_refl _)

theorem put_at (x : FVec Ideal S64x2x4x128x512 .f32) (u : FVec Ideal S1x2x4x128x512 .f32) (j n : Fin 64) (b : Fin 2)
    (h : Fin 4) (i : Fin 128) (w : Fin 512) :
    Host.dynamicUpdateSlice x u (starts j.val (constantI S_ 32 0#32) (constantI S_ 32 0#32) (constantI S_ 32 0#32) (constantI S_ 32 0#32))
      updateFits_S64x2x4x128x512_S1x2x4x128x512 (ix5 n b h i w) = if n = j then u (ix5 0 b h i w) else x (ix5 n b h i w) := by
  have c0 := clamp0 j (constantI S_ 32 0#32) (constantI S_ 32 0#32) (constantI S_ 32 0#32) (constantI S_ 32 0#32)
  have c1 := clampS j.val 1 (by decide)
  have c2 := clampS j.val 2 (by decide)
  have c3 := clampS j.val 3 (by decide)
  have c4 := clampS j.val 4 (by decide)
  rw [Host.dynamicUpdateSlice_apply]
  by_cases e : n = j
  · subst e
    rw [if_pos rfl, dif_pos]
    · refine congrArg u (funext fun a => Fin.ext ?_)
      fin_cases a
      · show n.val - Host.clampedStart _ _ _ _ 0 = 0
        rw [c0]; exact Nat.sub_self _
      · show b.val - Host.clampedStart _ _ _ _ 1 = b.val
        rw [c1]; rfl
      · show h.val - Host.clampedStart _ _ _ _ 2 = h.val
        rw [c2]; rfl
      · show i.val - Host.clampedStart _ _ _ _ 3 = i.val
        rw [c3]; rfl
      · show w.val - Host.clampedStart _ _ _ _ 4 = w.val
        rw [c4]; rfl
    · intro a
      fin_cases a
      · show Host.clampedStart _ _ _ _ 0 ≤ n.val ∧ n.val < Host.clampedStart _ _ _ _ 0 + 1
        rw [c0]; omega
      · show Host.clampedStart _ _ _ _ 1 ≤ b.val ∧ b.val < Host.clampedStart _ _ _ _ 1 + 2
        rw [c1]; omega
      · show Host.clampedStart _ _ _ _ 2 ≤ h.val ∧ h.val < Host.clampedStart _ _ _ _ 2 + 4
        rw [c2]; omega
      · show Host.clampedStart _ _ _ _ 3 ≤ i.val ∧ i.val < Host.clampedStart _ _ _ _ 3 + 128
        rw [c3]; omega
      · show Host.clampedStart _ _ _ _ 4 ≤ w.val ∧ w.val < Host.clampedStart _ _ _ _ 4 + 512
        rw [c4]; omega
  · rw [if_neg e, dif_neg]
    intro H
    have H0 : Host.clampedStart _ _ _ _ 0 ≤ n.val ∧ n.val < Host.clampedStart _ _ _ _ 0 + 1 := H 0
    rw [c0] at H0
    exact e (Fin.ext (by omega))

variable (P : FVec Ideal S16384x6144 .bf16)

theorem b41_at (s : State Ideal) (j n : Fin 64) (b : Fin 2) (h : Fin 4) (i : Fin 128) (w : Fin 512) :
    b41 j.val s (ix5 n b h i w) = if n = j then b35 j.val s (ix4 b h i w) else s.main_v64_9 (ix5 n b h i w) := by
  have e : b36 j.val s (ix5 0 b h i w) = b35 j.val s (ix4 b h i w) := by
    unfold b36
    pointwise
  rw [← e]
  exact put_at _ _ j n b h i w

theorem outs_at (N : ℕ) (hN : N ≤ 64) (n : Fin 64) (hn : n.val < N) (b : Fin 2) (h : Fin 4) (i : Fin 128) (w : Fin 512) :
    (sts P N).main_v64_9 (ix5 n b h i w) = raw P tde tqd tkd tcd b.val h n.val i w := by
  induction N with
  | zero => exact absurd hn (Nat.not_lt_zero _)
  | succ N ih =>
    show b41 N (sts P N) (ix5 n b h i w) = _
    refine (b41_at (sts P N) ⟨N, by omega⟩ n b h i w).trans ?_
    by_cases e : n = ⟨N, by omega⟩
    · rw [if_pos e]
      rw [e]
      exact out_at P ⟨N, by omega⟩ b h i w
    · rw [if_neg e]
      exact ih (by omega) (by have : n.val ≠ N := fun q => e (Fin.ext q); omega)

/-! ## The norm and the gate -/

/-- The outputs, by position. -/
def flat (O : FVec Ideal S64x2x4x128x512 .f32) : FVec Ideal S2x8192x4x512 .f32 :=
  shapeCast S2x8192x4x512 (transpose S2x64x128x4x512 [1, 0, 3, 2, 4] O transposes_S64x2x4x128x512_S2x64x128x4x512_1_0_3_2_4) shapeCasts_S2x64x128x4x512_S2x8192x4x512

theorem flat_at (O : FVec Ideal S64x2x4x128x512 .f32) (b : Fin 2) (t : Fin 8192) (h : Fin 4) (w : Fin 512) :
    flat O (ix4 b t h w) = O (ix5 ⟨t.val / 128, by omega⟩ b h ⟨t.val % 128, by omega⟩ w) := by
  unfold flat
  pointwise

/-- A row's mean. -/
def mean (o : FVec Ideal S2x8192x4x512 .f32) : FVec Ideal S2x8192x4x1 .f32 :=
  Host.divf (broadcastInDim S2x8192x4x1 ![0, 1, 2] bcast_S2x8192x4_S2x8192x4x1_0_1_2 (Host.reduceAdd o (constant S_ .f32 0x00000000#32) reducesTo_S2x8192x4x512_S2x8192x4_d3 h_S_)) (broadcastInDim S2x8192x4x1 ![] bcast_S_S2x8192x4x1 (constant S_ .f32 0x44000000#32))

theorem mean_at (o : FVec Ideal S2x8192x4x512 .f32) (b : Fin 2) (t : Fin 8192) (h : Fin 4) :
    mean o (ix4 b t h 0) = Ideal.div (∑ u : Fin 512, o (ix4 b t h u)) (Ideal.ofBits FTy.f32 0x44000000#32) := by
  unfold mean
  pointwise

/-- The rows less their means. -/
def cen (o : FVec Ideal S2x8192x4x512 .f32) : FVec Ideal S2x8192x4x512 .f32 :=
  subf o (broadcastInDim S2x8192x4x512 ![0, 1, 2, 3] bcast_S2x8192x4x1_S2x8192x4x512_0_1_2_3 (mean o))

theorem cen_at (o : FVec Ideal S2x8192x4x512 .f32) (b : Fin 2) (t : Fin 8192) (h : Fin 4) (w : Fin 512) :
    cen o (ix4 b t h w) = centred (fun u => o (ix4 b t h u)) w := by
  have e := mean_at o b t h
  unfold cen
  pointwise
  rw [e]
  rfl

/-- The rows normed. -/
def nor (o : FVec Ideal S2x8192x4x512 .f32) : FVec Ideal S2x8192x4x512 .f32 :=
  mulf (cen o) (broadcastInDim S2x8192x4x512 ![0, 1, 2, 3] bcast_S2x8192x4x1_S2x8192x4x512_0_1_2_3 (Host.rsqrt (addf (mean (mulf (cen o) (cen o))) (broadcastInDim S2x8192x4x1 ![] bcast_S_S2x8192x4x1 (constant S_ .f32 0x358637BD#32)))))

theorem nor_at (o : FVec Ideal S2x8192x4x512 .f32) (b : Fin 2) (t : Fin 8192) (h : Fin 4) (w : Fin 512) :
    nor o (ix4 b t h w) = normed (fun u => o (ix4 b t h u)) w := by
  have e := mean_at (mulf (cen o) (cen o)) b t h
  have e' : ∀ u, mulf (cen o) (cen o) (ix4 b t h u) = centred (fun u => o (ix4 b t h u)) u * centred (fun u => o (ix4 b t h u)) u :=
    fun u => congrArg₂ (· * ·) (cen_at o b t h u) (cen_at o b t h u)
  have e2 := cen_at o b t h
  unfold nor
  pointwise
  rw [e, e2]
  simp only [e']
  rfl

/-- The gates. -/
def gate : FVec Ideal S2x8192x2048 .f32 :=
  extractStridedSlice S2x8192x2048 ![0, 0, 4096] (A_main_v1 (F := Ideal) P) slices_S2x8192x6144_S2x8192x2048_0_0_4096

theorem gate_at (b : Fin 2) (t : Fin 8192) (x : Fin 2048) :
    gate P (ix3 b t x) = gs P b.val (t.val / 128) (x.val / 512) ⟨t.val % 128, by omega⟩ ⟨x.val % 512, by omega⟩ := by
  unfold gate
  pointwise
  refine (split_at P _ _ _).trans ?_
  unfold gs row col
  congr 2 <;> refine Fin.ext ?_ <;> simp only [Fin.ofNat] <;> omega

/-- Gate and scale. -/
def fin (g : FVec Ideal S2x8192x2048 .f32) (o : FVec Ideal S2x8192x4x512 .f32) (B : FVec Ideal S1x2048 .f32) : FVec Ideal S2x8192x2048 .bf16 :=
  truncf .bf16 (mulf (mulf g (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf g)))))
    (mulf (shapeCast S2x8192x2048 o shapeCasts_S2x8192x4x512_S2x8192x2048) (broadcastInDim S2x8192x2048 ![0, 1, 2] bcast_S1x1x2048_S2x8192x2048_0_1_2 (broadcastInDim S1x1x2048 ![2] bcast_S2048_S1x1x2048_2 (shapeCast S2048 B shapeCasts_S1x2048_S2048))))) bitsLt_bf16_f32

theorem fin_at (g : FVec Ideal S2x8192x2048 .f32) (o : FVec Ideal S2x8192x4x512 .f32) (B : FVec Ideal S1x2048 .f32) (b : Fin 2) (t : Fin 8192) (x : Fin 2048) :
    fin g o B (ix3 b t x) = g (ix3 b t x) * Ideal.logistic (g (ix3 b t x))
      * (o (ix4 b t ⟨x.val / 512, by omega⟩ ⟨x.val % 512, by omega⟩) * B (ix2 0 x)) := by
  unfold fin
  pointwise
  rfl

theorem whole (s : State Ideal) (B : FVec Ideal S1x2048 .f32) :
    R_main_v95 (F := Ideal) s P B = fin (gate P) (nor (flat s.main_v64_9)) B := rfl

/-- The reference's result. -/
theorem result_at (B : FVec Ideal S1x2048 .f32) (b : Fin 2) (t : Fin 8192) (x : Fin 2048) :
    R_main_v95 (F := Ideal) (sts P 64) P B (ix3 b t x)
      = res P (fun y => B (ix2 0 y)) tde tqd tkd tcd b.val ⟨x.val / 512, by omega⟩ (t.val / 128) ⟨t.val % 128, by omega⟩ ⟨x.val % 512, by omega⟩ := by
  rw [whole, fin_at, gate_at, nor_at]
  simp only [flat_at]
  unfold res gated
  refine congrArg₂ (· * ·) rfl (congrArg₂ (· * ·) (congrArg (normed · _) (funext fun u => ?_)) (congrArg (fun y => B (ix2 0 y)) (Fin.ext ?_)))
  · exact outs_at P 64 (le_refl _) _ (by show t.val / 128 < 64; omega) b _ _ u
  · simp only [Fin.ofNat]; omega

end Cert.ReferenceIdeal.Chunks

end
-- ==== Proof.Ret.Claim.lean ====
/-
  The claims about the retention: the three frames, and the value — the kernel's result array and the reference's are
  the same rows.
-/
module

public import proofs.«01_k».proof.Defs
public import proofs.«01_k».proof.Proof.Ret.Points
public import proofs.«01_k».proof.Proof.Ret.RefTail
public import proofs.«01_k».proof.Proof.Ret.Steps
public import proofs.«01_k».proof.Proof.Gen.Kernel.Frame
public import proofs.«01_k».proof.Proof.Gen.KernelIdeal.Frame

@[expose] public section

set_option maxRecDepth 16384

noncomputable section

open Idealize.ShloMosaic Idealize.SL.Sem

namespace Cert.Proof.Ret

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Steps.run (F := Ideal) m ρ)

theorem preserves : Cert.preserves_Kernel_KernelIdeal := trivial

/-- Where the arguments agree the two results are one array. -/
theorem same (m : (ℓ : Loc Cert.KernelIdeal.nD Cert.KernelIdeal.τ Cert.KernelIdeal.sig) → Buf (Elt Ideal) ℓ) (c : Dev 1) :
    (Cert.ReferenceIdeal.Step.R_main_v95 (F := Ideal) (Cert.ReferenceIdeal.Chunks.sts (Cert.KernelIdeal.Chunks.proj m c) 64)
        (Cert.KernelIdeal.Chunks.proj m c)
        (m ((c.tc : Thread Cert.KernelIdeal.nD Cert.KernelIdeal.τ).loc Cert.KernelIdeal.main_arg1)) : Cert.ReferenceIdeal.S2x8192x2048.Idx → EReal)
      = Cert.KernelIdeal.Value.G9 m c := by
  funext i
  obtain ⟨b, t, x, rfl⟩ : ∃ (b : Fin 2) (t : Fin 8192) (x : Fin 2048), i = (ix3 b t x : Cert.ReferenceIdeal.S2x8192x2048.Idx) :=
    ⟨i 0, i 1, i 2, Cert.KernelIdeal.Chunks.idx3 _ _ rfl rfl rfl⟩
  exact (Cert.ReferenceIdeal.Chunks.result_at _ _ b t x).trans (Cert.KernelIdeal.Chunks.array_at m c b t x).symm

theorem algebraic : Cert.algebraic_KernelIdeal_ReferenceIdeal := by
  intro m g m' g' _ hagree
  refine ⟨fun c => Cert.KernelIdeal.Value.G9 m c, ?_, ?_⟩
  · exact Cert.KernelIdeal.Value.run m g
  · refine (θ_run Cert.ReferenceIdeal.defs _ _).mono (fun _ h c => ⟨(h c).1.trans ?_, (h c).2⟩)
      (Cert.ReferenceIdeal.Steps.run (F := Ideal) m' g')
    obtain ⟨h0, h1⟩ := hagree c
    rw [h0, h1]
    exact same m c

end Cert.Proof.Ret

end
-- ==== Proof.Ffn.Spec.lean ====
/-
  The residual mix and the channel mixer of one layer, row by row over the extended reals: a row `y` of the mixer's
  output is projected, normalised and added to the residual row `x`; the sum is normalised, put through the gated unit
  and normalised again, and added. Both the kernel's blocks and the reference's arrays are read as these rows.
-/
module

public import Idealize.ShloMosaic.PureOps.Ideal.Laws
public import Mathlib.Algebra.BigOperators.Fin

@[expose] public section

noncomputable section

open Idealize.ShloMosaic
open scoped BigOperators

namespace Cert.Ffn

/-- A row of extended reals. -/
abbrev Row (n : ℕ) := Fin n → EReal

/-- The reciprocal root of a row's mean square, the small constant added. -/
def rs (v : Row 1024) : EReal :=
  Ideal.rsqrt (Ideal.div (∑ x, v x * v x) (Ideal.ofBits FTy.f32 0x44800000#32) + Ideal.ofBits FTy.f32 0x358637BD#32)

/-- A row normalised and scaled by a gain. -/
def norm (v g : Row 1024) : Row 1024 := fun j => v j * rs v * g j

/-- A row times a matrix. -/
def proj {K N : ℕ} (y : Row K) (W : Fin K → Row N) : Row N := fun j => ∑ k, y k * W k j

/-- The residual row after the mixer's output is projected, normalised and added. -/
def mix {K : ℕ} (y : Row K) (x : Row 1024) (W : Fin K → Row 1024) (g : Row 1024) : Row 1024 :=
  fun j => x j + norm (proj y W) g j

/-- One gated hidden value: the gate times its logistic times the other half. -/
def gated (a b : EReal) : EReal := a * Ideal.logistic a * b

/-- The hidden row: the gate is the first half of the columns, the factor the second. -/
def act (h : Row 1024) (Wi : Fin 1024 → Row 5632) : Row 2816 := fun k =>
  gated (proj h Wi ⟨k.val, by omega⟩) (proj h Wi ⟨k.val + 2816, by omega⟩)

/-- One layer's row. -/
def layer {K : ℕ} (y : Row K) (x : Row 1024) (W : Fin K → Row 1024) (g1 g2 : Row 1024) (Wi : Fin 1024 → Row 5632)
    (Wo : Fin 2816 → Row 1024) (g3 : Row 1024) : Row 1024 :=
  fun j => mix y x W g1 j + norm (proj (act (norm (mix y x W g1) g2) Wi) Wo) g3 j

/-- A sum over the hidden columns is the sum of its three parts, of 1024, 1024 and 768 columns. -/
theorem sum_parts (f : Fin 2816 → EReal) :
    ∑ k, f k = ∑ k : Fin 1024, f ⟨k.val, by omega⟩ + ∑ k : Fin 1024, f ⟨k.val + 1024, by omega⟩
      + ∑ k : Fin 768, f ⟨k.val + 2048, by omega⟩ := by
  rw [show (∑ k, f k) = ∑ k : Fin (2048 + 768), f k from rfl, Fin.sum_univ_add,
    show (∑ i : Fin 2048, f (Fin.castAdd 768 i)) = ∑ i : Fin (1024 + 1024), f (Fin.castAdd 768 i) from rfl, Fin.sum_univ_add]
  refine congrArg₂ (· + ·) (congrArg₂ (· + ·) rfl ?_) ?_ <;> refine Finset.sum_congr rfl fun k _ => congrArg f (Fin.ext ?_)
  · exact Nat.add_comm 1024 k.val
  · exact Nat.add_comm 2048 k.val

end Cert.Ffn

end
-- ==== Proof.Ffn.Block1.lean ====
/-
  Layer 1's channel mixer, the kernel's side: what one grid point leaves in its block is the layer's rows of the
  block's rows of the operands. One lemma per value the body names, each read at an index.
-/
module

public import proofs.«01_k».proof.Proof.Gen.Kernel2Ideal.Value
public import proofs.«01_k».proof.Proof.Ffn.Spec
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.Kernel2Ideal.Rows

open Cert.Kernel2Ideal Cert.Kernel2Ideal.Gen Cert.Ffn

/-- Row `r` of a two-axis array. -/
abbrev row {n k : ℕ} (A : (⟨2, ![n, k]⟩ : Shape).Idx → EReal) (r : Fin n) : Row k := fun j => A (ix2 r j)

theorem pay2_at (X : Vec Ideal S512x1024 .f32) (Y : Vec Ideal S512x1024 .bf16) (W : Vec Ideal S1024x1024 .bf16)
    (G : Vec Ideal S1x1024 .f32) (r : Fin 512) (j : Fin 1024) :
    k0_pay2 (F := Ideal) X Y W G (ix2 r j) = mix (row Y r) (row X r) (row W) (row G 0) j := by
  unfold k0_pay2
  pointwise
  rfl

theorem pay3_at (X : Vec Ideal S512x1024 .f32) (Y : Vec Ideal S512x1024 .bf16) (W : Vec Ideal S1024x1024 .bf16)
    (G G2 : Vec Ideal S1x1024 .f32) (r : Fin 512) (j : Fin 1024) :
    k0_pay3 (F := Ideal) X Y W G G2 (ix2 r j) = norm (mix (row Y r) (row X r) (row W) (row G 0)) (row G2 0) j := by
  have e : ∀ j, k0_pay2 (F := Ideal) X Y W G (ix2 r j) = mix (row Y r) (row X r) (row W) (row G 0) j := pay2_at X Y W G r
  unfold k0_pay3
  pointwise
  simp only [e]
  rfl

theorem pay4_at (X : Vec Ideal S512x1024 .f32) (Y : Vec Ideal S512x1024 .bf16) (W : Vec Ideal S1024x1024 .bf16)
    (G G2 : Vec Ideal S1x1024 .f32) (A : Vec Ideal S1024x1024 .bf16) (r : Fin 512) (j : Fin 1024) :
    k0_pay4 (F := Ideal) X Y W G G2 A (ix2 r j)
      = proj (norm (mix (row Y r) (row X r) (row W) (row G 0)) (row G2 0)) (row A) j := by
  have e : ∀ j, k0_pay3 (F := Ideal) X Y W G G2 (ix2 r j) = _ := pay3_at X Y W G G2 r
  unfold k0_pay4
  pointwise
  simp only [e]
  rfl

theorem pay5_at (H : FVec Ideal S512x1024 .bf16) (A : FVec Ideal S512x1024 .f32) (B O A' B' O' : Vec Ideal S1024x1024 .bf16)
    (r : Fin 512) (j : Fin 1024) :
    k0_pay5 (F := Ideal) H A B O A' B' O' (ix2 r j)
      = ∑ k, gated (A (ix2 r k)) (proj (row H r) (row B) k) * O (ix2 k j)
        + ∑ k, gated (proj (row H r) (row A') k) (proj (row H r) (row B') k) * O' (ix2 k j) := by
  unfold k0_pay5
  pointwise
  rfl

theorem pay6_at (H : FVec Ideal S512x1024 .bf16) (A B : Vec Ideal S1024x768 .bf16) (O : Vec Ideal S768x1024 .bf16)
    (r : Fin 512) (j : Fin 1024) :
    k0_pay6 (F := Ideal) H A B O (ix2 r j)
      = ∑ k, gated (proj (row H r) (row A) k) (proj (row H r) (row B) k) * O (ix2 k j) := by
  unfold k0_pay6
  pointwise
  rfl

theorem pay1_at (X P Q : FVec Ideal S512x1024 .f32) (G : Vec Ideal S1x1024 .f32) (r : Fin 512) (j : Fin 1024) :
    k0_pay1 (F := Ideal) X P Q G (ix2 r j)
      = X (ix2 r j) + norm (fun j => P (ix2 r j) + Q (ix2 r j)) (row G 0) j := by
  unfold k0_pay1
  pointwise
  rfl

theorem hz : (![0, 0] : Fin 2 → Nat) = fun _ => 0 := funext fun a => by fin_cases a <;> rfl

/-- A load through a unit rectangle of a two-axis array, at an index: the array at the shifted index. -/
theorem ld_at {n k n' k' : ℕ} {e : EltTy} (X : (⟨2, ![n, k]⟩ : Shape).Idx → Elt Ideal e) (a b : ℕ)
    (inb : ∀ i, (![a, b] : Fin 2 → ℕ) i + (⟨2, ![n', k']⟩ : Shape).size i ≤ (⟨2, ![n, k]⟩ : Shape).size i) (r : Fin n') (j : Fin k')
    (hr : r.val + a < n) (hj : j.val + b < k) :
    View.ld X (Rect.unit (s := ⟨2, ![n, k]⟩) ![a, b] (⟨2, ![n', k']⟩ : Shape).size inb) (ix2 r j)
      = X (ix2 ⟨r.val + a, hr⟩ ⟨j.val + b, hj⟩) := by
  show X _ = X _
  congr 1
  funext i
  apply Fin.ext
  match i with
  | ⟨0, _⟩ => show a + 1 * r.val = r.val + a; omega
  | ⟨1, _⟩ => show b + 1 * j.val = j.val + b; omega

/-- WHAT A POINT LEAVES, at (r, j): the layer's row of the block's row r. -/
theorem out_at (x0 : Vec Ideal S512x1024 .bf16) (x1 : Vec Ideal S512x1024 .f32) (x2 : Vec Ideal S1024x1024 .bf16)
    (x3 x4 : Vec Ideal S1x1024 .f32) (x5 : Vec Ideal S1024x5632 .bf16) (x6 : Vec Ideal S2816x1024 .bf16) (x7 : Vec Ideal S1x1024 .f32)
    (r : Fin 512) (j : Fin 1024) :
    out0_8 (F := Ideal) x0 x1 x2 x3 x4 x5 x6 x7 (ix2 r j)
      = layer (row x0 r) (row x1 r) (row x2) (row x3 0) (row x4 0) (row x5) (row x6) (row x7 0) j := by
  unfold out0_8 k0_pay7
  rw [View.canon_unit_zero hz]
  simp only [View.ld_unit_zero (S := S512x1024) hz, View.ld_unit_zero (S := S1024x1024) hz, View.ld_unit_zero (S := S1x1024) hz]
  rw [pay1_at, pay2_at]
  unfold layer
  congr 1
  refine congrFun (congrArg (fun v => norm v (row x7 0)) (funext fun j => ?_)) j
  rw [pay5_at, pay6_at]
  simp only [pay4_at]
  have e : row (k0_pay3 (F := Ideal) x1 x0 x2 x3 x4) r = norm (mix (row x0 r) (row x1 r) (row x2) (row x3 0)) (row x4 0) :=
    funext fun k => pay3_at x1 x0 x2 x3 x4 r k
  simp only [e]
  generalize norm (mix (row x0 r) (row x1 r) (row x2) (row x3 0)) (row x4 0) = h
  show _ = ∑ k, act h (row x5) k * x6 (ix2 k j)
  rw [sum_parts]
  have e5 : ∀ (b : ℕ) (w : ℕ) (inb) (k : Fin w) (hb : k.val + b < 5632),
      proj h (row (View.ld x5 (Rect.unit (s := S1024x5632) ![0, b] (⟨2, ![1024, w]⟩ : Shape).size inb))) k
        = proj h (row x5) ⟨k.val + b, hb⟩ := by
    intro b w inb k hb
    refine Finset.sum_congr rfl fun x _ => ?_
    exact congrArg (h x * ·) (ld_at (e := .bf16) x5 0 b inb x k (by omega) hb)
  have e6 : ∀ (a : ℕ) (w : ℕ) (inb) (k : Fin w) (ha : k.val + a < 2816),
      View.ld x6 (Rect.unit (s := S2816x1024) ![a, 0] (⟨2, ![w, 1024]⟩ : Shape).size inb) (ix2 k j)
        = x6 (ix2 ⟨k.val + a, ha⟩ j) := fun a w inb k ha => ld_at (e := .bf16) x6 a 0 inb k j ha (by omega)
  refine congrArg₂ (· + ·) (congrArg₂ (· + ·) ?_ ?_) ?_ <;> refine Finset.sum_congr rfl fun k _ => ?_
  · exact congrArg₂ (· * ·) (congrArg₂ gated (e5 0 1024 _ k (by omega)) (e5 2816 1024 _ k (by omega))) (e6 0 1024 _ k (by omega))
  · exact congrArg₂ (· * ·) (congrArg₂ gated (e5 1024 1024 _ k (by omega)) (e5 3840 1024 _ k (by omega))) (e6 1024 1024 _ k (by omega))
  · exact congrArg₂ (· * ·) (congrArg₂ gated (e5 2048 768 _ k (by omega)) (e5 4864 768 _ k (by omega))) (e6 2048 768 _ k (by omega))

end Cert.Kernel2Ideal.Rows

end
-- ==== Proof.Ffn.Kernel1.lean ====
/-
  Layer 1's channel mixer, the kernel's result array: row by row the layer of the operands' rows, the operands being
  the arguments as the host prepares them.
-/
module

public import proofs.«01_k».proof.Proof.Ffn.Block1

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Rows

open Cert.Kernel2Ideal Cert.Kernel2Ideal.Gen Cert.Ffn

variable (m : (ℓ : Loc nD τ sig) → Buf (Elt Ideal) ℓ) (ρ : Dev nD → PrngReg) (c : Dev nD)

/-! The arrays the host leaves for the call, at an index. -/

theorem cast_w (A : FVec Ideal S1x1024x1024 .f32) (k : Fin 1024) (j : Fin 1024) :
    (truncf .bf16 (shapeCast S1024x1024 A shapeCasts_S1x1024x1024_S1024x1024) bitsLt_bf16_f32 : FVec Ideal S1024x1024 .bf16) (ix2 k j) = A (ix3 0 k j) := by
  pointwise

theorem w_at (k : Fin 1024) (j : Fin 1024) :
    (V m c main_v1 : S1024x1024.Idx → EReal) (ix2 k j) = (m (c.tc.loc main_arg2) : S1x1024x1024.Idx → EReal) (ix3 0 k j) := by
  have e : (V m c main_v1 : S1024x1024.Idx → EReal) = (truncf .bf16 (shapeCast S1024x1024 (m (c.tc.loc main_arg2) : FVec Ideal S1x1024x1024 .f32) shapeCasts_S1x1024x1024_S1024x1024) bitsLt_bf16_f32 : FVec Ideal S1024x1024 .bf16) := by
    unfold V; after_results <;> rfl
  rw [e]
  exact cast_w _ k j

theorem g1_at (j : Fin 1024) :
    (V m c main_v4 : S1x1024.Idx → EReal) (ix2 0 j) = (m (c.tc.loc main_arg3) : S2x4x1024.Idx → EReal) (ix3 1 1 j) := by
  have e : (V m c main_v4 : S1x1024.Idx → EReal) = (broadcastInDim S1x1024 ![1] bcast_S1024_S1x1024_1 (shapeCast S1024 (extractStridedSlice S1x1x1024 ![1, 1, 0] (m (c.tc.loc main_arg3) : FVec Ideal S2x4x1024 .f32) slices_S2x4x1024_S1x1x1024_1_1_0) shapeCasts_S1x1x1024_S1024) : FVec Ideal S1x1024 .f32) := by
    unfold V; after_results <;> rfl
  rw [e]
  pointwise

theorem g2_at (j : Fin 1024) :
    (V m c main_v7 : S1x1024.Idx → EReal) (ix2 0 j) = (m (c.tc.loc main_arg3) : S2x4x1024.Idx → EReal) (ix3 1 2 j) := by
  have e : (V m c main_v7 : S1x1024.Idx → EReal) = (broadcastInDim S1x1024 ![1] bcast_S1024_S1x1024_1 (shapeCast S1024 (extractStridedSlice S1x1x1024 ![1, 2, 0] (m (c.tc.loc main_arg3) : FVec Ideal S2x4x1024 .f32) slices_S2x4x1024_S1x1x1024_1_2_0) shapeCasts_S1x1x1024_S1024) : FVec Ideal S1x1024 .f32) := by
    unfold V; after_results <;> rfl
  rw [e]
  pointwise

theorem g3_at (j : Fin 1024) :
    (V m c main_v16 : S1x1024.Idx → EReal) (ix2 0 j) = (m (c.tc.loc main_arg3) : S2x4x1024.Idx → EReal) (ix3 1 3 j) := by
  have e : (V m c main_v16 : S1x1024.Idx → EReal) = (broadcastInDim S1x1024 ![1] bcast_S1024_S1x1024_1 (shapeCast S1024 (extractStridedSlice S1x1x1024 ![1, 3, 0] (m (c.tc.loc main_arg3) : FVec Ideal S2x4x1024 .f32) slices_S2x4x1024_S1x1x1024_1_3_0) shapeCasts_S1x1x1024_S1024) : FVec Ideal S1x1024 .f32) := by
    unfold V; after_results <;> rfl
  rw [e]
  pointwise

theorem wi_at (k : Fin 1024) (j : Fin 5632) :
    (V m c main_v10 : S1024x5632.Idx → EReal) (ix2 k j) = (m (c.tc.loc main_arg4) : S2x1024x5632.Idx → EReal) (ix3 1 k j) := by
  have e : (V m c main_v10 : S1024x5632.Idx → EReal) = (truncf .bf16 (shapeCast S1024x5632 (extractStridedSlice S1x1024x5632 ![1, 0, 0] (m (c.tc.loc main_arg4) : FVec Ideal S2x1024x5632 .f32) slices_S2x1024x5632_S1x1024x5632_1_0_0) shapeCasts_S1x1024x5632_S1024x5632) bitsLt_bf16_f32 : FVec Ideal S1024x5632 .bf16) := by
    unfold V; after_results <;> rfl
  rw [e]
  pointwise

theorem wo_at (k : Fin 2816) (j : Fin 1024) :
    (V m c main_v13 : S2816x1024.Idx → EReal) (ix2 k j) = (m (c.tc.loc main_arg5) : S2x2816x1024.Idx → EReal) (ix3 1 k j) := by
  have e : (V m c main_v13 : S2816x1024.Idx → EReal) = (truncf .bf16 (shapeCast S2816x1024 (extractStridedSlice S1x2816x1024 ![1, 0, 0] (m (c.tc.loc main_arg5) : FVec Ideal S2x2816x1024 .f32) slices_S2x2816x1024_S1x2816x1024_1_0_0) shapeCasts_S1x2816x1024_S2816x1024) bitsLt_bf16_f32 : FVec Ideal S2816x1024 .bf16) := by
    unfold V; after_results <;> rfl
  rw [e]
  pointwise

/-! The windows' blocks: point `t` reads rows 512 t … 512 t + 511 of the rows' arrays, and the weights whole. -/

theorem b0_at (t : Fin cfg0.N) (r : Fin 512) (k : Fin 1024) (h : 512 * t.val + r.val < 16384) :
    (iblk m c 0 t : S512x1024.Idx → EReal) (ix2 r k) = (m (c.tc.loc main_arg0) : S16384x1024.Idx → EReal) (ix2 ⟨512 * t.val + r.val, h⟩ k) := by
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem b1_at (t : Fin cfg0.N) (r : Fin 512) (k : Fin 1024) (h : 512 * t.val + r.val < 16384) :
    (iblk m c 1 t : S512x1024.Idx → EReal) (ix2 r k) = (V m c main_arg1 : S16384x1024.Idx → EReal) (ix2 ⟨512 * t.val + r.val, h⟩ k) := by
  unfold iblk
  rw [View.read_apply]
  show V m c main_arg1 _ = V m c main_arg1 _
  congr 1
  funext a
  apply Fin.ext
  match a with
  | ⟨0, _⟩ => show win0_1.index t 0 * 512 + 1 * r.val = 512 * t.val + r.val
              rw [(by decide +kernel : ∀ t : Fin grid0.N, win0_1.index t 0 = t.val) t]; omega
  | ⟨1, _⟩ => show win0_1.index t 1 * 1024 + 1 * k.val = k.val
              rw [(by decide +kernel : ∀ t : Fin grid0.N, win0_1.index t 1 = 0) t]; omega

theorem b2_at (t : Fin cfg0.N) (k : Fin 1024) (j : Fin 1024) :
    (iblk m c 2 t : S1024x1024.Idx → EReal) (ix2 k j) = (V m c main_v1 : S1024x1024.Idx → EReal) (ix2 k j) := by
  unfold iblk
  rw [View.read_apply]
  show V m c main_v1 _ = V m c main_v1 _
  congr 1
  funext a
  apply Fin.ext
  match a with
  | ⟨0, _⟩ => show win0_2.index t 0 * 1024 + 1 * k.val = k.val
              rw [(by decide +kernel : ∀ t : Fin grid0.N, win0_2.index t 0 = 0) t]; omega
  | ⟨1, _⟩ => show win0_2.index t 1 * 1024 + 1 * j.val = j.val
              rw [(by decide +kernel : ∀ t : Fin grid0.N, win0_2.index t 1 = 0) t]; omega

theorem b3_at (t : Fin cfg0.N) (k : Fin 1) (j : Fin 1024) :
    (iblk m c 3 t : S1x1024.Idx → EReal) (ix2 k j) = (V m c main_v4 : S1x1024.Idx → EReal) (ix2 k j) := by
  unfold iblk
  rw [View.read_apply]
  show V m c main_v4 _ = V m c main_v4 _
  congr 1
  funext a
  apply Fin.ext
  match a with
  | ⟨0, _⟩ => show win0_3.index t 0 * 1 + 1 * k.val = k.val
              rw [(by decide +kernel : ∀ t : Fin grid0.N, win0_3.index t 0 = 0) t]; omega
  | ⟨1, _⟩ => show win0_3.index t 1 * 1024 + 1 * j.val = j.val
              rw [(by decide +kernel : ∀ t : Fin grid0.N, win0_3.index t 1 = 0) t]; omega

theorem b4_at (t : Fin cfg0.N) (k : Fin 1) (j : Fin 1024) :
    (iblk m c 4 t : S1x1024.Idx → EReal) (ix2 k j) = (V m c main_v7 : S1x1024.Idx → EReal) (ix2 k j) := by
  unfold iblk
  rw [View.read_apply]
  show V m c main_v7 _ = V m c main_v7 _
  congr 1
  funext a
  apply Fin.ext
  match a with
  | ⟨0, _⟩ => show win0_4.index t 0 * 1 + 1 * k.val = k.val
              rw [(by decide +kernel : ∀ t : Fin grid0.N, win0_4.index t 0 = 0) t]; omega
  | ⟨1, _⟩ => show win0_4.index t 1 * 1024 + 1 * j.val = j.val
              rw [(by decide +kernel : ∀ t : Fin grid0.N, win0_4.index t 1 = 0) t]; omega

theorem b5_at (t : Fin cfg0.N) (k : Fin 1024) (j : Fin 5632) :
    (iblk m c 5 t : S1024x5632.Idx → EReal) (ix2 k j) = (V m c main_v10 : S1024x5632.Idx → EReal) (ix2 k j) := by
  unfold iblk
  rw [View.read_apply]
  show V m c main_v10 _ = V m c main_v10 _
  congr 1
  funext a
  apply Fin.ext
  match a with
  | ⟨0, _⟩ => show win0_5.index t 0 * 1024 + 1 * k.val = k.val
              rw [(by decide +kernel : ∀ t : Fin grid0.N, win0_5.index t 0 = 0) t]; omega
  | ⟨1, _⟩ => show win0_5.index t 1 * 5632 + 1 * j.val = j.val
              rw [(by decide +kernel : ∀ t : Fin grid0.N, win0_5.index t 1 = 0) t]; omega

theorem b6_at (t : Fin cfg0.N) (k : Fin 2816) (j : Fin 1024) :
    (iblk m c 6 t : S2816x1024.Idx → EReal) (ix2 k j) = (V m c main_v13 : S2816x1024.Idx → EReal) (ix2 k j) := by
  unfold iblk
  rw [View.read_apply]
  show V m c main_v13 _ = V m c main_v13 _
  congr 1
  funext a
  apply Fin.ext
  match a with
  | ⟨0, _⟩ => show win0_6.index t 0 * 2816 + 1 * k.val = k.val
              rw [(by decide +kernel : ∀ t : Fin grid0.N, win0_6.index t 0 = 0) t]; omega
  | ⟨1, _⟩ => show win0_6.index t 1 * 1024 + 1 * j.val = j.val
              rw [(by decide +kernel : ∀ t : Fin grid0.N, win0_6.index t 1 = 0) t]; omega

theorem b7_at (t : Fin cfg0.N) (k : Fin 1) (j : Fin 1024) :
    (iblk m c 7 t : S1x1024.Idx → EReal) (ix2 k j) = (V m c main_v16 : S1x1024.Idx → EReal) (ix2 k j) := by
  unfold iblk
  rw [View.read_apply]
  show V m c main_v16 _ = V m c main_v16 _
  congr 1
  funext a
  apply Fin.ext
  match a with
  | ⟨0, _⟩ => show win0_7.index t 0 * 1 + 1 * k.val = k.val
              rw [(by decide +kernel : ∀ t : Fin grid0.N, win0_7.index t 0 = 0) t]; omega
  | ⟨1, _⟩ => show win0_7.index t 1 * 1024 + 1 * j.val = j.val
              rw [(by decide +kernel : ∀ t : Fin grid0.N, win0_7.index t 1 = 0) t]; omega

/-- THE RESULT at row R and column j. -/
def result : Buf (Elt Ideal) ((c : Thread nD τ).loc main_v17) := fun i =>
  layer (row (m (c.tc.loc main_arg0) : S16384x1024.Idx → EReal) (i 0)) (row (m (c.tc.loc main_arg1) : S16384x1024.Idx → EReal) (i 0))
    (fun k j => (m (c.tc.loc main_arg2) : S1x1024x1024.Idx → EReal) (ix3 0 k j))
    (fun j => (m (c.tc.loc main_arg3) : S2x4x1024.Idx → EReal) (ix3 1 1 j)) (fun j => (m (c.tc.loc main_arg3) : S2x4x1024.Idx → EReal) (ix3 1 2 j))
    (fun k j => (m (c.tc.loc main_arg4) : S2x1024x5632.Idx → EReal) (ix3 1 k j))
    (fun k j => (m (c.tc.loc main_arg5) : S2x2816x1024.Idx → EReal) (ix3 1 k j))
    (fun j => (m (c.tc.loc main_arg3) : S2x4x1024.Idx → EReal) (ix3 1 3 j)) (i 1)

/-- Point `t` writes back rows 512 t … 512 t + 511 of the result. -/
theorem flushed_eq (t : Fin cfg0.N) :
    (dats m 0 c).flushed 8 t = ((cfg0.win 8).blk t).view.read (Elt Ideal) (result m c) := by
  have ht : t.val < 32 := lt_of_lt_of_eq t.isLt N_0
  rw [Value.flushed8]
  funext i
  rw [View.read_apply]
  obtain ⟨r, j, rfl⟩ : ∃ (r : Fin 512) (j : Fin 1024), i = ix2 r j := ⟨i 0, i 1, funext fun a => by fin_cases a <;> rfl⟩
  have hR : 512 * t.val + r.val < 16384 := by omega
  have hi : (((cfg0.win 8).blk t).view.emb (ix2 r j) : S16384x1024.Idx) = ix2 ⟨512 * t.val + r.val, hR⟩ j := by
    funext a
    apply Fin.ext
    match a with
    | ⟨0, _⟩ => show win0_8.index t 0 * 512 + 1 * r.val = 512 * t.val + r.val
                rw [(by decide +kernel : ∀ t : Fin grid0.N, win0_8.index t 0 = t.val) t]; omega
    | ⟨1, _⟩ => show win0_8.index t 1 * 1024 + 1 * j.val = j.val
                rw [(by decide +kernel : ∀ t : Fin grid0.N, win0_8.index t 1 = 0) t]; omega
  refine (out_at _ _ _ _ _ _ _ _ r j).trans ?_
  refine Eq.trans ?_ (congrArg (result m c) hi).symm
  unfold result
  have e0 : row (iblk m c 0 t : S512x1024.Idx → EReal) r = row (m (c.tc.loc main_arg0) : S16384x1024.Idx → EReal) ⟨512 * t.val + r.val, hR⟩ :=
    funext fun k => b0_at m c t r k hR
  have e1 : row (iblk m c 1 t : S512x1024.Idx → EReal) r = row (m (c.tc.loc main_arg1) : S16384x1024.Idx → EReal) ⟨512 * t.val + r.val, hR⟩ :=
    funext fun k => (b1_at m c t r k hR).trans (congrFun (V_main_arg1 m c) _)
  have e2 : row (iblk m c 2 t : S1024x1024.Idx → EReal) = _ := funext fun k => funext fun j => (b2_at m c t k j).trans (w_at m c k j)
  have e3 : row (iblk m c 3 t : S1x1024.Idx → EReal) 0 = _ := funext fun j => (b3_at m c t 0 j).trans (g1_at m c j)
  have e4 : row (iblk m c 4 t : S1x1024.Idx → EReal) 0 = _ := funext fun j => (b4_at m c t 0 j).trans (g2_at m c j)
  have e5 : row (iblk m c 5 t : S1024x5632.Idx → EReal) = _ := funext fun k => funext fun j => (b5_at m c t k j).trans (wi_at m c k j)
  have e6 : row (iblk m c 6 t : S2816x1024.Idx → EReal) = _ := funext fun k => funext fun j => (b6_at m c t k j).trans (wo_at m c k j)
  have e7 : row (iblk m c 7 t : S1x1024.Idx → EReal) 0 = _ := funext fun j => (b7_at m c t 0 j).trans (g3_at m c j)
  rw [e0, e1, e2, e3, e4, e5, e6, e7]
  rfl

/-- So the result array ends at the result: the points' blocks cover it. -/
theorem final : (dats m 0 c).arrAt 8 cfg0.N = result m c :=
  (dats m 0 c).arrAt_eq_of_cover 8 (result m c) (fun t _ => flushed_eq m c t) fun i => by
    have h0 : (i 0 : Nat) < 16384 := (i 0).isLt
    have h1 : (i 1 : Nat) < 1024 := (i 1).isLt
    have hN : cfg0.N = 32 := N_0
    let t : Fin cfg0.N := ⟨(i 0 : Nat) / 512, by omega⟩
    refine ⟨t, flush0_8 t, ?_⟩
    show i ∈ ((View.whole main_v17).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [(by decide +kernel : ∀ t : Fin grid0.N, win0_8.index t 0 = t.val) t]
                show (i 0 : Nat) / 512 * 512 ≤ (i 0 : Nat) ∧ _
                have : (t : Nat) = (i 0 : Nat) / 512 := rfl
                omega
    | ⟨1, _⟩ => show win0_8.index t 1 * 1024 ≤ (i 1 : Nat) ∧ (i 1 : Nat) < win0_8.index t 1 * 1024 + 1024
                rw [(by decide +kernel : ∀ t : Fin grid0.N, win0_8.index t 1 = 0) t]; omega

end Cert.Kernel2Ideal.Rows

end
-- ==== Proof.Ffn.Ref1.lean ====
/-
  Layer 1's channel mixer, the reference's side: its result, read row by row, is the layer's row of the arguments' rows.
-/
module

public import proofs.«01_k».proof.Proof.Gen.Reference2Ideal.Run
public import proofs.«01_k».proof.Proof.Ffn.Spec
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.Reference2Ideal.Rows

open Cert.Reference2Ideal Cert.Reference2Ideal.Gen Cert.Ffn

/-- Row `r` of a two-axis array. -/
abbrev row {n k : ℕ} (A : (⟨2, ![n, k]⟩ : Shape).Idx → EReal) (r : Fin n) : Row k := fun j => A (ix2 r j)

/-- The reference's normalisation: every row over the root of its mean square, times the gain. -/
def rmsnorm (v : FVec Ideal S16384x1024 .f32) (g : FVec Ideal S1024 .f32) : FVec Ideal S16384x1024 .f32 :=
  mulf (mulf v (broadcastInDim S16384x1024 ![0, 1] bcast_S16384x1_S16384x1024_0_1 (Host.rsqrt (addf
    (Host.divf (broadcastInDim S16384x1 ![0] bcast_S16384_S16384x1_0 (Host.reduceAdd (mulf v v) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem rmsnorm_at (v : FVec Ideal S16384x1024 .f32) (g : FVec Ideal S1024 .f32) (R : Fin 16384) (j : Fin 1024) :
    rmsnorm v g (ix2 R j) = norm (row v R) (fun j => g (ix1 j)) j := by
  unfold rmsnorm
  pointwise
  rfl

/-- The reference's gated unit, of the wide product. -/
def gate (G : FVec Ideal S16384x5632 .f32) : FVec Ideal S16384x2816 .f32 :=
  mulf (mulf (extractStridedSlice S16384x2816 ![0, 0] G slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] G slices_S16384x5632_S16384x2816_0_0))))))
    (extractStridedSlice S16384x2816 ![0, 2816] G slices_S16384x5632_S16384x2816_0_2816)

theorem gate_at (G : FVec Ideal S16384x5632 .f32) (R : Fin 16384) (k : Fin 2816) :
    gate G (ix2 R k) = gated (G (ix2 R ⟨k.val, by omega⟩)) (G (ix2 R ⟨k.val + 2816, by omega⟩)) := by
  unfold gate
  pointwise
  exact congrArg (fun q => G (ix2 R ⟨k.val, by omega⟩) * Ideal.logistic (G (ix2 R ⟨k.val, by omega⟩)) * G (ix2 R q)) (Fin.ext (Nat.add_comm 2816 k.val))

/-- The wide product, and the product back to the model's width. -/
def wide (h : FVec Ideal S16384x1024 .f32) (W : FVec Ideal S1024x5632 .f32) : FVec Ideal S16384x5632 .f32 :=
  Host.dotGeneral dot_S16384x1024_S1024x5632_S16384x5632_1_0_0_1_n_n none h W
def back (a : FVec Ideal S16384x2816 .f32) (W : FVec Ideal S2816x1024 .f32) : FVec Ideal S16384x1024 .f32 :=
  Host.dotGeneral dot_S16384x2816_S2816x1024_S16384x1024_1_0_0_1_n_n none a W
def outp (y : FVec Ideal S16384x1024 .f32) (W : FVec Ideal S1024x1024 .f32) : FVec Ideal S16384x1024 .f32 :=
  Host.dotGeneral dot_S16384x1024_S1024x1024_S16384x1024_1_0_0_1_n_n none y W

theorem wide_at (h : FVec Ideal S16384x1024 .f32) (W : FVec Ideal S1024x5632 .f32) (R : Fin 16384) (j : Fin 5632) :
    wide h W (ix2 R j) = proj (row h R) (row W) j := by
  unfold wide
  pointwise
  rfl
theorem back_at (a : FVec Ideal S16384x2816 .f32) (W : FVec Ideal S2816x1024 .f32) (R : Fin 16384) (j : Fin 1024) :
    back a W (ix2 R j) = proj (row a R) (row W) j := by
  unfold back
  pointwise
  rfl
theorem outp_at (y : FVec Ideal S16384x1024 .f32) (W : FVec Ideal S1024x1024 .f32) (R : Fin 16384) (j : Fin 1024) :
    outp y W (ix2 R j) = proj (row y R) (row W) j := by
  unfold outp
  pointwise
  rfl

/-- The reference's layer. -/
def refLayer (y : FVec Ideal S16384x1024 .f32) (x : FVec Ideal S16384x1024 .f32) (W : FVec Ideal S1024x1024 .f32)
    (g1 g2 : FVec Ideal S1024 .f32) (Wi : FVec Ideal S1024x5632 .f32) (Wo : FVec Ideal S2816x1024 .f32) (g3 : FVec Ideal S1024 .f32) :
    FVec Ideal S16384x1024 .f32 :=
  addf (addf x (rmsnorm (outp y W) g1))
    (rmsnorm (back (gate (wide (rmsnorm (addf x (rmsnorm (outp y W) g1)) g2) Wi)) Wo) g3)

theorem refLayer_at (y : FVec Ideal S16384x1024 .f32) (x : FVec Ideal S16384x1024 .f32) (W : FVec Ideal S1024x1024 .f32)
    (g1 g2 : FVec Ideal S1024 .f32) (Wi : FVec Ideal S1024x5632 .f32) (Wo : FVec Ideal S2816x1024 .f32) (g3 : FVec Ideal S1024 .f32)
    (R : Fin 16384) (j : Fin 1024) :
    refLayer y x W g1 g2 Wi Wo g3 (ix2 R j)
      = layer (row y R) (row x R) (row W) (fun j => g1 (ix1 j)) (fun j => g2 (ix1 j)) (row Wi) (row Wo) (fun j => g3 (ix1 j)) j := by
  have e1 : row (outp y W) R = proj (row y R) (row W) := funext fun j => outp_at y W R j
  have e2 : row (addf x (rmsnorm (outp y W) g1)) R = mix (row y R) (row x R) (row W) (fun j => g1 (ix1 j)) := funext fun j => by
    show x (ix2 R j) + rmsnorm (outp y W) g1 (ix2 R j) = _
    rw [rmsnorm_at, e1]; rfl
  unfold refLayer layer
  show addf x (rmsnorm (outp y W) g1) (ix2 R j) + _ = _
  rw [show addf x (rmsnorm (outp y W) g1) (ix2 R j) = _ from congrFun e2 j, rmsnorm_at]
  refine congrArg (mix _ _ _ _ j + ·) (congrFun (congrArg (fun v => norm v _) (funext fun j => ?_)) j)
  show back _ Wo (ix2 R j) = _
  rw [back_at]
  refine congrFun (congrArg (fun v => proj v (row Wo)) (funext fun k => ?_)) j
  show gate _ (ix2 R k) = act _ _ k
  rw [gate_at, wide_at, wide_at]
  have e3 : row (rmsnorm (addf x (rmsnorm (outp y W) g1)) g2) R = norm (mix (row y R) (row x R) (row W) (fun j => g1 (ix1 j))) (fun j => g2 (ix1 j)) :=
    funext fun j => by
      show rmsnorm _ g2 (ix2 R j) = _
      rw [rmsnorm_at, e2]
  rw [e3]
  rfl

/-! The arguments as the reference prepares them, at an index. -/

theorem w_at (A : FVec Ideal S1x1024x1024 .f32) (k : Fin 1024) (j : Fin 1024) :
    (shapeCast S1024x1024 A shapeCasts_S1x1024x1024_S1024x1024 : FVec Ideal S1024x1024 .f32) (ix2 k j) = A (ix3 0 k j) := by
  pointwise
theorem g1_at (A : FVec Ideal S2x4x1024 .f32) (j : Fin 1024) :
    (shapeCast S1024 (extractStridedSlice S1x1x1024 ![1, 1, 0] A slices_S2x4x1024_S1x1x1024_1_1_0) shapeCasts_S1x1x1024_S1024 : FVec Ideal S1024 .f32) (ix1 j) = A (ix3 1 1 j) := by
  pointwise
theorem g2_at (A : FVec Ideal S2x4x1024 .f32) (j : Fin 1024) :
    (shapeCast S1024 (extractStridedSlice S1x1x1024 ![1, 2, 0] A slices_S2x4x1024_S1x1x1024_1_2_0) shapeCasts_S1x1x1024_S1024 : FVec Ideal S1024 .f32) (ix1 j) = A (ix3 1 2 j) := by
  pointwise
theorem g3_at (A : FVec Ideal S2x4x1024 .f32) (j : Fin 1024) :
    (shapeCast S1024 (extractStridedSlice S1x1x1024 ![1, 3, 0] A slices_S2x4x1024_S1x1x1024_1_3_0) shapeCasts_S1x1x1024_S1024 : FVec Ideal S1024 .f32) (ix1 j) = A (ix3 1 3 j) := by
  pointwise
theorem wi_at (A : FVec Ideal S2x1024x5632 .f32) (k : Fin 1024) (j : Fin 5632) :
    (shapeCast S1024x5632 (extractStridedSlice S1x1024x5632 ![1, 0, 0] A slices_S2x1024x5632_S1x1024x5632_1_0_0) shapeCasts_S1x1024x5632_S1024x5632 : FVec Ideal S1024x5632 .f32) (ix2 k j) = A (ix3 1 k j) := by
  pointwise
theorem wo_at (A : FVec Ideal S2x2816x1024 .f32) (k : Fin 2816) (j : Fin 1024) :
    (shapeCast S2816x1024 (extractStridedSlice S1x2816x1024 ![1, 0, 0] A slices_S2x2816x1024_S1x2816x1024_1_0_0) shapeCasts_S1x2816x1024_S2816x1024 : FVec Ideal S2816x1024 .f32) (ix2 k j) = A (ix3 1 k j) := by
  pointwise

variable (m : (ℓ : Loc nD τ sig) → Buf (Elt Ideal) ℓ) (c : Dev nD)

/-- THE RESULT at row R and column j. -/
theorem res_at (R : Fin 16384) (j : Fin 1024) :
    (Value.res_out0 m c : S16384x1024.Idx → EReal) (ix2 R j)
      = layer (row (m (c.tc.loc main_arg0) : S16384x1024.Idx → EReal) R) (row (m (c.tc.loc main_arg1) : S16384x1024.Idx → EReal) R)
    (fun k j => (m (c.tc.loc main_arg2) : S1x1024x1024.Idx → EReal) (ix3 0 k j))
    (fun j => (m (c.tc.loc main_arg3) : S2x4x1024.Idx → EReal) (ix3 1 1 j)) (fun j => (m (c.tc.loc main_arg3) : S2x4x1024.Idx → EReal) (ix3 1 2 j))
    (fun k j => (m (c.tc.loc main_arg4) : S2x1024x5632.Idx → EReal) (ix3 1 k j))
    (fun k j => (m (c.tc.loc main_arg5) : S2x2816x1024.Idx → EReal) (ix3 1 k j))
    (fun j => (m (c.tc.loc main_arg3) : S2x4x1024.Idx → EReal) (ix3 1 3 j)) j := by
  have e : (Value.res_out0 m c : S16384x1024.Idx → EReal) = refLayer (extf .f32 (m (c.tc.loc main_arg0) : FVec Ideal S16384x1024 .bf16) bitsLt_bf16_f32)
      (m (c.tc.loc main_arg1) : FVec Ideal S16384x1024 .f32)
      (shapeCast S1024x1024 (m (c.tc.loc main_arg2) : FVec Ideal S1x1024x1024 .f32) shapeCasts_S1x1024x1024_S1024x1024)
      (shapeCast S1024 (extractStridedSlice S1x1x1024 ![1, 1, 0] (m (c.tc.loc main_arg3) : FVec Ideal S2x4x1024 .f32) slices_S2x4x1024_S1x1x1024_1_1_0) shapeCasts_S1x1x1024_S1024)
      (shapeCast S1024 (extractStridedSlice S1x1x1024 ![1, 2, 0] (m (c.tc.loc main_arg3) : FVec Ideal S2x4x1024 .f32) slices_S2x4x1024_S1x1x1024_1_2_0) shapeCasts_S1x1x1024_S1024)
      (shapeCast S1024x5632 (extractStridedSlice S1x1024x5632 ![1, 0, 0] (m (c.tc.loc main_arg4) : FVec Ideal S2x1024x5632 .f32) slices_S2x1024x5632_S1x1024x5632_1_0_0) shapeCasts_S1x1024x5632_S1024x5632)
      (shapeCast S2816x1024 (extractStridedSlice S1x2816x1024 ![1, 0, 0] (m (c.tc.loc main_arg5) : FVec Ideal S2x2816x1024 .f32) slices_S2x2816x1024_S1x2816x1024_1_0_0) shapeCasts_S1x2816x1024_S2816x1024)
      (shapeCast S1024 (extractStridedSlice S1x1x1024 ![1, 3, 0] (m (c.tc.loc main_arg3) : FVec Ideal S2x4x1024 .f32) slices_S2x4x1024_S1x1x1024_1_3_0) shapeCasts_S1x1x1024_S1024) := by
    unfold Value.res_out0 Value.res_main_v59
    rfl
  rw [e, refLayer_at]
  have ew : row (shapeCast S1024x1024 (m (c.tc.loc main_arg2) : FVec Ideal S1x1024x1024 .f32) shapeCasts_S1x1024x1024_S1024x1024) = _ :=
    funext fun k => funext fun j => w_at _ k j
  have ei : row (shapeCast S1024x5632 (extractStridedSlice S1x1024x5632 ![1, 0, 0] (m (c.tc.loc main_arg4) : FVec Ideal S2x1024x5632 .f32) slices_S2x1024x5632_S1x1024x5632_1_0_0) shapeCasts_S1x1024x5632_S1024x5632) = _ :=
    funext fun k => funext fun j => wi_at _ k j
  have eo : row (shapeCast S2816x1024 (extractStridedSlice S1x2816x1024 ![1, 0, 0] (m (c.tc.loc main_arg5) : FVec Ideal S2x2816x1024 .f32) slices_S2x2816x1024_S1x2816x1024_1_0_0) shapeCasts_S1x2816x1024_S2816x1024) = _ :=
    funext fun k => funext fun j => wo_at _ k j
  rw [ew, ei, eo]
  simp only [g1_at, g2_at, g3_at]
  rfl

end Cert.Reference2Ideal.Rows

end
-- ==== Proof.Ffn.Claim1.lean ====
/-
  The claims about layer 1's channel mixer: the three frames, and the value — the kernel's result array and the
  reference's are the same rows.
-/
module

public import proofs.«01_k».proof.Defs
public import proofs.«01_k».proof.Proof.Ffn.Kernel1
public import proofs.«01_k».proof.Proof.Ffn.Ref1
public import proofs.«01_k».proof.Proof.Gen.Kernel2.Frame
public import proofs.«01_k».proof.Proof.Gen.Kernel2Ideal.Frame

@[expose] public section

set_option maxRecDepth 16384

noncomputable section

open Idealize.ShloMosaic Idealize.SL.Sem

namespace Cert.Proof.Ffn1

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem preserves : Cert.preserves_Kernel2_Kernel2Ideal := trivial

/-- Where the arguments agree the two results are one array. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5)
      = m ((c.tc : Thread Cert.Kernel2Ideal.nD Cert.Kernel2Ideal.τ).loc Cert.Kernel2Ideal.main_arg5)) :
    (Cert.Reference2Ideal.Value.res_out0 m' c : Cert.Reference2Ideal.S16384x1024.Idx → EReal)
      = Cert.Kernel2Ideal.Rows.result m c := by
  funext i
  obtain ⟨r, j, rfl⟩ : ∃ (r : Fin 16384) (j : Fin 1024), i = (ix2 r j : Cert.Reference2Ideal.S16384x1024.Idx) :=
    ⟨i 0, i 1, (ix2_eta (n0 := 16384) (n1 := 1024) i).symm⟩
  refine (Cert.Reference2Ideal.Rows.res_at m' c r j).trans ?_
  rw [h0, h1, h2, h3, h4, h5]
  rfl

theorem algebraic : Cert.algebraic_Kernel2Ideal_Reference2Ideal := by
  intro m g m' g' _ hagree
  refine ⟨fun c => Cert.Kernel2Ideal.Rows.result m c, ?_, ?_⟩
  · exact (θ_run Cert.Kernel2Ideal.defs _ _).mono
      (fun _ h c => ⟨(h c).1.trans (Cert.Kernel2Ideal.Rows.final m c), (h c).2⟩) (Cert.Kernel2Ideal.Value.run_blocks m g)
  · refine (θ_run Cert.Reference2Ideal.defs _ _).mono (fun _ h c => ⟨(h c).1.trans ?_, (h c).2⟩)
      (Cert.Reference2Ideal.Value.run (F := Ideal) m' g')
    obtain ⟨h0, h1, h2, h3, h4, h5⟩ := hagree c
    exact same m m' c h0 h1 h2 h3 h4 h5

end Cert.Proof.Ffn1

end
-- ==== Proof.Ffn.Block0.lean ====
/-
  Layer 0's channel mixer, the kernel's side: what one grid point leaves in its block is the layer's rows of the
  block's rows of the operands. One lemma per value the body names, each read at an index.
-/
module

public import proofs.«01_k».proof.Proof.Gen.Kernel3Ideal.Value
public import proofs.«01_k».proof.Proof.Ffn.Spec
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.Kernel3Ideal.Rows

open Cert.Kernel3Ideal Cert.Kernel3Ideal.Gen Cert.Ffn

/-- Row `r` of a two-axis array. -/
abbrev row {n k : ℕ} (A : (⟨2, ![n, k]⟩ : Shape).Idx → EReal) (r : Fin n) : Row k := fun j => A (ix2 r j)

theorem pay2_at (X : Vec Ideal S512x1024 .f32) (Y : Vec Ideal S512x2048 .bf16) (W : Vec Ideal S2048x1024 .bf16)
    (G : Vec Ideal S1x1024 .f32) (r : Fin 512) (j : Fin 1024) :
    k0_pay2 (F := Ideal) X Y W G (ix2 r j) = mix (row Y r) (row X r) (row W) (row G 0) j := by
  unfold k0_pay2
  pointwise
  rfl

theorem pay3_at (X : Vec Ideal S512x1024 .f32) (Y : Vec Ideal S512x2048 .bf16) (W : Vec Ideal S2048x1024 .bf16)
    (G G2 : Vec Ideal S1x1024 .f32) (r : Fin 512) (j : Fin 1024) :
    k0_pay3 (F := Ideal) X Y W G G2 (ix2 r j) = norm (mix (row Y r) (row X r) (row W) (row G 0)) (row G2 0) j := by
  have e : ∀ j, k0_pay2 (F := Ideal) X Y W G (ix2 r j) = mix (row Y r) (row X r) (row W) (row G 0) j := pay2_at X Y W G r
  unfold k0_pay3
  pointwise
  simp only [e]
  rfl

theorem pay4_at (X : Vec Ideal S512x1024 .f32) (Y : Vec Ideal S512x2048 .bf16) (W : Vec Ideal S2048x1024 .bf16)
    (G G2 : Vec Ideal S1x1024 .f32) (A : Vec Ideal S1024x1024 .bf16) (r : Fin 512) (j : Fin 1024) :
    k0_pay4 (F := Ideal) X Y W G G2 A (ix2 r j)
      = proj (norm (mix (row Y r) (row X r) (row W) (row G 0)) (row G2 0)) (row A) j := by
  have e : ∀ j, k0_pay3 (F := Ideal) X Y W G G2 (ix2 r j) = _ := pay3_at X Y W G G2 r
  unfold k0_pay4
  pointwise
  simp only [e]
  rfl

theorem pay5_at (H : FVec Ideal S512x1024 .bf16) (A : FVec Ideal S512x1024 .f32) (B O A' B' O' : Vec Ideal S1024x1024 .bf16)
    (r : Fin 512) (j : Fin 1024) :
    k0_pay5 (F := Ideal) H A B O A' B' O' (ix2 r j)
      = ∑ k, gated (A (ix2 r k)) (proj (row H r) (row B) k) * O (ix2 k j)
        + ∑ k, gated (proj (row H r) (row A') k) (proj (row H r) (row B') k) * O' (ix2 k j) := by
  unfold k0_pay5
  pointwise
  rfl

theorem pay6_at (H : FVec Ideal S512x1024 .bf16) (A B : Vec Ideal S1024x768 .bf16) (r : Fin 512) (k : Fin 768) :
    k0_pay6 (F := Ideal) H A B (ix2 r k) = gated (proj (row H r) (row A) k) (proj (row H r) (row B) k) := by
  unfold k0_pay6
  pointwise
  rfl

theorem pay1_at (X P : FVec Ideal S512x1024 .f32) (Q : FVec Ideal S512x768 .bf16) (O : Vec Ideal S768x1024 .bf16)
    (G : Vec Ideal S1x1024 .f32) (r : Fin 512) (j : Fin 1024) :
    k0_pay1 (F := Ideal) X P Q (k0_pay7 O) (constant S512x1024 .f32 0x00000000#32) G (ix2 r j)
      = X (ix2 r j) + norm (fun j => P (ix2 r j) + ∑ k, Q (ix2 r k) * O (ix2 k j)) (row G 0) j := by
  unfold k0_pay1 k0_pay7
  pointwise
  rfl

theorem hz : (![0, 0] : Fin 2 → Nat) = fun _ => 0 := funext fun a => by fin_cases a <;> rfl

/-- A load through a unit rectangle of a two-axis array, at an index: the array at the shifted index. -/
theorem ld_at {n k n' k' : ℕ} {e : EltTy} (X : (⟨2, ![n, k]⟩ : Shape).Idx → Elt Ideal e) (a b : ℕ)
    (inb : ∀ i, (![a, b] : Fin 2 → ℕ) i + (⟨2, ![n', k']⟩ : Shape).size i ≤ (⟨2, ![n, k]⟩ : Shape).size i) (r : Fin n') (j : Fin k')
    (hr : r.val + a < n) (hj : j.val + b < k) :
    View.ld X (Rect.unit (s := ⟨2, ![n, k]⟩) ![a, b] (⟨2, ![n', k']⟩ : Shape).size inb) (ix2 r j)
      = X (ix2 ⟨r.val + a, hr⟩ ⟨j.val + b, hj⟩) := by
  show X _ = X _
  congr 1
  funext i
  apply Fin.ext
  match i with
  | ⟨0, _⟩ => show a + 1 * r.val = r.val + a; omega
  | ⟨1, _⟩ => show b + 1 * j.val = j.val + b; omega

/-- WHAT A POINT LEAVES, at (r, j): the layer's row of the block's row r. -/
theorem out_at (x0 : Vec Ideal S512x2048 .bf16) (x1 : Vec Ideal S512x1024 .f32) (x2 : Vec Ideal S2048x1024 .bf16)
    (x3 x4 : Vec Ideal S1x1024 .f32) (x5 : Vec Ideal S1024x5632 .bf16) (x6 : Vec Ideal S2816x1024 .bf16) (x7 : Vec Ideal S1x1024 .f32)
    (r : Fin 512) (j : Fin 1024) :
    out0_8 (F := Ideal) x0 x1 x2 x3 x4 x5 x6 x7 (ix2 r j)
      = layer (row x0 r) (row x1 r) (row x2) (row x3 0) (row x4 0) (row x5) (row x6) (row x7 0) j := by
  unfold out0_8 k0_pay8
  rw [View.canon_unit_zero hz]
  simp only [View.ld_unit_zero (S := S512x1024) hz, View.ld_unit_zero (S := S512x2048) hz, View.ld_unit_zero (S := S2048x1024) hz, View.ld_unit_zero (S := S1x1024) hz]
  rw [pay1_at, pay2_at]
  unfold layer
  congr 1
  refine congrFun (congrArg (fun v => norm v (row x7 0)) (funext fun j => ?_)) j
  rw [pay5_at]
  simp only [pay6_at, pay4_at]
  have e : row (k0_pay3 (F := Ideal) x1 x0 x2 x3 x4) r = norm (mix (row x0 r) (row x1 r) (row x2) (row x3 0)) (row x4 0) :=
    funext fun k => pay3_at x1 x0 x2 x3 x4 r k
  simp only [e]
  generalize norm (mix (row x0 r) (row x1 r) (row x2) (row x3 0)) (row x4 0) = h
  show _ = ∑ k, act h (row x5) k * x6 (ix2 k j)
  rw [sum_parts]
  have e5 : ∀ (b : ℕ) (w : ℕ) (inb) (k : Fin w) (hb : k.val + b < 5632),
      proj h (row (View.ld x5 (Rect.unit (s := S1024x5632) ![0, b] (⟨2, ![1024, w]⟩ : Shape).size inb))) k
        = proj h (row x5) ⟨k.val + b, hb⟩ := by
    intro b w inb k hb
    refine Finset.sum_congr rfl fun x _ => ?_
    exact congrArg (h x * ·) (ld_at (e := .bf16) x5 0 b inb x k (by omega) hb)
  have e6 : ∀ (a : ℕ) (w : ℕ) (inb) (k : Fin w) (ha : k.val + a < 2816),
      View.ld x6 (Rect.unit (s := S2816x1024) ![a, 0] (⟨2, ![w, 1024]⟩ : Shape).size inb) (ix2 k j)
        = x6 (ix2 ⟨k.val + a, ha⟩ j) := fun a w inb k ha => ld_at (e := .bf16) x6 a 0 inb k j ha (by omega)
  refine congrArg₂ (· + ·) (congrArg₂ (· + ·) ?_ ?_) ?_ <;> refine Finset.sum_congr rfl fun k _ => ?_
  · exact congrArg₂ (· * ·) (congrArg₂ gated (e5 0 1024 _ k (by omega)) (e5 2816 1024 _ k (by omega))) (e6 0 1024 _ k (by omega))
  · exact congrArg₂ (· * ·) (congrArg₂ gated (e5 1024 1024 _ k (by omega)) (e5 3840 1024 _ k (by omega))) (e6 1024 1024 _ k (by omega))
  · exact congrArg₂ (· * ·) (congrArg₂ gated (e5 2048 768 _ k (by omega)) (e5 4864 768 _ k (by omega))) (e6 2048 768 _ k (by omega))

end Cert.Kernel3Ideal.Rows

end
-- ==== Proof.Ffn.Kernel0.lean ====
/-
  Layer 0's channel mixer, the kernel's result array: row by row the layer of the operands' rows, the operands being
  the arguments as the host prepares them.
-/
module

public import proofs.«01_k».proof.Proof.Ffn.Block0

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Rows

open Cert.Kernel3Ideal Cert.Kernel3Ideal.Gen Cert.Ffn

variable (m : (ℓ : Loc nD τ sig) → Buf (Elt Ideal) ℓ) (ρ : Dev nD → PrngReg) (c : Dev nD)

/-! The arrays the host leaves for the call, at an index. -/

theorem cast_w (A : FVec Ideal S1x2048x1024 .f32) (k : Fin 2048) (j : Fin 1024) :
    (truncf .bf16 (shapeCast S2048x1024 A shapeCasts_S1x2048x1024_S2048x1024) bitsLt_bf16_f32 : FVec Ideal S2048x1024 .bf16) (ix2 k j) = A (ix3 0 k j) := by
  pointwise

theorem w_at (k : Fin 2048) (j : Fin 1024) :
    (V m c main_v2 : S2048x1024.Idx → EReal) (ix2 k j) = (m (c.tc.loc main_arg2) : S1x2048x1024.Idx → EReal) (ix3 0 k j) := by
  have e : (V m c main_v2 : S2048x1024.Idx → EReal) = (truncf .bf16 (shapeCast S2048x1024 (m (c.tc.loc main_arg2) : FVec Ideal S1x2048x1024 .f32) shapeCasts_S1x2048x1024_S2048x1024) bitsLt_bf16_f32 : FVec Ideal S2048x1024 .bf16) := by
    unfold V; after_results <;> rfl
  rw [e]
  exact cast_w _ k j

theorem g1_at (j : Fin 1024) :
    (V m c main_v5 : S1x1024.Idx → EReal) (ix2 0 j) = (m (c.tc.loc main_arg3) : S2x4x1024.Idx → EReal) (ix3 0 1 j) := by
  have e : (V m c main_v5 : S1x1024.Idx → EReal) = (broadcastInDim S1x1024 ![1] bcast_S1024_S1x1024_1 (shapeCast S1024 (extractStridedSlice S1x1x1024 ![0, 1, 0] (m (c.tc.loc main_arg3) : FVec Ideal S2x4x1024 .f32) slices_S2x4x1024_S1x1x1024_0_1_0) shapeCasts_S1x1x1024_S1024) : FVec Ideal S1x1024 .f32) := by
    unfold V; after_results <;> rfl
  rw [e]
  pointwise

theorem g2_at (j : Fin 1024) :
    (V m c main_v8 : S1x1024.Idx → EReal) (ix2 0 j) = (m (c.tc.loc main_arg3) : S2x4x1024.Idx → EReal) (ix3 0 2 j) := by
  have e : (V m c main_v8 : S1x1024.Idx → EReal) = (broadcastInDim S1x1024 ![1] bcast_S1024_S1x1024_1 (shapeCast S1024 (extractStridedSlice S1x1x1024 ![0, 2, 0] (m (c.tc.loc main_arg3) : FVec Ideal S2x4x1024 .f32) slices_S2x4x1024_S1x1x1024_0_2_0) shapeCasts_S1x1x1024_S1024) : FVec Ideal S1x1024 .f32) := by
    unfold V; after_results <;> rfl
  rw [e]
  pointwise

theorem g3_at (j : Fin 1024) :
    (V m c main_v17 : S1x1024.Idx → EReal) (ix2 0 j) = (m (c.tc.loc main_arg3) : S2x4x1024.Idx → EReal) (ix3 0 3 j) := by
  have e : (V m c main_v17 : S1x1024.Idx → EReal) = (broadcastInDim S1x1024 ![1] bcast_S1024_S1x1024_1 (shapeCast S1024 (extractStridedSlice S1x1x1024 ![0, 3, 0] (m (c.tc.loc main_arg3) : FVec Ideal S2x4x1024 .f32) slices_S2x4x1024_S1x1x1024_0_3_0) shapeCasts_S1x1x1024_S1024) : FVec Ideal S1x1024 .f32) := by
    unfold V; after_results <;> rfl
  rw [e]
  pointwise

theorem wi_at (k : Fin 1024) (j : Fin 5632) :
    (V m c main_v11 : S1024x5632.Idx → EReal) (ix2 k j) = (m (c.tc.loc main_arg4) : S2x1024x5632.Idx → EReal) (ix3 0 k j) := by
  have e : (V m c main_v11 : S1024x5632.Idx → EReal) = (truncf .bf16 (shapeCast S1024x5632 (extractStridedSlice S1x1024x5632 ![0, 0, 0] (m (c.tc.loc main_arg4) : FVec Ideal S2x1024x5632 .f32) slices_S2x1024x5632_S1x1024x5632_0_0_0) shapeCasts_S1x1024x5632_S1024x5632) bitsLt_bf16_f32 : FVec Ideal S1024x5632 .bf16) := by
    unfold V; after_results <;> rfl
  rw [e]
  pointwise

theorem wo_at (k : Fin 2816) (j : Fin 1024) :
    (V m c main_v14 : S2816x1024.Idx → EReal) (ix2 k j) = (m (c.tc.loc main_arg5) : S2x2816x1024.Idx → EReal) (ix3 0 k j) := by
  have e : (V m c main_v14 : S2816x1024.Idx → EReal) = (truncf .bf16 (shapeCast S2816x1024 (extractStridedSlice S1x2816x1024 ![0, 0, 0] (m (c.tc.loc main_arg5) : FVec Ideal S2x2816x1024 .f32) slices_S2x2816x1024_S1x2816x1024_0_0_0) shapeCasts_S1x2816x1024_S2816x1024) bitsLt_bf16_f32 : FVec Ideal S2816x1024 .bf16) := by
    unfold V; after_results <;> rfl
  rw [e]
  pointwise

theorem cast_x (A : FVec Ideal S2x8192x1024 .f32) (R : Fin 16384) (j : Fin 1024) :
    (shapeCast S16384x1024 A shapeCasts_S2x8192x1024_S16384x1024 : FVec Ideal S16384x1024 .f32) (ix2 R j)
      = A (ix3 ⟨R.val / 8192, by omega⟩ ⟨R.val % 8192, by omega⟩ j) := by
  pointwise

theorem x_at (R : Fin 16384) (j : Fin 1024) :
    (V m c main_v0 : S16384x1024.Idx → EReal) (ix2 R j) = (m (c.tc.loc main_arg1) : S2x8192x1024.Idx → EReal) (ix3 ⟨R.val / 8192, by omega⟩ ⟨R.val % 8192, by omega⟩ j) := by
  have e : (V m c main_v0 : S16384x1024.Idx → EReal) = (shapeCast S16384x1024 (m (c.tc.loc main_arg1) : FVec Ideal S2x8192x1024 .f32) shapeCasts_S2x8192x1024_S16384x1024 : FVec Ideal S16384x1024 .f32) := by
    unfold V; after_results <;> rfl
  rw [e]
  exact cast_x _ R j

/-! The windows' blocks: point `t` reads rows 512 t … 512 t + 511 of the rows' arrays, and the weights whole. -/

theorem b0_at (t : Fin cfg0.N) (r : Fin 512) (k : Fin 2048) (h : 512 * t.val + r.val < 16384) :
    (iblk m c 0 t : S512x2048.Idx → EReal) (ix2 r k) = (m (c.tc.loc main_arg0) : S16384x2048.Idx → EReal) (ix2 ⟨512 * t.val + r.val, h⟩ k) := by
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 2048 + 1 * k.val = k.val
              rw [(by decide +kernel : ∀ t : Fin grid0.N, win0_0.index t 1 = 0) t]; omega

theorem b1_at (t : Fin cfg0.N) (r : Fin 512) (k : Fin 1024) (h : 512 * t.val + r.val < 16384) :
    (iblk m c 1 t : S512x1024.Idx → EReal) (ix2 r k) = (V m c main_v0 : S16384x1024.Idx → EReal) (ix2 ⟨512 * t.val + r.val, h⟩ k) := by
  unfold iblk
  rw [View.read_apply]
  show V m c main_v0 _ = V m c main_v0 _
  congr 1
  funext a
  apply Fin.ext
  match a with
  | ⟨0, _⟩ => show win0_1.index t 0 * 512 + 1 * r.val = 512 * t.val + r.val
              rw [(by decide +kernel : ∀ t : Fin grid0.N, win0_1.index t 0 = t.val) t]; omega
  | ⟨1, _⟩ => show win0_1.index t 1 * 1024 + 1 * k.val = k.val
              rw [(by decide +kernel : ∀ t : Fin grid0.N, win0_1.index t 1 = 0) t]; omega

theorem b2_at (t : Fin cfg0.N) (k : Fin 2048) (j : Fin 1024) :
    (iblk m c 2 t : S2048x1024.Idx → EReal) (ix2 k j) = (V m c main_v2 : S2048x1024.Idx → EReal) (ix2 k j) := by
  unfold iblk
  rw [View.read_apply]
  show V m c main_v2 _ = V m c main_v2 _
  congr 1
  funext a
  apply Fin.ext
  match a with
  | ⟨0, _⟩ => show win0_2.index t 0 * 2048 + 1 * k.val = k.val
              rw [(by decide +kernel : ∀ t : Fin grid0.N, win0_2.index t 0 = 0) t]; omega
  | ⟨1, _⟩ => show win0_2.index t 1 * 1024 + 1 * j.val = j.val
              rw [(by decide +kernel : ∀ t : Fin grid0.N, win0_2.index t 1 = 0) t]; omega

theorem b3_at (t : Fin cfg0.N) (k : Fin 1) (j : Fin 1024) :
    (iblk m c 3 t : S1x1024.Idx → EReal) (ix2 k j) = (V m c main_v5 : S1x1024.Idx → EReal) (ix2 k j) := by
  unfold iblk
  rw [View.read_apply]
  show V m c main_v5 _ = V m c main_v5 _
  congr 1
  funext a
  apply Fin.ext
  match a with
  | ⟨0, _⟩ => show win0_3.index t 0 * 1 + 1 * k.val = k.val
              rw [(by decide +kernel : ∀ t : Fin grid0.N, win0_3.index t 0 = 0) t]; omega
  | ⟨1, _⟩ => show win0_3.index t 1 * 1024 + 1 * j.val = j.val
              rw [(by decide +kernel : ∀ t : Fin grid0.N, win0_3.index t 1 = 0) t]; omega

theorem b4_at (t : Fin cfg0.N) (k : Fin 1) (j : Fin 1024) :
    (iblk m c 4 t : S1x1024.Idx → EReal) (ix2 k j) = (V m c main_v8 : S1x1024.Idx → EReal) (ix2 k j) := by
  unfold iblk
  rw [View.read_apply]
  show V m c main_v8 _ = V m c main_v8 _
  congr 1
  funext a
  apply Fin.ext
  match a with
  | ⟨0, _⟩ => show win0_4.index t 0 * 1 + 1 * k.val = k.val
              rw [(by decide +kernel : ∀ t : Fin grid0.N, win0_4.index t 0 = 0) t]; omega
  | ⟨1, _⟩ => show win0_4.index t 1 * 1024 + 1 * j.val = j.val
              rw [(by decide +kernel : ∀ t : Fin grid0.N, win0_4.index t 1 = 0) t]; omega

theorem b5_at (t : Fin cfg0.N) (k : Fin 1024) (j : Fin 5632) :
    (iblk m c 5 t : S1024x5632.Idx → EReal) (ix2 k j) = (V m c main_v11 : S1024x5632.Idx → EReal) (ix2 k j) := by
  unfold iblk
  rw [View.read_apply]
  show V m c main_v11 _ = V m c main_v11 _
  congr 1
  funext a
  apply Fin.ext
  match a with
  | ⟨0, _⟩ => show win0_5.index t 0 * 1024 + 1 * k.val = k.val
              rw [(by decide +kernel : ∀ t : Fin grid0.N, win0_5.index t 0 = 0) t]; omega
  | ⟨1, _⟩ => show win0_5.index t 1 * 5632 + 1 * j.val = j.val
              rw [(by decide +kernel : ∀ t : Fin grid0.N, win0_5.index t 1 = 0) t]; omega

theorem b6_at (t : Fin cfg0.N) (k : Fin 2816) (j : Fin 1024) :
    (iblk m c 6 t : S2816x1024.Idx → EReal) (ix2 k j) = (V m c main_v14 : S2816x1024.Idx → EReal) (ix2 k j) := by
  unfold iblk
  rw [View.read_apply]
  show V m c main_v14 _ = V m c main_v14 _
  congr 1
  funext a
  apply Fin.ext
  match a with
  | ⟨0, _⟩ => show win0_6.index t 0 * 2816 + 1 * k.val = k.val
              rw [(by decide +kernel : ∀ t : Fin grid0.N, win0_6.index t 0 = 0) t]; omega
  | ⟨1, _⟩ => show win0_6.index t 1 * 1024 + 1 * j.val = j.val
              rw [(by decide +kernel : ∀ t : Fin grid0.N, win0_6.index t 1 = 0) t]; omega

theorem b7_at (t : Fin cfg0.N) (k : Fin 1) (j : Fin 1024) :
    (iblk m c 7 t : S1x1024.Idx → EReal) (ix2 k j) = (V m c main_v17 : S1x1024.Idx → EReal) (ix2 k j) := by
  unfold iblk
  rw [View.read_apply]
  show V m c main_v17 _ = V m c main_v17 _
  congr 1
  funext a
  apply Fin.ext
  match a with
  | ⟨0, _⟩ => show win0_7.index t 0 * 1 + 1 * k.val = k.val
              rw [(by decide +kernel : ∀ t : Fin grid0.N, win0_7.index t 0 = 0) t]; omega
  | ⟨1, _⟩ => show win0_7.index t 1 * 1024 + 1 * j.val = j.val
              rw [(by decide +kernel : ∀ t : Fin grid0.N, win0_7.index t 1 = 0) t]; omega

/-- Row `R` of the residual: position `R mod 8192` of sequence `R / 8192`. -/
abbrev xrow (R : Fin 16384) : Row 1024 := fun j =>
  (m (c.tc.loc main_arg1) : S2x8192x1024.Idx → EReal) (ix3 ⟨R.val / 8192, by omega⟩ ⟨R.val % 8192, by omega⟩ j)

/-- THE RESULT at row R and column j. -/
def result : Buf (Elt Ideal) ((c : Thread nD τ).loc main_v18) := fun i =>
  layer (row (m (c.tc.loc main_arg0) : S16384x2048.Idx → EReal) (i 0)) (xrow m c (i 0))
    (fun k j => (m (c.tc.loc main_arg2) : S1x2048x1024.Idx → EReal) (ix3 0 k j))
    (fun j => (m (c.tc.loc main_arg3) : S2x4x1024.Idx → EReal) (ix3 0 1 j)) (fun j => (m (c.tc.loc main_arg3) : S2x4x1024.Idx → EReal) (ix3 0 2 j))
    (fun k j => (m (c.tc.loc main_arg4) : S2x1024x5632.Idx → EReal) (ix3 0 k j))
    (fun k j => (m (c.tc.loc main_arg5) : S2x2816x1024.Idx → EReal) (ix3 0 k j))
    (fun j => (m (c.tc.loc main_arg3) : S2x4x1024.Idx → EReal) (ix3 0 3 j)) (i 1)

/-- Point `t` writes back rows 512 t … 512 t + 511 of the result. -/
theorem flushed_eq (t : Fin cfg0.N) :
    (dats m 0 c).flushed 8 t = ((cfg0.win 8).blk t).view.read (Elt Ideal) (result m c) := by
  have ht : t.val < 32 := lt_of_lt_of_eq t.isLt N_0
  rw [Value.flushed8]
  funext i
  rw [View.read_apply]
  obtain ⟨r, j, rfl⟩ : ∃ (r : Fin 512) (j : Fin 1024), i = ix2 r j := ⟨i 0, i 1, funext fun a => by fin_cases a <;> rfl⟩
  have hR : 512 * t.val + r.val < 16384 := by omega
  have hi : (((cfg0.win 8).blk t).view.emb (ix2 r j) : S16384x1024.Idx) = ix2 ⟨512 * t.val + r.val, hR⟩ j := by
    funext a
    apply Fin.ext
    match a with
    | ⟨0, _⟩ => show win0_8.index t 0 * 512 + 1 * r.val = 512 * t.val + r.val
                rw [(by decide +kernel : ∀ t : Fin grid0.N, win0_8.index t 0 = t.val) t]; omega
    | ⟨1, _⟩ => show win0_8.index t 1 * 1024 + 1 * j.val = j.val
                rw [(by decide +kernel : ∀ t : Fin grid0.N, win0_8.index t 1 = 0) t]; omega
  refine (out_at _ _ _ _ _ _ _ _ r j).trans ?_
  refine Eq.trans ?_ (congrArg (result m c) hi).symm
  unfold result
  have e0 : row (iblk m c 0 t : S512x2048.Idx → EReal) r = row (m (c.tc.loc main_arg0) : S16384x2048.Idx → EReal) ⟨512 * t.val + r.val, hR⟩ :=
    funext fun k => b0_at m c t r k hR
  have e1 : row (iblk m c 1 t : S512x1024.Idx → EReal) r = xrow m c ⟨512 * t.val + r.val, hR⟩ :=
    funext fun k => (b1_at m c t r k hR).trans (x_at m c _ k)
  have e2 : row (iblk m c 2 t : S2048x1024.Idx → EReal) = _ := funext fun k => funext fun j => (b2_at m c t k j).trans (w_at m c k j)
  have e3 : row (iblk m c 3 t : S1x1024.Idx → EReal) 0 = _ := funext fun j => (b3_at m c t 0 j).trans (g1_at m c j)
  have e4 : row (iblk m c 4 t : S1x1024.Idx → EReal) 0 = _ := funext fun j => (b4_at m c t 0 j).trans (g2_at m c j)
  have e5 : row (iblk m c 5 t : S1024x5632.Idx → EReal) = _ := funext fun k => funext fun j => (b5_at m c t k j).trans (wi_at m c k j)
  have e6 : row (iblk m c 6 t : S2816x1024.Idx → EReal) = _ := funext fun k => funext fun j => (b6_at m c t k j).trans (wo_at m c k j)
  have e7 : row (iblk m c 7 t : S1x1024.Idx → EReal) 0 = _ := funext fun j => (b7_at m c t 0 j).trans (g3_at m c j)
  rw [e0, e1, e2, e3, e4, e5, e6, e7]
  rfl

/-- So the result array ends at the result: the points' blocks cover it. -/
theorem final : (dats m 0 c).arrAt 8 cfg0.N = result m c :=
  (dats m 0 c).arrAt_eq_of_cover 8 (result m c) (fun t _ => flushed_eq m c t) fun i => by
    have h0 : (i 0 : Nat) < 16384 := (i 0).isLt
    have h1 : (i 1 : Nat) < 1024 := (i 1).isLt
    have hN : cfg0.N = 32 := N_0
    let t : Fin cfg0.N := ⟨(i 0 : Nat) / 512, by omega⟩
    refine ⟨t, flush0_8 t, ?_⟩
    show i ∈ ((View.whole main_v18).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [(by decide +kernel : ∀ t : Fin grid0.N, win0_8.index t 0 = t.val) t]
                show (i 0 : Nat) / 512 * 512 ≤ (i 0 : Nat) ∧ _
                have : (t : Nat) = (i 0 : Nat) / 512 := rfl
                omega
    | ⟨1, _⟩ => show win0_8.index t 1 * 1024 ≤ (i 1 : Nat) ∧ (i 1 : Nat) < win0_8.index t 1 * 1024 + 1024
                rw [(by decide +kernel : ∀ t : Fin grid0.N, win0_8.index t 1 = 0) t]; omega

end Cert.Kernel3Ideal.Rows

end
-- ==== Proof.Ffn.Ref0.lean ====
/-
  Layer 0's channel mixer, the reference's side: its result, read row by row, is the layer's row of the arguments' rows.
-/
module

public import proofs.«01_k».proof.Proof.Gen.Reference3Ideal.Run
public import proofs.«01_k».proof.Proof.Ffn.Spec
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.Reference3Ideal.Rows

open Cert.Reference3Ideal Cert.Reference3Ideal.Gen Cert.Ffn

/-- Row `r` of a two-axis array. -/
abbrev row {n k : ℕ} (A : (⟨2, ![n, k]⟩ : Shape).Idx → EReal) (r : Fin n) : Row k := fun j => A (ix2 r j)

/-- The reference's normalisation: every row over the root of its mean square, times the gain. -/
def rmsnorm (v : FVec Ideal S16384x1024 .f32) (g : FVec Ideal S1024 .f32) : FVec Ideal S16384x1024 .f32 :=
  mulf (mulf v (broadcastInDim S16384x1024 ![0, 1] bcast_S16384x1_S16384x1024_0_1 (Host.rsqrt (addf
    (Host.divf (broadcastInDim S16384x1 ![0] bcast_S16384_S16384x1_0 (Host.reduceAdd (mulf v v) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem rmsnorm_at (v : FVec Ideal S16384x1024 .f32) (g : FVec Ideal S1024 .f32) (R : Fin 16384) (j : Fin 1024) :
    rmsnorm v g (ix2 R j) = norm (row v R) (fun j => g (ix1 j)) j := by
  unfold rmsnorm
  pointwise
  rfl

/-- The reference's gated unit, of the wide product. -/
def gate (G : FVec Ideal S16384x5632 .f32) : FVec Ideal S16384x2816 .f32 :=
  mulf (mulf (extractStridedSlice S16384x2816 ![0, 0] G slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] G slices_S16384x5632_S16384x2816_0_0))))))
    (extractStridedSlice S16384x2816 ![0, 2816] G slices_S16384x5632_S16384x2816_0_2816)

theorem gate_at (G : FVec Ideal S16384x5632 .f32) (R : Fin 16384) (k : Fin 2816) :
    gate G (ix2 R k) = gated (G (ix2 R ⟨k.val, by omega⟩)) (G (ix2 R ⟨k.val + 2816, by omega⟩)) := by
  unfold gate
  pointwise
  exact congrArg (fun q => G (ix2 R ⟨k.val, by omega⟩) * Ideal.logistic (G (ix2 R ⟨k.val, by omega⟩)) * G (ix2 R q)) (Fin.ext (Nat.add_comm 2816 k.val))

/-- The wide product, and the product back to the model's width. -/
def wide (h : FVec Ideal S16384x1024 .f32) (W : FVec Ideal S1024x5632 .f32) : FVec Ideal S16384x5632 .f32 :=
  Host.dotGeneral dot_S16384x1024_S1024x5632_S16384x5632_1_0_0_1_n_n none h W
def back (a : FVec Ideal S16384x2816 .f32) (W : FVec Ideal S2816x1024 .f32) : FVec Ideal S16384x1024 .f32 :=
  Host.dotGeneral dot_S16384x2816_S2816x1024_S16384x1024_1_0_0_1_n_n none a W
def outp (y : FVec Ideal S16384x2048 .f32) (W : FVec Ideal S2048x1024 .f32) : FVec Ideal S16384x1024 .f32 :=
  Host.dotGeneral dot_S16384x2048_S2048x1024_S16384x1024_1_0_0_1_n_n none y W

theorem wide_at (h : FVec Ideal S16384x1024 .f32) (W : FVec Ideal S1024x5632 .f32) (R : Fin 16384) (j : Fin 5632) :
    wide h W (ix2 R j) = proj (row h R) (row W) j := by
  unfold wide
  pointwise
  rfl
theorem back_at (a : FVec Ideal S16384x2816 .f32) (W : FVec Ideal S2816x1024 .f32) (R : Fin 16384) (j : Fin 1024) :
    back a W (ix2 R j) = proj (row a R) (row W) j := by
  unfold back
  pointwise
  rfl
theorem outp_at (y : FVec Ideal S16384x2048 .f32) (W : FVec Ideal S2048x1024 .f32) (R : Fin 16384) (j : Fin 1024) :
    outp y W (ix2 R j) = proj (row y R) (row W) j := by
  unfold outp
  pointwise
  rfl

/-- The reference's layer. -/
def refLayer (y : FVec Ideal S16384x2048 .f32) (x : FVec Ideal S16384x1024 .f32) (W : FVec Ideal S2048x1024 .f32)
    (g1 g2 : FVec Ideal S1024 .f32) (Wi : FVec Ideal S1024x5632 .f32) (Wo : FVec Ideal S2816x1024 .f32) (g3 : FVec Ideal S1024 .f32) :
    FVec Ideal S16384x1024 .f32 :=
  addf (addf x (rmsnorm (outp y W) g1))
    (rmsnorm (back (gate (wide (rmsnorm (addf x (rmsnorm (outp y W) g1)) g2) Wi)) Wo) g3)

theorem refLayer_at (y : FVec Ideal S16384x2048 .f32) (x : FVec Ideal S16384x1024 .f32) (W : FVec Ideal S2048x1024 .f32)
    (g1 g2 : FVec Ideal S1024 .f32) (Wi : FVec Ideal S1024x5632 .f32) (Wo : FVec Ideal S2816x1024 .f32) (g3 : FVec Ideal S1024 .f32)
    (R : Fin 16384) (j : Fin 1024) :
    refLayer y x W g1 g2 Wi Wo g3 (ix2 R j)
      = layer (row y R) (row x R) (row W) (fun j => g1 (ix1 j)) (fun j => g2 (ix1 j)) (row Wi) (row Wo) (fun j => g3 (ix1 j)) j := by
  have e1 : row (outp y W) R = proj (row y R) (row W) := funext fun j => outp_at y W R j
  have e2 : row (addf x (rmsnorm (outp y W) g1)) R = mix (row y R) (row x R) (row W) (fun j => g1 (ix1 j)) := funext fun j => by
    show x (ix2 R j) + rmsnorm (outp y W) g1 (ix2 R j) = _
    rw [rmsnorm_at, e1]; rfl
  unfold refLayer layer
  show addf x (rmsnorm (outp y W) g1) (ix2 R j) + _ = _
  rw [show addf x (rmsnorm (outp y W) g1) (ix2 R j) = _ from congrFun e2 j, rmsnorm_at]
  refine congrArg (mix _ _ _ _ j + ·) (congrFun (congrArg (fun v => norm v _) (funext fun j => ?_)) j)
  show back _ Wo (ix2 R j) = _
  rw [back_at]
  refine congrFun (congrArg (fun v => proj v (row Wo)) (funext fun k => ?_)) j
  show gate _ (ix2 R k) = act _ _ k
  rw [gate_at, wide_at, wide_at]
  have e3 : row (rmsnorm (addf x (rmsnorm (outp y W) g1)) g2) R = norm (mix (row y R) (row x R) (row W) (fun j => g1 (ix1 j))) (fun j => g2 (ix1 j)) :=
    funext fun j => by
      show rmsnorm _ g2 (ix2 R j) = _
      rw [rmsnorm_at, e2]
  rw [e3]
  rfl

/-! The arguments as the reference prepares them, at an index. -/

theorem w_at (A : FVec Ideal S1x2048x1024 .f32) (k : Fin 2048) (j : Fin 1024) :
    (shapeCast S2048x1024 A shapeCasts_S1x2048x1024_S2048x1024 : FVec Ideal S2048x1024 .f32) (ix2 k j) = A (ix3 0 k j) := by
  pointwise
theorem g1_at (A : FVec Ideal S2x4x1024 .f32) (j : Fin 1024) :
    (shapeCast S1024 (extractStridedSlice S1x1x1024 ![0, 1, 0] A slices_S2x4x1024_S1x1x1024_0_1_0) shapeCasts_S1x1x1024_S1024 : FVec Ideal S1024 .f32) (ix1 j) = A (ix3 0 1 j) := by
  pointwise
theorem g2_at (A : FVec Ideal S2x4x1024 .f32) (j : Fin 1024) :
    (shapeCast S1024 (extractStridedSlice S1x1x1024 ![0, 2, 0] A slices_S2x4x1024_S1x1x1024_0_2_0) shapeCasts_S1x1x1024_S1024 : FVec Ideal S1024 .f32) (ix1 j) = A (ix3 0 2 j) := by
  pointwise
theorem g3_at (A : FVec Ideal S2x4x1024 .f32) (j : Fin 1024) :
    (shapeCast S1024 (extractStridedSlice S1x1x1024 ![0, 3, 0] A slices_S2x4x1024_S1x1x1024_0_3_0) shapeCasts_S1x1x1024_S1024 : FVec Ideal S1024 .f32) (ix1 j) = A (ix3 0 3 j) := by
  pointwise
theorem wi_at (A : FVec Ideal S2x1024x5632 .f32) (k : Fin 1024) (j : Fin 5632) :
    (shapeCast S1024x5632 (extractStridedSlice S1x1024x5632 ![0, 0, 0] A slices_S2x1024x5632_S1x1024x5632_0_0_0) shapeCasts_S1x1024x5632_S1024x5632 : FVec Ideal S1024x5632 .f32) (ix2 k j) = A (ix3 0 k j) := by
  pointwise
theorem wo_at (A : FVec Ideal S2x2816x1024 .f32) (k : Fin 2816) (j : Fin 1024) :
    (shapeCast S2816x1024 (extractStridedSlice S1x2816x1024 ![0, 0, 0] A slices_S2x2816x1024_S1x2816x1024_0_0_0) shapeCasts_S1x2816x1024_S2816x1024 : FVec Ideal S2816x1024 .f32) (ix2 k j) = A (ix3 0 k j) := by
  pointwise
theorem x_at (A : FVec Ideal S2x8192x1024 .f32) (R : Fin 16384) (j : Fin 1024) :
    (shapeCast S16384x1024 A shapeCasts_S2x8192x1024_S16384x1024 : FVec Ideal S16384x1024 .f32) (ix2 R j)
      = A (ix3 ⟨R.val / 8192, by omega⟩ ⟨R.val % 8192, by omega⟩ j) := by
  pointwise

variable (m : (ℓ : Loc nD τ sig) → Buf (Elt Ideal) ℓ) (c : Dev nD)

/-- THE RESULT at row R and column j. -/
theorem res_at (R : Fin 16384) (j : Fin 1024) :
    (Value.res_out0 m c : S16384x1024.Idx → EReal) (ix2 R j)
      = layer (row (m (c.tc.loc main_arg0) : S16384x2048.Idx → EReal) R) (fun j => (m (c.tc.loc main_arg1) : S2x8192x1024.Idx → EReal) (ix3 ⟨R.val / 8192, by omega⟩ ⟨R.val % 8192, by omega⟩ j))
    (fun k j => (m (c.tc.loc main_arg2) : S1x2048x1024.Idx → EReal) (ix3 0 k j))
    (fun j => (m (c.tc.loc main_arg3) : S2x4x1024.Idx → EReal) (ix3 0 1 j)) (fun j => (m (c.tc.loc main_arg3) : S2x4x1024.Idx → EReal) (ix3 0 2 j))
    (fun k j => (m (c.tc.loc main_arg4) : S2x1024x5632.Idx → EReal) (ix3 0 k j))
    (fun k j => (m (c.tc.loc main_arg5) : S2x2816x1024.Idx → EReal) (ix3 0 k j))
    (fun j => (m (c.tc.loc main_arg3) : S2x4x1024.Idx → EReal) (ix3 0 3 j)) j := by
  have e : (Value.res_out0 m c : S16384x1024.Idx → EReal) = refLayer (extf .f32 (m (c.tc.loc main_arg0) : FVec Ideal S16384x2048 .bf16) bitsLt_bf16_f32)
      (shapeCast S16384x1024 (m (c.tc.loc main_arg1) : FVec Ideal S2x8192x1024 .f32) shapeCasts_S2x8192x1024_S16384x1024)
      (shapeCast S2048x1024 (m (c.tc.loc main_arg2) : FVec Ideal S1x2048x1024 .f32) shapeCasts_S1x2048x1024_S2048x1024)
      (shapeCast S1024 (extractStridedSlice S1x1x1024 ![0, 1, 0] (m (c.tc.loc main_arg3) : FVec Ideal S2x4x1024 .f32) slices_S2x4x1024_S1x1x1024_0_1_0) shapeCasts_S1x1x1024_S1024)
      (shapeCast S1024 (extractStridedSlice S1x1x1024 ![0, 2, 0] (m (c.tc.loc main_arg3) : FVec Ideal S2x4x1024 .f32) slices_S2x4x1024_S1x1x1024_0_2_0) shapeCasts_S1x1x1024_S1024)
      (shapeCast S1024x5632 (extractStridedSlice S1x1024x5632 ![0, 0, 0] (m (c.tc.loc main_arg4) : FVec Ideal S2x1024x5632 .f32) slices_S2x1024x5632_S1x1024x5632_0_0_0) shapeCasts_S1x1024x5632_S1024x5632)
      (shapeCast S2816x1024 (extractStridedSlice S1x2816x1024 ![0, 0, 0] (m (c.tc.loc main_arg5) : FVec Ideal S2x2816x1024 .f32) slices_S2x2816x1024_S1x2816x1024_0_0_0) shapeCasts_S1x2816x1024_S2816x1024)
      (shapeCast S1024 (extractStridedSlice S1x1x1024 ![0, 3, 0] (m (c.tc.loc main_arg3) : FVec Ideal S2x4x1024 .f32) slices_S2x4x1024_S1x1x1024_0_3_0) shapeCasts_S1x1x1024_S1024) := by
    unfold Value.res_out0 Value.res_main_v60
    rfl
  rw [e, refLayer_at]
  have ew : row (shapeCast S2048x1024 (m (c.tc.loc main_arg2) : FVec Ideal S1x2048x1024 .f32) shapeCasts_S1x2048x1024_S2048x1024) = _ :=
    funext fun k => funext fun j => w_at _ k j
  have ei : row (shapeCast S1024x5632 (extractStridedSlice S1x1024x5632 ![0, 0, 0] (m (c.tc.loc main_arg4) : FVec Ideal S2x1024x5632 .f32) slices_S2x1024x5632_S1x1024x5632_0_0_0) shapeCasts_S1x1024x5632_S1024x5632) = _ :=
    funext fun k => funext fun j => wi_at _ k j
  have eo : row (shapeCast S2816x1024 (extractStridedSlice S1x2816x1024 ![0, 0, 0] (m (c.tc.loc main_arg5) : FVec Ideal S2x2816x1024 .f32) slices_S2x2816x1024_S1x2816x1024_0_0_0) shapeCasts_S1x2816x1024_S2816x1024) = _ :=
    funext fun k => funext fun j => wo_at _ k j
  have ex : row (shapeCast S16384x1024 (m (c.tc.loc main_arg1) : FVec Ideal S2x8192x1024 .f32) shapeCasts_S2x8192x1024_S16384x1024) R = _ := funext fun j => x_at _ R j
  rw [ew, ei, eo, ex]
  simp only [g1_at, g2_at, g3_at]
  rfl

end Cert.Reference3Ideal.Rows

end
-- ==== Proof.Ffn.Claim0.lean ====
/-
  The claims about layer 0's channel mixer: the three frames, and the value — the kernel's result array and the
  reference's are the same rows.
-/
module

public import proofs.«01_k».proof.Defs
public import proofs.«01_k».proof.Proof.Ffn.Kernel0
public import proofs.«01_k».proof.Proof.Ffn.Ref0
public import proofs.«01_k».proof.Proof.Gen.Kernel3.Frame
public import proofs.«01_k».proof.Proof.Gen.Kernel3Ideal.Frame

@[expose] public section

set_option maxRecDepth 16384

noncomputable section

open Idealize.ShloMosaic Idealize.SL.Sem

namespace Cert.Proof.Ffn0

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

theorem preserves : Cert.preserves_Kernel3_Kernel3Ideal := trivial

/-- Where the arguments agree the two results are one array. -/
theorem same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev 1)
    (h0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3)
      = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4)
      = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5)
      = m ((c.tc : Thread Cert.Kernel3Ideal.nD Cert.Kernel3Ideal.τ).loc Cert.Kernel3Ideal.main_arg5)) :
    (Cert.Reference3Ideal.Value.res_out0 m' c : Cert.Reference3Ideal.S16384x1024.Idx → EReal)
      = Cert.Kernel3Ideal.Rows.result m c := by
  funext i
  obtain ⟨r, j, rfl⟩ : ∃ (r : Fin 16384) (j : Fin 1024), i = (ix2 r j : Cert.Reference3Ideal.S16384x1024.Idx) :=
    ⟨i 0, i 1, (ix2_eta (n0 := 16384) (n1 := 1024) i).symm⟩
  refine (Cert.Reference3Ideal.Rows.res_at m' c r j).trans ?_
  rw [h0, h1, h2, h3, h4, h5]
  rfl

theorem algebraic : Cert.algebraic_Kernel3Ideal_Reference3Ideal := by
  intro m g m' g' _ hagree
  refine ⟨fun c => Cert.Kernel3Ideal.Rows.result m c, ?_, ?_⟩
  · exact (θ_run Cert.Kernel3Ideal.defs _ _).mono
      (fun _ h c => ⟨(h c).1.trans (Cert.Kernel3Ideal.Rows.final m c), (h c).2⟩) (Cert.Kernel3Ideal.Value.run_blocks m g)
  · refine (θ_run Cert.Reference3Ideal.defs _ _).mono (fun _ h c => ⟨(h c).1.trans ?_, (h c).2⟩)
      (Cert.Reference3Ideal.Value.run (F := Ideal) m' g')
    obtain ⟨h0, h1, h2, h3, h4, h5⟩ := hagree c
    exact same m m' c h0 h1 h2 h3 h4 h5

end Cert.Proof.Ffn0

end
-- ==== Proof.Proj.Spec.lean ====
/-
  The retention's projections, row by row over the extended reals: a normalised row times the weight gives queries, keys,
  values and gates side by side; the queries and the keys, in heads of 256 columns, are turned pairwise by the angles of
  the row's position, column `d` of a head with column `d + 128`; the keys are scaled down by sixteen.
-/
module

public import proofs.«01_k».proof.Proof.Ffn.Spec

@[expose] public section

noncomputable section

open Idealize.ShloMosaic
open scoped BigOperators

namespace Cert.Proj

open Cert.Ffn

/-- The factor of a column of the queries or the keys: one, or a sixteenth. -/
def scale (o : ℕ) : EReal := if o < 1024 then Ideal.ofBits FTy.f32 0x3F800000#32 else Ideal.ofBits FTy.f32 0x3D800000#32

/-- A projected row with its queries and keys turned by the angles whose cosines and sines are given. -/
def turn (A : Row 6144) (C S : Row 128) (o : Fin 6144) : EReal :=
  if h : o.val < 2048 then
    if h' : o.val % 256 < 128 then
      (A o * C ⟨o.val % 256, h'⟩ - A ⟨o.val + 128, by omega⟩ * S ⟨o.val % 256, h'⟩) * scale o.val
    else
      (A ⟨o.val - 128, by omega⟩ * S ⟨o.val % 256 - 128, by omega⟩ + A o * C ⟨o.val % 256 - 128, by omega⟩) * scale o.val
  else A o

theorem turn_lo (A : Row 6144) (C S : Row 128) (h : Fin 8) (j : Fin 128) :
    turn A C S ⟨256 * h.val + j.val, by omega⟩
      = (A ⟨256 * h.val + j.val, by omega⟩ * C j - A ⟨256 * h.val + (j.val + 128), by omega⟩ * S j) * scale (256 * h.val + j.val) := by
  have e : (256 * h.val + j.val) % 256 = j.val := by omega
  unfold turn
  rw [dif_pos (by show 256 * h.val + j.val < 2048; omega), dif_pos (by show (256 * h.val + j.val) % 256 < 128; omega)]
  simp only [e, add_assoc]

theorem turn_hi (A : Row 6144) (C S : Row 128) (h : Fin 8) (j : Fin 128) :
    turn A C S ⟨256 * h.val + 128 + j.val, by omega⟩
      = (A ⟨256 * h.val + j.val, by omega⟩ * S j + A ⟨256 * h.val + (j.val + 128), by omega⟩ * C j) * scale (256 * h.val + 128 + j.val) := by
  have e : (256 * h.val + 128 + j.val) % 256 = j.val + 128 := by omega
  have e1 : 256 * h.val + 128 + j.val - 128 = 256 * h.val + j.val := by omega
  have e2 : 256 * h.val + 128 + j.val = 256 * h.val + (j.val + 128) := by omega
  unfold turn
  rw [dif_pos (by show 256 * h.val + 128 + j.val < 2048; omega), dif_neg (by show ¬ (256 * h.val + 128 + j.val) % 256 < 128; omega)]
  simp only [e, e1, Nat.add_sub_cancel]
  simp only [e2]

theorem turn_rest (A : Row 6144) (C S : Row 128) (o : Fin 6144) (h : 2048 ≤ o.val) : turn A C S o = A o :=
  dif_neg (by omega)

end Cert.Proj

end
-- ==== Proof.Proj.Block.lean ====
/-
  The projections' kernel, one block of 512 rows: every store's word at an index, and the stored block as the turned
  projections of the block's normalised rows.
-/
module

public import proofs.«01_k».proof.Proof.Gen.Kernel4Ideal.Value
public import proofs.«01_k».proof.Proof.Proj.Spec
public import Idealize.ShloMosaic.Lib.Pointwise
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel4Ideal.Rows

open Cert.Kernel4Ideal Cert.Kernel4Ideal.Gen Cert.Ffn Cert.Proj

/-- Row `r` of a block, as a row of extended reals. -/
abbrev row {n k : ℕ} (A : (⟨2, ![n, k]⟩ : Shape).Idx → EReal) (r : Fin n) : Row k := fun j => A (ix2 r j)

/-! ## The stores' words -/

/-- The first half of a head, turned: its product's two halves times the cosines and the sines, subtracted, times a factor. -/
def lo (b : BitVec 32) (H : FVec Ideal S512x1024 .bf16) (C S : FVec Ideal S512x128 .f32) (w : Vec Ideal S1024x256 .bf16) : FVec Ideal S512x128 .bf16 :=
  truncf .bf16 (mulf (subf (mulf (k0_pay10 (F := Ideal) H w) C) (mulf (k0_pay11 (F := Ideal) H w) S)) (broadcast S512x128 (Scalar.ofBits .f32 b : Ideal .f32))) bitsLt_bf16_f32

/-- The second half of a head, turned. -/
def hi (b : BitVec 32) (H : FVec Ideal S512x1024 .bf16) (C S : FVec Ideal S512x128 .f32) (w : Vec Ideal S1024x256 .bf16) : FVec Ideal S512x128 .bf16 :=
  truncf .bf16 (mulf (addf (mulf (k0_pay10 (F := Ideal) H w) S) (mulf (k0_pay11 (F := Ideal) H w) C)) (broadcast S512x128 (Scalar.ofBits .f32 b : Ideal .f32))) bitsLt_bf16_f32

theorem half0_at (H : FVec Ideal S512x1024 .bf16) (w : Vec Ideal S1024x256 .bf16) (r : Fin 512) (j : Fin 128) :
    k0_pay10 (F := Ideal) H w (ix2 r j) = ∑ k : Fin 1024, H (ix2 r k) * w (ix2 k ⟨j.val, by omega⟩) := by
  unfold k0_pay10 k0_pay9
  pointwise

theorem half1_at (H : FVec Ideal S512x1024 .bf16) (w : Vec Ideal S1024x256 .bf16) (r : Fin 512) (j : Fin 128) :
    k0_pay11 (F := Ideal) H w (ix2 r j) = ∑ k : Fin 1024, H (ix2 r k) * w (ix2 k ⟨j.val + 128, by omega⟩) := by
  unfold k0_pay11 k0_pay9
  pointwise
  exact Finset.sum_congr rfl fun k _ => congrArg (fun q => H (ix2 r k) * w (ix2 k q)) (Fin.ext (Nat.add_comm _ _))

theorem lo_at (b : BitVec 32) (H : FVec Ideal S512x1024 .bf16) (C S : FVec Ideal S512x128 .f32) (w : Vec Ideal S1024x256 .bf16) (r : Fin 512) (j : Fin 128) :
    lo b H C S w (ix2 r j) = ((∑ k : Fin 1024, H (ix2 r k) * w (ix2 k ⟨j.val, by omega⟩)) * C (ix2 r j)
      - (∑ k : Fin 1024, H (ix2 r k) * w (ix2 k ⟨j.val + 128, by omega⟩)) * S (ix2 r j)) * Ideal.ofBits FTy.f32 b := by
  rw [← half0_at, ← half1_at]
  rfl

theorem hi_at (b : BitVec 32) (H : FVec Ideal S512x1024 .bf16) (C S : FVec Ideal S512x128 .f32) (w : Vec Ideal S1024x256 .bf16) (r : Fin 512) (j : Fin 128) :
    hi b H C S w (ix2 r j) = ((∑ k : Fin 1024, H (ix2 r k) * w (ix2 k ⟨j.val, by omega⟩)) * S (ix2 r j)
      + (∑ k : Fin 1024, H (ix2 r k) * w (ix2 k ⟨j.val + 128, by omega⟩)) * C (ix2 r j)) * Ideal.ofBits FTy.f32 b := by
  rw [← half0_at, ← half1_at]
  rfl

theorem wide_at (H : FVec Ideal S512x1024 .bf16) (w : Vec Ideal S1024x512 .bf16) (r : Fin 512) (j : Fin 512) :
    k0_pay44 (F := Ideal) H w (ix2 r j) = ∑ k : Fin 1024, H (ix2 r k) * w (ix2 k j) := by
  unfold k0_pay44
  pointwise

theorem pay1_at (X : Vec Ideal S512x1024 .f32) (G : Vec Ideal S1x1024 .f32) (r : Fin 512) (j : Fin 1024) :
    k0_pay1 (F := Ideal) X G (ix2 r j) = norm (row X r) (row G 0) j := by
  unfold k0_pay1
  pointwise
  rfl

theorem pay2_eq (C : Vec Ideal S512x128 .f32) : k0_pay2 (F := Ideal) C = C := by
  funext x
  obtain ⟨r, j, rfl⟩ : ∃ (r : Fin 512) (j : Fin 128), x = ix2 r j := ⟨x 0, x 1, funext fun a => by fin_cases a <;> rfl⟩
  unfold k0_pay2
  pointwise

theorem pay3_eq (C : Vec Ideal S512x128 .f32) : k0_pay3 (F := Ideal) C = C := pay2_eq C

/-! ## The block -/

/-- The block of turned projections. -/
def block (x0 : Vec Ideal S512x1024 .f32) (x1 : Vec Ideal S1x1024 .f32) (x2 : Vec Ideal S1024x6144 .bf16) (x3 x4 : Vec Ideal S512x128 .f32) :
    S512x6144.Idx → EReal := fun y =>
  turn (proj (norm (row x0 (y 0)) (row x1 0)) (row x2)) (row x3 (y 0)) (row x4 (y 0)) (y 1)

theorem ld_w {n : ℕ} (x2 : Vec Ideal S1024x6144 .bf16) (off : ℕ) (inb : ∀ a, (![0, off] : Fin 2 → ℕ) a + (![1024, n] : Fin 2 → ℕ) a ≤ S1024x6144.size a)
    (k : Fin 1024) (j : Fin n) (h : off + j.val < 6144) :
    View.ld x2 (Rect.unit (s := S1024x6144) ![0, off] ![1024, n] inb) (ix2 k j) = x2 (ix2 k ⟨off + j.val, h⟩) := by
  refine View.ld_unit_apply_of _ _ _ _ _ _ fun a => ?_
  match a with
  | ⟨0, _⟩ => exact (Nat.zero_add _).symm
  | ⟨1, _⟩ => rfl

theorem emb_at {n : ℕ} (off : ℕ) (inb : ∀ a, (![0, off] : Fin 2 → ℕ) a + (![512, n] : Fin 2 → ℕ) a ≤ S512x6144.size a)
    (r : Fin 512) (j : Fin n) (h : off + j.val < 6144) :
    ((Rect.unit (s := S512x6144) ![0, off] ![512, n] inb).emb (ix2 r j) : S512x6144.Idx) = ix2 r ⟨off + j.val, h⟩ := by
  funext a
  apply Fin.ext
  refine (Rect.idx_unit_val (s := S512x6144) ![0, off] ![512, n] inb (ix2 r j) a).trans ?_
  match a with
  | ⟨0, _⟩ => exact Nat.zero_add _
  | ⟨1, _⟩ => rfl

theorem proj_at (x0 : Vec Ideal S512x1024 .f32) (x1 : Vec Ideal S1x1024 .f32) (x2 : Vec Ideal S1024x6144 .bf16) {n : ℕ} (off : ℕ)
    (inb : ∀ a, (![0, off] : Fin 2 → ℕ) a + (![1024, n] : Fin 2 → ℕ) a ≤ S1024x6144.size a) (r : Fin 512) (j : Fin n) (h : off + j.val < 6144) :
    (∑ k : Fin 1024, k0_pay1 (F := Ideal) x0 x1 (ix2 r k) * View.ld x2 (Rect.unit (s := S1024x6144) ![0, off] ![1024, n] inb) (ix2 k j))
      = proj (norm (row x0 r) (row x1 0)) (row x2) ⟨off + j.val, h⟩ :=
  Finset.sum_congr rfl fun k _ => congrArg₂ (· * ·) (pay1_at x0 x1 r k) (ld_w x2 off inb k j h)

/-- The factor's pattern of a head's columns: four heads of queries, four of keys. -/
def factor (h : ℕ) : BitVec 32 := if h < 4 then 0x3F800000#32 else 0x3D800000#32

theorem factor_eq (h o : ℕ) (h1 : 256 * h ≤ o) (h2 : o < 256 * h + 256) : Ideal.ofBits FTy.f32 (factor h) = scale o := by
  unfold factor scale
  by_cases hh : h < 4
  · rw [if_pos hh, if_pos (by omega)]
  · rw [if_neg hh, if_neg (by omega)]

section
variable (x0 : Vec Ideal S512x1024 .f32) (x1 : Vec Ideal S1x1024 .f32) (x2 : Vec Ideal S1024x6144 .bf16) (x3 x4 : Vec Ideal S512x128 .f32)

theorem lo_piece (h : Fin 8) (offw offo : ℕ) (b : BitVec 32) (hw : offw = 256 * h.val) (ho : offo = 256 * h.val) (hb : b = factor h.val)
    (inw : ∀ a, (![0, offw] : Fin 2 → ℕ) a + (![1024, 256] : Fin 2 → ℕ) a ≤ S1024x6144.size a)
    (ino : ∀ a, (![0, offo] : Fin 2 → ℕ) a + (![512, 128] : Fin 2 → ℕ) a ≤ S512x6144.size a) (x : S512x128.Idx) :
    lo b (k0_pay1 (F := Ideal) x0 x1) x3 x4 (View.ld x2 (Rect.unit (s := S1024x6144) ![0, offw] ![1024, 256] inw)) x
      = block x0 x1 x2 x3 x4 ((Rect.unit (s := S512x6144) ![0, offo] ![512, 128] ino).emb x) := by
  subst hw ho hb
  obtain ⟨r, j, rfl⟩ : ∃ (r : Fin 512) (j : Fin 128), x = ix2 r j := ⟨x 0, x 1, funext fun a => by fin_cases a <;> rfl⟩
  refine (lo_at _ _ _ _ _ r j).trans ?_
  refine Eq.trans ?_ (congrArg (block x0 x1 x2 x3 x4) (emb_at (256 * h.val) ino r j (by omega))).symm
  refine Eq.trans ?_ (turn_lo _ _ _ h j).symm
  rw [factor_eq h.val (256 * h.val + j.val) (by omega) (by omega)]
  have e0 := proj_at x0 x1 x2 (256 * h.val) inw r (⟨j.val, by omega⟩ : Fin 256) (by show 256 * h.val + j.val < 6144; omega)
  have e1 := proj_at x0 x1 x2 (256 * h.val) inw r (⟨j.val + 128, by omega⟩ : Fin 256) (by show 256 * h.val + (j.val + 128) < 6144; omega)
  exact congrArg (· * _) (congrArg₂ (· - ·) (congrArg (· * x3 (ix2 r j)) e0) (congrArg (· * x4 (ix2 r j)) e1))

theorem hi_piece (h : Fin 8) (offw offo : ℕ) (b : BitVec 32) (hw : offw = 256 * h.val) (ho : offo = 256 * h.val + 128) (hb : b = factor h.val)
    (inw : ∀ a, (![0, offw] : Fin 2 → ℕ) a + (![1024, 256] : Fin 2 → ℕ) a ≤ S1024x6144.size a)
    (ino : ∀ a, (![0, offo] : Fin 2 → ℕ) a + (![512, 128] : Fin 2 → ℕ) a ≤ S512x6144.size a) (x : S512x128.Idx) :
    hi b (k0_pay1 (F := Ideal) x0 x1) x3 x4 (View.ld x2 (Rect.unit (s := S1024x6144) ![0, offw] ![1024, 256] inw)) x
      = block x0 x1 x2 x3 x4 ((Rect.unit (s := S512x6144) ![0, offo] ![512, 128] ino).emb x) := by
  subst hw ho hb
  obtain ⟨r, j, rfl⟩ : ∃ (r : Fin 512) (j : Fin 128), x = ix2 r j := ⟨x 0, x 1, funext fun a => by fin_cases a <;> rfl⟩
  refine (hi_at _ _ _ _ _ r j).trans ?_
  refine Eq.trans ?_ (congrArg (block x0 x1 x2 x3 x4) (emb_at (256 * h.val + 128) ino r j (by omega))).symm
  refine Eq.trans ?_ (turn_hi _ _ _ h j).symm
  rw [factor_eq h.val (256 * h.val + 128 + j.val) (by omega) (by omega)]
  have e0 := proj_at x0 x1 x2 (256 * h.val) inw r (⟨j.val, by omega⟩ : Fin 256) (by show 256 * h.val + j.val < 6144; omega)
  have e1 := proj_at x0 x1 x2 (256 * h.val) inw r (⟨j.val + 128, by omega⟩ : Fin 256) (by show 256 * h.val + (j.val + 128) < 6144; omega)
  exact congrArg (· * _) (congrArg₂ (· + ·) (congrArg (· * x4 (ix2 r j)) e0) (congrArg (· * x3 (ix2 r j)) e1))

theorem wide_piece (off : ℕ) (h1 : 2048 ≤ off) (h2 : off ≤ 5632) (inw : ∀ a, (![0, off] : Fin 2 → ℕ) a + (![1024, 512] : Fin 2 → ℕ) a ≤ S1024x6144.size a)
    (ino : ∀ a, (![0, off] : Fin 2 → ℕ) a + (![512, 512] : Fin 2 → ℕ) a ≤ S512x6144.size a) (x : S512x512.Idx) :
    k0_pay44 (F := Ideal) (k0_pay1 (F := Ideal) x0 x1) (View.ld x2 (Rect.unit (s := S1024x6144) ![0, off] ![1024, 512] inw)) x
      = block x0 x1 x2 x3 x4 ((Rect.unit (s := S512x6144) ![0, off] ![512, 512] ino).emb x) := by
  obtain ⟨r, j, rfl⟩ : ∃ (r : Fin 512) (j : Fin 512), x = ix2 r j := ⟨x 0, x 1, funext fun a => by fin_cases a <;> rfl⟩
  refine (wide_at _ _ r j).trans ?_
  refine Eq.trans ?_ (congrArg (block x0 x1 x2 x3 x4) (emb_at off ino r j (by omega))).symm
  refine Eq.trans ?_ (turn_rest _ _ _ _ (by show 2048 ≤ off + j.val; omega)).symm
  exact proj_at x0 x1 x2 off inw r j (by omega)
end

/-! ## What a point's stores leave -/

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x6144 .bf16) (harg6 : arg6.IsWhole)
  (x0 : Vec Ideal S512x1024 .f32) (x1 : Vec Ideal S1x1024 .f32) (x2 : Vec Ideal S1024x6144 .bf16) (x3 : Vec Ideal S512x128 .f32) (x4 : Vec Ideal S512x128 .f32)

theorem ld_x0 (h : ∀ a, (![0, 0] : Fin 2 → ℕ) a + (![512, 1024] : Fin 2 → ℕ) a ≤ S512x1024.size a) (X : Vec Ideal S512x1024 .f32) :
    View.ld X (Rect.unit (s := S512x1024) ![0, 0] ![512, 1024] h) = X := View.ld_unit_zero (by funext a; fin_cases a <;> rfl) h X

theorem ld_x1 (h : ∀ a, (![0, 0] : Fin 2 → ℕ) a + (![1, 1024] : Fin 2 → ℕ) a ≤ S1x1024.size a) (X : Vec Ideal S1x1024 .f32) :
    View.ld X (Rect.unit (s := S1x1024) ![0, 0] ![1, 1024] h) = X := View.ld_unit_zero (by funext a; fin_cases a <;> rfl) h X

theorem ld_x3 (h : ∀ a, (![0, 0] : Fin 2 → ℕ) a + (![512, 128] : Fin 2 → ℕ) a ≤ S512x128.size a) (X : Vec Ideal S512x128 .f32) :
    View.ld X (Rect.unit (s := S512x128) ![0, 0] ![512, 128] h) = X := View.ld_unit_zero (by funext a; fin_cases a <;> rfl) h X

theorem rows_eq : kernelRun0_A.sl.r (F := Ideal) c arg1 harg1 arg2 harg2 x0 x1 = k0_pay1 (F := Ideal) x0 x1 := by
  simp only [kernelRun0_A.sl.r, View.readAt_eq_ld, Memref.IsWhole.read_unread, ld_x0, ld_x1]

theorem cos_eq : kernelRun0_A.sl.r_1 (F := Ideal) c arg4 harg4 x3 = x3 := by
  simp only [kernelRun0_A.sl.r_1, View.readAt_eq_ld, Memref.IsWhole.read_unread, ld_x3, pay2_eq]

theorem sin_eq : kernelRun0_A.sl.r_2 (F := Ideal) c arg5 harg5 x4 = x4 := by
  simp only [kernelRun0_A.sl.r_2, View.readAt_eq_ld, Memref.IsWhole.read_unread, ld_x3, pay3_eq]

theorem lo0_eq (w : Vec Ideal S1024x256 .bf16) : k0_pay7 (F := Ideal) x0 x1 x3 x4 w = lo 0x3F800000#32 (k0_pay1 (F := Ideal) x0 x1) x3 x4 w := by
  have e2 := pay2_eq x3
  have e3 := pay3_eq x4
  unfold k0_pay7
  rw [e2, e3]
  rfl

theorem hi0_eq (w : Vec Ideal S1024x256 .bf16) : k0_pay8 (F := Ideal) x0 x1 x3 x4 w = hi 0x3F800000#32 (k0_pay1 (F := Ideal) x0 x1) x3 x4 w := by
  have e2 := pay2_eq x3
  have e3 := pay3_eq x4
  unfold k0_pay8
  rw [e2, e3]
  rfl

theorem lo1_eq (H : FVec Ideal S512x1024 .bf16) (C S : FVec Ideal S512x128 .f32) (w : Vec Ideal S1024x256 .bf16) :
    k0_pay12 (F := Ideal) H C S w = lo 0x3F800000#32 H C S w := rfl

theorem hi1_eq (H : FVec Ideal S512x1024 .bf16) (C S : FVec Ideal S512x128 .f32) (w : Vec Ideal S1024x256 .bf16) :
    k0_pay13 (F := Ideal) H C S w = hi 0x3F800000#32 H C S w := rfl

theorem lo2_eq (H : FVec Ideal S512x1024 .bf16) (C S : FVec Ideal S512x128 .f32) (w : Vec Ideal S1024x256 .bf16) :
    k0_pay17 (F := Ideal) H C S w = lo 0x3F800000#32 H C S w := rfl

theorem hi2_eq (H : FVec Ideal S512x1024 .bf16) (C S : FVec Ideal S512x128 .f32) (w : Vec Ideal S1024x256 .bf16) :
    k0_pay18 (F := Ideal) H C S w = hi 0x3F800000#32 H C S w := rfl

theorem lo3_eq (H : FVec Ideal S512x1024 .bf16) (C S : FVec Ideal S512x128 .f32) (w : Vec Ideal S1024x256 .bf16) :
    k0_pay22 (F := Ideal) H C S w = lo 0x3F800000#32 H C S w := rfl

theorem hi3_eq (H : FVec Ideal S512x1024 .bf16) (C S : FVec Ideal S512x128 .f32) (w : Vec Ideal S1024x256 .bf16) :
    k0_pay23 (F := Ideal) H C S w = hi 0x3F800000#32 H C S w := rfl

theorem lo4_eq (H : FVec Ideal S512x1024 .bf16) (C S : FVec Ideal S512x128 .f32) (w : Vec Ideal S1024x256 .bf16) :
    k0_pay27 (F := Ideal) H C S w = lo 0x3D800000#32 H C S w := rfl

theorem hi4_eq (H : FVec Ideal S512x1024 .bf16) (C S : FVec Ideal S512x128 .f32) (w : Vec Ideal S1024x256 .bf16) :
    k0_pay28 (F := Ideal) H C S w = hi 0x3D800000#32 H C S w := rfl

theorem lo5_eq (H : FVec Ideal S512x1024 .bf16) (C S : FVec Ideal S512x128 .f32) (w : Vec Ideal S1024x256 .bf16) :
    k0_pay32 (F := Ideal) H C S w = lo 0x3D800000#32 H C S w := rfl

theorem hi5_eq (H : FVec Ideal S512x1024 .bf16) (C S : FVec Ideal S512x128 .f32) (w : Vec Ideal S1024x256 .bf16) :
    k0_pay33 (F := Ideal) H C S w = hi 0x3D800000#32 H C S w := rfl

theorem lo6_eq (H : FVec Ideal S512x1024 .bf16) (C S : FVec Ideal S512x128 .f32) (w : Vec Ideal S1024x256 .bf16) :
    k0_pay37 (F := Ideal) H C S w = lo 0x3D800000#32 H C S w := rfl

theorem hi6_eq (H : FVec Ideal S512x1024 .bf16) (C S : FVec Ideal S512x128 .f32) (w : Vec Ideal S1024x256 .bf16) :
    k0_pay38 (F := Ideal) H C S w = hi 0x3D800000#32 H C S w := rfl

theorem lo7_eq (H : FVec Ideal S512x1024 .bf16) (C S : FVec Ideal S512x128 .f32) (w : Vec Ideal S1024x256 .bf16) :
    k0_pay42 (F := Ideal) H C S w = lo 0x3D800000#32 H C S w := rfl

theorem hi7_eq (H : FVec Ideal S512x1024 .bf16) (C S : FVec Ideal S512x128 .f32) (w : Vec Ideal S1024x256 .bf16) :
    k0_pay43 (F := Ideal) H C S w = hi 0x3D800000#32 H C S w := rfl

theorem wide45_eq (H : FVec Ideal S512x1024 .bf16) (w : Vec Ideal S1024x512 .bf16) : k0_pay45 (F := Ideal) H w = k0_pay44 (F := Ideal) H w := rfl

theorem wide48_eq (H : FVec Ideal S512x1024 .bf16) (w : Vec Ideal S1024x512 .bf16) : k0_pay48 (F := Ideal) H w = k0_pay44 (F := Ideal) H w := rfl

theorem wide49_eq (H : FVec Ideal S512x1024 .bf16) (w : Vec Ideal S1024x512 .bf16) : k0_pay49 (F := Ideal) H w = k0_pay44 (F := Ideal) H w := rfl

theorem wide50_eq (H : FVec Ideal S512x1024 .bf16) (w : Vec Ideal S1024x512 .bf16) : k0_pay50 (F := Ideal) H w = k0_pay44 (F := Ideal) H w := rfl

theorem wide51_eq (H : FVec Ideal S512x1024 .bf16) (w : Vec Ideal S1024x512 .bf16) : k0_pay51 (F := Ideal) H w = k0_pay44 (F := Ideal) H w := rfl

theorem wide52_eq (H : FVec Ideal S512x1024 .bf16) (w : Vec Ideal S1024x512 .bf16) : k0_pay52 (F := Ideal) H w = k0_pay44 (F := Ideal) H w := rfl

theorem wide47_eq (H : FVec Ideal S512x1024 .bf16) (w : Vec Ideal S1024x512 .bf16) :
    k0_pay47 (F := Ideal) H (k0_pay46 (F := Ideal) w) (constant S512x512 .f32 0x00000000#32) = k0_pay44 (F := Ideal) H w := rfl

set_option maxHeartbeats 4000000 in
theorem block_eq : View.canon (kernelRun0_A (F := Ideal) c i arg1 harg1 arg2 harg2 arg3 harg3 arg4 harg4 arg5 harg5 arg6 harg6 x0 x1 x2 x3 x4).1 = block x0 x1 x2 x3 x4 := by
  funext y
  refine View.canon_apply_of_pieces (block x0 x1 x2 x3 x4) _ ?_ y (cover0_A_5 c i arg1 harg1 arg2 harg2 arg3 harg3 arg4 harg4 arg5 harg5 arg6 harg6 x0 x1 x2 x3 x4 y)
  unfold kernelRun0_A
  dsimp only
  simp only [kernelRun0_A.sl.r_3, kernelRun0_A.sl.r_4, kernelRun0_A.sl.r_5, kernelRun0_A.sl.r_6, kernelRun0_A.sl.r_7, kernelRun0_A.sl.r_8, kernelRun0_A.sl.cst_75, rows_eq, cos_eq, sin_eq, View.readAt_eq_ld, Memref.IsWhole.read_unread, ld_x0, ld_x1, ld_x3, lo0_eq, hi0_eq, lo1_eq, hi1_eq, lo2_eq, hi2_eq, lo3_eq, hi3_eq, lo4_eq, hi4_eq, lo5_eq, hi5_eq, lo6_eq, hi6_eq, lo7_eq, hi7_eq, wide45_eq, wide48_eq, wide49_eq, wide50_eq, wide51_eq, wide52_eq, wide47_eq]
  refine List.forall_mem_cons.2 ⟨fun x => wide_piece x0 x1 x2 x3 x4 5632 (by decide) (by decide) inb_S1024x6144_S1024x512_0_5632 inb_S512x6144_S512x512_0_5632 x, ?_⟩
  refine List.forall_mem_cons.2 ⟨fun x => wide_piece x0 x1 x2 x3 x4 5120 (by decide) (by decide) inb_S1024x6144_S1024x512_0_5120 inb_S512x6144_S512x512_0_5120 x, ?_⟩
  refine List.forall_mem_cons.2 ⟨fun x => wide_piece x0 x1 x2 x3 x4 4608 (by decide) (by decide) inb_S1024x6144_S1024x512_0_4608 inb_S512x6144_S512x512_0_4608 x, ?_⟩
  refine List.forall_mem_cons.2 ⟨fun x => wide_piece x0 x1 x2 x3 x4 4096 (by decide) (by decide) inb_S1024x6144_S1024x512_0_4096 inb_S512x6144_S512x512_0_4096 x, ?_⟩
  refine List.forall_mem_cons.2 ⟨fun x => wide_piece x0 x1 x2 x3 x4 3584 (by decide) (by decide) inb_S1024x6144_S1024x512_0_3584 inb_S512x6144_S512x512_0_3584 x, ?_⟩
  refine List.forall_mem_cons.2 ⟨fun x => wide_piece x0 x1 x2 x3 x4 3072 (by decide) (by decide) inb_S1024x6144_S1024x512_0_3072 inb_S512x6144_S512x512_0_3072 x, ?_⟩
  refine List.forall_mem_cons.2 ⟨fun x => wide_piece x0 x1 x2 x3 x4 2560 (by decide) (by decide) inb_S1024x6144_S1024x512_0_2560 inb_S512x6144_S512x512_0_2560 x, ?_⟩
  refine List.forall_mem_cons.2 ⟨fun x => wide_piece x0 x1 x2 x3 x4 2048 (by decide) (by decide) inb_S1024x6144_S1024x512_0_2048 inb_S512x6144_S512x512_0_2048 x, ?_⟩
  refine List.forall_mem_cons.2 ⟨fun x => hi_piece x0 x1 x2 x3 x4 7 1792 1920 0x3D800000#32 rfl rfl rfl inb_S1024x6144_S1024x256_0_1792 inb_S512x6144_S512x128_0_1920 x, ?_⟩
  refine List.forall_mem_cons.2 ⟨fun x => lo_piece x0 x1 x2 x3 x4 7 1792 1792 0x3D800000#32 rfl rfl rfl inb_S1024x6144_S1024x256_0_1792 inb_S512x6144_S512x128_0_1792 x, ?_⟩
  refine List.forall_mem_cons.2 ⟨fun x => hi_piece x0 x1 x2 x3 x4 6 1536 1664 0x3D800000#32 rfl rfl rfl inb_S1024x6144_S1024x256_0_1536 inb_S512x6144_S512x128_0_1664 x, ?_⟩
  refine List.forall_mem_cons.2 ⟨fun x => lo_piece x0 x1 x2 x3 x4 6 1536 1536 0x3D800000#32 rfl rfl rfl inb_S1024x6144_S1024x256_0_1536 inb_S512x6144_S512x128_0_1536 x, ?_⟩
  refine List.forall_mem_cons.2 ⟨fun x => hi_piece x0 x1 x2 x3 x4 5 1280 1408 0x3D800000#32 rfl rfl rfl inb_S1024x6144_S1024x256_0_1280 inb_S512x6144_S512x128_0_1408 x, ?_⟩
  refine List.forall_mem_cons.2 ⟨fun x => lo_piece x0 x1 x2 x3 x4 5 1280 1280 0x3D800000#32 rfl rfl rfl inb_S1024x6144_S1024x256_0_1280 inb_S512x6144_S512x128_0_1280 x, ?_⟩
  refine List.forall_mem_cons.2 ⟨fun x => hi_piece x0 x1 x2 x3 x4 4 1024 1152 0x3D800000#32 rfl rfl rfl inb_S1024x6144_S1024x256_0_1024 inb_S512x6144_S512x128_0_1152 x, ?_⟩
  refine List.forall_mem_cons.2 ⟨fun x => lo_piece x0 x1 x2 x3 x4 4 1024 1024 0x3D800000#32 rfl rfl rfl inb_S1024x6144_S1024x256_0_1024 inb_S512x6144_S512x128_0_1024 x, ?_⟩
  refine List.forall_mem_cons.2 ⟨fun x => hi_piece x0 x1 x2 x3 x4 3 768 896 0x3F800000#32 rfl rfl rfl inb_S1024x6144_S1024x256_0_768 inb_S512x6144_S512x128_0_896 x, ?_⟩
  refine List.forall_mem_cons.2 ⟨fun x => lo_piece x0 x1 x2 x3 x4 3 768 768 0x3F800000#32 rfl rfl rfl inb_S1024x6144_S1024x256_0_768 inb_S512x6144_S512x128_0_768 x, ?_⟩
  refine List.forall_mem_cons.2 ⟨fun x => hi_piece x0 x1 x2 x3 x4 2 512 640 0x3F800000#32 rfl rfl rfl inb_S1024x6144_S1024x256_0_512 inb_S512x6144_S512x128_0_640 x, ?_⟩
  refine List.forall_mem_cons.2 ⟨fun x => lo_piece x0 x1 x2 x3 x4 2 512 512 0x3F800000#32 rfl rfl rfl inb_S1024x6144_S1024x256_0_512 inb_S512x6144_S512x128_0_512 x, ?_⟩
  refine List.forall_mem_cons.2 ⟨fun x => hi_piece x0 x1 x2 x3 x4 1 256 384 0x3F800000#32 rfl rfl rfl inb_S1024x6144_S1024x256_0_256 inb_S512x6144_S512x128_0_384 x, ?_⟩
  refine List.forall_mem_cons.2 ⟨fun x => lo_piece x0 x1 x2 x3 x4 1 256 256 0x3F800000#32 rfl rfl rfl inb_S1024x6144_S1024x256_0_256 inb_S512x6144_S512x128_0_256 x, ?_⟩
  refine List.forall_mem_cons.2 ⟨fun x => hi_piece x0 x1 x2 x3 x4 0 0 128 0x3F800000#32 rfl rfl rfl inb_S1024x6144_S1024x256_0_0 inb_S512x6144_S512x128_0_128 x, ?_⟩
  refine List.forall_mem_cons.2 ⟨fun x => lo_piece x0 x1 x2 x3 x4 0 0 0 0x3F800000#32 rfl rfl rfl inb_S1024x6144_S1024x256_0_0 inb_S512x6144_S512x128_0_0 x, ?_⟩
  exact List.forall_mem_nil _

theorem out_at (r : Fin 512) (o : Fin 6144) :
    out0_A_5 (F := Ideal) c i arg1 harg1 arg2 harg2 arg3 harg3 arg4 harg4 arg5 harg5 arg6 harg6 x0 x1 x2 x3 x4 (ix2 r o)
      = turn (proj (norm (row x0 r) (row x1 0)) (row x2)) (row x3 r) (row x4 r) o := by
  unfold out0_A_5
  rw [View.read_writes_eq_canon _ _ _ (cover0_A_5 c i arg1 harg1 arg2 harg2 arg3 harg3 arg4 harg4 arg5 harg5 arg6 harg6 x0 x1 x2 x3 x4)]
  exact congrFun (block_eq c i arg1 harg1 arg2 harg2 arg3 harg3 arg4 harg4 arg5 harg5 arg6 harg6 x0 x1 x2 x3 x4) (ix2 r o)

end Cert.Kernel4Ideal.Rows

end
-- ==== Proof.Proj.Angle.lean ====
/-
  The rotary angles over the reals: every frequency is a real number, so the cosine and the sine of a position's angle
  are those the addition formulas give from the angles of its multiple of 128 and its remainder.
-/
module

public import proofs.«01_k».proof.Proof.Proj.Spec
public import Idealize.ShloMosaic.Lib.IdealHost

@[expose] public section

noncomputable section

open Idealize.ShloMosaic

namespace Cert.Proj

/-- An integer word as an extended real. -/
def num (n : ℕ) : EReal := (((BitVec.ofNat 32 n).toInt : ℝ) : EReal)

/-- The exponent of frequency `d`: 128 evenly spaced points from zero to one. -/
def lin (d : Fin 128) : EReal :=
  if d.val < 127 then
    0 * (1 - Ideal.div (num d.val) (Ideal.ofBits FTy.f32 0x42FE0000#32)) + 1 * Ideal.div (num d.val) (Ideal.ofBits FTy.f32 0x42FE0000#32)
  else 1

/-- Frequency `d`: the reciprocal of ten thousand to its exponent. -/
def freq (d : Fin 128) : EReal := Ideal.div 1 (Ideal.pow (Ideal.ofBits FTy.f32 0x461C4000#32) (lin d))

/-- The angle of position `t` at frequency `d`. -/
def angle (t : ℕ) (d : Fin 128) : EReal := num t * freq d

theorem num_eq (n : ℕ) (h : n < 2 ^ 31) : num n = ((n : ℝ) : EReal) := by
  unfold num
  rw [BitVec.toInt_eq_toNat_of_lt (by rw [BitVec.toNat_ofNat]; omega), BitVec.toNat_ofNat, Nat.mod_eq_of_lt (by omega)]
  simp

theorem bits_127 : Ideal.ofBits FTy.f32 0x42FE0000#32 = ((127 : ℝ) : EReal) := by
  simp [Ideal.ofBits, Ideal.ieee, -EReal.coe_mul]; norm_num

theorem bits_128 : Ideal.ofBits FTy.f32 0x43000000#32 = ((128 : ℝ) : EReal) := by
  simp [Ideal.ofBits, Ideal.ieee, -EReal.coe_mul]; norm_num

theorem bits_10000 : Ideal.ofBits FTy.f32 0x461C4000#32 = ((10000 : ℝ) : EReal) := by
  simp [Ideal.ofBits, Ideal.ieee, -EReal.coe_mul]; norm_num

theorem lin_real (d : Fin 128) : ∃ l : ℝ, lin d = (l : EReal) := by
  unfold lin
  by_cases h : d.val < 127
  · rw [if_pos h, bits_127, Ideal.div_coe (by norm_num), num_eq _ (by omega), zero_mul, zero_add, one_mul, ← EReal.coe_mul]
    exact ⟨_, rfl⟩
  · rw [if_neg h]
    exact ⟨1, by norm_cast⟩

theorem freq_real (d : Fin 128) : ∃ f : ℝ, freq d = (f : EReal) := by
  obtain ⟨l, hl⟩ := lin_real d
  have hp : Real.rpow 10000 l ≠ 0 := (Real.rpow_pos_of_pos (by norm_num) l).ne'
  unfold freq
  rw [hl, bits_10000, Ideal.pow_coe_coe, Ideal.div_coe hp, one_mul]
  exact ⟨_, rfl⟩

section
variable (q r : ℕ) (hq : q < 64) (hr : r < 128) (d : Fin 128)
include hq hr

theorem parts : ∃ a b : ℝ, num q * Ideal.ofBits FTy.f32 0x43000000#32 * freq d = (a : EReal) ∧ num r * freq d = (b : EReal)
    ∧ angle (128 * q + r) d = ((a + b : ℝ) : EReal) := by
  obtain ⟨f, hf⟩ := freq_real d
  refine ⟨q * 128 * f, r * f, ?_, ?_, ?_⟩
  · rw [hf, bits_128, num_eq _ (by omega), ← EReal.coe_mul, ← EReal.coe_mul]
  · rw [hf, num_eq _ (by omega), ← EReal.coe_mul]
  · unfold angle
    rw [hf, num_eq _ (by omega), ← EReal.coe_mul]
    congr 1
    push_cast
    ring

/-- The cosine of a position's angle from its two parts. -/
theorem cos_parts : Ideal.cos (num q * Ideal.ofBits FTy.f32 0x43000000#32 * freq d) * Ideal.cos (num r * freq d)
      - Ideal.sin (num q * Ideal.ofBits FTy.f32 0x43000000#32 * freq d) * Ideal.sin (num r * freq d)
    = Ideal.cos (angle (128 * q + r) d) := by
  obtain ⟨a, b, ha, hb, hab⟩ := parts q r hq hr d
  rw [ha, hb, hab]
  simp only [Ideal.cos_coe, Ideal.sin_coe]
  rw [Real.cos_add, EReal.coe_sub, EReal.coe_mul, EReal.coe_mul]

/-- The sine of a position's angle from its two parts. -/
theorem sin_parts : Ideal.sin (num q * Ideal.ofBits FTy.f32 0x43000000#32 * freq d) * Ideal.cos (num r * freq d)
      + Ideal.cos (num q * Ideal.ofBits FTy.f32 0x43000000#32 * freq d) * Ideal.sin (num r * freq d)
    = Ideal.sin (angle (128 * q + r) d) := by
  obtain ⟨a, b, ha, hb, hab⟩ := parts q r hq hr d
  rw [ha, hb, hab]
  simp only [Ideal.cos_coe, Ideal.sin_coe]
  rw [Real.sin_add, EReal.coe_add, EReal.coe_mul, EReal.coe_mul]
end

end Cert.Proj

end
-- ==== Proof.Proj.Host.lean ====
/-
  The arrays the host prepares for the projections' kernel, at an index: the rows, the first norm's gain, the weight, and
  the tables of the angles' cosines and sines, built from a coarse and a fine table by the addition formulas.
-/
module

public import proofs.«01_k».proof.Proof.Gen.Kernel4Ideal.Value
public import proofs.«01_k».proof.Proof.Proj.Angle
public import Idealize.ShloMosaic.Lib.Pointwise

@[expose] public section

set_option maxRecDepth 16384

noncomputable section

open Idealize.ShloMosaic Idealize.ShloMosaic.TcCoe Idealize.SL.Sem

namespace Cert.Kernel4Ideal.Rows

open Cert.Kernel4Ideal Cert.Kernel4Ideal.Gen Cert.Proj

/-- The host's frequencies. -/
def freqs : FVec Ideal S128 .f32 :=
  (Host.divf (broadcastInDim S128 ![] bcast_S_S128 (constant S_ .f32 0x3F800000#32)) (Host.powf (broadcastInDim S128 ![] bcast_S_S128 (constant S_ .f32 0x461C4000#32)) (concatenate S128 0 [⟨S127, (addf (mulf (broadcastInDim S127 ![0] bcast_S1_S127_0 (shapeCast _ (id (constant S_ .f32 0x00000000#32)) shapeCasts_S_S1)) (subf (broadcastInDim S127 ![] bcast_S_S127 (constant S_ .f32 0x3F800000#32)) (Host.divf (sitofp .f32 (iotaInDim S127 32 0)) (broadcastInDim S127 ![] bcast_S_S127 (constant S_ .f32 0x42FE0000#32))))) (mulf (broadcastInDim S127 ![0] bcast_S1_S127_0 (shapeCast _ (id (constant S_ .f32 0x3F800000#32)) shapeCasts_S_S1)) (Host.divf (sitofp .f32 (iotaInDim S127 32 0)) (broadcastInDim S127 ![] bcast_S_S127 (constant S_ .f32 0x42FE0000#32)))))⟩, ⟨S1, (broadcastInDim S1 ![] bcast_S_S1 (id (constant S_ .f32 0x3F800000#32)))⟩] concatenates_S127_S1_S128_d0)))

theorem freqs_at (d : Fin 128) : freqs (ix1 d) = freq d := by
  have z : (id (constant S_ .f32 0x00000000#32) : FVec Ideal S_ .f32) ix0 = 0 := Ideal.ofBits_zero_f32
  have o : (id (constant S_ .f32 0x3F800000#32) : FVec Ideal S_ .f32) ix0 = 1 := Ideal.ofBits_one_f32
  unfold freqs freq lin
  pointwise
  refine congrArg (fun e => Ideal.div 1 (Ideal.pow _ e)) ?_
  by_cases h : d.val < 127
  · rw [dif_pos h, if_pos h, z, o, one_mul]
    rfl
  · rw [dif_neg h, if_neg h, o]

/-- The angles of the multiples of 128. -/
def coarse : FVec Ideal S64x128 .f32 :=
  mulf (broadcastInDim S64x128 ![0, 1] bcast_S64x1_S64x128_0_1 (broadcastInDim S64x1 ![0] bcast_S64_S64x1_0 (mulf (sitofp .f32 (iotaInDim S64 32 0)) (broadcastInDim S64 ![] bcast_S_S64 (constant S_ .f32 0x43000000#32)))))
    (broadcastInDim S64x128 ![0, 1] bcast_S1x128_S64x128_0_1 (broadcastInDim S1x128 ![1] bcast_S128_S1x128_1 freqs))

/-- The angles of the remainders. -/
def fine : FVec Ideal S128x128 .f32 :=
  mulf (broadcastInDim S128x128 ![0, 1] bcast_S128x1_S128x128_0_1 (broadcastInDim S128x1 ![0] bcast_S128_S128x1_0 (sitofp .f32 (iotaInDim S128 32 0))))
    (broadcastInDim S128x128 ![0, 1] bcast_S1x128_S128x128_0_1 (broadcastInDim S1x128 ![1] bcast_S128_S1x128_1 freqs))

theorem coarse_at (q : Fin 64) (d : Fin 128) : coarse (ix2 q d) = num q.val * Ideal.ofBits FTy.f32 0x43000000#32 * freq d := by
  rw [← freqs_at]
  unfold coarse num
  generalize freqs = f
  pointwise
  rfl

theorem fine_at (r d : Fin 128) : fine (ix2 r d) = num r.val * freq d := by
  rw [← freqs_at]
  unfold fine num
  generalize freqs = f
  pointwise
  rfl

/-- A coarse table beside every row of a fine one. -/
def spreadC (A : FVec Ideal S64x128 .f32) : FVec Ideal S64x128x128 .f32 :=
  broadcastInDim S64x128x128 ![0, 1, 2] bcast_S64x1x128_S64x128x128_0_1_2 (broadcastInDim S64x1x128 ![0, 2] bcast_S64x128_S64x1x128_0_2 A)

/-- A fine table beside every row of a coarse one. -/
def spreadF (A : FVec Ideal S128x128 .f32) : FVec Ideal S64x128x128 .f32 :=
  broadcastInDim S64x128x128 ![0, 1, 2] bcast_S1x128x128_S64x128x128_0_1_2 (broadcastInDim S1x128x128 ![1, 2] bcast_S128x128_S1x128x128_1_2 A)

/-- The table of cosines. -/
def cosTable (A : FVec Ideal S64x128 .f32) (B : FVec Ideal S128x128 .f32) : FVec Ideal S8192x128 .f32 :=
  shapeCast S8192x128 (subf (mulf (spreadC (Host.cos A)) (spreadF (Host.cos B))) (mulf (spreadC (Host.sin A)) (spreadF (Host.sin B)))) shapeCasts_S64x128x128_S8192x128

/-- The table of sines. -/
def sinTable (A : FVec Ideal S64x128 .f32) (B : FVec Ideal S128x128 .f32) : FVec Ideal S8192x128 .f32 :=
  shapeCast S8192x128 (addf (mulf (spreadC (Host.sin A)) (spreadF (Host.cos B))) (mulf (spreadC (Host.cos A)) (spreadF (Host.sin B)))) shapeCasts_S64x128x128_S8192x128

theorem cosTable_at (A : FVec Ideal S64x128 .f32) (B : FVec Ideal S128x128 .f32) (t : Fin 8192) (d : Fin 128) :
    cosTable A B (ix2 t d) = Ideal.cos (A (ix2 ⟨t.val / 128, by omega⟩ d)) * Ideal.cos (B (ix2 ⟨t.val % 128, by omega⟩ d))
      - Ideal.sin (A (ix2 ⟨t.val / 128, by omega⟩ d)) * Ideal.sin (B (ix2 ⟨t.val % 128, by omega⟩ d)) := by
  unfold cosTable spreadC spreadF
  pointwise

theorem sinTable_at (A : FVec Ideal S64x128 .f32) (B : FVec Ideal S128x128 .f32) (t : Fin 8192) (d : Fin 128) :
    sinTable A B (ix2 t d) = Ideal.sin (A (ix2 ⟨t.val / 128, by omega⟩ d)) * Ideal.cos (B (ix2 ⟨t.val % 128, by omega⟩ d))
      + Ideal.cos (A (ix2 ⟨t.val / 128, by omega⟩ d)) * Ideal.sin (B (ix2 ⟨t.val % 128, by omega⟩ d)) := by
  unfold sinTable spreadC spreadF
  pointwise

theorem cast_x (A : FVec Ideal S2x8192x1024 .f32) (R : Fin 16384) (j : Fin 1024) :
    (shapeCast S16384x1024 A shapeCasts_S2x8192x1024_S16384x1024 : FVec Ideal S16384x1024 .f32) (ix2 R j)
      = A (ix3 ⟨R.val / 8192, by omega⟩ ⟨R.val % 8192, by omega⟩ j) := by
  pointwise

theorem cast_w (A : FVec Ideal S1x1024x6144 .f32) (k : Fin 1024) (j : Fin 6144) :
    (truncf .bf16 (shapeCast S1024x6144 A shapeCasts_S1x1024x6144_S1024x6144) bitsLt_bf16_f32 : FVec Ideal S1024x6144 .bf16) (ix2 k j) = A (ix3 0 k j) := by
  pointwise

theorem cast_g (A : FVec Ideal S2x4x1024 .f32) (j : Fin 1024) :
    (broadcastInDim S1x1024 ![1] bcast_S1024_S1x1024_1 (shapeCast S1024 (extractStridedSlice S1x1x1024 ![0, 0, 0] A slices_S2x4x1024_S1x1x1024_0_0_0) shapeCasts_S1x1x1024_S1024) : FVec Ideal S1x1024 .f32) (ix2 0 j)
      = A (ix3 0 0 j) := by
  pointwise

variable (m : (ℓ : Loc nD τ sig) → Buf (Elt Ideal) ℓ) (c : Dev nD)

theorem V_cos : (V m c main_v34 : S8192x128.Idx → EReal) = cosTable coarse fine := by
  simp only [V, hostOps0, hostOps0_1, hostOps0_2, hostOps0_3, hostOps0_4, List.flatten_cons, List.flatten_nil, List.append_nil, List.cons_append, List.nil_append]; after_results_simp; rfl

theorem V_sin : (V m c main_v42 : S8192x128.Idx → EReal) = sinTable coarse fine := by
  simp only [V, hostOps0, hostOps0_1, hostOps0_2, hostOps0_3, hostOps0_4, List.flatten_cons, List.flatten_nil, List.append_nil, List.cons_append, List.nil_append]; after_results_simp; rfl

theorem cos_at (t : Fin 8192) (d : Fin 128) : (V m c main_v34 : S8192x128.Idx → EReal) (ix2 t d) = Ideal.cos (angle t.val d) := by
  rw [V_cos, cosTable_at, coarse_at, fine_at]
  refine (cos_parts (t.val / 128) (t.val % 128) (by omega) (by omega) d).trans ?_
  rw [Nat.div_add_mod]

theorem sin_at (t : Fin 8192) (d : Fin 128) : (V m c main_v42 : S8192x128.Idx → EReal) (ix2 t d) = Ideal.sin (angle t.val d) := by
  rw [V_sin, sinTable_at, coarse_at, fine_at]
  refine (sin_parts (t.val / 128) (t.val % 128) (by omega) (by omega) d).trans ?_
  rw [Nat.div_add_mod]

theorem V_x : (V m c main_v93 : S16384x1024.Idx → EReal) = (shapeCast S16384x1024 (m (c.tc.loc main_arg0) : FVec Ideal S2x8192x1024 .f32) shapeCasts_S2x8192x1024_S16384x1024 : FVec Ideal S16384x1024 .f32) := by
  simp only [V, hostOps0, hostOps0_1, hostOps0_2, hostOps0_3, hostOps0_4, List.flatten_cons, List.flatten_nil, List.append_nil, List.cons_append, List.nil_append]; after_results_simp; rfl

theorem V_g : (V m c main_v96 : S1x1024.Idx → EReal) = (broadcastInDim S1x1024 ![1] bcast_S1024_S1x1024_1 (shapeCast S1024 (extractStridedSlice S1x1x1024 ![0, 0, 0] (m (c.tc.loc main_arg1) : FVec Ideal S2x4x1024 .f32) slices_S2x4x1024_S1x1x1024_0_0_0) shapeCasts_S1x1x1024_S1024) : FVec Ideal S1x1024 .f32) := by
  simp only [V, hostOps0, hostOps0_1, hostOps0_2, hostOps0_3, hostOps0_4, List.flatten_cons, List.flatten_nil, List.append_nil, List.cons_append, List.nil_append]; after_results_simp; rfl

theorem V_w : (V m c main_v98 : S1024x6144.Idx → EReal) = (truncf .bf16 (shapeCast S1024x6144 (m (c.tc.loc main_arg2) : FVec Ideal S1x1024x6144 .f32) shapeCasts_S1x1024x6144_S1024x6144) bitsLt_bf16_f32 : FVec Ideal S1024x6144 .bf16) := by
  simp only [V, hostOps0, hostOps0_1, hostOps0_2, hostOps0_3, hostOps0_4, List.flatten_cons, List.flatten_nil, List.append_nil, List.cons_append, List.nil_append]; after_results_simp; rfl

theorem x_at (R : Fin 16384) (j : Fin 1024) :
    (V m c main_v93 : S16384x1024.Idx → EReal) (ix2 R j) = (m (c.tc.loc main_arg0) : S2x8192x1024.Idx → EReal) (ix3 ⟨R.val / 8192, by omega⟩ ⟨R.val % 8192, by omega⟩ j) := by
  rw [V_x]
  exact cast_x _ R j

theorem g_at (j : Fin 1024) :
    (V m c main_v96 : S1x1024.Idx → EReal) (ix2 0 j) = (m (c.tc.loc main_arg1) : S2x4x1024.Idx → EReal) (ix3 0 0 j) := by
  rw [V_g]
  exact cast_g _ j

theorem w_at (k : Fin 1024) (j : Fin 6144) :
    (V m c main_v98 : S1024x6144.Idx → EReal) (ix2 k j) = (m (c.tc.loc main_arg2) : S1x1024x6144.Idx → EReal) (ix3 0 k j) := by
  rw [V_w]
  exact cast_w _ k j

end Cert.Kernel4Ideal.Rows

end
-- ==== Proof.Proj.Kernel.lean ====
/-
  The projections' kernel, its result array: row by row the turned projections of the operands' rows, the operands being
  the arguments as the host prepares them.
-/
module

public import proofs.«01_k».proof.Proof.Proj.Block
public import proofs.«01_k».proof.Proof.Proj.Host

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Rows

open Cert.Kernel4Ideal Cert.Kernel4Ideal.Gen Cert.Ffn Cert.Proj

variable (m : (ℓ : Loc nD τ sig) → Buf (Elt Ideal) ℓ) (c : Dev nD)

/-! The windows' blocks: point `t` reads rows 512 t … 512 t + 511 of the rows, the tables' rows of its positions in the
sequence, and the gain and the weight whole. -/

theorem b0_at (t : Fin cfg0.N) (k : Fin 512) (j : Fin 1024) (h : 512 * t.val + k.val < 16384) :
    (iblk m c 0 t : S512x1024.Idx → EReal) (ix2 k j) = (V m c main_v93 : S16384x1024.Idx → EReal) (ix2 ⟨512 * t.val + k.val, h⟩ j) := by
  unfold iblk
  rw [View.read_apply]
  show V m c main_v93 _ = V m c main_v93 _
  congr 1
  funext a
  apply Fin.ext
  match a with
  | ⟨0, _⟩ => show win0_0.index t 0 * 512 + 1 * k.val = 512 * t.val + k.val
              rw [(by decide +kernel : ∀ t : Fin grid0.N, win0_0.index t 0 = t.val) t]; omega
  | ⟨1, _⟩ => show win0_0.index t 1 * 1024 + 1 * j.val = j.val
              rw [(by decide +kernel : ∀ t : Fin grid0.N, win0_0.index t 1 = 0) t]; omega

theorem b1_at (t : Fin cfg0.N) (k : Fin 1) (j : Fin 1024) :
    (iblk m c 1 t : S1x1024.Idx → EReal) (ix2 k j) = (V m c main_v96 : S1x1024.Idx → EReal) (ix2 k j) := by
  unfold iblk
  rw [View.read_apply]
  show V m c main_v96 _ = V m c main_v96 _
  congr 1
  funext a
  apply Fin.ext
  match a with
  | ⟨0, _⟩ => show win0_1.index t 0 * 1 + 1 * k.val = k.val
              rw [(by decide +kernel : ∀ t : Fin grid0.N, win0_1.index t 0 = 0) t]; omega
  | ⟨1, _⟩ => show win0_1.index t 1 * 1024 + 1 * j.val = j.val
              rw [(by decide +kernel : ∀ t : Fin grid0.N, win0_1.index t 1 = 0) t]; omega

theorem b2_at (t : Fin cfg0.N) (k : Fin 1024) (j : Fin 6144) :
    (iblk m c 2 t : S1024x6144.Idx → EReal) (ix2 k j) = (V m c main_v98 : S1024x6144.Idx → EReal) (ix2 k j) := by
  unfold iblk
  rw [View.read_apply]
  show V m c main_v98 _ = V m c main_v98 _
  congr 1
  funext a
  apply Fin.ext
  match a with
  | ⟨0, _⟩ => show win0_2.index t 0 * 1024 + 1 * k.val = k.val
              rw [(by decide +kernel : ∀ t : Fin grid0.N, win0_2.index t 0 = 0) t]; omega
  | ⟨1, _⟩ => show win0_2.index t 1 * 6144 + 1 * j.val = j.val
              rw [(by decide +kernel : ∀ t : Fin grid0.N, win0_2.index t 1 = 0) t]; omega

theorem b3_at (t : Fin cfg0.N) (k : Fin 512) (j : Fin 128) (h : 512 * (t.val % 16) + k.val < 8192) :
    (iblk m c 3 t : S512x128.Idx → EReal) (ix2 k j) = (V m c main_v34 : S8192x128.Idx → EReal) (ix2 ⟨512 * (t.val % 16) + k.val, h⟩ j) := by
  unfold iblk
  rw [View.read_apply]
  show V m c main_v34 _ = V m c main_v34 _
  congr 1
  funext a
  apply Fin.ext
  match a with
  | ⟨0, _⟩ => show win0_3.index t 0 * 512 + 1 * k.val = 512 * (t.val % 16) + k.val
              rw [(by decide +kernel : ∀ t : Fin grid0.N, win0_3.index t 0 = t.val % 16) t]; omega
  | ⟨1, _⟩ => show win0_3.index t 1 * 128 + 1 * j.val = j.val
              rw [(by decide +kernel : ∀ t : Fin grid0.N, win0_3.index t 1 = 0) t]; omega

theorem b4_at (t : Fin cfg0.N) (k : Fin 512) (j : Fin 128) (h : 512 * (t.val % 16) + k.val < 8192) :
    (iblk m c 4 t : S512x128.Idx → EReal) (ix2 k j) = (V m c main_v42 : S8192x128.Idx → EReal) (ix2 ⟨512 * (t.val % 16) + k.val, h⟩ j) := by
  unfold iblk
  rw [View.read_apply]
  show V m c main_v42 _ = V m c main_v42 _
  congr 1
  funext a
  apply Fin.ext
  match a with
  | ⟨0, _⟩ => show win0_4.index t 0 * 512 + 1 * k.val = 512 * (t.val % 16) + k.val
              rw [(by decide +kernel : ∀ t : Fin grid0.N, win0_4.index t 0 = t.val % 16) t]; omega
  | ⟨1, _⟩ => show win0_4.index t 1 * 128 + 1 * j.val = j.val
              rw [(by decide +kernel : ∀ t : Fin grid0.N, win0_4.index t 1 = 0) t]; omega

/-- THE RESULT at row R and column j: row `R` is position `R mod 8192` of sequence `R / 8192`. -/
def result : Buf (Elt Ideal) ((c : Thread nD τ).loc main_v99) := fun i =>
  (fun (R : Fin 16384) (o : Fin 6144) =>
    turn (proj (norm (fun j => (m (c.tc.loc main_arg0) : S2x8192x1024.Idx → EReal) (ix3 ⟨R.val / 8192, by omega⟩ ⟨R.val % 8192, by omega⟩ j))
          (fun j => (m (c.tc.loc main_arg1) : S2x4x1024.Idx → EReal) (ix3 0 0 j)))
        (fun k j => (m (c.tc.loc main_arg2) : S1x1024x6144.Idx → EReal) (ix3 0 k j)))
      (fun d => Ideal.cos (angle (R.val % 8192) d)) (fun d => Ideal.sin (angle (R.val % 8192) d)) o) (i 0) (i 1)

/-- Point `t` writes back rows 512 t … 512 t + 511 of the result. -/
theorem flushed_eq (t : Fin cfg0.N) :
    (dats m 0 c).flushed 5 t = ((cfg0.win 5).blk t).view.read (Elt Ideal) (result m c) := by
  have ht : t.val < 32 := lt_of_lt_of_eq t.isLt N_0
  rw [Value.flushed5_A]
  funext i
  rw [View.read_apply]
  obtain ⟨r, j, rfl⟩ : ∃ (r : Fin 512) (j : Fin 6144), i = ix2 r j := ⟨i 0, i 1, funext fun a => by fin_cases a <;> rfl⟩
  have hR : 512 * t.val + r.val < 16384 := by omega
  have hi : (((cfg0.win 5).blk t).view.emb (ix2 r j) : S16384x6144.Idx) = ix2 ⟨512 * t.val + r.val, hR⟩ j := by
    funext a
    apply Fin.ext
    match a with
    | ⟨0, _⟩ => show win0_5.index t 0 * 512 + 1 * r.val = 512 * t.val + r.val
                rw [(by decide +kernel : ∀ t : Fin grid0.N, win0_5.index t 0 = t.val) t]; omega
    | ⟨1, _⟩ => show win0_5.index t 1 * 6144 + 1 * j.val = j.val
                rw [(by decide +kernel : ∀ t : Fin grid0.N, win0_5.index t 1 = 0) t]; omega
  have hT : 512 * (t.val % 16) + r.val < 8192 := by omega
  have eT : 512 * (t.val % 16) + r.val = (512 * t.val + r.val) % 8192 := by omega
  refine (out_at c _ _ _ _ _ _ _ _ _ _ _ _ _ _ _ _ _ _ r j).trans ?_
  refine Eq.trans ?_ (congrArg (result m c) hi).symm
  have e0 : row (iblk m c 0 t : S512x1024.Idx → EReal) r = _ := funext fun k => (b0_at m c t r k hR).trans (x_at m c _ k)
  have e1 : row (iblk m c 1 t : S1x1024.Idx → EReal) 0 = _ := funext fun k => (b1_at m c t 0 k).trans (g_at m c k)
  have e2 : row (iblk m c 2 t : S1024x6144.Idx → EReal) = _ := funext fun k => funext fun o => (b2_at m c t k o).trans (w_at m c k o)
  have e3 : row (iblk m c 3 t : S512x128.Idx → EReal) r = fun d => Ideal.cos (angle ((512 * t.val + r.val) % 8192) d) :=
    funext fun d => ((b3_at m c t r d hT).trans (cos_at m c _ d)).trans (congrArg (fun p => Ideal.cos (angle p d)) eT)
  have e4 : row (iblk m c 4 t : S512x128.Idx → EReal) r = fun d => Ideal.sin (angle ((512 * t.val + r.val) % 8192) d) :=
    funext fun d => ((b4_at m c t r d hT).trans (sin_at m c _ d)).trans (congrArg (fun p => Ideal.sin (angle p d)) eT)
  rw [e0, e1, e2, e3, e4]
  rfl

/-- So the result array ends at the result: the points' blocks cover it. -/
theorem final : (dats m 0 c).arrAt 5 cfg0.N = result m c :=
  (dats m 0 c).arrAt_eq_of_cover 5 (result m c) (fun t _ => flushed_eq m c t) fun i => by
    have h0 : (i 0 : Nat) < 16384 := (i 0).isLt
    have h1 : (i 1 : Nat) < 6144 := (i 1).isLt
    have hN : cfg0.N = 32 := N_0
    let t : Fin cfg0.N := ⟨(i 0 : Nat) / 512, by omega⟩
    refine ⟨t, flush0_5 t, ?_⟩
    show i ∈ ((View.whole main_v99).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(by decide +kernel : ∀ t : Fin grid0.N, win0_5.index t 0 = t.val) t]
                show (i 0 : Nat) / 512 * 512 ≤ (i 0 : Nat) ∧ _
                have : (t : Nat) = (i 0 : Nat) / 512 := rfl
                omega
    | ⟨1, _⟩ => show win0_5.index t 1 * 6144 ≤ (i 1 : Nat) ∧ (i 1 : Nat) < win0_5.index t 1 * 6144 + 6144
                rw [(by decide +kernel : ∀ t : Fin grid0.N, win0_5.index t 1 = 0) t]; omega

end Cert.Kernel4Ideal.Rows

end
-- ==== Proof.Proj.Ref.lean ====
/-
  The projections' reference: its result read row by row as the turned projections of the normalised rows.
-/
module

public import proofs.«01_k».proof.Proof.Gen.Reference4Ideal.Run
public import proofs.«01_k».proof.Proof.Proj.Angle
public import Idealize.ShloMosaic.Lib.Pointwise

@[expose] public section

set_option maxRecDepth 16384

noncomputable section

open Idealize.ShloMosaic Idealize.ShloMosaic.TcCoe Idealize.SL.Sem
open scoped BigOperators

namespace Cert.Reference4Ideal.Rows

open Cert.Reference4Ideal Cert.Reference4Ideal.Gen Cert.Reference4Ideal.Value Cert.Ffn Cert.Proj

/-! ## The angles -/

/-- The frequencies. -/
def freqs : FVec Ideal S128 .f32 :=
  (Host.divf (broadcastInDim S128 ![] bcast_S_S128 (constant S_ .f32 0x3F800000#32)) (Host.powf (broadcastInDim S128 ![] bcast_S_S128 (constant S_ .f32 0x461C4000#32)) (concatenate S128 0 [⟨S127, (addf (mulf (broadcastInDim S127 ![0] bcast_S1_S127_0 (shapeCast _ (id (constant S_ .f32 0x00000000#32)) shapeCasts_S_S1)) (subf (broadcastInDim S127 ![] bcast_S_S127 (constant S_ .f32 0x3F800000#32)) (Host.divf (sitofp .f32 (iotaInDim S127 32 0)) (broadcastInDim S127 ![] bcast_S_S127 (constant S_ .f32 0x42FE0000#32))))) (mulf (broadcastInDim S127 ![0] bcast_S1_S127_0 (shapeCast _ (id (constant S_ .f32 0x3F800000#32)) shapeCasts_S_S1)) (Host.divf (sitofp .f32 (iotaInDim S127 32 0)) (broadcastInDim S127 ![] bcast_S_S127 (constant S_ .f32 0x42FE0000#32)))))⟩, ⟨S1, (broadcastInDim S1 ![] bcast_S_S1 (id (constant S_ .f32 0x3F800000#32)))⟩] concatenates_S127_S1_S128_d0)))

theorem freqs_at (d : Fin 128) : freqs (ix1 d) = freq d := by
  have z : (id (constant S_ .f32 0x00000000#32) : FVec Ideal S_ .f32) ix0 = 0 := Ideal.ofBits_zero_f32
  have o : (id (constant S_ .f32 0x3F800000#32) : FVec Ideal S_ .f32) ix0 = 1 := Ideal.ofBits_one_f32
  unfold freqs freq lin
  pointwise
  refine congrArg (fun e => Ideal.div 1 (Ideal.pow _ e)) ?_
  by_cases h : d.val < 127
  · rw [dif_pos h, if_pos h, z, o, one_mul]
    rfl
  · rw [dif_neg h, if_neg h, o]

/-- The positions' angles. -/
def angles : FVec Ideal S8192x128 .f32 :=
  (mulf (broadcastInDim S8192x128 ![0, 1] bcast_S8192x1_S8192x128_0_1 (broadcastInDim S8192x1 ![0] bcast_S8192_S8192x1_0 (sitofp .f32 (iotaInDim S8192 32 0)))) (broadcastInDim S8192x128 ![0, 1] bcast_S1x128_S8192x128_0_1 (broadcastInDim S1x128 ![1] bcast_S128_S1x128_1 freqs)))

theorem angles_at (t : Fin 8192) (d : Fin 128) : angles (ix2 t d) = angle t.val d := by
  unfold angle
  rw [← freqs_at]
  unfold angles num
  generalize freqs = f
  pointwise
  rfl

theorem cos_at (t : Fin 8192) (d : Fin 128) : (Host.cos angles : FVec Ideal S8192x128 .f32) (ix2 t d) = Ideal.cos (angle t.val d) := by
  rw [← angles_at]
  rfl

theorem sin_at (t : Fin 8192) (d : Fin 128) : (Host.sin angles : FVec Ideal S8192x128 .f32) (ix2 t d) = Ideal.sin (angle t.val d) := by
  rw [← angles_at]
  rfl

/-! ## The projected rows -/

/-- The normalised rows times the weight. -/
def projected (X : FVec Ideal S2x8192x1024 .f32) (G : FVec Ideal S2x4x1024 .f32) (W : FVec Ideal S1x1024x6144 .f32) : FVec Ideal S2x8192x6144 .f32 :=
  (Host.dotGeneral dot_S2x8192x1024_S1024x6144_S2x8192x6144_2_0_01_1_n_n none (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1x1024 ![0, 0, 0] G slices_S2x4x1024_S1x1x1024_0_0_0) shapeCasts_S1x1x1024_S1024)))) (shapeCast _ W shapeCasts_S1x1024x6144_S1024x6144))

theorem projected_at (X : FVec Ideal S2x8192x1024 .f32) (G : FVec Ideal S2x4x1024 .f32) (W : FVec Ideal S1x1024x6144 .f32)
    (b : Fin 2) (t : Fin 8192) (o : Fin 6144) :
    projected X G W (ix3 b t o) = proj (norm (fun j => X (ix3 b t j)) (fun j => G (ix3 0 0 j))) (fun k j => W (ix3 0 k j)) o := by
  unfold projected
  pointwise
  rfl

/-! ## The turned heads -/

/-- Rows of 1024 columns as four heads of 256. -/
def heads (Q : FVec Ideal S2x8192x1024 .f32) : FVec Ideal S2x8192x4x256 .f32 := shapeCast _ Q shapeCasts_S2x8192x1024_S2x8192x4x256

theorem heads_at (Q : FVec Ideal S2x8192x1024 .f32) (b : Fin 2) (t : Fin 8192) (h : Fin 4) (d : Fin 256) :
    heads Q (ix4 b t h d) = Q (ix3 b t ⟨256 * h.val + d.val, by omega⟩) := by
  unfold heads
  pointwise
  exact congrArg Q (congrArg (ix3 b t) (Fin.ext (by show h.val * 256 + d.val = 256 * h.val + d.val; omega)))

/-- Four heads of 256 columns side by side. -/
def flat (T : FVec Ideal S2x8192x4x256 .f32) : FVec Ideal S2x8192x1024 .f32 := shapeCast _ T shapeCasts_S2x8192x4x256_S2x8192x1024

theorem flat_at (T : FVec Ideal S2x8192x4x256 .f32) (b : Fin 2) (t : Fin 8192) (j : Fin 1024) :
    flat T (ix3 b t j) = T (ix4 b t ⟨j.val / 256, by omega⟩ ⟨j.val % 256, by omega⟩) := by
  unfold flat
  pointwise

/-- Heads turned by the angles whose cosines and sines are given. -/
def turned (T : FVec Ideal S2x8192x4x256 .f32) (C S : FVec Ideal S8192x128 .f32) : FVec Ideal S2x8192x4x256 .f32 :=
  concatenate S2x8192x4x256 3 [⟨S2x8192x4x128, (subf (mulf (extractStridedSlice S2x8192x4x128 ![0, 0, 0, 0] T slices_S2x8192x4x256_S2x8192x4x128_0_0_0_0) (broadcastInDim S2x8192x4x128 ![0, 1, 2, 3] bcast_S1x8192x1x128_S2x8192x4x128_0_1_2_3 (broadcastInDim S1x8192x1x128 ![1, 3] bcast_S8192x128_S1x8192x1x128_1_3 C))) (mulf (extractStridedSlice S2x8192x4x128 ![0, 0, 0, 128] T slices_S2x8192x4x256_S2x8192x4x128_0_0_0_128) (broadcastInDim S2x8192x4x128 ![0, 1, 2, 3] bcast_S1x8192x1x128_S2x8192x4x128_0_1_2_3 (broadcastInDim S1x8192x1x128 ![1, 3] bcast_S8192x128_S1x8192x1x128_1_3 S))))⟩,
    ⟨S2x8192x4x128, (addf (mulf (extractStridedSlice S2x8192x4x128 ![0, 0, 0, 0] T slices_S2x8192x4x256_S2x8192x4x128_0_0_0_0) (broadcastInDim S2x8192x4x128 ![0, 1, 2, 3] bcast_S1x8192x1x128_S2x8192x4x128_0_1_2_3 (broadcastInDim S1x8192x1x128 ![1, 3] bcast_S8192x128_S1x8192x1x128_1_3 S))) (mulf (extractStridedSlice S2x8192x4x128 ![0, 0, 0, 128] T slices_S2x8192x4x256_S2x8192x4x128_0_0_0_128) (broadcastInDim S2x8192x4x128 ![0, 1, 2, 3] bcast_S1x8192x1x128_S2x8192x4x128_0_1_2_3 (broadcastInDim S1x8192x1x128 ![1, 3] bcast_S8192x128_S1x8192x1x128_1_3 C))))⟩] concatenates_S2x8192x4x128_S2x8192x4x128_S2x8192x4x256_d3

theorem turned_at (T : FVec Ideal S2x8192x4x256 .f32) (C S : FVec Ideal S8192x128 .f32) (b : Fin 2) (t : Fin 8192) (h : Fin 4) (d : Fin 256) :
    turned T C S (ix4 b t h d) = if hd : d.val < 128 then
        T (ix4 b t h ⟨d.val, by omega⟩) * C (ix2 t ⟨d.val, hd⟩) - T (ix4 b t h ⟨d.val + 128, by omega⟩) * S (ix2 t ⟨d.val, hd⟩)
      else T (ix4 b t h ⟨d.val - 128, by omega⟩) * S (ix2 t ⟨d.val - 128, by omega⟩) + T (ix4 b t h ⟨d.val, by omega⟩) * C (ix2 t ⟨d.val - 128, by omega⟩) := by
  unfold turned
  pointwise
  by_cases hd : d.val < 128
  · rw [dif_pos hd, dif_pos hd]
    simp only [Nat.add_comm 128 d.val]
  · rw [dif_neg hd, dif_neg hd]
    simp only [show 128 + (d.val - 128) = d.val by omega]

theorem turned_flat_at (Q : FVec Ideal S2x8192x1024 .f32) (C S : FVec Ideal S8192x128 .f32) (b : Fin 2) (t : Fin 8192) (j : Fin 1024) :
    flat (turned (heads Q) C S) (ix3 b t j) = if hd : j.val % 256 < 128 then
        Q (ix3 b t j) * C (ix2 t ⟨j.val % 256, hd⟩) - Q (ix3 b t ⟨j.val + 128, by omega⟩) * S (ix2 t ⟨j.val % 256, hd⟩)
      else Q (ix3 b t ⟨j.val - 128, by omega⟩) * S (ix2 t ⟨j.val % 256 - 128, by omega⟩) + Q (ix3 b t j) * C (ix2 t ⟨j.val % 256 - 128, by omega⟩) := by
  rw [flat_at, turned_at]
  by_cases hd : j.val % 256 < 128
  · rw [dif_pos hd, dif_pos hd, heads_at, heads_at]
    simp only [Nat.div_add_mod, show 256 * (j.val / 256) + (j.val % 256 + 128) = j.val + 128 by omega]
  · rw [dif_neg hd, dif_neg hd, heads_at, heads_at]
    simp only [Nat.div_add_mod, show 256 * (j.val / 256) + (j.val % 256 - 128) = j.val - 128 by omega]

theorem scaled_at (T : FVec Ideal S2x8192x4x256 .f32) (b : Fin 2) (t : Fin 8192) (j : Fin 1024) :
    flat (mulf T (broadcastInDim S2x8192x4x256 ![] bcast_S_S2x8192x4x256 (constant S_ .f32 0x3D800000#32))) (ix3 b t j)
      = flat T (ix3 b t j) * Ideal.ofBits FTy.f32 0x3D800000#32 := by
  rw [flat_at, flat_at]
  rfl

theorem q_at (A : FVec Ideal S2x8192x6144 .f32) (b : Fin 2) (t : Fin 8192) (j : Fin 1024) :
    (extractStridedSlice S2x8192x1024 ![0, 0, 0] A slices_S2x8192x6144_S2x8192x1024_0_0_0 : FVec Ideal S2x8192x1024 .f32) (ix3 b t j) = A (ix3 b t ⟨j.val, by omega⟩) := by
  pointwise

theorem k_at (A : FVec Ideal S2x8192x6144 .f32) (b : Fin 2) (t : Fin 8192) (j : Fin 1024) :
    (extractStridedSlice S2x8192x1024 ![0, 0, 1024] A slices_S2x8192x6144_S2x8192x1024_0_0_1024 : FVec Ideal S2x8192x1024 .f32) (ix3 b t j) = A (ix3 b t ⟨1024 + j.val, by omega⟩) := by
  pointwise

theorem v_at (A : FVec Ideal S2x8192x6144 .f32) (b : Fin 2) (t : Fin 8192) (j : Fin 2048) :
    (extractStridedSlice S2x8192x2048 ![0, 0, 2048] A slices_S2x8192x6144_S2x8192x2048_0_0_2048 : FVec Ideal S2x8192x2048 .f32) (ix3 b t j) = A (ix3 b t ⟨2048 + j.val, by omega⟩) := by
  pointwise

theorem gate_at (A : FVec Ideal S2x8192x6144 .f32) (b : Fin 2) (t : Fin 8192) (j : Fin 2048) :
    (extractStridedSlice S2x8192x2048 ![0, 0, 4096] A slices_S2x8192x6144_S2x8192x2048_0_0_4096 : FVec Ideal S2x8192x2048 .f32) (ix3 b t j) = A (ix3 b t ⟨4096 + j.val, by omega⟩) := by
  pointwise

/-- The whole result of the projections and the angles' cosines and sines. -/
def whole (A : FVec Ideal S2x8192x6144 .f32) (C S : FVec Ideal S8192x128 .f32) : FVec Ideal S16384x6144 .bf16 :=
  shapeCast _ (truncf .bf16 (concatenate S2x8192x6144 2 [⟨S2x8192x1024, flat (turned (heads (extractStridedSlice S2x8192x1024 ![0, 0, 0] A slices_S2x8192x6144_S2x8192x1024_0_0_0)) C S)⟩,
    ⟨S2x8192x1024, flat (mulf (turned (heads (extractStridedSlice S2x8192x1024 ![0, 0, 1024] A slices_S2x8192x6144_S2x8192x1024_0_0_1024)) C S) (broadcastInDim S2x8192x4x256 ![] bcast_S_S2x8192x4x256 (constant S_ .f32 0x3D800000#32)))⟩,
    ⟨S2x8192x2048, extractStridedSlice S2x8192x2048 ![0, 0, 2048] A slices_S2x8192x6144_S2x8192x2048_0_0_2048⟩,
    ⟨S2x8192x2048, extractStridedSlice S2x8192x2048 ![0, 0, 4096] A slices_S2x8192x6144_S2x8192x2048_0_0_4096⟩] concatenates_S2x8192x1024_S2x8192x1024_S2x8192x2048_S2x8192x2048_S2x8192x6144_d2 : FVec Ideal S2x8192x6144 .f32) bitsLt_bf16_f32) shapeCasts_S2x8192x6144_S16384x6144

theorem part_at (Y1 Y2 : FVec Ideal S2x8192x1024 .f32) (Y3 Y4 : FVec Ideal S2x8192x2048 .f32) (R : Fin 16384) (o : Fin 6144) :
    (shapeCast S16384x6144 (truncf .bf16 (concatenate S2x8192x6144 2 [⟨S2x8192x1024, Y1⟩, ⟨S2x8192x1024, Y2⟩, ⟨S2x8192x2048, Y3⟩, ⟨S2x8192x2048, Y4⟩] concatenates_S2x8192x1024_S2x8192x1024_S2x8192x2048_S2x8192x2048_S2x8192x6144_d2 : FVec Ideal S2x8192x6144 .f32) bitsLt_bf16_f32) shapeCasts_S2x8192x6144_S16384x6144 : FVec Ideal S16384x6144 .bf16) (ix2 R o)
      = if h1 : o.val < 1024 then Y1 (ix3 ⟨R.val / 8192, by omega⟩ ⟨R.val % 8192, by omega⟩ ⟨o.val, h1⟩)
        else if h2 : o.val < 2048 then Y2 (ix3 ⟨R.val / 8192, by omega⟩ ⟨R.val % 8192, by omega⟩ ⟨o.val - 1024, by omega⟩)
        else if h3 : o.val < 4096 then Y3 (ix3 ⟨R.val / 8192, by omega⟩ ⟨R.val % 8192, by omega⟩ ⟨o.val - 2048, by omega⟩)
        else Y4 (ix3 ⟨R.val / 8192, by omega⟩ ⟨R.val % 8192, by omega⟩ ⟨o.val - 4096, by omega⟩) := by
  pointwise
  by_cases h1 : o.val < 1024
  · rw [dif_pos h1, dif_pos h1]
  · by_cases h2 : o.val < 2048
    · rw [dif_neg h1, dif_neg h1, dif_pos (by omega), dif_pos h2]
    · by_cases h3 : o.val < 4096
      · rw [dif_neg h1, dif_neg h1, dif_neg (by omega), dif_neg h2, dif_pos (by omega), dif_pos h3]
        simp only [Nat.sub_sub, Nat.reduceAdd]
      · rw [dif_neg h1, dif_neg h1, dif_neg (by omega), dif_neg h2, dif_neg (by omega), dif_neg h3]
        simp only [Nat.sub_sub, Nat.reduceAdd]

theorem whole_at (A : FVec Ideal S2x8192x6144 .f32) (C S : FVec Ideal S8192x128 .f32) (R : Fin 16384) (o : Fin 6144) :
    whole A C S (ix2 R o) = turn (fun q => A (ix3 ⟨R.val / 8192, by omega⟩ ⟨R.val % 8192, by omega⟩ q))
      (fun d => C (ix2 ⟨R.val % 8192, by omega⟩ d)) (fun d => S (ix2 ⟨R.val % 8192, by omega⟩ d)) o := by
  unfold whole
  rw [part_at]
  unfold turn scale
  by_cases h1 : o.val < 1024
  · rw [dif_pos h1, dif_pos (by omega : o.val < 2048), turned_flat_at, if_pos h1, Ideal.ofBits_one_f32]
    by_cases hd : o.val % 256 < 128
    · rw [dif_pos hd, dif_pos hd, q_at, q_at, mul_one]
    · rw [dif_neg hd, dif_neg hd, q_at, q_at, mul_one]
  · by_cases h2 : o.val < 2048
    · rw [dif_neg h1, dif_pos h2, dif_pos h2, scaled_at, turned_flat_at, if_neg h1]
      have e : (o.val - 1024) % 256 = o.val % 256 := by omega
      have e0 : 1024 + (o.val - 1024) = o.val := by omega
      by_cases hd : o.val % 256 < 128
      · rw [dif_pos (by rw [e]; exact hd), dif_pos hd, k_at, k_at]
        simp only [e, e0, show 1024 + (o.val - 1024 + 128) = o.val + 128 by omega]
      · rw [dif_neg (by rw [e]; exact hd), dif_neg hd, k_at, k_at]
        simp only [e, e0, show 1024 + (o.val - 1024 - 128) = o.val - 128 by omega]
    · rw [dif_neg h1, dif_neg h2, dif_neg h2]
      by_cases h3 : o.val < 4096
      · rw [dif_pos h3, v_at]
        simp only [show 2048 + (o.val - 2048) = o.val by omega]
      · rw [dif_neg h3, gate_at]
        simp only [show 4096 + (o.val - 4096) = o.val by omega]

variable (m : (ℓ : Loc nD τ sig) → Buf (Elt Ideal) ℓ) (c : Dev nD)

theorem res_eq : (res_out0 (F := Ideal) m c : S16384x6144.Idx → EReal)
    = whole (projected (m (c.tc.loc main_arg0)) (m (c.tc.loc main_arg1)) (m (c.tc.loc main_arg2))) (Host.cos angles) (Host.sin angles) := rfl

theorem res_at (R : Fin 16384) (o : Fin 6144) : (res_out0 (F := Ideal) m c : S16384x6144.Idx → EReal) (ix2 R o)
    = turn (proj (norm (fun j => (m (c.tc.loc main_arg0) : S2x8192x1024.Idx → EReal) (ix3 ⟨R.val / 8192, by omega⟩ ⟨R.val % 8192, by omega⟩ j))
          (fun j => (m (c.tc.loc main_arg1) : S2x4x1024.Idx → EReal) (ix3 0 0 j)))
        (fun k j => (m (c.tc.loc main_arg2) : S1x1024x6144.Idx → EReal) (ix3 0 k j)))
      (fun d => Ideal.cos (angle (R.val % 8192) d)) (fun d => Ideal.sin (angle (R.val % 8192) d)) o := by
  rw [res_eq, whole_at]
  simp only [projected_at, cos_at, sin_at]

end Cert.Reference4Ideal.Rows

end
-- ==== Proof.Proj.Claim.lean ====
/-
  The claims about the retention's projections: the three frames, and the value — the kernel's result array and the
  reference's are the same rows.
-/
module

public import proofs.«01_k».proof.Defs
public import proofs.«01_k».proof.Proof.Proj.Kernel
public import proofs.«01_k».proof.Proof.Proj.Ref
public import proofs.«01_k».proof.Proof.Gen.Kernel4.Frame
public import proofs.«01_k».proof.Proof.Gen.Kernel4Ideal.Frame

@[expose] public section

set_option maxRecDepth 16384

noncomputable section

open Idealize.ShloMosaic Idealize.SL.Sem

namespace Cert.Proof.Proj

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem preserves : Cert.preserves_Kernel4_Kernel4Ideal := trivial

/-- Where the arguments agree the two results are one array. -/
theorem same (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (h0 : m' ((c.tc : Thread Cert.Reference4Ideal.nD Cert.Reference4Ideal.τ).loc Cert.Reference4Ideal.main_arg0)
      = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1)
      = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2)
      = m ((c.tc : Thread Cert.Kernel4Ideal.nD Cert.Kernel4Ideal.τ).loc Cert.Kernel4Ideal.main_arg2)) :
    (Cert.Reference4Ideal.Value.res_out0 m' c : Cert.Reference4Ideal.S16384x6144.Idx → EReal)
      = Cert.Kernel4Ideal.Rows.result m c := by
  funext i
  obtain ⟨r, j, rfl⟩ : ∃ (r : Fin 16384) (j : Fin 6144), i = (ix2 r j : Cert.Reference4Ideal.S16384x6144.Idx) :=
    ⟨i 0, i 1, (ix2_eta (n0 := 16384) (n1 := 6144) i).symm⟩
  refine (Cert.Reference4Ideal.Rows.res_at m' c r j).trans ?_
  rw [h0, h1, h2]
  rfl

theorem algebraic : Cert.algebraic_Kernel4Ideal_Reference4Ideal := by
  intro m g m' g' _ hagree
  refine ⟨fun c => Cert.Kernel4Ideal.Rows.result m c, ?_, ?_⟩
  · exact (θ_run Cert.Kernel4Ideal.defs _ _).mono
      (fun _ h c => ⟨(h c).1.trans (Cert.Kernel4Ideal.Rows.final m c), (h c).2⟩) (Cert.Kernel4Ideal.Value.run_blocks m g)
  · refine (θ_run Cert.Reference4Ideal.defs _ _).mono (fun _ h c => ⟨(h c).1.trans ?_, (h c).2⟩)
      (Cert.Reference4Ideal.Value.run (F := Ideal) m' g')
    obtain ⟨h0, h1, h2⟩ := hagree c
    exact same m m' c h0 h1 h2

end Cert.Proof.Proj

end
-- ==== Proof.Att.Spec.lean ====
/-
  The attention's projections, row by row over the extended reals: the row normalised for the keys and the values times
  their weight, the row normalised for the queries and the gates times theirs, the first sixteen columns of every head of
  64 turned by the angles of the row's position, and each result in the layout that the attention reads.
-/
module

public import proofs.«01_k».proof.Proof.Proj.Angle
public import Idealize.ShloMosaic.Lib.Pointwise

@[expose] public section

noncomputable section

open Idealize.ShloMosaic
open scoped BigOperators

namespace Cert.Att

open Cert.Ffn
open Cert.Proj (num num_eq bits_128)

/-! ## The angles -/

/-- Frequency `d` of the eight. -/
def freq (d : Fin 8) : EReal :=
  Ideal.pow (Ideal.ofBits FTy.f32 0x48F42400#32) (Ideal.div (-(Ideal.ofBits FTy.f32 0x40000000#32 * num d.val)) (Ideal.ofBits FTy.f32 0x41800000#32))

/-- The angle of position `t` at frequency `d`. -/
def angle (t : ℕ) (d : Fin 8) : EReal := num t * freq d

theorem bits_2 : Ideal.ofBits FTy.f32 0x40000000#32 = ((2 : ℝ) : EReal) := by
  simp [Ideal.ofBits, Ideal.ieee, -EReal.coe_mul]; norm_num

theorem bits_16 : Ideal.ofBits FTy.f32 0x41800000#32 = ((16 : ℝ) : EReal) := by
  simp [Ideal.ofBits, Ideal.ieee, -EReal.coe_mul]; norm_num

theorem bits_500000 : Ideal.ofBits FTy.f32 0x48F42400#32 = ((500000 : ℝ) : EReal) := by
  simp [Ideal.ofBits, Ideal.ieee, -EReal.coe_mul]; norm_num

theorem freq_real (d : Fin 8) : ∃ f : ℝ, freq d = (f : EReal) := by
  unfold freq
  rw [bits_2, bits_16, bits_500000, num_eq _ (by omega), ← EReal.coe_mul, ← EReal.coe_neg, Ideal.div_coe (by norm_num), ← EReal.coe_mul,
    Ideal.pow_coe_coe]
  exact ⟨_, rfl⟩

section
variable (q r : ℕ) (hq : q < 64) (hr : r < 128) (d : Fin 8)
include hq hr

theorem parts : ∃ a b : ℝ, num q * Ideal.ofBits FTy.f32 0x43000000#32 * freq d = (a : EReal) ∧ num r * freq d = (b : EReal)
    ∧ angle (128 * q + r) d = ((a + b : ℝ) : EReal) := by
  obtain ⟨f, hf⟩ := freq_real d
  refine ⟨q * 128 * f, r * f, ?_, ?_, ?_⟩
  · rw [hf, bits_128, num_eq _ (by omega), ← EReal.coe_mul, ← EReal.coe_mul]
  · rw [hf, num_eq _ (by omega), ← EReal.coe_mul]
  · unfold angle
    rw [hf, num_eq _ (by omega), ← EReal.coe_mul]
    congr 1
    push_cast
    ring

/-- The cosine of a position's angle from its two parts. -/
theorem cos_parts : Ideal.cos (num q * Ideal.ofBits FTy.f32 0x43000000#32 * freq d) * Ideal.cos (num r * freq d)
      - Ideal.sin (num q * Ideal.ofBits FTy.f32 0x43000000#32 * freq d) * Ideal.sin (num r * freq d)
    = Ideal.cos (angle (128 * q + r) d) := by
  obtain ⟨a, b, ha, hb, hab⟩ := parts q r hq hr d
  rw [ha, hb, hab]
  simp only [Ideal.cos_coe, Ideal.sin_coe]
  rw [Real.cos_add, EReal.coe_sub, EReal.coe_mul, EReal.coe_mul]

/-- The sine of a position's angle from its two parts. -/
theorem sin_parts : Ideal.sin (num q * Ideal.ofBits FTy.f32 0x43000000#32 * freq d) * Ideal.cos (num r * freq d)
      + Ideal.cos (num q * Ideal.ofBits FTy.f32 0x43000000#32 * freq d) * Ideal.sin (num r * freq d)
    = Ideal.sin (angle (128 * q + r) d) := by
  obtain ⟨a, b, ha, hb, hab⟩ := parts q r hq hr d
  rw [ha, hb, hab]
  simp only [Ideal.cos_coe, Ideal.sin_coe]
  rw [Real.sin_add, EReal.coe_add, EReal.coe_mul, EReal.coe_mul]
end

/-! ## The rows and the heads -/

/-- A head of 64 columns with its first sixteen turned, column `d` with column `d + 8`. -/
def head (A : Row 64) (C S : Row 8) (d : Fin 64) : EReal :=
  if h : d.val < 8 then A d * C ⟨d.val, h⟩ - A ⟨d.val + 8, by omega⟩ * S ⟨d.val, h⟩
  else if h' : d.val < 16 then A ⟨d.val - 8, by omega⟩ * S ⟨d.val - 8, by omega⟩ + A d * C ⟨d.val - 8, by omega⟩
  else A d

/-- The cosines of a position's angles. -/
def cosAt (t : ℕ) : Row 8 := fun d => Ideal.cos (angle t d)

/-- The sines of a position's angles. -/
def sinAt (t : ℕ) : Row 8 := fun d => Ideal.sin (angle t d)

section
variable (X : (⟨3, ![2, 8192, 1024]⟩ : Shape).Idx → EReal) (N : (⟨3, ![2, 4, 1024]⟩ : Shape).Idx → EReal)
  (G : (⟨1, ![1024]⟩ : Shape).Idx → EReal) (W : (⟨2, ![1024, 1536]⟩ : Shape).Idx → EReal) (U : (⟨3, ![1, 1024, 1072]⟩ : Shape).Idx → EReal)

/-- The projected row of the keys and the values. -/
def kv (b : Fin 2) (t : Fin 8192) : Row 1536 :=
  proj (norm (fun j => X (ix3 b t j)) (fun j => G (ix1 j))) (fun k j => W (ix2 k j))

/-- The projected row of the queries and the gates. -/
def qg (b : Fin 2) (t : Fin 8192) : Row 1072 :=
  proj (norm (fun j => X (ix3 b t j)) (fun j => N (ix3 1 0 j))) (fun k j => U (ix3 0 k j))

/-- Head `g` of a section of 256 columns that begins at column `o`. -/
def part (o : ℕ) (ho : o ≤ 1280) (b : Fin 2) (t : Fin 8192) (g : Fin 4) : Row 64 := fun d =>
  kv X G W b t ⟨o + (64 * g.val + d.val), by omega⟩

/-- The turned head `g` of a section of keys. -/
def key (o : ℕ) (ho : o ≤ 1280) (b : Fin 2) (t : Fin 8192) (g : Fin 4) : Row 64 :=
  head (part X G W o ho b t g) (cosAt t.val) (sinAt t.val)

/-- The turned query head `h`. -/
def query (b : Fin 2) (t : Fin 8192) (h : Fin 16) : Row 64 :=
  head (fun d => qg X N U b t ⟨64 * h.val + d.val, by omega⟩) (cosAt t.val) (sinAt t.val)

/-- The keys to be compressed: sixteen rows side by side. -/
def kcR (b : Fin 2) (g : Fin 4) (n : Fin 512) (l : Fin 1024) : EReal :=
  key X G W 0 (by omega) b ⟨n.val * 16 + l.val / 64, by omega⟩ g ⟨l.val % 64, by omega⟩

/-- The values to be compressed. -/
def vcR (b : Fin 2) (g : Fin 4) (n : Fin 512) (l : Fin 1024) : EReal :=
  part X G W 256 (by omega) b ⟨n.val * 16 + l.val / 64, by omega⟩ g ⟨l.val % 64, by omega⟩

/-- The keys to be selected, with the mark of the row's block. -/
def ksR (b : Fin 2) (g : Fin 4) (t : Fin 8192) (l : Fin 128) : EReal :=
  if h : l.val < 64 then key X G W 512 (by omega) b t g ⟨l.val, h⟩ else if l.val - 64 = t.val / 64 % 8 then 1 else 0

/-- The window's keys. -/
def kwR (b : Fin 2) (g : Fin 4) (t : Fin 8192) (l : Fin 64) : EReal := key X G W 1024 (by omega) b t g l

/-- The values to be selected, transposed in blocks of 512 rows over sixteen rows of ones. -/
def vsR (b : Fin 2) (g : Fin 4) (n : Fin 16) (r : Fin 80) (l : Fin 512) : EReal :=
  if h : r.val < 64 then part X G W 768 (by omega) b ⟨n.val * 512 + l.val, by omega⟩ g ⟨r.val, h⟩ else 1

/-- The window's values, transposed in blocks of 128 rows over sixteen rows of ones. -/
def vwR (b : Fin 2) (g : Fin 4) (n : Fin 64) (r : Fin 80) (l : Fin 128) : EReal :=
  if h : r.val < 64 then part X G W 1280 (by omega) b ⟨n.val * 128 + l.val, by omega⟩ g ⟨r.val, h⟩ else 1

/-- The scaled queries, transposed: blocks of 128 positions, in each the four heads of a group side by side. -/
def qR (b : Fin 2) (g : Fin 4) (d : Fin 64) (l : Fin 32768) : EReal :=
  query X N U b ⟨l.val / 512 * 128 + l.val % 128, by omega⟩ ⟨g.val * 4 + l.val / 128 % 4, by omega⟩ d
    * Ideal.ofBits FTy.f32 0x3E000000#32 * Ideal.ofBits FTy.f32 0x3FB8AA3B#32

/-- The gates, transposed: three rows for each head of a group, and four rows of a half. -/
def gateR (b : Fin 2) (g : Fin 4) (r : Fin 16) (t : Fin 8192) : EReal :=
  if h : r.val < 12 then Ideal.logistic (qg X N U b t ⟨1024 + (g.val * 12 + r.val % 4 * 3 + r.val / 4), by omega⟩)
  else Ideal.ofBits FTy.f32 0x3F000000#32
end

end Cert.Att

end
-- ==== Proof.Att.Words.lean ====
/-
  The attention's projections, the words that the kernel stores: every word at an index, from the block's rows.
-/
module

public import proofs.«01_k».proof.Proof.Gen.Kernel5Ideal.Skeleton
public import proofs.«01_k».proof.Proof.Att.Spec
public import Idealize.ShloMosaic.Lib.Pointwise
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Ffn Cert.Att

/-- Row `r` of a block, as a row of extended reals. -/
abbrev row {n k : ℕ} (A : (⟨2, ![n, k]⟩ : Shape).Idx → EReal) (r : Fin n) : Row k := fun j => A (ix2 r j)

/-- The columns of a block of rows, as a weight. -/
abbrev tr {n k : ℕ} (A : (⟨2, ![n, k]⟩ : Shape).Idx → EReal) : Fin k → Fin n → EReal := fun j r => A (ix2 r j)

/-! ## The products -/

theorem unit_at (X : Vec Ideal S512x1024 .f32) (G : Vec Ideal S1x1024 .f32) (r : Fin 512) (j : Fin 1024) :
    k0_pay7 (F := Ideal) X G (ix2 r j) = norm (row X r) (row G 0) j := by
  unfold k0_pay7 k0_pay6
  pointwise
  rfl

theorem unitq_at (X : Vec Ideal S512x1024 .f32) (G : Vec Ideal S1x1024 .f32) (r : Fin 512) (j : Fin 1024) :
    k0_pay225 (F := Ideal) (k0_pay6 X) G (ix2 r j) = norm (row X r) (row G 0) j := unit_at X G r j

theorem rn_at (X : Vec Ideal S512x1024 .f32) (G : Vec Ideal S1x1024 .f32) (W : Vec Ideal S1024x1024 .bf16) (r : Fin 512) (j : Fin 1024) :
    k0_pay8 (F := Ideal) X G W (ix2 r j) = proj (norm (row X r) (row G 0)) (row W) j := by
  have e : ∀ H : FVec Ideal S512x1024 .bf16, matmul dot_S512x1024_S1024x1024_S512x1024_1_0_0_1_n_n none H (shapeCast S1024x1024 W shapeCasts_S1024x1024_S1024x1024 : FVec Ideal S1024x1024 .bf16)
      (constant S512x1024 .f32 0x00000000#32) (ix2 r j) = ∑ k : Fin 1024, H (ix2 r k) * W (ix2 k j) := by
    intro H
    pointwise
  refine (e _).trans ?_
  exact Finset.sum_congr rfl fun k _ => congrArg (· * _) (unit_at X G r k)

theorem rt_at (X : Vec Ideal S512x1024 .f32) (G : Vec Ideal S1x1024 .f32) (W : Vec Ideal S512x1024 .bf16) (o : Fin 512) (t : Fin 512) :
    k0_pay178 (F := Ideal) (k0_pay7 X G) W (ix2 o t) = proj (norm (row X t) (row G 0)) (tr W) o := by
  have e : ∀ H : FVec Ideal S512x1024 .bf16, k0_pay178 (F := Ideal) H W (ix2 o t) = ∑ k : Fin 1024, W (ix2 o k) * H (ix2 t k) := by
    intro H
    unfold k0_pay178
    pointwise
  refine (e _).trans ?_
  exact Finset.sum_congr rfl fun k _ => (mul_comm _ _).trans (congrArg (· * _) (unit_at X G t k))

theorem qt_at (X : Vec Ideal S512x1024 .f32) (G : Vec Ideal S1x1024 .f32) (W : Vec Ideal S1024x1024 .bf16) (o : Fin 1024) (t : Fin 512) :
    k0_pay226 (F := Ideal) (k0_pay6 X) G W (ix2 o t) = proj (norm (row X t) (row G 0)) (tr W) o * Ideal.ofBits FTy.f32 0x3E38AA3B#32 := by
  have e : ∀ H : FVec Ideal S512x1024 .bf16, mulf (matmul dot_S1024x1024_S512x1024_S1024x512_1_1_0_0_n_n none (shapeCast S1024x1024 W shapeCasts_S1024x1024_S1024x1024 : FVec Ideal S1024x1024 .bf16) H
      (constant S1024x512 .f32 0x00000000#32)) (broadcast S1024x512 (Scalar.ofBits .f32 0x3E38AA3B#32 : Ideal .f32)) (ix2 o t)
      = (∑ k : Fin 1024, W (ix2 o k) * H (ix2 t k)) * Ideal.ofBits FTy.f32 0x3E38AA3B#32 := by
    intro H
    pointwise
  refine (e _).trans (congrArg (· * _) ?_)
  exact Finset.sum_congr rfl fun k _ => (mul_comm _ _).trans (congrArg (· * _) (unitq_at X G t k))

theorem gate_at (X : Vec Ideal S512x1024 .f32) (G : Vec Ideal S1x1024 .f32) (W : Vec Ideal S64x1024 .bf16) (o : Fin 64) (t : Fin 512) :
    k0_pay1 (F := Ideal) (k0_pay225 (k0_pay6 X) G) (shapeCast S64x1024 W shapeCasts_S64x1024_S64x1024) (constant S64x512 .f32 0x00000000#32) (ix2 o t)
      = Ideal.logistic (proj (norm (row X t) (row G 0)) (tr W) o) := by
  have e : ∀ H : FVec Ideal S512x1024 .bf16, k0_pay1 (F := Ideal) H (shapeCast S64x1024 W shapeCasts_S64x1024_S64x1024) (constant S64x512 .f32 0x00000000#32) (ix2 o t)
      = Ideal.logistic (∑ k : Fin 1024, W (ix2 o k) * H (ix2 t k)) := by
    intro H
    unfold k0_pay1
    pointwise
  refine (e _).trans (congrArg Ideal.logistic ?_)
  exact Finset.sum_congr rfl fun k _ => (mul_comm _ _).trans (congrArg (· * _) (unitq_at X G t k))

/-! ## The turned lanes -/

theorem sl128 (o : ℕ) (ho : o ≤ 896) : S512x1024.Slices ![0, o] S512x128 :=
  ⟨rfl, fun a => match a with
    | ⟨0, _⟩ => by show 0 + 512 ≤ 512; omega
    | ⟨1, _⟩ => by show o + 128 ≤ 1024; omega⟩

/-- A section of 128 lanes, two heads of 64, turned: three products with the coefficients. -/
def lanes (A : FVec Ideal S512x1024 .f32) (C S T : FVec Ideal S512x128 .f32) (o : ℕ) (ho : o ≤ 896) : FVec Ideal S512x128 .f32 :=
  addf (addf (mulf (extractStridedSlice S512x128 ![0, o] A (sl128 o ho)) C)
    (mulf (dynamicRotate 1 8#32 none (extractStridedSlice S512x128 ![0, o] A (sl128 o ho)) rotates_S512x128_d1) S))
    (mulf (dynamicRotate 1 120#32 none (extractStridedSlice S512x128 ![0, o] A (sl128 o ho)) rotates_S512x128_d1) T)

/-- The same at a row. -/
def turned (P : Row 1024) (C S T : Row 128) (o : ℕ) (ho : o ≤ 896) (l : Fin 128) : EReal :=
  P ⟨o + l.val, by omega⟩ * C l + P ⟨o + (l.val + 120) % 128, by omega⟩ * S l + P ⟨o + (l.val + 8) % 128, by omega⟩ * T l

theorem lanes_at (A : FVec Ideal S512x1024 .f32) (C S T : FVec Ideal S512x128 .f32) (o : ℕ) (ho : o ≤ 896) (t : Fin 512) (l : Fin 128) :
    lanes A C S T o ho (ix2 t l) = turned (row A t) (row C t) (row S t) (row T t) o ho l := by
  unfold lanes
  pointwise
  unfold turned
  simp only [show (l.val + 120) % 128 = (l.val + 128 - 8) % 128 by omega, show (l.val + 8) % 128 = (l.val + 128 - 120) % 128 by omega]

/-- The mark's column of the row's block of 64, one of eight. -/
def mark (t : Fin 512) (l : Fin 128) : EReal := if l.val - 64 = t.val / 64 % 8 then 1 else 0

theorem iota_at (t : Fin 512) (l : Fin 128) : k0_pay12 (F := Ideal) (ix2 t l) = if l.val = 64 + t.val / 64 % 8 then 1 else 0 := by
  have e : ∀ (t : Fin 512) (l : Fin 128), (IntOp.cmpi .eq (BitVec.ofNat 32 l.val) (IntOp.addi 64#32 (IntOp.andi (IntOp.shrsi .vector (BitVec.ofNat 32 t.val) 6#32) 7#32)) = 1)
      = (l.val = 64 + t.val / 64 % 8) := by
    intro t l
    apply propext
    have h1 : IntOp.andi (IntOp.shrsi .vector (BitVec.ofNat 32 t.val) 6#32) 7#32 = BitVec.ofNat 32 (t.val / 64 % 8) := by
      revert t
      decide +kernel
    rw [h1]
    have h2 : t.val / 64 % 8 < 8 := Nat.mod_lt _ (by decide)
    generalize t.val / 64 % 8 = q at h2
    revert q l
    decide +kernel
  unfold k0_pay12
  pointwise
  unfold Scalar.select
  simp only [e]

/-- The word of an even head's keys with the mark. -/
def evenW (Y D : FVec Ideal S512x128 .f32) : FVec Ideal S1x1x512x128 .bf16 :=
  shapeCast S1x1x512x128 (truncf .bf16 (select (cmpi .slt (iota .tc S512x128 32 [1] iota_S512x128_d1_w32) (broadcast S512x128 64#32)) Y D) bitsLt_bf16_f32) shapeCasts_S512x128_S1x1x512x128

/-- The word of an odd head's keys with the mark. -/
def oddW (Y D : FVec Ideal S512x128 .f32) : FVec Ideal S1x1x512x128 .bf16 :=
  shapeCast S1x1x512x128 (truncf .bf16 (select (cmpi .slt (iota .tc S512x128 32 [1] iota_S512x128_d1_w32) (broadcast S512x128 64#32)) (dynamicRotate 1 64#32 none Y rotates_S512x128_d1) D) bitsLt_bf16_f32) shapeCasts_S512x128_S1x1x512x128

theorem evenW_at (Y D : FVec Ideal S512x128 .f32) (t : Fin 512) (l : Fin 128) :
    evenW Y D (ix4 0 0 t l) = if l.val < 64 then Y (ix2 t l) else D (ix2 t l) := by
  have e : ∀ l : Fin 128, (IntOp.cmpi .slt (BitVec.ofNat 32 l.val) 64#32 = 1) = (l.val < 64) := by decide +kernel
  unfold evenW
  pointwise
  unfold Scalar.select
  simp only [e]

theorem oddW_at (Y D : FVec Ideal S512x128 .f32) (t : Fin 512) (l : Fin 128) :
    oddW Y D (ix4 0 0 t l) = if l.val < 64 then Y (ix2 t ⟨(l.val + 64) % 128, by omega⟩) else D (ix2 t l) := by
  have e : ∀ l : Fin 128, (IntOp.cmpi .slt (BitVec.ofNat 32 l.val) 64#32 = 1) = (l.val < 64) := by decide +kernel
  unfold oddW
  pointwise
  unfold Scalar.select
  simp only [e, show (l.val + 64) % 128 = (l.val + 128 - 64) % 128 by omega]

theorem sl64 (o : ℕ) (ho : o ≤ 64) : S512x128.Slices ![0, o] S512x64 :=
  ⟨rfl, fun a => match a with
    | ⟨0, _⟩ => by show 0 + 512 ≤ 512; omega
    | ⟨1, _⟩ => by show o + 64 ≤ 128; omega⟩

/-- The word of a window's keys. -/
def winW (Y : FVec Ideal S512x128 .f32) (o : ℕ) (ho : o ≤ 64) : FVec Ideal S1x1x512x64 .bf16 :=
  shapeCast S1x1x512x64 (extractStridedSlice S512x64 ![0, o] (truncf .bf16 Y bitsLt_bf16_f32) (sl64 o ho)) shapeCasts_S512x64_S1x1x512x64

theorem winW_at (Y : FVec Ideal S512x128 .f32) (o : ℕ) (ho : o ≤ 64) (t : Fin 512) (l : Fin 64) :
    winW Y o ho (ix4 0 0 t l) = Y (ix2 t ⟨o + l.val, by omega⟩) := by
  unfold winW
  pointwise

/-! ## The transposed values -/

theorem slv (o : ℕ) (ho : o ≤ 448) : S512x512.Slices ![o, 0] S64x512 :=
  ⟨rfl, fun a => match a with
    | ⟨0, _⟩ => by show o + 64 ≤ 512; omega
    | ⟨1, _⟩ => by show 0 + 512 ≤ 512; omega⟩

theorem slw (o b : ℕ) (ho : o ≤ 448) (hb : b ≤ 384) : S512x512.Slices ![o, b] S64x128 :=
  ⟨rfl, fun a => match a with
    | ⟨0, _⟩ => by show o + 64 ≤ 512; omega
    | ⟨1, _⟩ => by show b + 128 ≤ 512; omega⟩

/-- The word of the values to be selected. -/
def vsW (R : FVec Ideal S512x512 .bf16) (o : ℕ) (ho : o ≤ 448) : FVec Ideal S1x1x1x64x512 .bf16 :=
  shapeCast S1x1x1x64x512 (extractStridedSlice S64x512 ![o, 0] R (slv o ho)) shapeCasts_S64x512_S1x1x1x64x512

theorem vsW_at (R : FVec Ideal S512x512 .bf16) (o : ℕ) (ho : o ≤ 448) (r : Fin 64) (l : Fin 512) :
    vsW R o ho (ix5 0 0 0 r l) = R (ix2 ⟨o + r.val, by omega⟩ l) := by
  unfold vsW
  pointwise

/-- The word of the window's values. -/
def vwW (R : FVec Ideal S512x512 .bf16) (o b : ℕ) (ho : o ≤ 448) (hb : b ≤ 384) : FVec Ideal S1x1x1x64x128 .bf16 :=
  shapeCast S1x1x1x64x128 (extractStridedSlice S64x128 ![o, b] R (slw o b ho hb)) shapeCasts_S64x128_S1x1x1x64x128

theorem vwW_at (R : FVec Ideal S512x512 .bf16) (o b : ℕ) (ho : o ≤ 448) (hb : b ≤ 384) (r : Fin 64) (l : Fin 128) :
    vwW R o b ho hb (ix5 0 0 0 r l) = R (ix2 ⟨o + r.val, by omega⟩ ⟨b + l.val, by omega⟩) := by
  unfold vwW
  pointwise

theorem one_bits : Ideal.ofBits FTy.bf16 0x3F80#16 = 1 := by
  simp [Ideal.ofBits, Ideal.ieee, -EReal.coe_mul]; norm_num

theorem ones_at (r : Fin 16) (l : Fin 512) : k0_pay181 (F := Ideal) (ix5 0 0 0 r l) = 1 := by
  unfold k0_pay181 k0_pay179
  pointwise

theorem ones128_at (r : Fin 16) (l : Fin 128) : k0_pay224 (F := Ideal) k0_pay179 (ix5 0 0 0 r l) = 1 := by
  unfold k0_pay224 k0_pay179
  pointwise

/-! ## The queries -/

theorem slq (o : ℕ) (ho : o ≤ 1016) : S1024x512.Slices ![o, 0] S8x512 :=
  ⟨rfl, fun a => match a with
    | ⟨0, _⟩ => by show o + 8 ≤ 1024; omega
    | ⟨1, _⟩ => by show 0 + 512 ≤ 512; omega⟩

theorem slr (o : ℕ) (ho : o ≤ 976) : S1024x512.Slices ![o, 0] S48x512 :=
  ⟨rfl, fun a => match a with
    | ⟨0, _⟩ => by show o + 48 ≤ 1024; omega
    | ⟨1, _⟩ => by show 0 + 512 ≤ 512; omega⟩

theorem slb (b : ℕ) (hb : b ≤ 384) : S64x512.Slices ![0, b] S64x128 :=
  ⟨rfl, fun a => match a with
    | ⟨0, _⟩ => by show 0 + 64 ≤ 64; omega
    | ⟨1, _⟩ => by show b + 128 ≤ 512; omega⟩

/-- A head's rows turned, from row `o`. -/
def headW (Q : FVec Ideal S1024x512 .f32) (C S : FVec Ideal S8x512 .f32) (o : ℕ) (ho : o ≤ 960) : FVec Ideal S64x512 .bf16 :=
  truncf .bf16 (concatenate S64x512 0
    [⟨S8x512, subf (mulf (extractStridedSlice S8x512 ![o, 0] Q (slq o (by omega))) C) (mulf (extractStridedSlice S8x512 ![o + 8, 0] Q (slq (o + 8) (by omega))) S)⟩,
     ⟨S8x512, addf (mulf (extractStridedSlice S8x512 ![o, 0] Q (slq o (by omega))) S) (mulf (extractStridedSlice S8x512 ![o + 8, 0] Q (slq (o + 8) (by omega))) C)⟩,
     ⟨S48x512, extractStridedSlice S48x512 ![o + 16, 0] Q (slr (o + 16) (by omega))⟩] concatenates_S8x512_S8x512_S48x512_S64x512_d0) bitsLt_bf16_f32

theorem headW_at (Q : FVec Ideal S1024x512 .f32) (C S : FVec Ideal S8x512 .f32) (o : ℕ) (ho : o ≤ 960) (d : Fin 64) (t : Fin 512) :
    headW Q C S o ho (ix2 d t) = head (fun e => Q (ix2 ⟨o + e.val, by omega⟩ t)) (fun e => C (ix2 e t)) (fun e => S (ix2 e t)) d := by
  unfold headW
  pointwise
  unfold head
  by_cases h : d.val < 8
  · rw [dif_pos h, dif_pos h]
    simp only [show o + 8 + d.val = o + (d.val + 8) by omega]
  · rw [dif_neg h, dif_neg h]
    by_cases h' : d.val < 16
    · rw [dif_pos (show d.val - 8 < 8 by omega), dif_pos h']
      simp only [show o + 8 + (d.val - 8) = o + d.val by omega]
    · rw [dif_neg (show ¬ d.val - 8 < 8 by omega), dif_neg h']
      simp only [show o + 16 + (d.val - 8 - 8) = o + d.val by omega]

/-- The word of a head's queries at 128 positions. -/
def qW (H : FVec Ideal S64x512 .bf16) (b : ℕ) (hb : b ≤ 384) : FVec Ideal S1x1x64x128 .bf16 :=
  shapeCast S1x1x64x128 (extractStridedSlice S64x128 ![0, b] H (slb b hb)) shapeCasts_S64x128_S1x1x64x128

theorem qW_at (H : FVec Ideal S64x512 .bf16) (b : ℕ) (hb : b ≤ 384) (d : Fin 64) (l : Fin 128) :
    qW H b hb (ix4 0 0 d l) = H (ix2 d ⟨b + l.val, by omega⟩) := by
  unfold qW
  pointwise

theorem slg (o : ℕ) (ho : o ≤ 48) : S64x512.Slices ![o, 0] S16x512 :=
  ⟨rfl, fun a => match a with
    | ⟨0, _⟩ => by show o + 16 ≤ 64; omega
    | ⟨1, _⟩ => by show 0 + 512 ≤ 512; omega⟩

/-- The word of a group's gates. -/
def gateW (Z : FVec Ideal S64x512 .f32) (o : ℕ) (ho : o ≤ 48) : FVec Ideal S1x1x16x512 .f32 :=
  shapeCast S1x1x16x512 (extractStridedSlice S16x512 ![o, 0] Z (slg o ho)) shapeCasts_S16x512_S1x1x16x512

theorem gateW_at (Z : FVec Ideal S64x512 .f32) (o : ℕ) (ho : o ≤ 48) (r : Fin 16) (t : Fin 512) :
    gateW Z o ho (ix4 0 0 r t) = Z (ix2 ⟨o + r.val, by omega⟩ t) := by
  unfold gateW
  pointwise

end Cert.Kernel5Ideal.Rows

end
-- ==== Proof.Att.RunIdeal.lean ====
/-
  The run of the attention's projections: what each grid point leaves in the eight results' blocks, the obligation of
  the body at a point, and the run of the whole program with its arguments unchanged.
-/
module

public import proofs.«01_k».proof.Proof.Gen.Kernel5Ideal.Frame.RunA
public import Idealize.ShloMosaic.Lib.Claim
public import Idealize.ShloMosaic.Lib.Pipeline.Value

@[expose] public section

set_option maxRecDepth 16384

noncomputable section

namespace Cert.Kernel5Ideal.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What a point's stores leave -/

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S64x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S1x4x32x1024 .bf16) (harg13 : arg13.IsWhole) (arg14 : Memref sig .tc .vmem S1x4x32x1024 .bf16) (harg14 : arg14.IsWhole) (arg15 : Memref sig .tc .vmem S1x4x512x128 .bf16) (harg15 : arg15.IsWhole) (arg16 : Memref sig .tc .vmem S1x4x512x64 .bf16) (harg16 : arg16.IsWhole) (arg17 : Memref sig .tc .vmem S1x4x1x80x512 .bf16) (harg17 : arg17.IsWhole) (arg18 : Memref sig .tc .vmem S1x4x4x80x128 .bf16) (harg18 : arg18.IsWhole) (arg19 : Memref sig .tc .vmem S1x4x64x2048 .bf16) (harg19 : arg19.IsWhole) (arg20 : Memref sig .tc .vmem S1x4x16x512 .f32) (harg20 : arg20.IsWhole) (arg21 : Memref sig .tc .vmem S32x16x128 .f32) (harg21 : arg21.IsWhole)
  (x0 : Vec F S512x1024 .f32) (x1 : Vec F S1x1024 .f32) (x2 : Vec F S1x1024 .f32) (x3 : Vec F S1024x1024 .bf16) (x4 : Vec F S512x1024 .bf16) (x5 : Vec F S1024x1024 .bf16) (x6 : Vec F S64x1024 .bf16) (x7 : Vec F S512x128 .f32) (x8 : Vec F S512x128 .f32) (x9 : Vec F S512x128 .f32) (x10 : Vec F S8x512 .f32) (x11 : Vec F S8x512 .f32)

theorem covered12 (y : S1x4x32x1024.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1 S1x1x32x128.size (by sl_kernel_rfl) y

/-- What the stores leave in result 0's block. -/
def left12 : Vec F S1x4x32x1024 .bf16 :=
  VO0_12.read (Elt F) (VO0_12.writes (Elt F) VO0_12.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1)

theorem covered13 (y : S1x4x32x1024.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1 S1x1x32x128.size (by sl_kernel_rfl) y

/-- What the stores leave in result 1's block. -/
def left13 : Vec F S1x4x32x1024 .bf16 :=
  VO0_13.read (Elt F) (VO0_13.writes (Elt F) VO0_13.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1)

theorem covered14 (y : S1x4x512x128.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1 S1x1x512x128.size (by sl_kernel_rfl) y

/-- What the stores leave in result 2's block. -/
def left14 : Vec F S1x4x512x128 .bf16 :=
  VO0_14.read (Elt F) (VO0_14.writes (Elt F) VO0_14.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1)

theorem covered15 (y : S1x4x512x64.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1 S1x1x512x64.size (by sl_kernel_rfl) y

/-- What the stores leave in result 3's block. -/
def left15 : Vec F S1x4x512x64 .bf16 :=
  VO0_15.read (Elt F) (VO0_15.writes (Elt F) VO0_15.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1)

theorem covered16 (y : S1x4x1x80x512.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1, y ∈ pc.1.set :=
  View.cover_of_tiledBy (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1 ![1, 1, 1, 16, 512] (by sl_kernel_rfl) y

/-- What the stores leave in result 4's block. -/
def left16 : Vec F S1x4x1x80x512 .bf16 :=
  VO0_16.read (Elt F) (VO0_16.writes (Elt F) VO0_16.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1)

theorem covered17 (y : S1x4x4x80x128.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1, y ∈ pc.1.set :=
  View.cover_of_tiledBy (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1 ![1, 1, 1, 16, 128] (by sl_kernel_rfl) y

/-- What the stores leave in result 5's block. -/
def left17 : Vec F S1x4x4x80x128 .bf16 :=
  VO0_17.read (Elt F) (VO0_17.writes (Elt F) VO0_17.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1)

theorem covered18 (y : S1x4x64x2048.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1 S1x1x64x128.size (by sl_kernel_rfl) y

/-- What the stores leave in result 6's block. -/
def left18 : Vec F S1x4x64x2048 .bf16 :=
  VO0_18.read (Elt F) (VO0_18.writes (Elt F) VO0_18.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1)

theorem covered19 (y : S1x4x16x512.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1 S1x1x16x512.size (by sl_kernel_rfl) y

/-- What the stores leave in result 7's block. -/
def left19 : Vec F S1x4x16x512 .f32 :=
  VO0_19.read (Elt F) (VO0_19.writes (Elt F) VO0_19.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1)

end

variable (m : (ℓ : Loc nD τ sig) → Buf (Elt F) ℓ) (ρ : Dev nD → PrngReg)

/-- Result 0's block after point `t`. -/
def block12 (c : Dev nD) (t : Fin cfg0.N) : Vec F S1x4x32x1024 .bf16 :=
  left12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 1's block after point `t`. -/
def block13 (c : Dev nD) (t : Fin cfg0.N) : Vec F S1x4x32x1024 .bf16 :=
  left13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 2's block after point `t`. -/
def block14 (c : Dev nD) (t : Fin cfg0.N) : Vec F S1x4x512x128 .bf16 :=
  left14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 3's block after point `t`. -/
def block15 (c : Dev nD) (t : Fin cfg0.N) : Vec F S1x4x512x64 .bf16 :=
  left15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 4's block after point `t`. -/
def block16 (c : Dev nD) (t : Fin cfg0.N) : Vec F S1x4x1x80x512 .bf16 :=
  left16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 5's block after point `t`. -/
def block17 (c : Dev nD) (t : Fin cfg0.N) : Vec F S1x4x4x80x128 .bf16 :=
  left17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 6's block after point `t`. -/
def block18 (c : Dev nD) (t : Fin cfg0.N) : Vec F S1x4x64x2048 .bf16 :=
  left18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 7's block after point `t`. -/
def block19 (c : Dev nD) (t : Fin cfg0.N) : Vec F S1x4x16x512 .f32 :=
  left19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The data of the run: inputs keep their blocks, results take the blocks above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => block12 m c t
    | ⟨13, _⟩ => block13 m c t
    | ⟨14, _⟩ => block14 m c t
    | ⟨15, _⟩ => block15 m c t
    | ⟨16, _⟩ => block16 m c t
    | ⟨17, _⟩ => block17 m c t
    | ⟨18, _⟩ => block18 m c t
    | ⟨19, _⟩ => block19 m c t
    | ⟨_ + 20, h⟩ => absurd h (Nat.not_lt.2 (Nat.le_add_left _ _))
  Φ _ := Pipeline.ΦA spec0 c
  q _ := fullShare
  owed _ := 0

theorem array_eq (c : Dev nD) (w : Fin cfg0.W) : (dats m 0 c).A w = V m c (Pipeline.arrRef spec0 w) := by
  dsimp only [dats]

section
variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = block12 m c t := by dsimp only [dats]
theorem after13 : (dats m 0 c).after 13 t = block13 m c t := by dsimp only [dats]
theorem after14 : (dats m 0 c).after 14 t = block14 m c t := by dsimp only [dats]
theorem after15 : (dats m 0 c).after 15 t = block15 m c t := by dsimp only [dats]
theorem after16 : (dats m 0 c).after 16 t = block16 m c t := by dsimp only [dats]
theorem after17 : (dats m 0 c).after 17 t = block17 m c t := by dsimp only [dats]
theorem after18 : (dats m 0 c).after 18 t = block18 m c t := by dsimp only [dats]
theorem after19 : (dats m 0 c).after 19 t = block19 m c t := by dsimp only [dats]
theorem before0 (d) : (dats m 0 c).before 0 t d = iblk m c 0 t := before0_0_of m (dats m 0 c) (array_eq m c 0) (after0 m c) t d
theorem before1 (d) : (dats m 0 c).before 1 t d = iblk m c 1 t := before0_1_of m (dats m 0 c) (array_eq m c 1) (after1 m c) t d
theorem before2 (d) : (dats m 0 c).before 2 t d = iblk m c 2 t := before0_2_of m (dats m 0 c) (array_eq m c 2) (after2 m c) t d
theorem before3 (d) : (dats m 0 c).before 3 t d = iblk m c 3 t := before0_3_of m (dats m 0 c) (array_eq m c 3) (after3 m c) t d
theorem before4 (d) : (dats m 0 c).before 4 t d = iblk m c 4 t := before0_4_of m (dats m 0 c) (array_eq m c 4) (after4 m c) t d
theorem before5 (d) : (dats m 0 c).before 5 t d = iblk m c 5 t := before0_5_of m (dats m 0 c) (array_eq m c 5) (after5 m c) t d
theorem before6 (d) : (dats m 0 c).before 6 t d = iblk m c 6 t := before0_6_of m (dats m 0 c) (array_eq m c 6) (after6 m c) t d
theorem before7 (d) : (dats m 0 c).before 7 t d = iblk m c 7 t := before0_7_of m (dats m 0 c) (array_eq m c 7) (after7 m c) t d
theorem before8 (d) : (dats m 0 c).before 8 t d = iblk m c 8 t := before0_8_of m (dats m 0 c) (array_eq m c 8) (after8 m c) t d
theorem before9 (d) : (dats m 0 c).before 9 t d = iblk m c 9 t := before0_9_of m (dats m 0 c) (array_eq m c 9) (after9 m c) t d
theorem before10 (d) : (dats m 0 c).before 10 t d = iblk m c 10 t := before0_10_of m (dats m 0 c) (array_eq m c 10) (after10 m c) t d
theorem before11 (d) : (dats m 0 c).before 11 t d = iblk m c 11 t := before0_11_of m (dats m 0 c) (array_eq m c 11) (after11 m c) t d

/-- What the body is given at a point, window by window. -/
def given : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body returns at a point, window by window. -/
def returned : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
theorem sound : given m c t ⊢ wp frame (wpE (defs₀ (F := F)) Variants.none c none) Set.univ (bodyAt0 t) (fun _ => returned m c t) := by
  unfold given returned bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  rw [show (dats m 0 c).Φ t.castSucc = Pipeline.ΦA spec0 c from rfl, PhiA0_eq]
  unfold block12 block13 block14 block15 block16 block17 block18 block19
  unfold left12 left13 left14 left15 left16 left17 left18 left19
  dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (covered12 c _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (covered13 c _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (covered14 c _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (covered15 c _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (covered16 c _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (covered17 c _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (covered18 c _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (covered19 c _ _ _ _ _ _ _ _ _ _ _ _ _ _ _ _ _ _ _ _ _ _ _ _ _ _ _ _ _ _ _ _ _ _ _ _ _ _ _ _ _ _ _ _ _ _ _ _ _ _ _ _ _ _ _)

theorem row_eq : defs₀ (F := F) .tc cfg0.body (cfg0.bodyArgs t (cfg0.slots t)) = bodyAt0 t := by
  unfold defs₀; rw [Defs.onTc_tc]
end

set_option maxHeartbeats 2000000 in
theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := array_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The program ends, its arguments are unchanged, and its counters end at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (array_eq m) (run m ρ)) ((θ_run defs _ _).mono (fun _ h => h.2) (run_quiet m ρ))

theorem flushed12 (c : Dev nD) (t : Fin cfg0.N) : (dats m 0 c).flushed 12 t = (cfg0.win 12).cut (grid0.coords t) (block12 m c t) := by
  show (cfg0.win 12).cut (grid0.coords t) ((dats m 0 c).after 12 t) = _
  rw [after12]

theorem flushed13 (c : Dev nD) (t : Fin cfg0.N) : (dats m 0 c).flushed 13 t = (cfg0.win 13).cut (grid0.coords t) (block13 m c t) := by
  show (cfg0.win 13).cut (grid0.coords t) ((dats m 0 c).after 13 t) = _
  rw [after13]

theorem flushed14 (c : Dev nD) (t : Fin cfg0.N) : (dats m 0 c).flushed 14 t = (cfg0.win 14).cut (grid0.coords t) (block14 m c t) := by
  show (cfg0.win 14).cut (grid0.coords t) ((dats m 0 c).after 14 t) = _
  rw [after14]

theorem flushed15 (c : Dev nD) (t : Fin cfg0.N) : (dats m 0 c).flushed 15 t = (cfg0.win 15).cut (grid0.coords t) (block15 m c t) := by
  show (cfg0.win 15).cut (grid0.coords t) ((dats m 0 c).after 15 t) = _
  rw [after15]

theorem flushed16 (c : Dev nD) (t : Fin cfg0.N) : (dats m 0 c).flushed 16 t = (cfg0.win 16).cut (grid0.coords t) (block16 m c t) := by
  show (cfg0.win 16).cut (grid0.coords t) ((dats m 0 c).after 16 t) = _
  rw [after16]

theorem flushed17 (c : Dev nD) (t : Fin cfg0.N) : (dats m 0 c).flushed 17 t = (cfg0.win 17).cut (grid0.coords t) (block17 m c t) := by
  show (cfg0.win 17).cut (grid0.coords t) ((dats m 0 c).after 17 t) = _
  rw [after17]

theorem flushed18 (c : Dev nD) (t : Fin cfg0.N) : (dats m 0 c).flushed 18 t = (cfg0.win 18).cut (grid0.coords t) (block18 m c t) := by
  show (cfg0.win 18).cut (grid0.coords t) ((dats m 0 c).after 18 t) = _
  rw [after18]

theorem flushed19 (c : Dev nD) (t : Fin cfg0.N) : (dats m 0 c).flushed 19 t = (cfg0.win 19).cut (grid0.coords t) (block19 m c t) := by
  show (cfg0.win 19).cut (grid0.coords t) ((dats m 0 c).after 19 t) = _
  rw [after19]

theorem post12 (r : PUnit × MemSt nD τ sig (Elt F)) (h : Pipeline.FramePost cfgs (dats m) 0 (V m) r) (c : Dev nD) :
    r.2.mem ((c : Thread nD τ).loc main_v90_0) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v90_1) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v90_2) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v90_3) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v90_4) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v90_5) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v90_6) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v90_7) = (dats m 0 c).arrAt 19 cfg0.N :=
  (h c).1 19

set_option maxHeartbeats 1000000 in
/-- The run with each result array named, and the arguments unchanged. -/
theorem run_named : θ_run defs (onTc (τ := τ) (main (F := F))) ⟨m, fun _ => 0, ρ⟩ fun r => ∀ c : Dev nD,
      r.2.mem ((c : Thread nD τ).loc main_v90_0) = (dats m 0 c).arrAt 12 cfg0.N
      ∧ r.2.mem ((c : Thread nD τ).loc main_v90_1) = (dats m 0 c).arrAt 13 cfg0.N
      ∧ r.2.mem ((c : Thread nD τ).loc main_v90_2) = (dats m 0 c).arrAt 14 cfg0.N
      ∧ r.2.mem ((c : Thread nD τ).loc main_v90_3) = (dats m 0 c).arrAt 15 cfg0.N
      ∧ r.2.mem ((c : Thread nD τ).loc main_v90_4) = (dats m 0 c).arrAt 16 cfg0.N
      ∧ r.2.mem ((c : Thread nD τ).loc main_v90_5) = (dats m 0 c).arrAt 17 cfg0.N
      ∧ r.2.mem ((c : Thread nD τ).loc main_v90_6) = (dats m 0 c).arrAt 18 cfg0.N
      ∧ r.2.mem ((c : Thread nD τ).loc main_v90_7) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post12 m r h c, post13 m r h c, post14 m r h c, post15 m r h c, post16 m r h c, post17 m r h c, post18 m r h c, post19 m r h c,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run m ρ)

end Cert.Kernel5Ideal.Att

end
-- ==== Proof.Att.Pieces.lean ====
/-
  The attention's projections, one block: what every result's block holds, and each stored word as its piece of it.
-/
module

public import proofs.«01_k».proof.Proof.Att.Words
public import proofs.«01_k».proof.Proof.Att.RunIdeal

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

/-! ## The whole windows -/

theorem ld_w0 (h : ∀ a, (![0, 0] : Fin 2 → ℕ) a + (![512, 1024] : Fin 2 → ℕ) a ≤ S512x1024.size a) (X : Vec Ideal S512x1024 .f32) :
    View.ld X (Rect.unit (s := S512x1024) ![0, 0] ![512, 1024] h) = X := View.ld_unit_zero (by funext a; fin_cases a <;> rfl) h X

theorem ld_w1 (h : ∀ a, (![0, 0] : Fin 2 → ℕ) a + (![1, 1024] : Fin 2 → ℕ) a ≤ S1x1024.size a) (X : Vec Ideal S1x1024 .f32) :
    View.ld X (Rect.unit (s := S1x1024) ![0, 0] ![1, 1024] h) = X := View.ld_unit_zero (by funext a; fin_cases a <;> rfl) h X

theorem ld_w2 (h : ∀ a, (![0, 0] : Fin 2 → ℕ) a + (![1024, 1024] : Fin 2 → ℕ) a ≤ S1024x1024.size a) (X : Vec Ideal S1024x1024 .bf16) :
    View.ld X (Rect.unit (s := S1024x1024) ![0, 0] ![1024, 1024] h) = X := View.ld_unit_zero (by funext a; fin_cases a <;> rfl) h X

theorem ld_w3 (h : ∀ a, (![0, 0] : Fin 2 → ℕ) a + (![512, 1024] : Fin 2 → ℕ) a ≤ S512x1024.size a) (X : Vec Ideal S512x1024 .bf16) :
    View.ld X (Rect.unit (s := S512x1024) ![0, 0] ![512, 1024] h) = X := View.ld_unit_zero (by funext a; fin_cases a <;> rfl) h X

theorem ld_w4 (h : ∀ a, (![0, 0] : Fin 2 → ℕ) a + (![64, 1024] : Fin 2 → ℕ) a ≤ S64x1024.size a) (X : Vec Ideal S64x1024 .bf16) :
    View.ld X (Rect.unit (s := S64x1024) ![0, 0] ![64, 1024] h) = X := View.ld_unit_zero (by funext a; fin_cases a <;> rfl) h X

theorem ld_w5 (h : ∀ a, (![0, 0] : Fin 2 → ℕ) a + (![512, 128] : Fin 2 → ℕ) a ≤ S512x128.size a) (X : Vec Ideal S512x128 .f32) :
    View.ld X (Rect.unit (s := S512x128) ![0, 0] ![512, 128] h) = X := View.ld_unit_zero (by funext a; fin_cases a <;> rfl) h X

theorem ld_w6 (h : ∀ a, (![0, 0] : Fin 2 → ℕ) a + (![8, 512] : Fin 2 → ℕ) a ≤ S8x512.size a) (X : Vec Ideal S8x512 .f32) :
    View.ld X (Rect.unit (s := S8x512) ![0, 0] ![8, 512] h) = X := View.ld_unit_zero (by funext a; fin_cases a <;> rfl) h X

/-! ## Where a piece lies -/

theorem emb4 {M N m n : ℕ} (g o : ℕ) (inb : ∀ a, (![0, g, 0, o] : Fin 4 → ℕ) a + (![1, 1, m, n] : Fin 4 → ℕ) a ≤ (⟨4, ![1, 4, M, N]⟩ : Shape).size a)
    (r : Fin m) (l : Fin n) (hg : g < 4) (hr : r.val < M) (hl : o + l.val < N) :
    ((Rect.unit (s := ⟨4, ![1, 4, M, N]⟩) ![0, g, 0, o] ![1, 1, m, n] inb).emb (ix4 0 0 r l) : (⟨4, ![1, 4, M, N]⟩ : Shape).Idx)
      = ix4 0 ⟨g, hg⟩ ⟨r.val, hr⟩ ⟨o + l.val, hl⟩ := by
  funext a
  apply Fin.ext
  refine (Rect.idx_unit_val (s := ⟨4, ![1, 4, M, N]⟩) ![0, g, 0, o] ![1, 1, m, n] inb (ix4 0 0 r l) a).trans ?_
  match a with
  | ⟨0, _⟩ => rfl
  | ⟨1, _⟩ => rfl
  | ⟨2, _⟩ => exact Nat.zero_add _
  | ⟨3, _⟩ => rfl

theorem emb5 {B M N m n : ℕ} (g b o : ℕ) (inb : ∀ a, (![0, g, b, o, 0] : Fin 5 → ℕ) a + (![1, 1, 1, m, n] : Fin 5 → ℕ) a ≤ (⟨5, ![1, 4, B, M, N]⟩ : Shape).size a)
    (r : Fin m) (l : Fin n) (hg : g < 4) (hb : b < B) (hr : o + r.val < M) (hl : l.val < N) :
    ((Rect.unit (s := ⟨5, ![1, 4, B, M, N]⟩) ![0, g, b, o, 0] ![1, 1, 1, m, n] inb).emb (ix5 0 0 0 r l) : (⟨5, ![1, 4, B, M, N]⟩ : Shape).Idx)
      = ix5 0 ⟨g, hg⟩ ⟨b, hb⟩ ⟨o + r.val, hr⟩ ⟨l.val, hl⟩ := by
  funext a
  apply Fin.ext
  refine (Rect.idx_unit_val (s := ⟨5, ![1, 4, B, M, N]⟩) ![0, g, b, o, 0] ![1, 1, 1, m, n] inb (ix5 0 0 0 r l) a).trans ?_
  match a with
  | ⟨0, _⟩ => rfl
  | ⟨1, _⟩ => rfl
  | ⟨2, _⟩ => rfl
  | ⟨3, _⟩ => rfl
  | ⟨4, _⟩ => exact Nat.zero_add _

section
variable (x0 : Vec Ideal S512x1024 .f32) (x1 : Vec Ideal S1x1024 .f32) (x2 : Vec Ideal S1x1024 .f32) (x3 : Vec Ideal S1024x1024 .bf16) (x4 : Vec Ideal S512x1024 .bf16) (x5 : Vec Ideal S1024x1024 .bf16) (x6 : Vec Ideal S64x1024 .bf16) (x7 : Vec Ideal S512x128 .f32) (x8 : Vec Ideal S512x128 .f32) (x9 : Vec Ideal S512x128 .f32) (x10 : Vec Ideal S8x512 .f32) (x11 : Vec Ideal S8x512 .f32)

/-! ## The blocks -/

/-- A block's gates. -/
def gateB (g : Fin 4) (r : Fin 16) (t : Fin 512) : EReal :=
  Ideal.logistic (proj (norm (row x0 t) (row x2 0)) (tr x6) ⟨16 * g.val + r.val, by omega⟩)

/-- A block's turned lanes of a section. -/
def lanesB (o : ℕ) (ho : o ≤ 768) (g : Fin 4) (t : Fin 512) (l : Fin 64) : EReal :=
  turned (proj (norm (row x0 t) (row x1 0)) (row x3)) (row x7 t) (row x8 t) (row x9 t) (o + 128 * (g.val / 2)) (by omega) ⟨64 * (g.val % 2) + l.val, by omega⟩

/-- A block's keys of the window. -/
def kwB (g : Fin 4) (t : Fin 512) (l : Fin 64) : EReal := lanesB x0 x1 x3 x7 x8 x9 768 (by omega) g t l

/-- A block's keys to be selected. -/
def ksB (g : Fin 4) (t : Fin 512) (l : Fin 128) : EReal :=
  if h : l.val < 64 then lanesB x0 x1 x3 x7 x8 x9 512 (by omega) g t ⟨l.val, h⟩ else mark t l

/-- A block's values to be selected. -/
def vsB (g : Fin 4) (r : Fin 80) (l : Fin 512) : EReal :=
  if h : r.val < 64 then proj (norm (row x0 l) (row x1 0)) (tr x4) ⟨64 * g.val + r.val, by omega⟩ else 1

/-- A block's values of the window. -/
def vwB (g : Fin 4) (b : Fin 4) (r : Fin 80) (l : Fin 128) : EReal :=
  if h : r.val < 64 then proj (norm (row x0 ⟨128 * b.val + l.val, by omega⟩) (row x1 0)) (tr x4) ⟨256 + (64 * g.val + r.val), by omega⟩ else 1

/-- A block's queries. -/
def qB (g : Fin 4) (d : Fin 64) (l : Fin 2048) : EReal :=
  head (fun e => proj (norm (row x0 ⟨l.val / 512 * 128 + l.val % 128, by omega⟩) (row x2 0)) (tr x5) ⟨64 * (g.val * 4 + l.val / 128 % 4) + e.val, by omega⟩ * Ideal.ofBits FTy.f32 0x3E38AA3B#32)
    (fun e => x10 (ix2 e ⟨l.val / 512 * 128 + l.val % 128, by omega⟩)) (fun e => x11 (ix2 e ⟨l.val / 512 * 128 + l.val % 128, by omega⟩)) d

/-! ## The pieces -/

theorem gate_piece (g : ℕ) (hg : g < 4) (o : ℕ) (ho : o ≤ 48) (e : o = 16 * g)
    (inb : ∀ a, (![0, g, 0, 0] : Fin 4 → ℕ) a + (![1, 1, 16, 512] : Fin 4 → ℕ) a ≤ S1x4x16x512.size a) (x : S1x1x16x512.Idx) :
    gateW (k0_pay1 (F := Ideal) (k0_pay225 (k0_pay6 x0) x2) (shapeCast S64x1024 x6 shapeCasts_S64x1024_S64x1024) (constant S64x512 .f32 0x00000000#32)) o ho x
      = (fun y : S1x4x16x512.Idx => gateB x0 x2 x6 (y 1) (y 2) (y 3)) ((Rect.unit (s := S1x4x16x512) ![0, g, 0, 0] ![1, 1, 16, 512] inb).emb x) := by
  subst e
  obtain ⟨r, t, rfl⟩ : ∃ (r : Fin 16) (t : Fin 512), x = ix4 0 0 r t := ⟨x 2, x 3, funext fun a => by fin_cases a <;> first | rfl | exact Subsingleton.elim (α := Fin 1) _ _⟩
  refine (gateW_at _ _ _ r t).trans ((gate_at x0 x2 x6 _ t).trans ?_)
  refine Eq.trans ?_ (congrArg (fun y : S1x4x16x512.Idx => gateB x0 x2 x6 (y 1) (y 2) (y 3)) (emb4 g 0 inb r t hg r.isLt (by omega))).symm
  show _ = gateB x0 x2 x6 ⟨g, hg⟩ r ⟨0 + t.val, _⟩
  rw [show (⟨0 + t.val, by omega⟩ : Fin 512) = t from Fin.ext (Nat.zero_add _)]
  rfl

theorem lanesB_at (o : ℕ) (ho : o ≤ 768) (g : ℕ) (hg : g < 4) (p : ℕ) (hp : p ≤ 896) (e : p = o + 128 * (g / 2)) (t : Fin 512) (l : Fin 64) :
    lanes (k0_pay8 (F := Ideal) x0 x1 x3) (k0_pay9 x7) (k0_pay10 x8) (k0_pay11 x9) p hp (ix2 t ⟨64 * (g % 2) + l.val, by omega⟩) = lanesB x0 x1 x3 x7 x8 x9 o ho ⟨g, hg⟩ t l := by
  subst e
  have e9 : k0_pay9 (F := Ideal) x7 = x7 := by
    funext x
    obtain ⟨r, j, rfl⟩ : ∃ (r : Fin 512) (j : Fin 128), x = ix2 r j := ⟨x 0, x 1, funext fun a => by fin_cases a <;> rfl⟩
    unfold k0_pay9
    pointwise
  have e10 : k0_pay10 (F := Ideal) x8 = x8 := by
    funext x
    obtain ⟨r, j, rfl⟩ : ∃ (r : Fin 512) (j : Fin 128), x = ix2 r j := ⟨x 0, x 1, funext fun a => by fin_cases a <;> rfl⟩
    unfold k0_pay10
    pointwise
  have e11 : k0_pay11 (F := Ideal) x9 = x9 := by
    funext x
    obtain ⟨r, j, rfl⟩ : ∃ (r : Fin 512) (j : Fin 128), x = ix2 r j := ⟨x 0, x 1, funext fun a => by fin_cases a <;> rfl⟩
    unfold k0_pay11
    pointwise
  rw [e9, e10, e11]
  refine (lanes_at _ _ _ _ _ hp t _).trans ?_
  have er : (row (k0_pay8 (F := Ideal) x0 x1 x3) t : Row 1024) = proj (norm (row x0 t) (row x1 0)) (row x3) := funext fun j => rn_at x0 x1 x3 t j
  rw [er]
  rfl

theorem kw_piece (g : ℕ) (hg : g < 4) (p : ℕ) (hp : p ≤ 896) (e : p = 768 + 128 * (g / 2)) (o : ℕ) (ho : o ≤ 64) (eo : o = 64 * (g % 2))
    (inb : ∀ a, (![0, g, 0, 0] : Fin 4 → ℕ) a + (![1, 1, 512, 64] : Fin 4 → ℕ) a ≤ S1x4x512x64.size a) (x : S1x1x512x64.Idx) :
    winW (lanes (k0_pay8 (F := Ideal) x0 x1 x3) (k0_pay9 x7) (k0_pay10 x8) (k0_pay11 x9) p hp) o ho x
      = (fun y : S1x4x512x64.Idx => kwB x0 x1 x3 x7 x8 x9 (y 1) (y 2) (y 3)) ((Rect.unit (s := S1x4x512x64) ![0, g, 0, 0] ![1, 1, 512, 64] inb).emb x) := by
  subst eo
  obtain ⟨t, l, rfl⟩ : ∃ (t : Fin 512) (l : Fin 64), x = ix4 0 0 t l := ⟨x 2, x 3, funext fun a => by fin_cases a <;> first | rfl | exact Subsingleton.elim (α := Fin 1) _ _⟩
  refine (winW_at _ _ _ t l).trans ?_
  refine Eq.trans ?_ (congrArg (fun y : S1x4x512x64.Idx => kwB x0 x1 x3 x7 x8 x9 (y 1) (y 2) (y 3)) (emb4 g 0 inb t l hg t.isLt (by omega))).symm
  show _ = kwB x0 x1 x3 x7 x8 x9 ⟨g, hg⟩ t ⟨0 + l.val, _⟩
  rw [show (⟨0 + l.val, by omega⟩ : Fin 64) = l from Fin.ext (Nat.zero_add _)]
  exact lanesB_at x0 x1 x3 x7 x8 x9 768 (by omega) g hg p hp e t l

theorem mark_iota (t : Fin 512) (l : Fin 128) (h : ¬ l.val < 64) : k0_pay12 (F := Ideal) (ix2 t l) = mark t l := by
  rw [iota_at]
  unfold mark
  simp only [show (l.val = 64 + t.val / 64 % 8) = (l.val - 64 = t.val / 64 % 8) from propext ⟨fun q => by omega, fun q => by omega⟩]

theorem ks_even (g : ℕ) (hg : g < 4) (h2 : g % 2 = 0) (p : ℕ) (hp : p ≤ 896) (e : p = 512 + 128 * (g / 2))
    (inb : ∀ a, (![0, g, 0, 0] : Fin 4 → ℕ) a + (![1, 1, 512, 128] : Fin 4 → ℕ) a ≤ S1x4x512x128.size a) (x : S1x1x512x128.Idx) :
    evenW (lanes (k0_pay8 (F := Ideal) x0 x1 x3) (k0_pay9 x7) (k0_pay10 x8) (k0_pay11 x9) p hp) k0_pay12 x
      = (fun y : S1x4x512x128.Idx => ksB x0 x1 x3 x7 x8 x9 (y 1) (y 2) (y 3)) ((Rect.unit (s := S1x4x512x128) ![0, g, 0, 0] ![1, 1, 512, 128] inb).emb x) := by
  obtain ⟨t, l, rfl⟩ : ∃ (t : Fin 512) (l : Fin 128), x = ix4 0 0 t l := ⟨x 2, x 3, funext fun a => by fin_cases a <;> first | rfl | exact Subsingleton.elim (α := Fin 1) _ _⟩
  refine (evenW_at _ _ t l).trans ?_
  refine Eq.trans ?_ (congrArg (fun y : S1x4x512x128.Idx => ksB x0 x1 x3 x7 x8 x9 (y 1) (y 2) (y 3)) (emb4 g 0 inb t l hg t.isLt (by omega))).symm
  show _ = ksB x0 x1 x3 x7 x8 x9 ⟨g, hg⟩ t ⟨0 + l.val, _⟩
  rw [show (⟨0 + l.val, by omega⟩ : Fin 128) = l from Fin.ext (Nat.zero_add _)]
  unfold ksB
  by_cases h : l.val < 64
  · rw [if_pos h, dif_pos h, ← lanesB_at x0 x1 x3 x7 x8 x9 512 (by omega) g hg p hp e t ⟨l.val, h⟩]
    exact congrArg (fun q => lanes _ _ _ _ p hp (ix2 t q)) (Fin.ext (show l.val = 64 * (g % 2) + l.val by omega))
  · rw [if_neg h, dif_neg h]
    exact mark_iota t l h

theorem ks_odd (g : ℕ) (hg : g < 4) (h2 : g % 2 = 1) (p : ℕ) (hp : p ≤ 896) (e : p = 512 + 128 * (g / 2))
    (inb : ∀ a, (![0, g, 0, 0] : Fin 4 → ℕ) a + (![1, 1, 512, 128] : Fin 4 → ℕ) a ≤ S1x4x512x128.size a) (x : S1x1x512x128.Idx) :
    oddW (lanes (k0_pay8 (F := Ideal) x0 x1 x3) (k0_pay9 x7) (k0_pay10 x8) (k0_pay11 x9) p hp) k0_pay12 x
      = (fun y : S1x4x512x128.Idx => ksB x0 x1 x3 x7 x8 x9 (y 1) (y 2) (y 3)) ((Rect.unit (s := S1x4x512x128) ![0, g, 0, 0] ![1, 1, 512, 128] inb).emb x) := by
  obtain ⟨t, l, rfl⟩ : ∃ (t : Fin 512) (l : Fin 128), x = ix4 0 0 t l := ⟨x 2, x 3, funext fun a => by fin_cases a <;> first | rfl | exact Subsingleton.elim (α := Fin 1) _ _⟩
  refine (oddW_at _ _ t l).trans ?_
  refine Eq.trans ?_ (congrArg (fun y : S1x4x512x128.Idx => ksB x0 x1 x3 x7 x8 x9 (y 1) (y 2) (y 3)) (emb4 g 0 inb t l hg t.isLt (by omega))).symm
  show _ = ksB x0 x1 x3 x7 x8 x9 ⟨g, hg⟩ t ⟨0 + l.val, _⟩
  rw [show (⟨0 + l.val, by omega⟩ : Fin 128) = l from Fin.ext (Nat.zero_add _)]
  unfold ksB
  by_cases h : l.val < 64
  · rw [if_pos h, dif_pos h, ← lanesB_at x0 x1 x3 x7 x8 x9 512 (by omega) g hg p hp e t ⟨l.val, h⟩]
    exact congrArg (fun q => lanes _ _ _ _ p hp (ix2 t q)) (Fin.ext (show (l.val + 64) % 128 = 64 * (g % 2) + l.val by omega))
  · rw [if_neg h, dif_neg h]
    exact mark_iota t l h

theorem vs_piece (g : ℕ) (hg : g < 4) (o : ℕ) (ho : o ≤ 448) (e : o = 64 * g)
    (inb : ∀ a, (![0, g, 0, 0, 0] : Fin 5 → ℕ) a + (![1, 1, 1, 64, 512] : Fin 5 → ℕ) a ≤ S1x4x1x80x512.size a) (x : S1x1x1x64x512.Idx) :
    vsW (k0_pay178 (F := Ideal) (k0_pay7 x0 x1) x4) o ho x
      = (fun y : S1x4x1x80x512.Idx => vsB x0 x1 x4 (y 1) (y 3) (y 4)) ((Rect.unit (s := S1x4x1x80x512) ![0, g, 0, 0, 0] ![1, 1, 1, 64, 512] inb).emb x) := by
  subst e
  obtain ⟨r, l, rfl⟩ : ∃ (r : Fin 64) (l : Fin 512), x = ix5 0 0 0 r l := ⟨x 3, x 4, funext fun a => by fin_cases a <;> first | rfl | exact Subsingleton.elim (α := Fin 1) _ _⟩
  refine (vsW_at _ _ _ r l).trans ((rt_at x0 x1 x4 _ l).trans ?_)
  refine Eq.trans ?_ (congrArg (fun y : S1x4x1x80x512.Idx => vsB x0 x1 x4 (y 1) (y 3) (y 4)) (emb5 g 0 0 inb r l hg (by omega) (by omega) l.isLt)).symm
  show _ = vsB x0 x1 x4 ⟨g, hg⟩ ⟨0 + r.val, _⟩ l
  unfold vsB
  rw [dif_pos (show 0 + r.val < 64 by omega)]
  exact congrArg (proj _ _) (Fin.ext (show 64 * g + r.val = 64 * g + (0 + r.val) by omega))

theorem vs_ones (g : ℕ) (hg : g < 4)
    (inb : ∀ a, (![0, g, 0, 64, 0] : Fin 5 → ℕ) a + (![1, 1, 1, 16, 512] : Fin 5 → ℕ) a ≤ S1x4x1x80x512.size a) (x : S1x1x1x16x512.Idx) :
    k0_pay181 (F := Ideal) x
      = (fun y : S1x4x1x80x512.Idx => vsB x0 x1 x4 (y 1) (y 3) (y 4)) ((Rect.unit (s := S1x4x1x80x512) ![0, g, 0, 64, 0] ![1, 1, 1, 16, 512] inb).emb x) := by
  obtain ⟨r, l, rfl⟩ : ∃ (r : Fin 16) (l : Fin 512), x = ix5 0 0 0 r l := ⟨x 3, x 4, funext fun a => by fin_cases a <;> first | rfl | exact Subsingleton.elim (α := Fin 1) _ _⟩
  refine (ones_at r l).trans ?_
  refine Eq.trans ?_ (congrArg (fun y : S1x4x1x80x512.Idx => vsB x0 x1 x4 (y 1) (y 3) (y 4)) (emb5 g 0 64 inb r l hg (by omega) (by omega) l.isLt)).symm
  show _ = vsB x0 x1 x4 ⟨g, hg⟩ ⟨64 + r.val, _⟩ l
  unfold vsB
  rw [dif_neg (show ¬ 64 + r.val < 64 by omega)]

theorem vw_piece (g : ℕ) (hg : g < 4) (b : ℕ) (hb : b < 4) (o p : ℕ) (ho : o ≤ 448) (hp : p ≤ 384) (e : o = 256 + 64 * g) (ep : p = 128 * b)
    (inb : ∀ a, (![0, g, b, 0, 0] : Fin 5 → ℕ) a + (![1, 1, 1, 64, 128] : Fin 5 → ℕ) a ≤ S1x4x4x80x128.size a) (x : S1x1x1x64x128.Idx) :
    vwW (k0_pay178 (F := Ideal) (k0_pay7 x0 x1) x4) o p ho hp x
      = (fun y : S1x4x4x80x128.Idx => vwB x0 x1 x4 (y 1) (y 2) (y 3) (y 4)) ((Rect.unit (s := S1x4x4x80x128) ![0, g, b, 0, 0] ![1, 1, 1, 64, 128] inb).emb x) := by
  subst e ep
  obtain ⟨r, l, rfl⟩ : ∃ (r : Fin 64) (l : Fin 128), x = ix5 0 0 0 r l := ⟨x 3, x 4, funext fun a => by fin_cases a <;> first | rfl | exact Subsingleton.elim (α := Fin 1) _ _⟩
  refine (vwW_at _ _ _ _ _ r l).trans ((rt_at x0 x1 x4 _ _).trans ?_)
  refine Eq.trans ?_ (congrArg (fun y : S1x4x4x80x128.Idx => vwB x0 x1 x4 (y 1) (y 2) (y 3) (y 4)) (emb5 g b 0 inb r l hg hb (by omega) l.isLt)).symm
  show _ = vwB x0 x1 x4 ⟨g, hg⟩ ⟨b, hb⟩ ⟨0 + r.val, _⟩ l
  unfold vwB
  rw [dif_pos (show 0 + r.val < 64 by omega)]
  exact congrArg (proj _ _) (Fin.ext (show 256 + 64 * g + r.val = 256 + (64 * g + (0 + r.val)) by omega))

theorem vw_ones (g : ℕ) (hg : g < 4) (b : ℕ) (hb : b < 4)
    (inb : ∀ a, (![0, g, b, 64, 0] : Fin 5 → ℕ) a + (![1, 1, 1, 16, 128] : Fin 5 → ℕ) a ≤ S1x4x4x80x128.size a) (x : S1x1x1x16x128.Idx) :
    k0_pay224 (F := Ideal) k0_pay179 x
      = (fun y : S1x4x4x80x128.Idx => vwB x0 x1 x4 (y 1) (y 2) (y 3) (y 4)) ((Rect.unit (s := S1x4x4x80x128) ![0, g, b, 64, 0] ![1, 1, 1, 16, 128] inb).emb x) := by
  obtain ⟨r, l, rfl⟩ : ∃ (r : Fin 16) (l : Fin 128), x = ix5 0 0 0 r l := ⟨x 3, x 4, funext fun a => by fin_cases a <;> first | rfl | exact Subsingleton.elim (α := Fin 1) _ _⟩
  refine (ones128_at r l).trans ?_
  refine Eq.trans ?_ (congrArg (fun y : S1x4x4x80x128.Idx => vwB x0 x1 x4 (y 1) (y 2) (y 3) (y 4)) (emb5 g b 64 inb r l hg hb (by omega) l.isLt)).symm
  show _ = vwB x0 x1 x4 ⟨g, hg⟩ ⟨b, hb⟩ ⟨64 + r.val, _⟩ l
  unfold vwB
  rw [dif_neg (show ¬ 64 + r.val < 64 by omega)]

theorem q_piece (g : ℕ) (hg : g < 4) (r : ℕ) (hr : r < 4) (b : ℕ) (hb : b < 4) (o p q : ℕ) (ho : o ≤ 960) (hp : p ≤ 384) (e : o = 64 * (g * 4 + r)) (ep : p = 128 * b) (eq : q = 512 * b + 128 * r)
    (inb : ∀ a, (![0, g, 0, q] : Fin 4 → ℕ) a + (![1, 1, 64, 128] : Fin 4 → ℕ) a ≤ S1x4x64x2048.size a) (x : S1x1x64x128.Idx) :
    qW (headW (k0_pay226 (F := Ideal) (k0_pay6 x0) x2 x5) (k0_pay227 x10) (k0_pay228 x11) o ho) p hp x
      = (fun y : S1x4x64x2048.Idx => qB x0 x2 x5 x10 x11 (y 1) (y 2) (y 3)) ((Rect.unit (s := S1x4x64x2048) ![0, g, 0, q] ![1, 1, 64, 128] inb).emb x) := by
  subst e ep eq
  obtain ⟨d, l, rfl⟩ : ∃ (d : Fin 64) (l : Fin 128), x = ix4 0 0 d l := ⟨x 2, x 3, funext fun a => by fin_cases a <;> first | rfl | exact Subsingleton.elim (α := Fin 1) _ _⟩
  have e10 : k0_pay227 (F := Ideal) x10 = x10 := by
    funext x
    obtain ⟨r, j, rfl⟩ : ∃ (r : Fin 8) (j : Fin 512), x = ix2 r j := ⟨x 0, x 1, funext fun a => by fin_cases a <;> rfl⟩
    unfold k0_pay227
    pointwise
  have e11 : k0_pay228 (F := Ideal) x11 = x11 := by
    funext x
    obtain ⟨r, j, rfl⟩ : ∃ (r : Fin 8) (j : Fin 512), x = ix2 r j := ⟨x 0, x 1, funext fun a => by fin_cases a <;> rfl⟩
    unfold k0_pay228
    pointwise
  rw [e10, e11]
  refine (qW_at _ _ _ d l).trans ((headW_at _ _ _ _ _ d _).trans ?_)
  refine Eq.trans ?_ (congrArg (fun y : S1x4x64x2048.Idx => qB x0 x2 x5 x10 x11 (y 1) (y 2) (y 3)) (emb4 g (512 * b + 128 * r) inb d l hg d.isLt (by omega))).symm
  show _ = qB x0 x2 x5 x10 x11 ⟨g, hg⟩ d ⟨512 * b + 128 * r + l.val, _⟩
  have et : (⟨(512 * b + 128 * r + l.val) / 512 * 128 + (512 * b + 128 * r + l.val) % 128, by omega⟩ : Fin 512) = ⟨128 * b + l.val, by omega⟩ := Fin.ext (by show (512 * b + 128 * r + l.val) / 512 * 128 + (512 * b + 128 * r + l.val) % 128 = 128 * b + l.val; omega)
  have eh : ∀ e : Fin 64, (⟨64 * (g * 4 + (512 * b + 128 * r + l.val) / 128 % 4) + e.val, by omega⟩ : Fin 1024) = ⟨64 * (g * 4 + r) + e.val, by omega⟩ := fun e => Fin.ext (by show 64 * (g * 4 + (512 * b + 128 * r + l.val) / 128 % 4) + e.val = 64 * (g * 4 + r) + e.val; omega)
  unfold qB
  simp only [et, eh]
  congr 1
  funext e
  exact qt_at x0 x2 x5 _ _
end

end Cert.Kernel5Ideal.Rows

end
-- ==== Proof.Att.Cells.lean ====
/-
  The attention's keys and values to be compressed, one block: sixteen rows packed side by side, read back from the scratch.
-/
module

public import proofs.«01_k».proof.Proof.Att.Pieces
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

/-! ## The scratch -/

/-- Row `k` of every sixteen. -/
def pick (P : S32x16x128.Idx → EReal) (k : ℕ) : FVec Ideal S32x1x128 .f32 := fun j => P (ix3 (j 0) ⟨k % 16, by omega⟩ (j 2))

/-- A read of row `k` of every sixteen after a store of the whole scratch. -/
theorem read_pick (v : View sig .tc .vmem S32x16x128 .f32) (P : S32x16x128.Idx → EReal) (L : List (View.Piece (Elt Ideal) S32x16x128 .f32)) (k : ℕ)
    (inb' : ∀ a, (![0, 0, 0] : Fin 3 → ℕ) a + (![32, 16, 128] : Fin 3 → ℕ) a ≤ S32x16x128.size a)
    (inb : ∀ a, (![0, k, 0] : Fin 3 → ℕ) a + (![32, 1, 128] : Fin 3 → ℕ) a ≤ S32x16x128.size a) :
    v.readCov (Val := Elt Ideal) ((⟨Rect.unit (s := S32x16x128) ![0, 0, 0] ![32, 16, 128] inb', P⟩ : View.Piece (Elt Ideal) S32x16x128 .f32) :: L)
      (Rect.unit (s := S32x16x128) ![0, k, 0] ![32, 1, 128] inb).toLoadRect = pick P k := by
  rw [View.readCov_eq_canon']
  funext j
  have e : View.canon (Val := Elt Ideal) ((⟨Rect.unit (s := S32x16x128) ![0, 0, 0] ![32, 16, 128] inb', P⟩ : View.Piece (Elt Ideal) S32x16x128 .f32) :: L) = P :=
    View.canon_cons_unit_zero (by funext a; fin_cases a <;> rfl) inb' P L
  rw [e]
  have h1 : k + 1 ≤ 16 := inb 1
  have hj : (j 1).val < 1 := (j 1).isLt
  refine congrArg P (funext fun a => Fin.ext ?_)
  refine (Rect.idx_unit_val (s := S32x16x128) ![0, k, 0] ![32, 1, 128] inb j a).trans ?_
  match a with
  | ⟨0, _⟩ => exact Nat.zero_add _
  | ⟨1, _⟩ => show k + (j 1).val = k % 16
              omega
  | ⟨2, _⟩ => exact Nat.zero_add _

/-- A section of 128 lanes, sixteen rows together. -/
def sect (Y : FVec Ideal S512x128 .f32) : FVec Ideal S32x16x128 .f32 :=
  shapeCast S32x16x128 (shapeCast S32x16x128 Y shapeCasts_S512x128_S32x16x128) shapeCasts_S32x16x128_S32x16x128

theorem sect_at (Y : FVec Ideal S512x128 .f32) (n : Fin 32) (k : Fin 16) (l : Fin 128) :
    sect Y (ix3 n k l) = Y (ix2 ⟨n.val * 16 + k.val, by omega⟩ l) := by
  unfold sect
  pointwise

/-- The word of an even head: a row's lower half beside the next row's. -/
def cellE (A B : FVec Ideal S32x1x128 .f32) : FVec Ideal S1x1x32x128 .bf16 :=
  shapeCast S1x1x32x128 (truncf .bf16 (select (cmpi .slt (iota .tc S32x128 32 [1] iota_S32x128_d1_w32) (broadcast S32x128 64#32))
    (shapeCast S32x128 A shapeCasts_S32x1x128_S32x128) (dynamicRotate 1 64#32 none (shapeCast S32x128 B shapeCasts_S32x1x128_S32x128) rotates_S32x128_d1)) bitsLt_bf16_f32) shapeCasts_S32x128_S1x1x32x128

/-- The word of an odd head: a row's upper half beside the next row's. -/
def cellO (A B : FVec Ideal S32x1x128 .f32) : FVec Ideal S1x1x32x128 .bf16 :=
  shapeCast S1x1x32x128 (truncf .bf16 (select (cmpi .slt (iota .tc S32x128 32 [1] iota_S32x128_d1_w32) (broadcast S32x128 64#32))
    (dynamicRotate 1 64#32 none (shapeCast S32x128 A shapeCasts_S32x1x128_S32x128) rotates_S32x128_d1) (shapeCast S32x128 B shapeCasts_S32x1x128_S32x128)) bitsLt_bf16_f32) shapeCasts_S32x128_S1x1x32x128

theorem cellE_at (A B : FVec Ideal S32x1x128 .f32) (n : Fin 32) (l : Fin 128) :
    cellE A B (ix4 0 0 n l) = if l.val < 64 then A (ix3 n 0 l) else B (ix3 n 0 ⟨(l.val + 64) % 128, by omega⟩) := by
  have e : ∀ l : Fin 128, (IntOp.cmpi .slt (BitVec.ofNat 32 l.val) 64#32 = 1) = (l.val < 64) := by decide +kernel
  unfold cellE
  pointwise
  unfold Scalar.select
  simp only [e, show (l.val + 64) % 128 = (l.val + 128 - 64) % 128 by omega]

theorem cellO_at (A B : FVec Ideal S32x1x128 .f32) (n : Fin 32) (l : Fin 128) :
    cellO A B (ix4 0 0 n l) = if l.val < 64 then A (ix3 n 0 ⟨(l.val + 64) % 128, by omega⟩) else B (ix3 n 0 l) := by
  have e : ∀ l : Fin 128, (IntOp.cmpi .slt (BitVec.ofNat 32 l.val) 64#32 = 1) = (l.val < 64) := by decide +kernel
  unfold cellO
  pointwise
  unfold Scalar.select
  simp only [e, show (l.val + 64) % 128 = (l.val + 128 - 64) % 128 by omega]

/-- Both words: a row's half beside the next row's. -/
theorem cellE_pick (Y : FVec Ideal S512x128 .f32) (p : ℕ) (hp : p < 8) (n : Fin 32) (l : Fin 128) :
    cellE (pick (sect Y) (2 * p)) (pick (sect Y) (2 * p + 1)) (ix4 0 0 n l) = Y (ix2 ⟨n.val * 16 + (2 * p + l.val / 64), by omega⟩ ⟨l.val % 64, by omega⟩) := by
  rw [cellE_at]
  by_cases h : l.val < 64
  · rw [if_pos h]
    refine (sect_at Y n _ _).trans (congrArg₂ (fun a b => Y (ix2 a b)) (Fin.ext ?_) (Fin.ext ?_))
    · show n.val * 16 + 2 * p % 16 = n.val * 16 + (2 * p + l.val / 64); omega
    · show l.val = l.val % 64; omega
  · rw [if_neg h]
    refine (sect_at Y n _ _).trans (congrArg₂ (fun a b => Y (ix2 a b)) (Fin.ext ?_) (Fin.ext ?_))
    · show n.val * 16 + (2 * p + 1) % 16 = n.val * 16 + (2 * p + l.val / 64); omega
    · show (l.val + 64) % 128 = l.val % 64; omega

theorem cellO_pick (Y : FVec Ideal S512x128 .f32) (p : ℕ) (hp : p < 8) (n : Fin 32) (l : Fin 128) :
    cellO (pick (sect Y) (2 * p)) (pick (sect Y) (2 * p + 1)) (ix4 0 0 n l) = Y (ix2 ⟨n.val * 16 + (2 * p + l.val / 64), by omega⟩ ⟨64 + l.val % 64, by omega⟩) := by
  rw [cellO_at]
  by_cases h : l.val < 64
  · rw [if_pos h]
    refine (sect_at Y n _ _).trans (congrArg₂ (fun a b => Y (ix2 a b)) (Fin.ext ?_) (Fin.ext ?_))
    · show n.val * 16 + 2 * p % 16 = n.val * 16 + (2 * p + l.val / 64); omega
    · show (l.val + 64) % 128 = 64 + l.val % 64; omega
  · rw [if_neg h]
    refine (sect_at Y n _ _).trans (congrArg₂ (fun a b => Y (ix2 a b)) (Fin.ext ?_) (Fin.ext ?_))
    · show n.val * 16 + (2 * p + 1) % 16 = n.val * 16 + (2 * p + l.val / 64); omega
    · show l.val = 64 + l.val % 64; omega

/-- A section of 128 lanes, not turned. -/
def plain (A : FVec Ideal S512x1024 .f32) (o : ℕ) (ho : o ≤ 896) : FVec Ideal S512x128 .f32 := extractStridedSlice S512x128 ![0, o] A (sl128 o ho)

theorem plain_at (A : FVec Ideal S512x1024 .f32) (o : ℕ) (ho : o ≤ 896) (t : Fin 512) (l : Fin 128) : plain A o ho (ix2 t l) = A (ix2 t ⟨o + l.val, by omega⟩) := by
  unfold plain
  pointwise

section
variable (x0 : Vec Ideal S512x1024 .f32) (x1 : Vec Ideal S1x1024 .f32) (x3 : Vec Ideal S1024x1024 .bf16) (x7 : Vec Ideal S512x128 .f32) (x8 : Vec Ideal S512x128 .f32) (x9 : Vec Ideal S512x128 .f32)

/-- A block's keys to be compressed. -/
def kcB (g : Fin 4) (n : Fin 32) (l : Fin 1024) : EReal :=
  lanesB x0 x1 x3 x7 x8 x9 0 (by omega) g ⟨n.val * 16 + l.val / 64, by omega⟩ ⟨l.val % 64, by omega⟩

/-- A block's values to be compressed. -/
def vcB (g : Fin 4) (n : Fin 32) (l : Fin 1024) : EReal :=
  proj (norm (row x0 ⟨n.val * 16 + l.val / 64, by omega⟩) (row x1 0)) (row x3) ⟨256 + (64 * g.val + l.val % 64), by omega⟩

theorem kc_pieceE (g : ℕ) (hg : g < 4) (h2 : g % 2 = 0) (p : ℕ) (hp : p ≤ 896) (e : p = 0 + 128 * (g / 2)) (q a b o : ℕ) (hq : q < 8) (ea : a = 2 * q) (eb : b = 2 * q + 1) (eo : o = 128 * q)
    (inb : ∀ a, (![0, g, 0, o] : Fin 4 → ℕ) a + (![1, 1, 32, 128] : Fin 4 → ℕ) a ≤ S1x4x32x1024.size a) (x : S1x1x32x128.Idx) :
    cellE (pick (sect (lanes (k0_pay8 (F := Ideal) x0 x1 x3) (k0_pay9 x7) (k0_pay10 x8) (k0_pay11 x9) p hp)) a) (pick (sect (lanes (k0_pay8 (F := Ideal) x0 x1 x3) (k0_pay9 x7) (k0_pay10 x8) (k0_pay11 x9) p hp)) b) x
      = (fun y : S1x4x32x1024.Idx => kcB x0 x1 x3 x7 x8 x9 (y 1) (y 2) (y 3)) ((Rect.unit (s := S1x4x32x1024) ![0, g, 0, o] ![1, 1, 32, 128] inb).emb x) := by
  subst ea eb eo
  obtain ⟨n, l, rfl⟩ : ∃ (n : Fin 32) (l : Fin 128), x = ix4 0 0 n l := ⟨x 2, x 3, funext fun a => by fin_cases a <;> first | rfl | exact Subsingleton.elim (α := Fin 1) _ _⟩
  refine (cellE_pick _ q hq n l).trans ?_
  refine Eq.trans ?_ (congrArg (fun y : S1x4x32x1024.Idx => kcB x0 x1 x3 x7 x8 x9 (y 1) (y 2) (y 3)) (emb4 g (128 * q) inb n l hg n.isLt (by omega))).symm
  show _ = kcB x0 x1 x3 x7 x8 x9 ⟨g, hg⟩ n ⟨128 * q + l.val, _⟩
  unfold kcB
  rw [← lanesB_at x0 x1 x3 x7 x8 x9 0 (by omega) g hg p hp e]
  refine congrArg₂ (fun a b => lanes _ _ _ _ p hp (ix2 a b)) (Fin.ext ?_) (Fin.ext ?_)
  · show n.val * 16 + (2 * q + l.val / 64) = n.val * 16 + (128 * q + l.val) / 64; omega
  · show l.val % 64 = 64 * (g % 2) + (128 * q + l.val) % 64; omega

theorem kc_pieceO (g : ℕ) (hg : g < 4) (h2 : g % 2 = 1) (p : ℕ) (hp : p ≤ 896) (e : p = 0 + 128 * (g / 2)) (q a b o : ℕ) (hq : q < 8) (ea : a = 2 * q) (eb : b = 2 * q + 1) (eo : o = 128 * q)
    (inb : ∀ a, (![0, g, 0, o] : Fin 4 → ℕ) a + (![1, 1, 32, 128] : Fin 4 → ℕ) a ≤ S1x4x32x1024.size a) (x : S1x1x32x128.Idx) :
    cellO (pick (sect (lanes (k0_pay8 (F := Ideal) x0 x1 x3) (k0_pay9 x7) (k0_pay10 x8) (k0_pay11 x9) p hp)) a) (pick (sect (lanes (k0_pay8 (F := Ideal) x0 x1 x3) (k0_pay9 x7) (k0_pay10 x8) (k0_pay11 x9) p hp)) b) x
      = (fun y : S1x4x32x1024.Idx => kcB x0 x1 x3 x7 x8 x9 (y 1) (y 2) (y 3)) ((Rect.unit (s := S1x4x32x1024) ![0, g, 0, o] ![1, 1, 32, 128] inb).emb x) := by
  subst ea eb eo
  obtain ⟨n, l, rfl⟩ : ∃ (n : Fin 32) (l : Fin 128), x = ix4 0 0 n l := ⟨x 2, x 3, funext fun a => by fin_cases a <;> first | rfl | exact Subsingleton.elim (α := Fin 1) _ _⟩
  refine (cellO_pick _ q hq n l).trans ?_
  refine Eq.trans ?_ (congrArg (fun y : S1x4x32x1024.Idx => kcB x0 x1 x3 x7 x8 x9 (y 1) (y 2) (y 3)) (emb4 g (128 * q) inb n l hg n.isLt (by omega))).symm
  show _ = kcB x0 x1 x3 x7 x8 x9 ⟨g, hg⟩ n ⟨128 * q + l.val, _⟩
  unfold kcB
  rw [← lanesB_at x0 x1 x3 x7 x8 x9 0 (by omega) g hg p hp e]
  refine congrArg₂ (fun a b => lanes _ _ _ _ p hp (ix2 a b)) (Fin.ext ?_) (Fin.ext ?_)
  · show n.val * 16 + (2 * q + l.val / 64) = n.val * 16 + (128 * q + l.val) / 64; omega
  · show 64 + l.val % 64 = 64 * (g % 2) + (128 * q + l.val) % 64; omega

theorem vc_pieceE (g : ℕ) (hg : g < 4) (h2 : g % 2 = 0) (p : ℕ) (hp : p ≤ 896) (e : p = 256 + 128 * (g / 2)) (q a b o : ℕ) (hq : q < 8) (ea : a = 2 * q) (eb : b = 2 * q + 1) (eo : o = 128 * q)
    (inb : ∀ a, (![0, g, 0, o] : Fin 4 → ℕ) a + (![1, 1, 32, 128] : Fin 4 → ℕ) a ≤ S1x4x32x1024.size a) (x : S1x1x32x128.Idx) :
    cellE (pick (sect (plain (k0_pay8 (F := Ideal) x0 x1 x3) p hp)) a) (pick (sect (plain (k0_pay8 (F := Ideal) x0 x1 x3) p hp)) b) x
      = (fun y : S1x4x32x1024.Idx => vcB x0 x1 x3 (y 1) (y 2) (y 3)) ((Rect.unit (s := S1x4x32x1024) ![0, g, 0, o] ![1, 1, 32, 128] inb).emb x) := by
  subst ea eb eo
  obtain ⟨n, l, rfl⟩ : ∃ (n : Fin 32) (l : Fin 128), x = ix4 0 0 n l := ⟨x 2, x 3, funext fun a => by fin_cases a <;> first | rfl | exact Subsingleton.elim (α := Fin 1) _ _⟩
  refine (cellE_pick _ q hq n l).trans ?_
  refine Eq.trans ?_ (congrArg (fun y : S1x4x32x1024.Idx => vcB x0 x1 x3 (y 1) (y 2) (y 3)) (emb4 g (128 * q) inb n l hg n.isLt (by omega))).symm
  show _ = vcB x0 x1 x3 ⟨g, hg⟩ n ⟨128 * q + l.val, _⟩
  refine (plain_at _ p hp _ _).trans ((rn_at x0 x1 x3 _ _).trans ?_)
  unfold vcB
  refine congrArg₂ (fun a b => proj (norm (row x0 a) (row x1 0)) (row x3) b) (Fin.ext ?_) (Fin.ext ?_)
  · show n.val * 16 + (2 * q + l.val / 64) = n.val * 16 + (128 * q + l.val) / 64; omega
  · show p + (l.val % 64) = 256 + (64 * g + (128 * q + l.val) % 64); omega

theorem vc_pieceO (g : ℕ) (hg : g < 4) (h2 : g % 2 = 1) (p : ℕ) (hp : p ≤ 896) (e : p = 256 + 128 * (g / 2)) (q a b o : ℕ) (hq : q < 8) (ea : a = 2 * q) (eb : b = 2 * q + 1) (eo : o = 128 * q)
    (inb : ∀ a, (![0, g, 0, o] : Fin 4 → ℕ) a + (![1, 1, 32, 128] : Fin 4 → ℕ) a ≤ S1x4x32x1024.size a) (x : S1x1x32x128.Idx) :
    cellO (pick (sect (plain (k0_pay8 (F := Ideal) x0 x1 x3) p hp)) a) (pick (sect (plain (k0_pay8 (F := Ideal) x0 x1 x3) p hp)) b) x
      = (fun y : S1x4x32x1024.Idx => vcB x0 x1 x3 (y 1) (y 2) (y 3)) ((Rect.unit (s := S1x4x32x1024) ![0, g, 0, o] ![1, 1, 32, 128] inb).emb x) := by
  subst ea eb eo
  obtain ⟨n, l, rfl⟩ : ∃ (n : Fin 32) (l : Fin 128), x = ix4 0 0 n l := ⟨x 2, x 3, funext fun a => by fin_cases a <;> first | rfl | exact Subsingleton.elim (α := Fin 1) _ _⟩
  refine (cellO_pick _ q hq n l).trans ?_
  refine Eq.trans ?_ (congrArg (fun y : S1x4x32x1024.Idx => vcB x0 x1 x3 (y 1) (y 2) (y 3)) (emb4 g (128 * q) inb n l hg n.isLt (by omega))).symm
  show _ = vcB x0 x1 x3 ⟨g, hg⟩ n ⟨128 * q + l.val, _⟩
  refine (plain_at _ p hp _ _).trans ((rn_at x0 x1 x3 _ _).trans ?_)
  unfold vcB
  refine congrArg₂ (fun a b => proj (norm (row x0 a) (row x1 0)) (row x3) b) (Fin.ext ?_) (Fin.ext ?_)
  · show n.val * 16 + (2 * q + l.val / 64) = n.val * 16 + (128 * q + l.val) / 64; omega
  · show p + (64 + l.val % 64) = 256 + (64 * g + (128 * q + l.val) % 64); omega
end

end Cert.Kernel5Ideal.Rows

end
-- ==== Proof.Att.BlockComp.lean ====
/-
  The keys and values of a block to be compressed.
-/
module

public import proofs.«01_k».proof.Proof.Att.Cells
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S64x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S1x4x32x1024 .bf16) (harg13 : arg13.IsWhole) (arg14 : Memref sig .tc .vmem S1x4x32x1024 .bf16) (harg14 : arg14.IsWhole) (arg15 : Memref sig .tc .vmem S1x4x512x128 .bf16) (harg15 : arg15.IsWhole) (arg16 : Memref sig .tc .vmem S1x4x512x64 .bf16) (harg16 : arg16.IsWhole) (arg17 : Memref sig .tc .vmem S1x4x1x80x512 .bf16) (harg17 : arg17.IsWhole) (arg18 : Memref sig .tc .vmem S1x4x4x80x128 .bf16) (harg18 : arg18.IsWhole) (arg19 : Memref sig .tc .vmem S1x4x64x2048 .bf16) (harg19 : arg19.IsWhole) (arg20 : Memref sig .tc .vmem S1x4x16x512 .f32) (harg20 : arg20.IsWhole) (arg21 : Memref sig .tc .vmem S32x16x128 .f32) (harg21 : arg21.IsWhole) (x0 : Vec Ideal S512x1024 .f32) (x1 : Vec Ideal S1x1024 .f32) (x2 : Vec Ideal S1x1024 .f32) (x3 : Vec Ideal S1024x1024 .bf16) (x4 : Vec Ideal S512x1024 .bf16) (x5 : Vec Ideal S1024x1024 .bf16) (x6 : Vec Ideal S64x1024 .bf16) (x7 : Vec Ideal S512x128 .f32) (x8 : Vec Ideal S512x128 .f32) (x9 : Vec Ideal S512x128 .f32) (x10 : Vec Ideal S8x512 .f32) (x11 : Vec Ideal S8x512 .f32)

set_option maxHeartbeats 8000000 in
/-- Result 0's stored block. -/
theorem kc_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1 = (fun y : S1x4x32x1024.Idx => kcB x0 x1 x3 x7 x8 x9 (y 1) (y 2) (y 3)) := by
  funext y
  refine View.canon_apply_of_pieces ((fun y : S1x4x32x1024.Idx => kcB x0 x1 x3 x7 x8 x9 (y 1) (y 2) (y 3))) _ ?_ y (covered12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.HS0_1, kernelRun0_A.sl.HS0_2, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v101, kernelRun0_A.sl.v103, kernelRun0_A.sl.v117, kernelRun0_A.sl.v119, kernelRun0_A.sl.v133, kernelRun0_A.sl.v135, kernelRun0_A.sl.v149, kernelRun0_A.sl.v151, kernelRun0_A.sl.v165, kernelRun0_A.sl.v167, kernelRun0_A.sl.v196, kernelRun0_A.sl.v198, kernelRun0_A.sl.v212, kernelRun0_A.sl.v214, kernelRun0_A.sl.v228, kernelRun0_A.sl.v230, kernelRun0_A.sl.v244, kernelRun0_A.sl.v246, kernelRun0_A.sl.v260, kernelRun0_A.sl.v262, kernelRun0_A.sl.v276, kernelRun0_A.sl.v278, kernelRun0_A.sl.v292, kernelRun0_A.sl.v294, kernelRun0_A.sl.v308, kernelRun0_A.sl.v310, kernelRun0_A.sl.v53, kernelRun0_A.sl.v55, kernelRun0_A.sl.v69, kernelRun0_A.sl.v71, kernelRun0_A.sl.v85, kernelRun0_A.sl.v87, View.readAt_eq_ld, Memref.IsWhole.read_unread, ld_w0, ld_w1, ld_w2, ld_w3, ld_w4, ld_w5, ld_w6, read_pick]
  refine List.forall_mem_cons.2 ⟨fun x => kc_pieceO x0 x1 x3 x7 x8 x9 3 (by decide) (by decide) 128 (by decide) (by decide) 7 14 15 896 (by decide) (by decide) (by decide) (by decide) (by decide) x, ?_⟩
  refine List.forall_mem_cons.2 ⟨fun x => kc_pieceE x0 x1 x3 x7 x8 x9 2 (by decide) (by decide) 128 (by decide) (by decide) 7 14 15 896 (by decide) (by decide) (by decide) (by decide) (by decide) x, ?_⟩
  refine List.forall_mem_cons.2 ⟨fun x => kc_pieceO x0 x1 x3 x7 x8 x9 3 (by decide) (by decide) 128 (by decide) (by decide) 6 12 13 768 (by decide) (by decide) (by decide) (by decide) (by decide) x, ?_⟩
  refine List.forall_mem_cons.2 ⟨fun x => kc_pieceE x0 x1 x3 x7 x8 x9 2 (by decide) (by decide) 128 (by decide) (by decide) 6 12 13 768 (by decide) (by decide) (by decide) (by decide) (by decide) x, ?_⟩
  refine List.forall_mem_cons.2 ⟨fun x => kc_pieceO x0 x1 x3 x7 x8 x9 3 (by decide) (by decide) 128 (by decide) (by decide) 5 10 11 640 (by decide) (by decide) (by decide) (by decide) (by decide) x, ?_⟩
  refine List.forall_mem_cons.2 ⟨fun x => kc_pieceE x0 x1 x3 x7 x8 x9 2 (by decide) (by decide) 128 (by decide) (by decide) 5 10 11 640 (by decide) (by decide) (by decide) (by decide) (by decide) x, ?_⟩
  refine List.forall_mem_cons.2 ⟨fun x => kc_pieceO x0 x1 x3 x7 x8 x9 3 (by decide) (by decide) 128 (by decide) (by decide) 4 8 9 512 (by decide) (by decide) (by decide) (by decide) (by decide) x, ?_⟩
  refine List.forall_mem_cons.2 ⟨fun x => kc_pieceE x0 x1 x3 x7 x8 x9 2 (by decide) (by decide) 128 (by decide) (by decide) 4 8 9 512 (by decide) (by decide) (by decide) (by decide) (by decide) x, ?_⟩
  refine List.forall_mem_cons.2 ⟨fun x => kc_pieceO x0 x1 x3 x7 x8 x9 3 (by decide) (by decide) 128 (by decide) (by decide) 3 6 7 384 (by decide) (by decide) (by decide) (by decide) (by decide) x, ?_⟩
  refine List.forall_mem_cons.2 ⟨fun x => kc_pieceE x0 x1 x3 x7 x8 x9 2 (by decide) (by decide) 128 (by decide) (by decide) 3 6 7 384 (by decide) (by decide) (by decide) (by decide) (by decide) x, ?_⟩
  refine List.forall_mem_cons.2 ⟨fun x => kc_pieceO x0 x1 x3 x7 x8 x9 3 (by decide) (by decide) 128 (by decide) (by decide) 2 4 5 256 (by decide) (by decide) (by decide) (by decide) (by decide) x, ?_⟩
  refine List.forall_mem_cons.2 ⟨fun x => kc_pieceE x0 x1 x3 x7 x8 x9 2 (by decide) (by decide) 128 (by decide) (by decide) 2 4 5 256 (by decide) (by decide) (by decide) (by decide) (by decide) x, ?_⟩
  refine List.forall_mem_cons.2 ⟨fun x => kc_pieceO x0 x1 x3 x7 x8 x9 3 (by decide) (by decide) 128 (by decide) (by decide) 1 2 3 128 (by decide) (by decide) (by decide) (by decide) (by decide) x, ?_⟩
  refine List.forall_mem_cons.2 ⟨fun x => kc_pieceE x0 x1 x3 x7 x8 x9 2 (by decide) (by decide) 128 (by decide) (by decide) 1 2 3 128 (by decide) (by decide) (by decide) (by decide) (by decide) x, ?_⟩
  refine List.forall_mem_cons.2 ⟨fun x => kc_pieceO x0 x1 x3 x7 x8 x9 3 (by decide) (by decide) 128 (by decide) (by decide) 0 0 1 0 (by decide) (by decide) (by decide) (by decide) (by decide) x, ?_⟩
  refine List.forall_mem_cons.2 ⟨fun x => kc_pieceE x0 x1 x3 x7 x8 x9 2 (by decide) (by decide) 128 (by decide) (by decide) 0 0 1 0 (by decide) (by decide) (by decide) (by decide) (by decide) x, ?_⟩
  refine List.forall_mem_cons.2 ⟨fun x => kc_pieceO x0 x1 x3 x7 x8 x9 1 (by decide) (by decide) 0 (by decide) (by decide) 7 14 15 896 (by decide) (by decide) (by decide) (by decide) (by decide) x, ?_⟩
  refine List.forall_mem_cons.2 ⟨fun x => kc_pieceE x0 x1 x3 x7 x8 x9 0 (by decide) (by decide) 0 (by decide) (by decide) 7 14 15 896 (by decide) (by decide) (by decide) (by decide) (by decide) x, ?_⟩
  refine List.forall_mem_cons.2 ⟨fun x => kc_pieceO x0 x1 x3 x7 x8 x9 1 (by decide) (by decide) 0 (by decide) (by decide) 6 12 13 768 (by decide) (by decide) (by decide) (by decide) (by decide) x, ?_⟩
  refine List.forall_mem_cons.2 ⟨fun x => kc_pieceE x0 x1 x3 x7 x8 x9 0 (by decide) (by decide) 0 (by decide) (by decide) 6 12 13 768 (by decide) (by decide) (by decide) (by decide) (by decide) x, ?_⟩
  refine List.forall_mem_cons.2 ⟨fun x => kc_pieceO x0 x1 x3 x7 x8 x9 1 (by decide) (by decide) 0 (by decide) (by decide) 5 10 11 640 (by decide) (by decide) (by decide) (by decide) (by decide) x, ?_⟩
  refine List.forall_mem_cons.2 ⟨fun x => kc_pieceE x0 x1 x3 x7 x8 x9 0 (by decide) (by decide) 0 (by decide) (by decide) 5 10 11 640 (by decide) (by decide) (by decide) (by decide) (by decide) x, ?_⟩
  refine List.forall_mem_cons.2 ⟨fun x => kc_pieceO x0 x1 x3 x7 x8 x9 1 (by decide) (by decide) 0 (by decide) (by decide) 4 8 9 512 (by decide) (by decide) (by decide) (by decide) (by decide) x, ?_⟩
  refine List.forall_mem_cons.2 ⟨fun x => kc_pieceE x0 x1 x3 x7 x8 x9 0 (by decide) (by decide) 0 (by decide) (by decide) 4 8 9 512 (by decide) (by decide) (by decide) (by decide) (by decide) x, ?_⟩
  refine List.forall_mem_cons.2 ⟨fun x => kc_pieceO x0 x1 x3 x7 x8 x9 1 (by decide) (by decide) 0 (by decide) (by decide) 3 6 7 384 (by decide) (by decide) (by decide) (by decide) (by decide) x, ?_⟩
  refine List.forall_mem_cons.2 ⟨fun x => kc_pieceE x0 x1 x3 x7 x8 x9 0 (by decide) (by decide) 0 (by decide) (by decide) 3 6 7 384 (by decide) (by decide) (by decide) (by decide) (by decide) x, ?_⟩
  refine List.forall_mem_cons.2 ⟨fun x => kc_pieceO x0 x1 x3 x7 x8 x9 1 (by decide) (by decide) 0 (by decide) (by decide) 2 4 5 256 (by decide) (by decide) (by decide) (by decide) (by decide) x, ?_⟩
  refine List.forall_mem_cons.2 ⟨fun x => kc_pieceE x0 x1 x3 x7 x8 x9 0 (by decide) (by decide) 0 (by decide) (by decide) 2 4 5 256 (by decide) (by decide) (by decide) (by decide) (by decide) x, ?_⟩
  refine List.forall_mem_cons.2 ⟨fun x => kc_pieceO x0 x1 x3 x7 x8 x9 1 (by decide) (by decide) 0 (by decide) (by decide) 1 2 3 128 (by decide) (by decide) (by decide) (by decide) (by decide) x, ?_⟩
  refine List.forall_mem_cons.2 ⟨fun x => kc_pieceE x0 x1 x3 x7 x8 x9 0 (by decide) (by decide) 0 (by decide) (by decide) 1 2 3 128 (by decide) (by decide) (by decide) (by decide) (by decide) x, ?_⟩
  refine List.forall_mem_cons.2 ⟨fun x => kc_pieceO x0 x1 x3 x7 x8 x9 1 (by decide) (by decide) 0 (by decide) (by decide) 0 0 1 0 (by decide) (by decide) (by decide) (by decide) (by decide) x, ?_⟩
  refine List.forall_mem_cons.2 ⟨fun x => kc_pieceE x0 x1 x3 x7 x8 x9 0 (by decide) (by decide) 0 (by decide) (by decide) 0 0 1 0 (by decide) (by decide) (by decide) (by decide) (by decide) x, ?_⟩
  exact List.forall_mem_nil _

theorem kc_left (g : Fin 4) (n : Fin 32) (l : Fin 1024) : left12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix4 0 g n l) = kcB x0 x1 x3 x7 x8 x9 g n l := by
  unfold left12
  rw [View.read_writes_eq_canon _ _ _ (covered12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (kc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix4 0 g n l)

set_option maxHeartbeats 8000000 in
/-- Result 1's stored block. -/
theorem vc_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1 = (fun y : S1x4x32x1024.Idx => vcB x0 x1 x3 (y 1) (y 2) (y 3)) := by
  funext y
  refine View.canon_apply_of_pieces ((fun y : S1x4x32x1024.Idx => vcB x0 x1 x3 (y 1) (y 2) (y 3))) _ ?_ y (covered13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.HS0_1, kernelRun0_A.sl.HS0_2, kernelRun0_A.sl.HS0_3, kernelRun0_A.sl.HS0_4, kernelRun0_A.sl.r_1, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_4, kernelRun0_A.sl.r_5, kernelRun0_A.sl.v329, kernelRun0_A.sl.v332, kernelRun0_A.sl.v334, kernelRun0_A.sl.v348, kernelRun0_A.sl.v350, kernelRun0_A.sl.v364, kernelRun0_A.sl.v366, kernelRun0_A.sl.v380, kernelRun0_A.sl.v382, kernelRun0_A.sl.v396, kernelRun0_A.sl.v398, kernelRun0_A.sl.v412, kernelRun0_A.sl.v414, kernelRun0_A.sl.v428, kernelRun0_A.sl.v430, kernelRun0_A.sl.v444, kernelRun0_A.sl.v446, kernelRun0_A.sl.v468, kernelRun0_A.sl.v470, kernelRun0_A.sl.v484, kernelRun0_A.sl.v486, kernelRun0_A.sl.v500, kernelRun0_A.sl.v502, kernelRun0_A.sl.v516, kernelRun0_A.sl.v518, kernelRun0_A.sl.v532, kernelRun0_A.sl.v534, kernelRun0_A.sl.v548, kernelRun0_A.sl.v550, kernelRun0_A.sl.v564, kernelRun0_A.sl.v566, kernelRun0_A.sl.v580, kernelRun0_A.sl.v582, View.readAt_eq_ld, Memref.IsWhole.read_unread, ld_w0, ld_w1, ld_w2, ld_w3, ld_w4, ld_w5, ld_w6, read_pick]
  refine List.forall_mem_cons.2 ⟨fun x => vc_pieceO x0 x1 x3 3 (by decide) (by decide) 384 (by decide) (by decide) 7 14 15 896 (by decide) (by decide) (by decide) (by decide) (by decide) x, ?_⟩
  refine List.forall_mem_cons.2 ⟨fun x => vc_pieceE x0 x1 x3 2 (by decide) (by decide) 384 (by decide) (by decide) 7 14 15 896 (by decide) (by decide) (by decide) (by decide) (by decide) x, ?_⟩
  refine List.forall_mem_cons.2 ⟨fun x => vc_pieceO x0 x1 x3 3 (by decide) (by decide) 384 (by decide) (by decide) 6 12 13 768 (by decide) (by decide) (by decide) (by decide) (by decide) x, ?_⟩
  refine List.forall_mem_cons.2 ⟨fun x => vc_pieceE x0 x1 x3 2 (by decide) (by decide) 384 (by decide) (by decide) 6 12 13 768 (by decide) (by decide) (by decide) (by decide) (by decide) x, ?_⟩
  refine List.forall_mem_cons.2 ⟨fun x => vc_pieceO x0 x1 x3 3 (by decide) (by decide) 384 (by decide) (by decide) 5 10 11 640 (by decide) (by decide) (by decide) (by decide) (by decide) x, ?_⟩
  refine List.forall_mem_cons.2 ⟨fun x => vc_pieceE x0 x1 x3 2 (by decide) (by decide) 384 (by decide) (by decide) 5 10 11 640 (by decide) (by decide) (by decide) (by decide) (by decide) x, ?_⟩
  refine List.forall_mem_cons.2 ⟨fun x => vc_pieceO x0 x1 x3 3 (by decide) (by decide) 384 (by decide) (by decide) 4 8 9 512 (by decide) (by decide) (by decide) (by decide) (by decide) x, ?_⟩
  refine List.forall_mem_cons.2 ⟨fun x => vc_pieceE x0 x1 x3 2 (by decide) (by decide) 384 (by decide) (by decide) 4 8 9 512 (by decide) (by decide) (by decide) (by decide) (by decide) x, ?_⟩
  refine List.forall_mem_cons.2 ⟨fun x => vc_pieceO x0 x1 x3 3 (by decide) (by decide) 384 (by decide) (by decide) 3 6 7 384 (by decide) (by decide) (by decide) (by decide) (by decide) x, ?_⟩
  refine List.forall_mem_cons.2 ⟨fun x => vc_pieceE x0 x1 x3 2 (by decide) (by decide) 384 (by decide) (by decide) 3 6 7 384 (by decide) (by decide) (by decide) (by decide) (by decide) x, ?_⟩
  refine List.forall_mem_cons.2 ⟨fun x => vc_pieceO x0 x1 x3 3 (by decide) (by decide) 384 (by decide) (by decide) 2 4 5 256 (by decide) (by decide) (by decide) (by decide) (by decide) x, ?_⟩
  refine List.forall_mem_cons.2 ⟨fun x => vc_pieceE x0 x1 x3 2 (by decide) (by decide) 384 (by decide) (by decide) 2 4 5 256 (by decide) (by decide) (by decide) (by decide) (by decide) x, ?_⟩
  refine List.forall_mem_cons.2 ⟨fun x => vc_pieceO x0 x1 x3 3 (by decide) (by decide) 384 (by decide) (by decide) 1 2 3 128 (by decide) (by decide) (by decide) (by decide) (by decide) x, ?_⟩
  refine List.forall_mem_cons.2 ⟨fun x => vc_pieceE x0 x1 x3 2 (by decide) (by decide) 384 (by decide) (by decide) 1 2 3 128 (by decide) (by decide) (by decide) (by decide) (by decide) x, ?_⟩
  refine List.forall_mem_cons.2 ⟨fun x => vc_pieceO x0 x1 x3 3 (by decide) (by decide) 384 (by decide) (by decide) 0 0 1 0 (by decide) (by decide) (by decide) (by decide) (by decide) x, ?_⟩
  refine List.forall_mem_cons.2 ⟨fun x => vc_pieceE x0 x1 x3 2 (by decide) (by decide) 384 (by decide) (by decide) 0 0 1 0 (by decide) (by decide) (by decide) (by decide) (by decide) x, ?_⟩
  refine List.forall_mem_cons.2 ⟨fun x => vc_pieceO x0 x1 x3 1 (by decide) (by decide) 256 (by decide) (by decide) 7 14 15 896 (by decide) (by decide) (by decide) (by decide) (by decide) x, ?_⟩
  refine List.forall_mem_cons.2 ⟨fun x => vc_pieceE x0 x1 x3 0 (by decide) (by decide) 256 (by decide) (by decide) 7 14 15 896 (by decide) (by decide) (by decide) (by decide) (by decide) x, ?_⟩
  refine List.forall_mem_cons.2 ⟨fun x => vc_pieceO x0 x1 x3 1 (by decide) (by decide) 256 (by decide) (by decide) 6 12 13 768 (by decide) (by decide) (by decide) (by decide) (by decide) x, ?_⟩
  refine List.forall_mem_cons.2 ⟨fun x => vc_pieceE x0 x1 x3 0 (by decide) (by decide) 256 (by decide) (by decide) 6 12 13 768 (by decide) (by decide) (by decide) (by decide) (by decide) x, ?_⟩
  refine List.forall_mem_cons.2 ⟨fun x => vc_pieceO x0 x1 x3 1 (by decide) (by decide) 256 (by decide) (by decide) 5 10 11 640 (by decide) (by decide) (by decide) (by decide) (by decide) x, ?_⟩
  refine List.forall_mem_cons.2 ⟨fun x => vc_pieceE x0 x1 x3 0 (by decide) (by decide) 256 (by decide) (by decide) 5 10 11 640 (by decide) (by decide) (by decide) (by decide) (by decide) x, ?_⟩
  refine List.forall_mem_cons.2 ⟨fun x => vc_pieceO x0 x1 x3 1 (by decide) (by decide) 256 (by decide) (by decide) 4 8 9 512 (by decide) (by decide) (by decide) (by decide) (by decide) x, ?_⟩
  refine List.forall_mem_cons.2 ⟨fun x => vc_pieceE x0 x1 x3 0 (by decide) (by decide) 256 (by decide) (by decide) 4 8 9 512 (by decide) (by decide) (by decide) (by decide) (by decide) x, ?_⟩
  refine List.forall_mem_cons.2 ⟨fun x => vc_pieceO x0 x1 x3 1 (by decide) (by decide) 256 (by decide) (by decide) 3 6 7 384 (by decide) (by decide) (by decide) (by decide) (by decide) x, ?_⟩
  refine List.forall_mem_cons.2 ⟨fun x => vc_pieceE x0 x1 x3 0 (by decide) (by decide) 256 (by decide) (by decide) 3 6 7 384 (by decide) (by decide) (by decide) (by decide) (by decide) x, ?_⟩
  refine List.forall_mem_cons.2 ⟨fun x => vc_pieceO x0 x1 x3 1 (by decide) (by decide) 256 (by decide) (by decide) 2 4 5 256 (by decide) (by decide) (by decide) (by decide) (by decide) x, ?_⟩
  refine List.forall_mem_cons.2 ⟨fun x => vc_pieceE x0 x1 x3 0 (by decide) (by decide) 256 (by decide) (by decide) 2 4 5 256 (by decide) (by decide) (by decide) (by decide) (by decide) x, ?_⟩
  refine List.forall_mem_cons.2 ⟨fun x => vc_pieceO x0 x1 x3 1 (by decide) (by decide) 256 (by decide) (by decide) 1 2 3 128 (by decide) (by decide) (by decide) (by decide) (by decide) x, ?_⟩
  refine List.forall_mem_cons.2 ⟨fun x => vc_pieceE x0 x1 x3 0 (by decide) (by decide) 256 (by decide) (by decide) 1 2 3 128 (by decide) (by decide) (by decide) (by decide) (by decide) x, ?_⟩
  refine List.forall_mem_cons.2 ⟨fun x => vc_pieceO x0 x1 x3 1 (by decide) (by decide) 256 (by decide) (by decide) 0 0 1 0 (by decide) (by decide) (by decide) (by decide) (by decide) x, ?_⟩
  refine List.forall_mem_cons.2 ⟨fun x => vc_pieceE x0 x1 x3 0 (by decide) (by decide) 256 (by decide) (by decide) 0 0 1 0 (by decide) (by decide) (by decide) (by decide) (by decide) x, ?_⟩
  exact List.forall_mem_nil _

theorem vc_left (g : Fin 4) (n : Fin 32) (l : Fin 1024) : left13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix4 0 g n l) = vcB x0 x1 x3 g n l := by
  unfold left13
  rw [View.read_writes_eq_canon _ _ _ (covered13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (vc_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix4 0 g n l)
end

end Cert.Kernel5Ideal.Rows

end
-- ==== Proof.Att.Host.lean ====
/-
  The arrays the host prepares for the attention's projections, at an index: the rows, the two gains, the four weights,
  and the tables of the angles' cosines and sines, once for the queries and once laid out over pairs of key heads.
-/
module

public import proofs.«01_k».proof.Proof.Gen.Kernel5Ideal.Frame.Runs
public import Idealize.ShloMosaic.Lib.Pointwise
public import proofs.«01_k».proof.Proof.Att.Spec

@[expose] public section

set_option maxRecDepth 16384

noncomputable section

open Idealize.ShloMosaic Idealize.ShloMosaic.TcCoe Idealize.SL.Sem

namespace Cert.Kernel5Ideal.Rows

open Cert.Kernel5Ideal Cert.Kernel5Ideal.Gen Cert.Att
open Cert.Proj (num)

/-! ## The frequencies and the tables -/

/-- The host's frequencies. -/
def freqs : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

theorem freqs_at (d : Fin 8) : freqs (ix1 d) = freq d := by
  unfold freqs freq num
  pointwise
  rfl

/-- The frequency that each of the 128 columns takes. -/
def takes : IVec S128x1 32 :=
  broadcastInDim S128x1 ![0] bcast_S128_S128x1_0 (select (constantI S128 1 0#1) (addi (fun i => lit0 (S128.rowMajor i)) (broadcastInDim S128 ![] bcast_S_S128 (constantI S_ 32 8#32))) (fun i => lit0 (S128.rowMajor i)))

/-- The frequencies over the 128 columns. -/
def spread : FVec Ideal S128 .f32 := Host.gather gather_S8_S128x1_S128_n_0_n_n_0_1_1 freqs takes

theorem takes_at : ∀ l : Fin 128, (gather_S8_S128x1_S128_n_0_n_n_0_1_1.operandIdx (ix1 l) takes 0).val = l.val % 8 := by
  decide +kernel

theorem spread_at (l : Fin 128) : spread (ix1 l) = freq ⟨l.val % 8, by omega⟩ := by
  rw [← freqs_at]
  show freqs (gather_S8_S128x1_S128_n_0_n_n_0_1_1.operandIdx (ix1 l) takes) = _
  congr 1
  funext a
  match a with
  | ⟨0, _⟩ => exact Fin.ext (takes_at l)

/-- The angles of the multiples of 128. -/
def coarse : FVec Ideal S64x128 .f32 :=
  mulf (broadcastInDim S64x128 ![0, 1] bcast_S64x1_S64x128_0_1 (broadcastInDim S64x1 ![0] bcast_S64_S64x1_0 (mulf (sitofp .f32 (iotaInDim S64 32 0)) (broadcastInDim S64 ![] bcast_S_S64 (constant S_ .f32 0x43000000#32)))))
    (broadcastInDim S64x128 ![0, 1] bcast_S1x128_S64x128_0_1 (broadcastInDim S1x128 ![1] bcast_S128_S1x128_1 spread))

/-- The angles of the remainders. -/
def fine : FVec Ideal S128x128 .f32 :=
  mulf (broadcastInDim S128x128 ![0, 1] bcast_S128x1_S128x128_0_1 (broadcastInDim S128x1 ![0] bcast_S128_S128x1_0 (sitofp .f32 (iotaInDim S128 32 0))))
    (broadcastInDim S128x128 ![0, 1] bcast_S1x128_S128x128_0_1 (broadcastInDim S1x128 ![1] bcast_S128_S1x128_1 spread))

theorem coarse_at (q : Fin 64) (l : Fin 128) : coarse (ix2 q l) = num q.val * Ideal.ofBits FTy.f32 0x43000000#32 * freq ⟨l.val % 8, by omega⟩ := by
  rw [← spread_at]
  unfold coarse num
  generalize spread = f
  pointwise
  rfl

theorem fine_at (r l : Fin 128) : fine (ix2 r l) = num r.val * freq ⟨l.val % 8, by omega⟩ := by
  rw [← spread_at]
  unfold fine num
  generalize spread = f
  pointwise
  rfl

/-- A coarse table beside every row of a fine one. -/
def spreadC (A : FVec Ideal S64x128 .f32) : FVec Ideal S64x128x128 .f32 :=
  broadcastInDim S64x128x128 ![0, 1, 2] bcast_S64x1x128_S64x128x128_0_1_2 (broadcastInDim S64x1x128 ![0, 2] bcast_S64x128_S64x1x128_0_2 A)

/-- A fine table beside every row of a coarse one. -/
def spreadF (A : FVec Ideal S128x128 .f32) : FVec Ideal S64x128x128 .f32 :=
  broadcastInDim S64x128x128 ![0, 1, 2] bcast_S1x128x128_S64x128x128_0_1_2 (broadcastInDim S1x128x128 ![1, 2] bcast_S128x128_S1x128x128_1_2 A)

/-- The table of cosines. -/
def cosTable (A : FVec Ideal S64x128 .f32) (B : FVec Ideal S128x128 .f32) : FVec Ideal S8192x128 .f32 :=
  shapeCast S8192x128 (subf (mulf (spreadC (Host.cos A)) (spreadF (Host.cos B))) (mulf (spreadC (Host.sin A)) (spreadF (Host.sin B)))) shapeCasts_S64x128x128_S8192x128

/-- The table of sines. -/
def sinTable (A : FVec Ideal S64x128 .f32) (B : FVec Ideal S128x128 .f32) : FVec Ideal S8192x128 .f32 :=
  shapeCast S8192x128 (addf (mulf (spreadC (Host.sin A)) (spreadF (Host.cos B))) (mulf (spreadC (Host.cos A)) (spreadF (Host.sin B)))) shapeCasts_S64x128x128_S8192x128

theorem cosTable_at (t : Fin 8192) (l : Fin 128) : cosTable coarse fine (ix2 t l) = cosAt t.val ⟨l.val % 8, by omega⟩ := by
  have e : ∀ (A : FVec Ideal S64x128 .f32) (B : FVec Ideal S128x128 .f32), cosTable A B (ix2 t l)
      = Ideal.cos (A (ix2 ⟨t.val / 128, by omega⟩ l)) * Ideal.cos (B (ix2 ⟨t.val % 128, by omega⟩ l))
        - Ideal.sin (A (ix2 ⟨t.val / 128, by omega⟩ l)) * Ideal.sin (B (ix2 ⟨t.val % 128, by omega⟩ l)) := by
    intro A B
    unfold cosTable spreadC spreadF
    pointwise
  rw [e, coarse_at, fine_at]
  refine (cos_parts (t.val / 128) (t.val % 128) (by omega) (by omega) _).trans ?_
  rw [Nat.div_add_mod]
  rfl

theorem sinTable_at (t : Fin 8192) (l : Fin 128) : sinTable coarse fine (ix2 t l) = sinAt t.val ⟨l.val % 8, by omega⟩ := by
  have e : ∀ (A : FVec Ideal S64x128 .f32) (B : FVec Ideal S128x128 .f32), sinTable A B (ix2 t l)
      = Ideal.sin (A (ix2 ⟨t.val / 128, by omega⟩ l)) * Ideal.cos (B (ix2 ⟨t.val % 128, by omega⟩ l))
        + Ideal.cos (A (ix2 ⟨t.val / 128, by omega⟩ l)) * Ideal.sin (B (ix2 ⟨t.val % 128, by omega⟩ l)) := by
    intro A B
    unfold sinTable spreadC spreadF
    pointwise
  rw [e, coarse_at, fine_at]
  refine (sin_parts (t.val / 128) (t.val % 128) (by omega) (by omega) _).trans ?_
  rw [Nat.div_add_mod]
  rfl

/-- A table masked by columns. -/
def masked (M : IVec S128 1) (A : FVec Ideal S8192x128 .f32) (z : FVec Ideal S_ .f32) : FVec Ideal S8192x128 .f32 :=
  select (broadcastInDim S8192x128 ![1] bcast_S128_S8192x128_1 M) A (broadcastInDim S8192x128 ![] bcast_S_S8192x128 z)

theorem masked_at (M : IVec S128 1) (A : FVec Ideal S8192x128 .f32) (z : FVec Ideal S_ .f32) (t : Fin 8192) (l : Fin 128) :
    masked M A z (ix2 t l) = if M (ix1 l) = 1#1 then A (ix2 t l) else z ix0 := by
  unfold masked
  pointwise
  rfl

theorem mask1 : ∀ l : Fin 128, (lit1 (S128.rowMajor (ix1 l)) = 1#1) = (l.val % 64 < 16) := by decide +kernel

theorem mask2 : ∀ l : Fin 128, (lit2 (S128.rowMajor (ix1 l)) = 1#1) = (8 ≤ l.val % 64 ∧ l.val % 64 < 16) := by decide +kernel

theorem mask3 : ∀ l : Fin 128, (lit3 (S128.rowMajor (ix1 l)) = 1#1) = (l.val % 64 < 8) := by decide +kernel

/-! ## The arrays -/

variable (m : (ℓ : Loc nD τ sig) → Buf (Elt Ideal) ℓ) (c : Dev nD)

/-- The rows. -/
abbrev aX : FVec Ideal S2x8192x1024 .f32 := m (c.tc.loc main_arg0)
/-- The norms' gains. -/
abbrev aN : FVec Ideal S2x4x1024 .f32 := m (c.tc.loc main_arg1)
/-- The gain of the keys and the values. -/
abbrev aG : FVec Ideal S1024 .f32 := m (c.tc.loc main_arg2)
/-- The weight of the keys and the values. -/
abbrev aW : FVec Ideal S1024x1536 .f32 := m (c.tc.loc main_arg3)
/-- The weight of the queries and the gates. -/
abbrev aU : FVec Ideal S1x1024x1072 .f32 := m (c.tc.loc main_arg4)

theorem V_c : (V m c main_v64 : S8192x128.Idx → EReal) = masked (fun i => lit1 (S128.rowMajor i)) (cosTable coarse fine) (id (constant S_ .f32 0x3F800000#32)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_s1 : (V m c main_v65 : S8192x128.Idx → EReal) = masked (fun i => lit2 (S128.rowMajor i)) (sinTable coarse fine) (id (constant S_ .f32 0x00000000#32)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_s2 : (V m c main_v67 : S8192x128.Idx → EReal) = masked (fun i => lit3 (S128.rowMajor i)) (Host.negf (sinTable coarse fine)) (id (constant S_ .f32 0x00000000#32)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_ct : (V m c main_v69 : S8x8192.Idx → EReal) = (transpose S8x8192 [1, 0] (extractStridedSlice S8192x8 ![0, 0] (cosTable coarse fine) slices_S8192x128_S8192x8_0_0) transposes_S8192x8_S8x8192_1_0 : FVec Ideal S8x8192 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_st : (V m c main_v71 : S8x8192.Idx → EReal) = (transpose S8x8192 [1, 0] (extractStridedSlice S8192x8 ![0, 0] (sinTable coarse fine) slices_S8192x128_S8192x8_0_0) transposes_S8192x8_S8x8192_1_0 : FVec Ideal S8x8192 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem c_at (t : Fin 8192) (l : Fin 128) : (V m c main_v64 : S8192x128.Idx → EReal) (ix2 t l) = if l.val % 64 < 16 then cosAt t.val ⟨l.val % 8, by omega⟩ else 1 := by
  rw [V_c, masked_at, cosTable_at]
  simp only [mask1]
  exact congrArg _ Ideal.ofBits_one_f32

theorem s1_at (t : Fin 8192) (l : Fin 128) : (V m c main_v65 : S8192x128.Idx → EReal) (ix2 t l) = if 8 ≤ l.val % 64 ∧ l.val % 64 < 16 then sinAt t.val ⟨l.val % 8, by omega⟩ else 0 := by
  rw [V_s1, masked_at, sinTable_at]
  simp only [mask2]
  exact congrArg _ Ideal.ofBits_zero_f32

theorem s2_at (t : Fin 8192) (l : Fin 128) : (V m c main_v67 : S8192x128.Idx → EReal) (ix2 t l) = if l.val % 64 < 8 then -(sinAt t.val ⟨l.val % 8, by omega⟩) else 0 := by
  rw [V_s2, masked_at]
  simp only [mask3]
  have e : (Host.negf (sinTable coarse fine) : FVec Ideal S8192x128 .f32) (ix2 t l) = -(sinAt t.val ⟨l.val % 8, by omega⟩) := by
    rw [← sinTable_at]
    rfl
  rw [e]
  exact congrArg _ Ideal.ofBits_zero_f32

theorem ct_at (d : Fin 8) (t : Fin 8192) : (V m c main_v69 : S8x8192.Idx → EReal) (ix2 d t) = cosAt t.val d := by
  have e : ∀ A : FVec Ideal S8192x128 .f32, (transpose S8x8192 [1, 0] (extractStridedSlice S8192x8 ![0, 0] A slices_S8192x128_S8192x8_0_0) transposes_S8192x8_S8x8192_1_0 : FVec Ideal S8x8192 .f32) (ix2 d t) = A (ix2 t ⟨d.val, by omega⟩) := by
    intro A
    pointwise
  rw [V_ct, e, cosTable_at]
  exact congrArg (cosAt t.val) (Fin.ext (Nat.mod_eq_of_lt d.isLt))

theorem st_at (d : Fin 8) (t : Fin 8192) : (V m c main_v71 : S8x8192.Idx → EReal) (ix2 d t) = sinAt t.val d := by
  have e : ∀ A : FVec Ideal S8192x128 .f32, (transpose S8x8192 [1, 0] (extractStridedSlice S8192x8 ![0, 0] A slices_S8192x128_S8192x8_0_0) transposes_S8192x8_S8x8192_1_0 : FVec Ideal S8x8192 .f32) (ix2 d t) = A (ix2 t ⟨d.val, by omega⟩) := by
    intro A
    pointwise
  rw [V_st, e, sinTable_at]
  exact congrArg (sinAt t.val) (Fin.ext (Nat.mod_eq_of_lt d.isLt))

theorem V_x : (V m c main_v85 : S16384x1024.Idx → EReal) = (shapeCast S16384x1024 (aX m c) shapeCasts_S2x8192x1024_S16384x1024 : FVec Ideal S16384x1024 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_g : (V m c main_v86 : S1x1024.Idx → EReal) = (broadcastInDim S1x1024 ![1] bcast_S1024_S1x1024_1 (aG m c) : FVec Ideal S1x1024 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp

theorem V_gq : (V m c main_v89 : S1x1024.Idx → EReal) = (broadcastInDim S1x1024 ![1] bcast_S1024_S1x1024_1 (shapeCast S1024 (extractStridedSlice S1x1x1024 ![1, 0, 0] (aN m c) slices_S2x4x1024_S1x1x1024_1_0_0) shapeCasts_S1x1x1024_S1024) : FVec Ideal S1x1024 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_wn : (V m c main_v5 : S1024x1024.Idx → EReal) = (truncf .bf16 (concatenate S1024x1024 1 [⟨S1024x256, extractStridedSlice S1024x256 ![0, 0] (aW m c) slices_S1024x1536_S1024x256_0_0⟩, ⟨S1024x256, extractStridedSlice S1024x256 ![0, 256] (aW m c) slices_S1024x1536_S1024x256_0_256⟩, ⟨S1024x256, extractStridedSlice S1024x256 ![0, 512] (aW m c) slices_S1024x1536_S1024x256_0_512⟩, ⟨S1024x256, extractStridedSlice S1024x256 ![0, 1024] (aW m c) slices_S1024x1536_S1024x256_0_1024⟩] concatenates_S1024x256_S1024x256_S1024x256_S1024x256_S1024x1024_d1) bitsLt_bf16_f32 : FVec Ideal S1024x1024 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_wt : (V m c main_v10 : S512x1024.Idx → EReal) = (truncf .bf16 (transpose S512x1024 [1, 0] (concatenate S1024x512 1 [⟨S1024x256, extractStridedSlice S1024x256 ![0, 768] (aW m c) slices_S1024x1536_S1024x256_0_768⟩, ⟨S1024x256, extractStridedSlice S1024x256 ![0, 1280] (aW m c) slices_S1024x1536_S1024x256_0_1280⟩] concatenates_S1024x256_S1024x256_S1024x512_d1) transposes_S1024x512_S512x1024_1_0) bitsLt_bf16_f32 : FVec Ideal S512x1024 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_wq : (V m c main_v75 : S1024x1024.Idx → EReal) = (truncf .bf16 (transpose S1024x1024 [1, 0] (extractStridedSlice S1024x1024 ![0, 0] (shapeCast S1024x1072 (aU m c) shapeCasts_S1x1024x1072_S1024x1072) slices_S1024x1072_S1024x1024_0_0) transposes_S1024x1024_S1024x1024_1_0) bitsLt_bf16_f32 : FVec Ideal S1024x1024 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_wg : (V m c main_v84 : S64x1024.Idx → EReal) = (truncf .bf16 (transpose S64x1024 [1, 0] (shapeCast S1024x64 (pad S1024x4x16 ![0, 0, 0] ![0, 0, 4] ![0, 0, 0] (shapeCast S1024x4x12 (transpose S1024x4x3x4 [0, 1, 3, 2] (shapeCast S1024x4x4x3 (extractStridedSlice S1024x48 ![0, 1024] (shapeCast S1024x1072 (aU m c) shapeCasts_S1x1024x1072_S1024x1072) slices_S1024x1072_S1024x48_0_1024) shapeCasts_S1024x48_S1024x4x4x3) transposes_S1024x4x4x3_S1024x4x3x4_0_1_3_2) shapeCasts_S1024x4x3x4_S1024x4x12) (sitofp .f32 (constantI S_ 32 0#32)) pads_S1024x4x12_S1024x4x16_000_000_040 h_S_) shapeCasts_S1024x4x16_S1024x64) transposes_S1024x64_S64x1024_1_0) bitsLt_bf16_f32 : FVec Ideal S64x1024 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem x_at (R : Fin 16384) (j : Fin 1024) :
    (V m c main_v85 : S16384x1024.Idx → EReal) (ix2 R j) = aX m c (ix3 ⟨R.val / 8192, by omega⟩ ⟨R.val % 8192, by omega⟩ j) := by
  rw [V_x]
  generalize aX m c = A
  pointwise

theorem g_at (j : Fin 1024) : (V m c main_v86 : S1x1024.Idx → EReal) (ix2 0 j) = aG m c (ix1 j) := by
  rw [V_g]
  generalize aG m c = A
  pointwise

theorem gq_at (j : Fin 1024) : (V m c main_v89 : S1x1024.Idx → EReal) (ix2 0 j) = aN m c (ix3 1 0 j) := by
  rw [V_gq]
  generalize aN m c = A
  pointwise

/-- The weight's column that a column of the first four sections takes. -/
theorem wn_at (k j : Fin 1024) : (V m c main_v5 : S1024x1024.Idx → EReal) (ix2 k j)
    = aW m c (ix2 k ⟨if j.val < 768 then j.val else j.val + 256, by split <;> omega⟩) := by
  rw [V_wn]
  generalize aW m c = A
  pointwise
  by_cases h0 : j.val < 256
  · rw [dif_pos h0]
    simp only [if_pos (show j.val < 768 by omega)]
  · by_cases h1 : j.val < 512
    · rw [dif_neg h0, dif_pos (by omega)]
      simp only [if_pos (show j.val < 768 by omega), show 256 + (j.val - 256) = j.val by omega]
    · by_cases h2 : j.val < 768
      · rw [dif_neg h0, dif_neg (by omega), dif_pos (by omega)]
        simp only [if_pos h2, show 512 + (j.val - 256 - 256) = j.val by omega]
      · rw [dif_neg h0, dif_neg (by omega), dif_neg (by omega)]
        simp only [if_neg h2, show 1024 + (j.val - 256 - 256 - 256) = j.val + 256 by omega]

theorem wt_at (o : Fin 512) (k : Fin 1024) : (V m c main_v10 : S512x1024.Idx → EReal) (ix2 o k)
    = aW m c (ix2 k ⟨if o.val < 256 then 768 + o.val else 1024 + o.val, by split <;> omega⟩) := by
  rw [V_wt]
  generalize aW m c = A
  pointwise
  by_cases h0 : o.val < 256
  · rw [dif_pos h0]
    simp only [if_pos h0]
  · rw [dif_neg h0]
    simp only [if_neg h0, show 1280 + (o.val - 256) = 1024 + o.val by omega]

theorem wq_at (o k : Fin 1024) : (V m c main_v75 : S1024x1024.Idx → EReal) (ix2 o k) = aU m c (ix3 0 k ⟨o.val, by omega⟩) := by
  rw [V_wq]
  generalize aU m c = A
  pointwise

theorem wg_at (o : Fin 64) (k : Fin 1024) : (V m c main_v84 : S64x1024.Idx → EReal) (ix2 o k)
    = if h : o.val % 16 < 12 then aU m c (ix3 0 k ⟨1024 + (o.val / 16 * 12 + o.val % 16 % 4 * 3 + o.val % 16 / 4), by omega⟩) else 0 := by
  rw [V_wg]
  generalize aU m c = A
  pointwise
  by_cases h : o.val % 16 < 12
  · have h4 : o.val / 16 < 4 := by omega
    simp only [h, h4, and_self, dite_true]
  · simp only [h, and_false, dite_false]
    show (((0#32 : BitVec 32).toInt : ℝ) : EReal) = 0
    simp

end Cert.Kernel5Ideal.Rows

end
-- ==== Proof.Att.Points.lean ====
/-
  The attention's projections, the operands' blocks at a grid point as rows of the arguments, and every block of a
  result as the projections of these rows.
-/
module

public import proofs.«01_k».proof.Proof.Att.Pieces
public import proofs.«01_k».proof.Proof.Att.Host

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Rows

open Cert.Kernel5Ideal Cert.Kernel5Ideal.Gen Cert.Kernel5Ideal.Att Cert.Ffn Cert.Att

variable (m : (ℓ : Loc nD τ sig) → Buf (Elt Ideal) ℓ) (c : Dev nD)

/-! ## The windows' blocks -/

theorem b0_at (t : Fin cfg0.N) (k : Fin 512) (j : Fin 1024) (h : 512 * t.val + k.val < 16384) :
    (iblk m c 0 t : S512x1024.Idx → EReal) (ix2 k j) = (V m c main_v85 : S16384x1024.Idx → EReal) (ix2 ⟨512 * t.val + k.val, h⟩ j) := by
  unfold iblk
  rw [View.read_apply]
  show V m c main_v85 _ = V m c main_v85 _
  congr 1
  funext a
  apply Fin.ext
  match a with
  | ⟨0, _⟩ => show win0_0.index t 0 * 512 + 1 * k.val = 512 * t.val + k.val
              rw [(by decide +kernel : ∀ t : Fin grid0.N, win0_0.index t 0 = t.val) t]; omega
  | ⟨1, _⟩ => show win0_0.index t 1 * 1024 + 1 * j.val = j.val
              rw [(by decide +kernel : ∀ t : Fin grid0.N, win0_0.index t 1 = 0) t]; omega

theorem b1_at (t : Fin cfg0.N) (k : Fin 1) (j : Fin 1024) :
    (iblk m c 1 t : S1x1024.Idx → EReal) (ix2 k j) = (V m c main_v86 : S1x1024.Idx → EReal) (ix2 k j) := by
  unfold iblk
  rw [View.read_apply]
  show V m c main_v86 _ = V m c main_v86 _
  congr 1
  funext a
  apply Fin.ext
  match a with
  | ⟨0, _⟩ => show win0_1.index t 0 * 1 + 1 * k.val = k.val
              rw [(by decide +kernel : ∀ t : Fin grid0.N, win0_1.index t 0 = 0) t]; omega
  | ⟨1, _⟩ => show win0_1.index t 1 * 1024 + 1 * j.val = j.val
              rw [(by decide +kernel : ∀ t : Fin grid0.N, win0_1.index t 1 = 0) t]; omega

theorem b2_at (t : Fin cfg0.N) (k : Fin 1) (j : Fin 1024) :
    (iblk m c 2 t : S1x1024.Idx → EReal) (ix2 k j) = (V m c main_v89 : S1x1024.Idx → EReal) (ix2 k j) := by
  unfold iblk
  rw [View.read_apply]
  show V m c main_v89 _ = V m c main_v89 _
  congr 1
  funext a
  apply Fin.ext
  match a with
  | ⟨0, _⟩ => show win0_2.index t 0 * 1 + 1 * k.val = k.val
              rw [(by decide +kernel : ∀ t : Fin grid0.N, win0_2.index t 0 = 0) t]; omega
  | ⟨1, _⟩ => show win0_2.index t 1 * 1024 + 1 * j.val = j.val
              rw [(by decide +kernel : ∀ t : Fin grid0.N, win0_2.index t 1 = 0) t]; omega

theorem b3_at (t : Fin cfg0.N) (k : Fin 1024) (j : Fin 1024) :
    (iblk m c 3 t : S1024x1024.Idx → EReal) (ix2 k j) = (V m c main_v5 : S1024x1024.Idx → EReal) (ix2 k j) := by
  unfold iblk
  rw [View.read_apply]
  show V m c main_v5 _ = V m c main_v5 _
  congr 1
  funext a
  apply Fin.ext
  match a with
  | ⟨0, _⟩ => show win0_3.index t 0 * 1024 + 1 * k.val = k.val
              rw [(by decide +kernel : ∀ t : Fin grid0.N, win0_3.index t 0 = 0) t]; omega
  | ⟨1, _⟩ => show win0_3.index t 1 * 1024 + 1 * j.val = j.val
              rw [(by decide +kernel : ∀ t : Fin grid0.N, win0_3.index t 1 = 0) t]; omega

theorem b4_at (t : Fin cfg0.N) (k : Fin 512) (j : Fin 1024) :
    (iblk m c 4 t : S512x1024.Idx → EReal) (ix2 k j) = (V m c main_v10 : S512x1024.Idx → EReal) (ix2 k j) := by
  unfold iblk
  rw [View.read_apply]
  show V m c main_v10 _ = V m c main_v10 _
  congr 1
  funext a
  apply Fin.ext
  match a with
  | ⟨0, _⟩ => show win0_4.index t 0 * 512 + 1 * k.val = k.val
              rw [(by decide +kernel : ∀ t : Fin grid0.N, win0_4.index t 0 = 0) t]; omega
  | ⟨1, _⟩ => show win0_4.index t 1 * 1024 + 1 * j.val = j.val
              rw [(by decide +kernel : ∀ t : Fin grid0.N, win0_4.index t 1 = 0) t]; omega

theorem b5_at (t : Fin cfg0.N) (k : Fin 1024) (j : Fin 1024) :
    (iblk m c 5 t : S1024x1024.Idx → EReal) (ix2 k j) = (V m c main_v75 : S1024x1024.Idx → EReal) (ix2 k j) := by
  unfold iblk
  rw [View.read_apply]
  show V m c main_v75 _ = V m c main_v75 _
  congr 1
  funext a
  apply Fin.ext
  match a with
  | ⟨0, _⟩ => show win0_5.index t 0 * 1024 + 1 * k.val = k.val
              rw [(by decide +kernel : ∀ t : Fin grid0.N, win0_5.index t 0 = 0) t]; omega
  | ⟨1, _⟩ => show win0_5.index t 1 * 1024 + 1 * j.val = j.val
              rw [(by decide +kernel : ∀ t : Fin grid0.N, win0_5.index t 1 = 0) t]; omega

theorem b6_at (t : Fin cfg0.N) (k : Fin 64) (j : Fin 1024) :
    (iblk m c 6 t : S64x1024.Idx → EReal) (ix2 k j) = (V m c main_v84 : S64x1024.Idx → EReal) (ix2 k j) := by
  unfold iblk
  rw [View.read_apply]
  show V m c main_v84 _ = V m c main_v84 _
  congr 1
  funext a
  apply Fin.ext
  match a with
  | ⟨0, _⟩ => show win0_6.index t 0 * 64 + 1 * k.val = k.val
              rw [(by decide +kernel : ∀ t : Fin grid0.N, win0_6.index t 0 = 0) t]; omega
  | ⟨1, _⟩ => show win0_6.index t 1 * 1024 + 1 * j.val = j.val
              rw [(by decide +kernel : ∀ t : Fin grid0.N, win0_6.index t 1 = 0) t]; omega

theorem b7_at (t : Fin cfg0.N) (k : Fin 512) (j : Fin 128) (h : 512 * (t.val % 16) + k.val < 8192) :
    (iblk m c 7 t : S512x128.Idx → EReal) (ix2 k j) = (V m c main_v64 : S8192x128.Idx → EReal) (ix2 ⟨512 * (t.val % 16) + k.val, h⟩ j) := by
  unfold iblk
  rw [View.read_apply]
  show V m c main_v64 _ = V m c main_v64 _
  congr 1
  funext a
  apply Fin.ext
  match a with
  | ⟨0, _⟩ => show win0_7.index t 0 * 512 + 1 * k.val = 512 * (t.val % 16) + k.val
              rw [(by decide +kernel : ∀ t : Fin grid0.N, win0_7.index t 0 = t.val % 16) t]; omega
  | ⟨1, _⟩ => show win0_7.index t 1 * 128 + 1 * j.val = j.val
              rw [(by decide +kernel : ∀ t : Fin grid0.N, win0_7.index t 1 = 0) t]; omega

theorem b8_at (t : Fin cfg0.N) (k : Fin 512) (j : Fin 128) (h : 512 * (t.val % 16) + k.val < 8192) :
    (iblk m c 8 t : S512x128.Idx → EReal) (ix2 k j) = (V m c main_v65 : S8192x128.Idx → EReal) (ix2 ⟨512 * (t.val % 16) + k.val, h⟩ j) := by
  unfold iblk
  rw [View.read_apply]
  show V m c main_v65 _ = V m c main_v65 _
  congr 1
  funext a
  apply Fin.ext
  match a with
  | ⟨0, _⟩ => show win0_8.index t 0 * 512 + 1 * k.val = 512 * (t.val % 16) + k.val
              rw [(by decide +kernel : ∀ t : Fin grid0.N, win0_8.index t 0 = t.val % 16) t]; omega
  | ⟨1, _⟩ => show win0_8.index t 1 * 128 + 1 * j.val = j.val
              rw [(by decide +kernel : ∀ t : Fin grid0.N, win0_8.index t 1 = 0) t]; omega

theorem b9_at (t : Fin cfg0.N) (k : Fin 512) (j : Fin 128) (h : 512 * (t.val % 16) + k.val < 8192) :
    (iblk m c 9 t : S512x128.Idx → EReal) (ix2 k j) = (V m c main_v67 : S8192x128.Idx → EReal) (ix2 ⟨512 * (t.val % 16) + k.val, h⟩ j) := by
  unfold iblk
  rw [View.read_apply]
  show V m c main_v67 _ = V m c main_v67 _
  congr 1
  funext a
  apply Fin.ext
  match a with
  | ⟨0, _⟩ => show win0_9.index t 0 * 512 + 1 * k.val = 512 * (t.val % 16) + k.val
              rw [(by decide +kernel : ∀ t : Fin grid0.N, win0_9.index t 0 = t.val % 16) t]; omega
  | ⟨1, _⟩ => show win0_9.index t 1 * 128 + 1 * j.val = j.val
              rw [(by decide +kernel : ∀ t : Fin grid0.N, win0_9.index t 1 = 0) t]; omega

theorem b10_at (t : Fin cfg0.N) (k : Fin 8) (j : Fin 512) (h : 512 * (t.val % 16) + j.val < 8192) :
    (iblk m c 10 t : S8x512.Idx → EReal) (ix2 k j) = (V m c main_v69 : S8x8192.Idx → EReal) (ix2 k ⟨512 * (t.val % 16) + j.val, h⟩) := by
  unfold iblk
  rw [View.read_apply]
  show V m c main_v69 _ = V m c main_v69 _
  congr 1
  funext a
  apply Fin.ext
  match a with
  | ⟨0, _⟩ => show win0_10.index t 0 * 8 + 1 * k.val = k.val
              rw [(by decide +kernel : ∀ t : Fin grid0.N, win0_10.index t 0 = 0) t]; omega
  | ⟨1, _⟩ => show win0_10.index t 1 * 512 + 1 * j.val = 512 * (t.val % 16) + j.val
              rw [(by decide +kernel : ∀ t : Fin grid0.N, win0_10.index t 1 = t.val % 16) t]; omega

theorem b11_at (t : Fin cfg0.N) (k : Fin 8) (j : Fin 512) (h : 512 * (t.val % 16) + j.val < 8192) :
    (iblk m c 11 t : S8x512.Idx → EReal) (ix2 k j) = (V m c main_v71 : S8x8192.Idx → EReal) (ix2 k ⟨512 * (t.val % 16) + j.val, h⟩) := by
  unfold iblk
  rw [View.read_apply]
  show V m c main_v71 _ = V m c main_v71 _
  congr 1
  funext a
  apply Fin.ext
  match a with
  | ⟨0, _⟩ => show win0_11.index t 0 * 8 + 1 * k.val = k.val
              rw [(by decide +kernel : ∀ t : Fin grid0.N, win0_11.index t 0 = 0) t]; omega
  | ⟨1, _⟩ => show win0_11.index t 1 * 512 + 1 * j.val = 512 * (t.val % 16) + j.val
              rw [(by decide +kernel : ∀ t : Fin grid0.N, win0_11.index t 1 = t.val % 16) t]; omega

/-! ## The rows -/

theorem lt32 (t : Fin cfg0.N) : t.val < 32 := lt_of_lt_of_eq t.isLt N_0

/-- The sequence of a grid point. -/
def seqOf (t : Fin cfg0.N) : Fin 2 := ⟨t.val / 16, by have := lt32 t; omega⟩

/-- The position of a row of a grid point. -/
def posOf (t : Fin cfg0.N) (r : Fin 512) : Fin 8192 := ⟨512 * (t.val % 16) + r.val, by omega⟩

theorem row0 (t : Fin cfg0.N) (r : Fin 512) : row (iblk m c 0 t : S512x1024.Idx → EReal) r = fun j => aX m c (ix3 (seqOf t) (posOf t r) j) := by
  have := lt32 t
  funext j
  refine (b0_at m c t r j (by omega)).trans ((x_at m c _ j).trans ?_)
  have e1 : (⟨(512 * t.val + r.val) / 8192, by omega⟩ : Fin 2) = seqOf t := Fin.ext (by show (512 * t.val + r.val) / 8192 = t.val / 16; omega)
  have e2 : (⟨(512 * t.val + r.val) % 8192, by omega⟩ : Fin 8192) = posOf t r := Fin.ext (by show (512 * t.val + r.val) % 8192 = 512 * (t.val % 16) + r.val; omega)
  exact congrArg₂ (fun p q => aX m c (ix3 p q j)) e1 e2

theorem row1 (t : Fin cfg0.N) : row (iblk m c 1 t : S1x1024.Idx → EReal) 0 = fun j => aG m c (ix1 j) :=
  funext fun j => (b1_at m c t 0 j).trans (g_at m c j)

theorem row2 (t : Fin cfg0.N) : row (iblk m c 2 t : S1x1024.Idx → EReal) 0 = fun j => aN m c (ix3 1 0 j) :=
  funext fun j => (b2_at m c t 0 j).trans (gq_at m c j)

theorem rn_row (t : Fin cfg0.N) (r : Fin 512) (j : Fin 1024) :
    proj (norm (row (iblk m c 0 t : S512x1024.Idx → EReal) r) (row (iblk m c 1 t : S1x1024.Idx → EReal) 0)) (row (iblk m c 3 t : S1024x1024.Idx → EReal)) j
      = kv (aX m c) (aG m c) (aW m c) (seqOf t) (posOf t r) ⟨if j.val < 768 then j.val else j.val + 256, by split <;> omega⟩ := by
  rw [row0, row1]
  exact Finset.sum_congr rfl fun k _ => congrArg (_ * ·) ((b3_at m c t k j).trans (wn_at m c k j))

theorem rt_row (t : Fin cfg0.N) (r : Fin 512) (o : Fin 512) :
    proj (norm (row (iblk m c 0 t : S512x1024.Idx → EReal) r) (row (iblk m c 1 t : S1x1024.Idx → EReal) 0)) (tr (iblk m c 4 t : S512x1024.Idx → EReal)) o
      = kv (aX m c) (aG m c) (aW m c) (seqOf t) (posOf t r) ⟨if o.val < 256 then 768 + o.val else 1024 + o.val, by split <;> omega⟩ := by
  rw [row0, row1]
  exact Finset.sum_congr rfl fun k _ => congrArg (_ * ·) ((b4_at m c t o k).trans (wt_at m c o k))

theorem qt_row (t : Fin cfg0.N) (r : Fin 512) (o : Fin 1024) :
    proj (norm (row (iblk m c 0 t : S512x1024.Idx → EReal) r) (row (iblk m c 2 t : S1x1024.Idx → EReal) 0)) (tr (iblk m c 5 t : S1024x1024.Idx → EReal)) o
      = qg (aX m c) (aN m c) (aU m c) (seqOf t) (posOf t r) ⟨o.val, by omega⟩ := by
  rw [row0, row2]
  exact Finset.sum_congr rfl fun k _ => congrArg (_ * ·) ((b5_at m c t o k).trans (wq_at m c o k))

theorem gt_row (t : Fin cfg0.N) (r : Fin 512) (o : Fin 64) :
    proj (norm (row (iblk m c 0 t : S512x1024.Idx → EReal) r) (row (iblk m c 2 t : S1x1024.Idx → EReal) 0)) (tr (iblk m c 6 t : S64x1024.Idx → EReal)) o
      = if h : o.val % 16 < 12 then qg (aX m c) (aN m c) (aU m c) (seqOf t) (posOf t r) ⟨1024 + (o.val / 16 * 12 + o.val % 16 % 4 * 3 + o.val % 16 / 4), by omega⟩ else 0 := by
  rw [row0, row2]
  by_cases h : o.val % 16 < 12
  · rw [dif_pos h]
    exact Finset.sum_congr rfl fun k _ => congrArg (_ * ·) ((b6_at m c t o k).trans ((wg_at m c o k).trans (dif_pos h)))
  · rw [dif_neg h]
    refine (Finset.sum_congr rfl fun k _ => (congrArg (_ * ·) ((b6_at m c t o k).trans ((wg_at m c o k).trans (dif_neg h)))).trans (mul_zero _)).trans ?_
    exact Finset.sum_const_zero

/-! ## The turned lanes -/

theorem head_scaled (A : Row 64) (C S : Row 8) (k : EReal) (h0 : 0 ≤ k) (h1 : k ≠ ⊤) (d : Fin 64) :
    head (fun e => A e * k) C S d = head A C S d * k := by
  unfold head
  by_cases h : d.val < 8
  · rw [dif_pos h, dif_pos h, sub_eq_add_neg, sub_eq_add_neg, EReal.right_distrib_of_nonneg_of_ne_top h0 h1, ← EReal.neg_mul, ← EReal.neg_mul, ← EReal.neg_mul]
    congr 1
    · exact mul_right_comm _ _ _
    · exact mul_right_comm _ _ _
  · rw [dif_neg h, dif_neg h]
    by_cases h' : d.val < 16
    · rw [dif_pos h', dif_pos h', EReal.right_distrib_of_nonneg_of_ne_top h0 h1]
      congr 1
      · exact mul_right_comm _ _ _
      · exact mul_right_comm _ _ _
    · rw [dif_neg h', dif_neg h']

theorem turned_eq (P : Row 1024) (C S T : Row 128) (p : ℕ) (g o : ℕ) (hg : g < 4) (ho : o ≤ 768)
    (hC : ∀ l, C l = if l.val % 64 < 16 then cosAt p ⟨l.val % 8, by omega⟩ else 1)
    (hS : ∀ l, S l = if 8 ≤ l.val % 64 ∧ l.val % 64 < 16 then sinAt p ⟨l.val % 8, by omega⟩ else 0)
    (hT : ∀ l, T l = if l.val % 64 < 8 then -(sinAt p ⟨l.val % 8, by omega⟩) else 0) (l : Fin 64) :
    turned P C S T (o + 128 * (g / 2)) (by omega) ⟨64 * (g % 2) + l.val, by omega⟩
      = head (fun d => P ⟨o + (64 * g + d.val), by omega⟩) (cosAt p) (sinAt p) l := by
  unfold turned head
  rw [hC, hS, hT]
  have e0 : (⟨o + 128 * (g / 2) + (64 * (g % 2) + l.val), by omega⟩ : Fin 1024) = ⟨o + (64 * g + l.val), by omega⟩ := Fin.ext (by show o + 128 * (g / 2) + (64 * (g % 2) + l.val) = o + (64 * g + l.val); omega)
  have el : (64 * (g % 2) + l.val) % 64 = l.val := by omega
  have e8 : (64 * (g % 2) + l.val) % 8 = l.val % 8 := by omega
  simp only [e0, el, e8]
  by_cases h : l.val < 8
  · rw [if_pos (by omega), if_neg (by omega), if_pos h, dif_pos h, mul_zero, add_zero, mul_neg, ← sub_eq_add_neg]
    have e1 : (⟨o + 128 * (g / 2) + (64 * (g % 2) + l.val + 8) % 128, by omega⟩ : Fin 1024) = ⟨o + (64 * g + (l.val + 8)), by omega⟩ := Fin.ext (by show o + 128 * (g / 2) + (64 * (g % 2) + l.val + 8) % 128 = o + (64 * g + (l.val + 8)); omega)
    have e2 : (⟨l.val % 8, by omega⟩ : Fin 8) = ⟨l.val, h⟩ := Fin.ext (Nat.mod_eq_of_lt h)
    rw [e1, e2]
  · by_cases h' : l.val < 16
    · rw [if_pos h', if_pos ⟨by omega, h'⟩, if_neg h, dif_neg h, dif_pos h', mul_zero, add_zero]
      have e1 : (⟨o + 128 * (g / 2) + (64 * (g % 2) + l.val + 120) % 128, by omega⟩ : Fin 1024) = ⟨o + (64 * g + (l.val - 8)), by omega⟩ := Fin.ext (by show o + 128 * (g / 2) + (64 * (g % 2) + l.val + 120) % 128 = o + (64 * g + (l.val - 8)); omega)
      have e2 : (⟨l.val % 8, by omega⟩ : Fin 8) = ⟨l.val - 8, by omega⟩ := Fin.ext (by show l.val % 8 = l.val - 8; omega)
      rw [e1, e2, add_comm]
    · rw [if_neg h', if_neg (fun q => h' q.2), if_neg h, dif_neg h, dif_neg h', mul_zero, mul_zero, add_zero, add_zero, mul_one]

theorem lanes_row (o : ℕ) (ho : o ≤ 768) (o' : ℕ) (ho' : o' ≤ 1280) (e : ∀ x : ℕ, x < 256 → (if o + x < 768 then o + x else o + x + 256) = o' + x)
    (t : Fin cfg0.N) (g : Fin 4) (r : Fin 512) (l : Fin 64) :
    lanesB (iblk m c 0 t) (iblk m c 1 t) (iblk m c 3 t) (iblk m c 7 t) (iblk m c 8 t) (iblk m c 9 t) o ho g r l
      = key (aX m c) (aG m c) (aW m c) o' ho' (seqOf t) (posOf t r) g l := by
  unfold lanesB
  refine (turned_eq _ _ _ _ (posOf t r).val g.val o g.isLt ho ?_ ?_ ?_ l).trans ?_
  · exact fun l => (b7_at m c t r l (by omega)).trans (c_at m c (posOf t r) l)
  · exact fun l => (b8_at m c t r l (by omega)).trans (s1_at m c (posOf t r) l)
  · exact fun l => (b9_at m c t r l (by omega)).trans (s2_at m c (posOf t r) l)
  · unfold key
    refine congrArg (fun A => head A (cosAt (posOf t r).val) (sinAt (posOf t r).val) l) (funext fun d => ?_)
    refine (rn_row m c t r _).trans ?_
    unfold part
    exact congrArg (kv _ _ _ _ _) (Fin.ext (e (64 * g.val + d.val) (by omega)))

/-! ## The results' blocks -/

theorem kw_row (t : Fin cfg0.N) (g : Fin 4) (r : Fin 512) (l : Fin 64) :
    kwB (iblk m c 0 t) (iblk m c 1 t) (iblk m c 3 t) (iblk m c 7 t) (iblk m c 8 t) (iblk m c 9 t) g r l
      = kwR (aX m c) (aG m c) (aW m c) (seqOf t) g (posOf t r) l :=
  lanes_row m c 768 (by omega) 1024 (by omega) (fun x h => by rw [if_neg (by omega)]; omega) t g r l

theorem ks_row (t : Fin cfg0.N) (g : Fin 4) (r : Fin 512) (l : Fin 128) :
    ksB (iblk m c 0 t) (iblk m c 1 t) (iblk m c 3 t) (iblk m c 7 t) (iblk m c 8 t) (iblk m c 9 t) g r l
      = ksR (aX m c) (aG m c) (aW m c) (seqOf t) g (posOf t r) l := by
  unfold ksB ksR
  by_cases h : l.val < 64
  · rw [dif_pos h, dif_pos h]
    exact lanes_row m c 512 (by omega) 512 (by omega) (fun x h => by rw [if_pos (by omega)]) t g r ⟨l.val, h⟩
  · rw [dif_neg h, dif_neg h]
    unfold mark posOf
    rw [show (512 * (t.val % 16) + r.val) / 64 % 8 = r.val / 64 % 8 by omega]

theorem vs_row (t : Fin cfg0.N) (g : Fin 4) (r : Fin 80) (l : Fin 512) :
    vsB (iblk m c 0 t) (iblk m c 1 t) (iblk m c 4 t) g r l = vsR (aX m c) (aG m c) (aW m c) (seqOf t) g ⟨t.val % 16, by omega⟩ r l := by
  unfold vsB vsR
  by_cases h : r.val < 64
  · rw [dif_pos h, dif_pos h]
    refine (rt_row m c t l _).trans ?_
    unfold part
    refine congrArg₂ (kv _ _ _ _) (Fin.ext ?_) (Fin.ext ?_)
    · show 512 * (t.val % 16) + l.val = t.val % 16 * 512 + l.val; omega
    · show (if 64 * g.val + r.val < 256 then 768 + (64 * g.val + r.val) else 1024 + (64 * g.val + r.val)) = 768 + (64 * g.val + r.val)
      rw [if_pos (by omega)]
  · rw [dif_neg h, dif_neg h]

theorem vw_row (t : Fin cfg0.N) (g : Fin 4) (b : Fin 4) (r : Fin 80) (l : Fin 128) :
    vwB (iblk m c 0 t) (iblk m c 1 t) (iblk m c 4 t) g b r l = vwR (aX m c) (aG m c) (aW m c) (seqOf t) g ⟨4 * (t.val % 16) + b.val, by omega⟩ r l := by
  unfold vwB vwR
  by_cases h : r.val < 64
  · rw [dif_pos h, dif_pos h]
    refine (rt_row m c t _ _).trans ?_
    unfold part
    refine congrArg₂ (kv _ _ _ _) (Fin.ext ?_) (Fin.ext ?_)
    · show 512 * (t.val % 16) + (128 * b.val + l.val) = (4 * (t.val % 16) + b.val) * 128 + l.val; omega
    · show (if 256 + (64 * g.val + r.val) < 256 then 768 + (256 + (64 * g.val + r.val)) else 1024 + (256 + (64 * g.val + r.val))) = 1280 + (64 * g.val + r.val)
      rw [if_neg (by omega)]
      omega
  · rw [dif_neg h, dif_neg h]

theorem bits_k : Ideal.ofBits FTy.f32 0x3E38AA3B#32 = ((12102203 * (2 : ℝ) ^ (-26 : ℤ) : ℝ) : EReal) := by
  simp [Ideal.ofBits, Ideal.ieee, -EReal.coe_mul]

theorem bits_e : Ideal.ofBits FTy.f32 0x3FB8AA3B#32 = ((12102203 * (2 : ℝ) ^ (-23 : ℤ) : ℝ) : EReal) := by
  simp [Ideal.ofBits, Ideal.ieee, -EReal.coe_mul]

theorem bits_8 : Ideal.ofBits FTy.f32 0x3E000000#32 = (((1 : ℝ) / 8 : ℝ) : EReal) := by
  simp [Ideal.ofBits, Ideal.ieee, -EReal.coe_mul]; norm_num

theorem factor_at : Ideal.ofBits FTy.f32 0x3E38AA3B#32 = Ideal.ofBits FTy.f32 0x3E000000#32 * Ideal.ofBits FTy.f32 0x3FB8AA3B#32 := by
  rw [bits_k, bits_e, bits_8, ← EReal.coe_mul]
  congr 1
  norm_num

theorem factor_real : ∃ x : ℝ, 0 ≤ x ∧ Ideal.ofBits FTy.f32 0x3E38AA3B#32 = (x : EReal) :=
  ⟨_, by positivity, bits_k⟩

theorem q_row (t : Fin cfg0.N) (g : Fin 4) (d : Fin 64) (l : Fin 2048) :
    qB (iblk m c 0 t) (iblk m c 2 t) (iblk m c 5 t) (iblk m c 10 t) (iblk m c 11 t) g d l
      = qR (aX m c) (aN m c) (aU m c) (seqOf t) g d ⟨2048 * (t.val % 16) + l.val, by omega⟩ := by
  obtain ⟨x, hx, ex⟩ := factor_real
  unfold qB qR query
  rw [mul_assoc, ← factor_at, ex]
  refine (head_scaled _ _ _ (x : EReal) (EReal.coe_nonneg.2 hx) (EReal.coe_ne_top x) d).trans (congrArg (· * (x : EReal)) ?_)
  have ep : posOf t ⟨l.val / 512 * 128 + l.val % 128, by omega⟩ = ⟨(2048 * (t.val % 16) + l.val) / 512 * 128 + (2048 * (t.val % 16) + l.val) % 128, by omega⟩ :=
    Fin.ext (by show 512 * (t.val % 16) + (l.val / 512 * 128 + l.val % 128) = (2048 * (t.val % 16) + l.val) / 512 * 128 + (2048 * (t.val % 16) + l.val) % 128; omega)
  have eA : ∀ e : Fin 64, proj (norm (row (iblk m c 0 t : S512x1024.Idx → EReal) ⟨l.val / 512 * 128 + l.val % 128, by omega⟩) (row (iblk m c 2 t : S1x1024.Idx → EReal) 0)) (tr (iblk m c 5 t : S1024x1024.Idx → EReal)) ⟨64 * (g.val * 4 + l.val / 128 % 4) + e.val, by omega⟩
      = qg (aX m c) (aN m c) (aU m c) (seqOf t) ⟨(2048 * (t.val % 16) + l.val) / 512 * 128 + (2048 * (t.val % 16) + l.val) % 128, by omega⟩ ⟨64 * (g.val * 4 + (2048 * (t.val % 16) + l.val) / 128 % 4) + e.val, by omega⟩ := fun e => by
    refine (qt_row m c t _ _).trans ?_
    rw [ep]
    exact congrArg (qg _ _ _ _ _) (Fin.ext (by show 64 * (g.val * 4 + l.val / 128 % 4) + e.val = 64 * (g.val * 4 + (2048 * (t.val % 16) + l.val) / 128 % 4) + e.val; omega))
  have eC : ∀ e : Fin 8, (iblk m c 10 t : S8x512.Idx → EReal) (ix2 e ⟨l.val / 512 * 128 + l.val % 128, by omega⟩) = cosAt ((2048 * (t.val % 16) + l.val) / 512 * 128 + (2048 * (t.val % 16) + l.val) % 128) e := fun e =>
    ((b10_at m c t e _ (by omega)).trans (ct_at m c e (posOf t ⟨l.val / 512 * 128 + l.val % 128, by omega⟩))).trans (by rw [ep])
  have eS : ∀ e : Fin 8, (iblk m c 11 t : S8x512.Idx → EReal) (ix2 e ⟨l.val / 512 * 128 + l.val % 128, by omega⟩) = sinAt ((2048 * (t.val % 16) + l.val) / 512 * 128 + (2048 * (t.val % 16) + l.val) % 128) e := fun e =>
    ((b11_at m c t e _ (by omega)).trans (st_at m c e (posOf t ⟨l.val / 512 * 128 + l.val % 128, by omega⟩))).trans (by rw [ep])
  rw [funext eA, funext eC, funext eS]

theorem logistic_zero : Ideal.logistic 0 = Ideal.ofBits FTy.f32 0x3F000000#32 := by
  rw [← EReal.coe_zero, Ideal.logistic_coe]
  simp [Ideal.ofBits, Ideal.ieee, -EReal.coe_mul]
  norm_num

theorem gate_row (t : Fin cfg0.N) (g : Fin 4) (r : Fin 16) (u : Fin 512) :
    gateB (iblk m c 0 t) (iblk m c 2 t) (iblk m c 6 t) g r u = gateR (aX m c) (aN m c) (aU m c) (seqOf t) g r (posOf t u) := by
  unfold gateB gateR
  rw [gt_row]
  have e0 : (16 * g.val + r.val) % 16 = r.val := by omega
  have e1 : (16 * g.val + r.val) / 16 = g.val := by omega
  simp only [e0, e1]
  by_cases h : r.val < 12
  · rw [dif_pos h, dif_pos h]
  · rw [dif_neg h, dif_neg h]
    exact logistic_zero

end Cert.Kernel5Ideal.Rows

end
-- ==== Proof.Att.CompRows.lean ====
/-
  The attention's keys and values to be compressed: a block's rows are the sequence's.
-/
module

public import proofs.«01_k».proof.Proof.Att.Cells
public import proofs.«01_k».proof.Proof.Att.Points

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

variable (m : (ℓ : Loc nD τ sig) → Buf (Elt Ideal) ℓ) (c : Dev nD)

theorem kc_row (t : Fin cfg0.N) (g : Fin 4) (r : Fin 32) (l : Fin 1024) :
    kcB (iblk m c 0 t) (iblk m c 1 t) (iblk m c 3 t) (iblk m c 7 t) (iblk m c 8 t) (iblk m c 9 t) g r l
      = kcR (aX m c) (aG m c) (aW m c) (seqOf t) g ⟨32 * (t.val % 16) + r.val, by omega⟩ l := by
  unfold kcB kcR
  refine (lanes_row m c 0 (by omega) 0 (by omega) (fun x h => by rw [if_pos (by omega)]) t g _ _).trans ?_
  refine congrArg (fun q => key (aX m c) (aG m c) (aW m c) 0 (by omega) (seqOf t) q g _) (Fin.ext ?_)
  show 512 * (t.val % 16) + (r.val * 16 + l.val / 64) = (32 * (t.val % 16) + r.val) * 16 + l.val / 64
  omega

theorem vc_row (t : Fin cfg0.N) (g : Fin 4) (r : Fin 32) (l : Fin 1024) :
    vcB (iblk m c 0 t) (iblk m c 1 t) (iblk m c 3 t) g r l
      = vcR (aX m c) (aG m c) (aW m c) (seqOf t) g ⟨32 * (t.val % 16) + r.val, by omega⟩ l := by
  unfold vcB vcR
  refine (rn_row m c t _ _).trans ?_
  unfold part
  refine congrArg₂ (kv _ _ _ _) (Fin.ext ?_) (Fin.ext ?_)
  · show 512 * (t.val % 16) + (r.val * 16 + l.val / 64) = (32 * (t.val % 16) + r.val) * 16 + l.val / 64
    omega
  · show (if 256 + (64 * g.val + l.val % 64) < 768 then 256 + (64 * g.val + l.val % 64) else 256 + (64 * g.val + l.val % 64) + 256) = 256 + (64 * g.val + l.val % 64)
    rw [if_pos (by omega)]

end Cert.Kernel5Ideal.Rows

end
-- ==== Proof.Att.ArrComp.lean ====
/-
  The attention's projections, the arrays to be compressed.
-/
module

public import proofs.«01_k».proof.Proof.Att.BlockComp
public import proofs.«01_k».proof.Proof.Att.CompRows

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Rows

open Cert.Kernel5Ideal Cert.Kernel5Ideal.Gen Cert.Kernel5Ideal.Att Cert.Ffn Cert.Att

variable (m : (ℓ : Loc nD τ sig) → Buf (Elt Ideal) ℓ) (c : Dev nD)

/-- Result 0. -/
def res12 : Buf (Elt Ideal) ((c : Thread nD τ).loc main_v90_0) := fun i => kcR (aX m c) (aG m c) (aW m c) (i 0) (i 1) (i 2) (i 3)

theorem at12_0 : ∀ t : Fin grid0.N, win0_12.index t 0 = t.val / 16 := by decide +kernel

theorem at12_1 : ∀ t : Fin grid0.N, win0_12.index t 1 = 0 := by decide +kernel

theorem at12_2 : ∀ t : Fin grid0.N, win0_12.index t 2 = t.val % 16 := by decide +kernel

theorem at12_3 : ∀ t : Fin grid0.N, win0_12.index t 3 = 0 := by decide +kernel

theorem emb12 (t : Fin cfg0.N) (g : Fin 4) (r : Fin 32) (l : Fin 1024) :
    (((cfg0.win 12).blk t).view.emb (ix4 0 g r l) : S2x4x512x1024.Idx) = ix4 (seqOf t) g ⟨32 * (t.val % 16) + r.val, by omega⟩ l := by
  have ht := lt32 t
  funext a
  apply Fin.ext
  match a with
  | ⟨0, _⟩ => show win0_12.index t 0 * 1 + 1 * 0 = t.val / 16
              rw [at12_0 t]; omega
  | ⟨1, _⟩ => show win0_12.index t 1 * 4 + 1 * g.val = g.val
              rw [at12_1 t]; omega
  | ⟨2, _⟩ => show win0_12.index t 2 * 32 + 1 * r.val = 32 * (t.val % 16) + r.val
              rw [at12_2 t]; omega
  | ⟨3, _⟩ => show win0_12.index t 3 * 1024 + 1 * l.val = l.val
              rw [at12_3 t]; omega

set_option maxHeartbeats 4000000 in
theorem flush_eq12 (t : Fin cfg0.N) :
    (dats m 0 c).flushed 12 t = ((cfg0.win 12).blk t).view.read (Elt Ideal) (res12 m c) := by
  rw [flushed12]
  funext i
  rw [View.read_apply]
  obtain ⟨g, r, l, rfl⟩ : ∃ (g : Fin 4) (r : Fin 32) (l : Fin 1024), i = ix4 0 g r l := ⟨i 1, i 2, i 3, funext fun a => by fin_cases a <;> first | rfl | exact Subsingleton.elim (α := Fin 1) _ _⟩
  refine Eq.trans ?_ (congrArg (res12 m c) (emb12 t g r l)).symm
  show block12 m c t (ix4 0 g r l) = _
  unfold block12
  exact (kc_left c _ _ _ _ _ _ _ _ _ _ _ _ _ _ _ _ _ _ _ _ _ _ _ _ _ _ _ _ _ _ _ _ _ _ _ _ _ _ _ _ _ _ _ _ _ _ _ _ _ _ _ _ _ _ _ g r l).trans (kc_row m c t g r l)

set_option maxHeartbeats 4000000 in
theorem final12 : (dats m 0 c).arrAt 12 cfg0.N = res12 m c :=
  (dats m 0 c).arrAt_eq_of_cover 12 (res12 m c) (fun t _ => flush_eq12 m c t) fun i => by
    have h0 : (i 0 : Nat) < 2 := (i 0).isLt
    have h1 : (i 1 : Nat) < 4 := (i 1).isLt
    have h2 : (i 2 : Nat) < 512 := (i 2).isLt
    have h3 : (i 3 : Nat) < 1024 := (i 3).isLt
    have hN : cfg0.N = 32 := N_0
    let t : Fin cfg0.N := ⟨16 * (i 0 : Nat) + (i 2 : Nat) / 32, by omega⟩
    have e : (t : Nat) = 16 * (i 0 : Nat) + (i 2 : Nat) / 32 := rfl
    refine ⟨t, flush0_12 t, ?_⟩
    show i ∈ ((View.whole main_v90_0).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1
                rw [at12_0 t]; omega
    | ⟨1, _⟩ => show win0_12.index t 1 * 4 ≤ (i 1 : Nat) ∧ (i 1 : Nat) < win0_12.index t 1 * 4 + 4
                rw [at12_1 t]; omega
    | ⟨2, _⟩ => show win0_12.index t 2 * 32 ≤ (i 2 : Nat) ∧ (i 2 : Nat) < win0_12.index t 2 * 32 + 32
                rw [at12_2 t]; omega
    | ⟨3, _⟩ => show win0_12.index t 3 * 1024 ≤ (i 3 : Nat) ∧ (i 3 : Nat) < win0_12.index t 3 * 1024 + 1024
                rw [at12_3 t]; omega

/-- Result 1. -/
def res13 : Buf (Elt Ideal) ((c : Thread nD τ).loc main_v90_1) := fun i => vcR (aX m c) (aG m c) (aW m c) (i 0) (i 1) (i 2) (i 3)

theorem at13_0 : ∀ t : Fin grid0.N, win0_13.index t 0 = t.val / 16 := by decide +kernel

theorem at13_1 : ∀ t : Fin grid0.N, win0_13.index t 1 = 0 := by decide +kernel

theorem at13_2 : ∀ t : Fin grid0.N, win0_13.index t 2 = t.val % 16 := by decide +kernel

theorem at13_3 : ∀ t : Fin grid0.N, win0_13.index t 3 = 0 := by decide +kernel

theorem emb13 (t : Fin cfg0.N) (g : Fin 4) (r : Fin 32) (l : Fin 1024) :
    (((cfg0.win 13).blk t).view.emb (ix4 0 g r l) : S2x4x512x1024.Idx) = ix4 (seqOf t) g ⟨32 * (t.val % 16) + r.val, by omega⟩ l := by
  have ht := lt32 t
  funext a
  apply Fin.ext
  match a with
  | ⟨0, _⟩ => show win0_13.index t 0 * 1 + 1 * 0 = t.val / 16
              rw [at13_0 t]; omega
  | ⟨1, _⟩ => show win0_13.index t 1 * 4 + 1 * g.val = g.val
              rw [at13_1 t]; omega
  | ⟨2, _⟩ => show win0_13.index t 2 * 32 + 1 * r.val = 32 * (t.val % 16) + r.val
              rw [at13_2 t]; omega
  | ⟨3, _⟩ => show win0_13.index t 3 * 1024 + 1 * l.val = l.val
              rw [at13_3 t]; omega

set_option maxHeartbeats 4000000 in
theorem flush_eq13 (t : Fin cfg0.N) :
    (dats m 0 c).flushed 13 t = ((cfg0.win 13).blk t).view.read (Elt Ideal) (res13 m c) := by
  rw [flushed13]
  funext i
  rw [View.read_apply]
  obtain ⟨g, r, l, rfl⟩ : ∃ (g : Fin 4) (r : Fin 32) (l : Fin 1024), i = ix4 0 g r l := ⟨i 1, i 2, i 3, funext fun a => by fin_cases a <;> first | rfl | exact Subsingleton.elim (α := Fin 1) _ _⟩
  refine Eq.trans ?_ (congrArg (res13 m c) (emb13 t g r l)).symm
  show block13 m c t (ix4 0 g r l) = _
  unfold block13
  exact (vc_left c _ _ _ _ _ _ _ _ _ _ _ _ _ _ _ _ _ _ _ _ _ _ _ _ _ _ _ _ _ _ _ _ _ _ _ _ _ _ _ _ _ _ _ _ _ _ _ _ _ _ _ _ _ _ _ g r l).trans (vc_row m c t g r l)

set_option maxHeartbeats 4000000 in
theorem final13 : (dats m 0 c).arrAt 13 cfg0.N = res13 m c :=
  (dats m 0 c).arrAt_eq_of_cover 13 (res13 m c) (fun t _ => flush_eq13 m c t) fun i => by
    have h0 : (i 0 : Nat) < 2 := (i 0).isLt
    have h1 : (i 1 : Nat) < 4 := (i 1).isLt
    have h2 : (i 2 : Nat) < 512 := (i 2).isLt
    have h3 : (i 3 : Nat) < 1024 := (i 3).isLt
    have hN : cfg0.N = 32 := N_0
    let t : Fin cfg0.N := ⟨16 * (i 0 : Nat) + (i 2 : Nat) / 32, by omega⟩
    have e : (t : Nat) = 16 * (i 0 : Nat) + (i 2 : Nat) / 32 := rfl
    refine ⟨t, flush0_13 t, ?_⟩
    show i ∈ ((View.whole main_v90_1).slice (win0_13.rect t)).set
    rw [View.set_slice_whole, Rect.mem_set_unit]
    intro a
    match a with
    | ⟨0, _⟩ => show win0_13.index t 0 * 1 ≤ (i 0 : Nat) ∧ (i 0 : Nat) < win0_13.index t 0 * 1 + 1
                rw [at13_0 t]; omega
    | ⟨1, _⟩ => show win0_13.index t 1 * 4 ≤ (i 1 : Nat) ∧ (i 1 : Nat) < win0_13.index t 1 * 4 + 4
                rw [at13_1 t]; omega
    | ⟨2, _⟩ => show win0_13.index t 2 * 32 ≤ (i 2 : Nat) ∧ (i 2 : Nat) < win0_13.index t 2 * 32 + 32
                rw [at13_2 t]; omega
    | ⟨3, _⟩ => show win0_13.index t 3 * 1024 ≤ (i 3 : Nat) ∧ (i 3 : Nat) < win0_13.index t 3 * 1024 + 1024
                rw [at13_3 t]; omega

end Cert.Kernel5Ideal.Rows

end
-- ==== Proof.Att.BlockKeys.lean ====
/-
  The keys of a block: the window's and those to be selected.
-/
module

public import proofs.«01_k».proof.Proof.Att.Pieces
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S64x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S1x4x32x1024 .bf16) (harg13 : arg13.IsWhole) (arg14 : Memref sig .tc .vmem S1x4x32x1024 .bf16) (harg14 : arg14.IsWhole) (arg15 : Memref sig .tc .vmem S1x4x512x128 .bf16) (harg15 : arg15.IsWhole) (arg16 : Memref sig .tc .vmem S1x4x512x64 .bf16) (harg16 : arg16.IsWhole) (arg17 : Memref sig .tc .vmem S1x4x1x80x512 .bf16) (harg17 : arg17.IsWhole) (arg18 : Memref sig .tc .vmem S1x4x4x80x128 .bf16) (harg18 : arg18.IsWhole) (arg19 : Memref sig .tc .vmem S1x4x64x2048 .bf16) (harg19 : arg19.IsWhole) (arg20 : Memref sig .tc .vmem S1x4x16x512 .f32) (harg20 : arg20.IsWhole) (arg21 : Memref sig .tc .vmem S32x16x128 .f32) (harg21 : arg21.IsWhole) (x0 : Vec Ideal S512x1024 .f32) (x1 : Vec Ideal S1x1024 .f32) (x2 : Vec Ideal S1x1024 .f32) (x3 : Vec Ideal S1024x1024 .bf16) (x4 : Vec Ideal S512x1024 .bf16) (x5 : Vec Ideal S1024x1024 .bf16) (x6 : Vec Ideal S64x1024 .bf16) (x7 : Vec Ideal S512x128 .f32) (x8 : Vec Ideal S512x128 .f32) (x9 : Vec Ideal S512x128 .f32) (x10 : Vec Ideal S8x512 .f32) (x11 : Vec Ideal S8x512 .f32)

set_option maxHeartbeats 8000000 in
/-- Result 2's stored block. -/
theorem ks_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1 = (fun y : S1x4x512x128.Idx => ksB x0 x1 x3 x7 x8 x9 (y 1) (y 2) (y 3)) := by
  funext y
  refine View.canon_apply_of_pieces ((fun y : S1x4x512x128.Idx => ksB x0 x1 x3 x7 x8 x9 (y 1) (y 2) (y 3))) _ ?_ y (covered14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.r_1, kernelRun0_A.sl.r_2, kernelRun0_A.sl.r_3, kernelRun0_A.sl.r_35, kernelRun0_A.sl.r_36, kernelRun0_A.sl.r_37, kernelRun0_A.sl.r_4, kernelRun0_A.sl.r_5, kernelRun0_A.sl.v26, View.readAt_eq_ld, Memref.IsWhole.read_unread, ld_w0, ld_w1, ld_w2, ld_w3, ld_w4, ld_w5, ld_w6]
  refine List.forall_mem_cons.2 ⟨fun x => ks_odd x0 x1 x3 x7 x8 x9 3 (by decide) (by decide) 640 (by decide) (by decide) (by decide) x, ?_⟩
  refine List.forall_mem_cons.2 ⟨fun x => ks_even x0 x1 x3 x7 x8 x9 2 (by decide) (by decide) 640 (by decide) (by decide) (by decide) x, ?_⟩
  refine List.forall_mem_cons.2 ⟨fun x => ks_odd x0 x1 x3 x7 x8 x9 1 (by decide) (by decide) 512 (by decide) (by decide) (by decide) x, ?_⟩
  refine List.forall_mem_cons.2 ⟨fun x => ks_even x0 x1 x3 x7 x8 x9 0 (by decide) (by decide) 512 (by decide) (by decide) (by decide) x, ?_⟩
  exact List.forall_mem_nil _

theorem ks_left (g : Fin 4) (t : Fin 512) (l : Fin 128) : left14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix4 0 g t l) = ksB x0 x1 x3 x7 x8 x9 g t l := by
  unfold left14
  rw [View.read_writes_eq_canon _ _ _ (covered14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (ks_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix4 0 g t l)

set_option maxHeartbeats 8000000 in
/-- Result 3's stored block. -/
theorem kw_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1 = (fun y : S1x4x512x64.Idx => kwB x0 x1 x3 x7 x8 x9 (y 1) (y 2) (y 3)) := by
  funext y
  refine View.canon_apply_of_pieces ((fun y : S1x4x512x64.Idx => kwB x0 x1 x3 x7 x8 x9 (y 1) (y 2) (y 3))) _ ?_ y (covered15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.r_1, kernelRun0_A.sl.r_2, kernelRun0_A.sl.r_3, kernelRun0_A.sl.r_38, kernelRun0_A.sl.r_4, kernelRun0_A.sl.r_5, View.readAt_eq_ld, Memref.IsWhole.read_unread, ld_w0, ld_w1, ld_w2, ld_w3, ld_w4, ld_w5, ld_w6]
  refine List.forall_mem_cons.2 ⟨fun x => kw_piece x0 x1 x3 x7 x8 x9 3 (by decide) 896 (by decide) (by decide) 64 (by decide) (by decide) (by decide) x, ?_⟩
  refine List.forall_mem_cons.2 ⟨fun x => kw_piece x0 x1 x3 x7 x8 x9 2 (by decide) 896 (by decide) (by decide) 0 (by decide) (by decide) (by decide) x, ?_⟩
  refine List.forall_mem_cons.2 ⟨fun x => kw_piece x0 x1 x3 x7 x8 x9 1 (by decide) 768 (by decide) (by decide) 64 (by decide) (by decide) (by decide) x, ?_⟩
  refine List.forall_mem_cons.2 ⟨fun x => kw_piece x0 x1 x3 x7 x8 x9 0 (by decide) 768 (by decide) (by decide) 0 (by decide) (by decide) (by decide) x, ?_⟩
  exact List.forall_mem_nil _

theorem kw_left (g : Fin 4) (t : Fin 512) (l : Fin 64) : left15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix4 0 g t l) = kwB x0 x1 x3 x7 x8 x9 g t l := by
  unfold left15
  rw [View.read_writes_eq_canon _ _ _ (covered15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (kw_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix4 0 g t l)
end

end Cert.Kernel5Ideal.Rows

end
-- ==== Proof.Att.ArrKeys.lean ====
/-
  The attention's projections, the arrays of keys.
-/
module

public import proofs.«01_k».proof.Proof.Att.BlockKeys
public import proofs.«01_k».proof.Proof.Att.Points

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Rows

open Cert.Kernel5Ideal Cert.Kernel5Ideal.Gen Cert.Kernel5Ideal.Att Cert.Ffn Cert.Att

variable (m : (ℓ : Loc nD τ sig) → Buf (Elt Ideal) ℓ) (c : Dev nD)

/-- Result 2. -/
def res14 : Buf (Elt Ideal) ((c : Thread nD τ).loc main_v90_2) := fun i => ksR (aX m c) (aG m c) (aW m c) (i 0) (i 1) (i 2) (i 3)

theorem at14_0 : ∀ t : Fin grid0.N, win0_14.index t 0 = t.val / 16 := by decide +kernel

theorem at14_1 : ∀ t : Fin grid0.N, win0_14.index t 1 = 0 := by decide +kernel

theorem at14_2 : ∀ t : Fin grid0.N, win0_14.index t 2 = t.val % 16 := by decide +kernel

theorem at14_3 : ∀ t : Fin grid0.N, win0_14.index t 3 = 0 := by decide +kernel

theorem emb14 (t : Fin cfg0.N) (g : Fin 4) (r : Fin 512) (l : Fin 128) :
    (((cfg0.win 14).blk t).view.emb (ix4 0 g r l) : S2x4x8192x128.Idx) = ix4 (seqOf t) g (posOf t r) l := by
  have ht := lt32 t
  funext a
  apply Fin.ext
  match a with
  | ⟨0, _⟩ => show win0_14.index t 0 * 1 + 1 * 0 = t.val / 16
              rw [at14_0 t]; omega
  | ⟨1, _⟩ => show win0_14.index t 1 * 4 + 1 * g.val = g.val
              rw [at14_1 t]; omega
  | ⟨2, _⟩ => show win0_14.index t 2 * 512 + 1 * r.val = 512 * (t.val % 16) + r.val
              rw [at14_2 t]; omega
  | ⟨3, _⟩ => show win0_14.index t 3 * 128 + 1 * l.val = l.val
              rw [at14_3 t]; omega

set_option maxHeartbeats 4000000 in
theorem flush_eq14 (t : Fin cfg0.N) :
    (dats m 0 c).flushed 14 t = ((cfg0.win 14).blk t).view.read (Elt Ideal) (res14 m c) := by
  rw [flushed14]
  funext i
  rw [View.read_apply]
  obtain ⟨g, r, l, rfl⟩ : ∃ (g : Fin 4) (r : Fin 512) (l : Fin 128), i = ix4 0 g r l := ⟨i 1, i 2, i 3, funext fun a => by fin_cases a <;> first | rfl | exact Subsingleton.elim (α := Fin 1) _ _⟩
  refine Eq.trans ?_ (congrArg (res14 m c) (emb14 t g r l)).symm
  show block14 m c t (ix4 0 g r l) = _
  unfold block14
  exact (ks_left c _ _ _ _ _ _ _ _ _ _ _ _ _ _ _ _ _ _ _ _ _ _ _ _ _ _ _ _ _ _ _ _ _ _ _ _ _ _ _ _ _ _ _ _ _ _ _ _ _ _ _ _ _ _ _ g r l).trans (ks_row m c t g r l)

set_option maxHeartbeats 4000000 in
theorem final14 : (dats m 0 c).arrAt 14 cfg0.N = res14 m c :=
  (dats m 0 c).arrAt_eq_of_cover 14 (res14 m c) (fun t _ => flush_eq14 m c t) fun i => by
    have h0 : (i 0 : Nat) < 2 := (i 0).isLt
    have h1 : (i 1 : Nat) < 4 := (i 1).isLt
    have h2 : (i 2 : Nat) < 8192 := (i 2).isLt
    have h3 : (i 3 : Nat) < 128 := (i 3).isLt
    have hN : cfg0.N = 32 := N_0
    let t : Fin cfg0.N := ⟨16 * (i 0 : Nat) + (i 2 : Nat) / 512, by omega⟩
    have e : (t : Nat) = 16 * (i 0 : Nat) + (i 2 : Nat) / 512 := rfl
    refine ⟨t, flush0_14 t, ?_⟩
    show i ∈ ((View.whole main_v90_2).slice (win0_14.rect t)).set
    rw [View.set_slice_whole, Rect.mem_set_unit]
    intro a
    match a with
    | ⟨0, _⟩ => show win0_14.index t 0 * 1 ≤ (i 0 : Nat) ∧ (i 0 : Nat) < win0_14.index t 0 * 1 + 1
                rw [at14_0 t]; omega
    | ⟨1, _⟩ => show win0_14.index t 1 * 4 ≤ (i 1 : Nat) ∧ (i 1 : Nat) < win0_14.index t 1 * 4 + 4
                rw [at14_1 t]; omega
    | ⟨2, _⟩ => show win0_14.index t 2 * 512 ≤ (i 2 : Nat) ∧ (i 2 : Nat) < win0_14.index t 2 * 512 + 512
                rw [at14_2 t]; omega
    | ⟨3, _⟩ => show win0_14.index t 3 * 128 ≤ (i 3 : Nat) ∧ (i 3 : Nat) < win0_14.index t 3 * 128 + 128
                rw [at14_3 t]; omega

/-- Result 3. -/
def res15 : Buf (Elt Ideal) ((c : Thread nD τ).loc main_v90_3) := fun i => kwR (aX m c) (aG m c) (aW m c) (i 0) (i 1) (i 2) (i 3)

theorem at15_0 : ∀ t : Fin grid0.N, win0_15.index t 0 = t.val / 16 := by decide +kernel

theorem at15_1 : ∀ t : Fin grid0.N, win0_15.index t 1 = 0 := by decide +kernel

theorem at15_2 : ∀ t : Fin grid0.N, win0_15.index t 2 = t.val % 16 := by decide +kernel

theorem at15_3 : ∀ t : Fin grid0.N, win0_15.index t 3 = 0 := by decide +kernel

theorem emb15 (t : Fin cfg0.N) (g : Fin 4) (r : Fin 512) (l : Fin 64) :
    (((cfg0.win 15).blk t).view.emb (ix4 0 g r l) : S2x4x8192x64.Idx) = ix4 (seqOf t) g (posOf t r) l := by
  have ht := lt32 t
  funext a
  apply Fin.ext
  match a with
  | ⟨0, _⟩ => show win0_15.index t 0 * 1 + 1 * 0 = t.val / 16
              rw [at15_0 t]; omega
  | ⟨1, _⟩ => show win0_15.index t 1 * 4 + 1 * g.val = g.val
              rw [at15_1 t]; omega
  | ⟨2, _⟩ => show win0_15.index t 2 * 512 + 1 * r.val = 512 * (t.val % 16) + r.val
              rw [at15_2 t]; omega
  | ⟨3, _⟩ => show win0_15.index t 3 * 64 + 1 * l.val = l.val
              rw [at15_3 t]; omega

set_option maxHeartbeats 4000000 in
theorem flush_eq15 (t : Fin cfg0.N) :
    (dats m 0 c).flushed 15 t = ((cfg0.win 15).blk t).view.read (Elt Ideal) (res15 m c) := by
  rw [flushed15]
  funext i
  rw [View.read_apply]
  obtain ⟨g, r, l, rfl⟩ : ∃ (g : Fin 4) (r : Fin 512) (l : Fin 64), i = ix4 0 g r l := ⟨i 1, i 2, i 3, funext fun a => by fin_cases a <;> first | rfl | exact Subsingleton.elim (α := Fin 1) _ _⟩
  refine Eq.trans ?_ (congrArg (res15 m c) (emb15 t g r l)).symm
  show block15 m c t (ix4 0 g r l) = _
  unfold block15
  exact (kw_left c _ _ _ _ _ _ _ _ _ _ _ _ _ _ _ _ _ _ _ _ _ _ _ _ _ _ _ _ _ _ _ _ _ _ _ _ _ _ _ _ _ _ _ _ _ _ _ _ _ _ _ _ _ _ _ g r l).trans (kw_row m c t g r l)

set_option maxHeartbeats 4000000 in
theorem final15 : (dats m 0 c).arrAt 15 cfg0.N = res15 m c :=
  (dats m 0 c).arrAt_eq_of_cover 15 (res15 m c) (fun t _ => flush_eq15 m c t) fun i => by
    have h0 : (i 0 : Nat) < 2 := (i 0).isLt
    have h1 : (i 1 : Nat) < 4 := (i 1).isLt
    have h2 : (i 2 : Nat) < 8192 := (i 2).isLt
    have h3 : (i 3 : Nat) < 64 := (i 3).isLt
    have hN : cfg0.N = 32 := N_0
    let t : Fin cfg0.N := ⟨16 * (i 0 : Nat) + (i 2 : Nat) / 512, by omega⟩
    have e : (t : Nat) = 16 * (i 0 : Nat) + (i 2 : Nat) / 512 := rfl
    refine ⟨t, flush0_15 t, ?_⟩
    show i ∈ ((View.whole main_v90_3).slice (win0_15.rect t)).set
    rw [View.set_slice_whole, Rect.mem_set_unit]
    intro a
    match a with
    | ⟨0, _⟩ => show win0_15.index t 0 * 1 ≤ (i 0 : Nat) ∧ (i 0 : Nat) < win0_15.index t 0 * 1 + 1
                rw [at15_0 t]; omega
    | ⟨1, _⟩ => show win0_15.index t 1 * 4 ≤ (i 1 : Nat) ∧ (i 1 : Nat) < win0_15.index t 1 * 4 + 4
                rw [at15_1 t]; omega
    | ⟨2, _⟩ => show win0_15.index t 2 * 512 ≤ (i 2 : Nat) ∧ (i 2 : Nat) < win0_15.index t 2 * 512 + 512
                rw [at15_2 t]; omega
    | ⟨3, _⟩ => show win0_15.index t 3 * 64 ≤ (i 3 : Nat) ∧ (i 3 : Nat) < win0_15.index t 3 * 64 + 64
                rw [at15_3 t]; omega

end Cert.Kernel5Ideal.Rows

end
-- ==== Proof.Att.BlockVals.lean ====
/-
  The transposed values of a block.
-/
module

public import proofs.«01_k».proof.Proof.Att.Pieces
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S64x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S1x4x32x1024 .bf16) (harg13 : arg13.IsWhole) (arg14 : Memref sig .tc .vmem S1x4x32x1024 .bf16) (harg14 : arg14.IsWhole) (arg15 : Memref sig .tc .vmem S1x4x512x128 .bf16) (harg15 : arg15.IsWhole) (arg16 : Memref sig .tc .vmem S1x4x512x64 .bf16) (harg16 : arg16.IsWhole) (arg17 : Memref sig .tc .vmem S1x4x1x80x512 .bf16) (harg17 : arg17.IsWhole) (arg18 : Memref sig .tc .vmem S1x4x4x80x128 .bf16) (harg18 : arg18.IsWhole) (arg19 : Memref sig .tc .vmem S1x4x64x2048 .bf16) (harg19 : arg19.IsWhole) (arg20 : Memref sig .tc .vmem S1x4x16x512 .f32) (harg20 : arg20.IsWhole) (arg21 : Memref sig .tc .vmem S32x16x128 .f32) (harg21 : arg21.IsWhole) (x0 : Vec Ideal S512x1024 .f32) (x1 : Vec Ideal S1x1024 .f32) (x2 : Vec Ideal S1x1024 .f32) (x3 : Vec Ideal S1024x1024 .bf16) (x4 : Vec Ideal S512x1024 .bf16) (x5 : Vec Ideal S1024x1024 .bf16) (x6 : Vec Ideal S64x1024 .bf16) (x7 : Vec Ideal S512x128 .f32) (x8 : Vec Ideal S512x128 .f32) (x9 : Vec Ideal S512x128 .f32) (x10 : Vec Ideal S8x512 .f32) (x11 : Vec Ideal S8x512 .f32)

set_option maxHeartbeats 8000000 in
/-- Result 4's stored block. -/
theorem vs_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1 = (fun y : S1x4x1x80x512.Idx => vsB x0 x1 x4 (y 1) (y 3) (y 4)) := by
  funext y
  refine View.canon_apply_of_pieces ((fun y : S1x4x1x80x512.Idx => vsB x0 x1 x4 (y 1) (y 3) (y 4))) _ ?_ y (covered16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.r_39, kernelRun0_A.sl.v720, kernelRun0_A.sl.v759, kernelRun0_A.sl.v798, kernelRun0_A.sl.r_1, kernelRun0_A.sl.r_2, kernelRun0_A.sl.r_3, kernelRun0_A.sl.r_4, kernelRun0_A.sl.r_5, kernelRun0_A.sl.v723, kernelRun0_A.sl.v726, kernelRun0_A.sl.v762, kernelRun0_A.sl.v801, View.readAt_eq_ld, Memref.IsWhole.read_unread, ld_w0, ld_w1, ld_w2, ld_w3, ld_w4, ld_w5, ld_w6]
  refine List.forall_mem_cons.2 ⟨fun x => vs_ones x0 x1 x4 3 (by decide) (by decide) x, ?_⟩
  refine List.forall_mem_cons.2 ⟨fun x => vs_piece x0 x1 x4 3 (by decide) 192 (by decide) (by decide) (by decide) x, ?_⟩
  refine List.forall_mem_cons.2 ⟨fun x => vs_ones x0 x1 x4 2 (by decide) (by decide) x, ?_⟩
  refine List.forall_mem_cons.2 ⟨fun x => vs_piece x0 x1 x4 2 (by decide) 128 (by decide) (by decide) (by decide) x, ?_⟩
  refine List.forall_mem_cons.2 ⟨fun x => vs_ones x0 x1 x4 1 (by decide) (by decide) x, ?_⟩
  refine List.forall_mem_cons.2 ⟨fun x => vs_piece x0 x1 x4 1 (by decide) 64 (by decide) (by decide) (by decide) x, ?_⟩
  refine List.forall_mem_cons.2 ⟨fun x => vs_ones x0 x1 x4 0 (by decide) (by decide) x, ?_⟩
  refine List.forall_mem_cons.2 ⟨fun x => vs_piece x0 x1 x4 0 (by decide) 0 (by decide) (by decide) (by decide) x, ?_⟩
  exact List.forall_mem_nil _

theorem vs_left (g : Fin 4) (r : Fin 80) (l : Fin 512) : left16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix5 0 g 0 r l) = vsB x0 x1 x4 g r l := by
  unfold left16
  rw [View.read_writes_eq_canon _ _ _ (covered16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (vs_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix5 0 g 0 r l)

set_option maxHeartbeats 8000000 in
/-- Result 5's stored block. -/
theorem vw_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1 = (fun y : S1x4x4x80x128.Idx => vwB x0 x1 x4 (y 1) (y 2) (y 3) (y 4)) := by
  funext y
  refine View.canon_apply_of_pieces ((fun y : S1x4x4x80x128.Idx => vwB x0 x1 x4 (y 1) (y 2) (y 3) (y 4))) _ ?_ y (covered17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.r_39, kernelRun0_A.sl.v688, kernelRun0_A.sl.v692, kernelRun0_A.sl.v696, kernelRun0_A.sl.v704, kernelRun0_A.sl.v712, kernelRun0_A.sl.v727, kernelRun0_A.sl.v735, kernelRun0_A.sl.v743, kernelRun0_A.sl.v751, kernelRun0_A.sl.v766, kernelRun0_A.sl.v774, kernelRun0_A.sl.v782, kernelRun0_A.sl.v790, kernelRun0_A.sl.v805, kernelRun0_A.sl.v813, kernelRun0_A.sl.v821, kernelRun0_A.sl.r_1, kernelRun0_A.sl.r_2, kernelRun0_A.sl.r_3, kernelRun0_A.sl.r_4, kernelRun0_A.sl.r_5, kernelRun0_A.sl.v691, kernelRun0_A.sl.v695, kernelRun0_A.sl.v699, kernelRun0_A.sl.v707, kernelRun0_A.sl.v715, kernelRun0_A.sl.v730, kernelRun0_A.sl.v738, kernelRun0_A.sl.v746, kernelRun0_A.sl.v754, kernelRun0_A.sl.v769, kernelRun0_A.sl.v777, kernelRun0_A.sl.v785, kernelRun0_A.sl.v793, kernelRun0_A.sl.v808, kernelRun0_A.sl.v816, kernelRun0_A.sl.v824, kernelRun0_A.sl.v829, View.readAt_eq_ld, Memref.IsWhole.read_unread, ld_w0, ld_w1, ld_w2, ld_w3, ld_w4, ld_w5, ld_w6]
  refine List.forall_mem_cons.2 ⟨fun x => vw_ones x0 x1 x4 3 (by decide) 3 (by decide) (by decide) x, ?_⟩
  refine List.forall_mem_cons.2 ⟨fun x => vw_piece x0 x1 x4 3 (by decide) 3 (by decide) 448 384 (by decide) (by decide) (by decide) (by decide) (by decide) x, ?_⟩
  refine List.forall_mem_cons.2 ⟨fun x => vw_ones x0 x1 x4 3 (by decide) 2 (by decide) (by decide) x, ?_⟩
  refine List.forall_mem_cons.2 ⟨fun x => vw_piece x0 x1 x4 3 (by decide) 2 (by decide) 448 256 (by decide) (by decide) (by decide) (by decide) (by decide) x, ?_⟩
  refine List.forall_mem_cons.2 ⟨fun x => vw_ones x0 x1 x4 3 (by decide) 1 (by decide) (by decide) x, ?_⟩
  refine List.forall_mem_cons.2 ⟨fun x => vw_piece x0 x1 x4 3 (by decide) 1 (by decide) 448 128 (by decide) (by decide) (by decide) (by decide) (by decide) x, ?_⟩
  refine List.forall_mem_cons.2 ⟨fun x => vw_ones x0 x1 x4 3 (by decide) 0 (by decide) (by decide) x, ?_⟩
  refine List.forall_mem_cons.2 ⟨fun x => vw_piece x0 x1 x4 3 (by decide) 0 (by decide) 448 0 (by decide) (by decide) (by decide) (by decide) (by decide) x, ?_⟩
  refine List.forall_mem_cons.2 ⟨fun x => vw_ones x0 x1 x4 2 (by decide) 3 (by decide) (by decide) x, ?_⟩
  refine List.forall_mem_cons.2 ⟨fun x => vw_piece x0 x1 x4 2 (by decide) 3 (by decide) 384 384 (by decide) (by decide) (by decide) (by decide) (by decide) x, ?_⟩
  refine List.forall_mem_cons.2 ⟨fun x => vw_ones x0 x1 x4 2 (by decide) 2 (by decide) (by decide) x, ?_⟩
  refine List.forall_mem_cons.2 ⟨fun x => vw_piece x0 x1 x4 2 (by decide) 2 (by decide) 384 256 (by decide) (by decide) (by decide) (by decide) (by decide) x, ?_⟩
  refine List.forall_mem_cons.2 ⟨fun x => vw_ones x0 x1 x4 2 (by decide) 1 (by decide) (by decide) x, ?_⟩
  refine List.forall_mem_cons.2 ⟨fun x => vw_piece x0 x1 x4 2 (by decide) 1 (by decide) 384 128 (by decide) (by decide) (by decide) (by decide) (by decide) x, ?_⟩
  refine List.forall_mem_cons.2 ⟨fun x => vw_ones x0 x1 x4 2 (by decide) 0 (by decide) (by decide) x, ?_⟩
  refine List.forall_mem_cons.2 ⟨fun x => vw_piece x0 x1 x4 2 (by decide) 0 (by decide) 384 0 (by decide) (by decide) (by decide) (by decide) (by decide) x, ?_⟩
  refine List.forall_mem_cons.2 ⟨fun x => vw_ones x0 x1 x4 1 (by decide) 3 (by decide) (by decide) x, ?_⟩
  refine List.forall_mem_cons.2 ⟨fun x => vw_piece x0 x1 x4 1 (by decide) 3 (by decide) 320 384 (by decide) (by decide) (by decide) (by decide) (by decide) x, ?_⟩
  refine List.forall_mem_cons.2 ⟨fun x => vw_ones x0 x1 x4 1 (by decide) 2 (by decide) (by decide) x, ?_⟩
  refine List.forall_mem_cons.2 ⟨fun x => vw_piece x0 x1 x4 1 (by decide) 2 (by decide) 320 256 (by decide) (by decide) (by decide) (by decide) (by decide) x, ?_⟩
  refine List.forall_mem_cons.2 ⟨fun x => vw_ones x0 x1 x4 1 (by decide) 1 (by decide) (by decide) x, ?_⟩
  refine List.forall_mem_cons.2 ⟨fun x => vw_piece x0 x1 x4 1 (by decide) 1 (by decide) 320 128 (by decide) (by decide) (by decide) (by decide) (by decide) x, ?_⟩
  refine List.forall_mem_cons.2 ⟨fun x => vw_ones x0 x1 x4 1 (by decide) 0 (by decide) (by decide) x, ?_⟩
  refine List.forall_mem_cons.2 ⟨fun x => vw_piece x0 x1 x4 1 (by decide) 0 (by decide) 320 0 (by decide) (by decide) (by decide) (by decide) (by decide) x, ?_⟩
  refine List.forall_mem_cons.2 ⟨fun x => vw_ones x0 x1 x4 0 (by decide) 3 (by decide) (by decide) x, ?_⟩
  refine List.forall_mem_cons.2 ⟨fun x => vw_piece x0 x1 x4 0 (by decide) 3 (by decide) 256 384 (by decide) (by decide) (by decide) (by decide) (by decide) x, ?_⟩
  refine List.forall_mem_cons.2 ⟨fun x => vw_ones x0 x1 x4 0 (by decide) 2 (by decide) (by decide) x, ?_⟩
  refine List.forall_mem_cons.2 ⟨fun x => vw_piece x0 x1 x4 0 (by decide) 2 (by decide) 256 256 (by decide) (by decide) (by decide) (by decide) (by decide) x, ?_⟩
  refine List.forall_mem_cons.2 ⟨fun x => vw_ones x0 x1 x4 0 (by decide) 1 (by decide) (by decide) x, ?_⟩
  refine List.forall_mem_cons.2 ⟨fun x => vw_piece x0 x1 x4 0 (by decide) 1 (by decide) 256 128 (by decide) (by decide) (by decide) (by decide) (by decide) x, ?_⟩
  refine List.forall_mem_cons.2 ⟨fun x => vw_ones x0 x1 x4 0 (by decide) 0 (by decide) (by decide) x, ?_⟩
  refine List.forall_mem_cons.2 ⟨fun x => vw_piece x0 x1 x4 0 (by decide) 0 (by decide) 256 0 (by decide) (by decide) (by decide) (by decide) (by decide) x, ?_⟩
  exact List.forall_mem_nil _

theorem vw_left (g : Fin 4) (b : Fin 4) (r : Fin 80) (l : Fin 128) : left17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix5 0 g b r l) = vwB x0 x1 x4 g b r l := by
  unfold left17
  rw [View.read_writes_eq_canon _ _ _ (covered17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (vw_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix5 0 g b r l)
end

end Cert.Kernel5Ideal.Rows

end
-- ==== Proof.Att.ArrVals.lean ====
/-
  The attention's projections, the arrays of values.
-/
module

public import proofs.«01_k».proof.Proof.Att.BlockVals
public import proofs.«01_k».proof.Proof.Att.Points

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Rows

open Cert.Kernel5Ideal Cert.Kernel5Ideal.Gen Cert.Kernel5Ideal.Att Cert.Ffn Cert.Att

variable (m : (ℓ : Loc nD τ sig) → Buf (Elt Ideal) ℓ) (c : Dev nD)

/-- Result 4. -/
def res16 : Buf (Elt Ideal) ((c : Thread nD τ).loc main_v90_4) := fun i => vsR (aX m c) (aG m c) (aW m c) (i 0) (i 1) (i 2) (i 3) (i 4)

theorem at16_0 : ∀ t : Fin grid0.N, win0_16.index t 0 = t.val / 16 := by decide +kernel

theorem at16_1 : ∀ t : Fin grid0.N, win0_16.index t 1 = 0 := by decide +kernel

theorem at16_2 : ∀ t : Fin grid0.N, win0_16.index t 2 = t.val % 16 := by decide +kernel

theorem at16_3 : ∀ t : Fin grid0.N, win0_16.index t 3 = 0 := by decide +kernel

theorem at16_4 : ∀ t : Fin grid0.N, win0_16.index t 4 = 0 := by decide +kernel

theorem emb16 (t : Fin cfg0.N) (g : Fin 4) (r : Fin 80) (l : Fin 512) :
    (((cfg0.win 16).blk t).view.emb (ix5 0 g 0 r l) : S2x4x16x80x512.Idx) = ix5 (seqOf t) g ⟨t.val % 16, by omega⟩ r l := by
  have ht := lt32 t
  funext a
  apply Fin.ext
  match a with
  | ⟨0, _⟩ => show win0_16.index t 0 * 1 + 1 * 0 = t.val / 16
              rw [at16_0 t]; omega
  | ⟨1, _⟩ => show win0_16.index t 1 * 4 + 1 * g.val = g.val
              rw [at16_1 t]; omega
  | ⟨2, _⟩ => show win0_16.index t 2 * 1 + 1 * 0 = t.val % 16
              rw [at16_2 t]; omega
  | ⟨3, _⟩ => show win0_16.index t 3 * 80 + 1 * r.val = r.val
              rw [at16_3 t]; omega
  | ⟨4, _⟩ => show win0_16.index t 4 * 512 + 1 * l.val = l.val
              rw [at16_4 t]; omega

set_option maxHeartbeats 4000000 in
theorem flush_eq16 (t : Fin cfg0.N) :
    (dats m 0 c).flushed 16 t = ((cfg0.win 16).blk t).view.read (Elt Ideal) (res16 m c) := by
  rw [flushed16]
  funext i
  rw [View.read_apply]
  obtain ⟨g, r, l, rfl⟩ : ∃ (g : Fin 4) (r : Fin 80) (l : Fin 512), i = ix5 0 g 0 r l := ⟨i 1, i 3, i 4, funext fun a => by fin_cases a <;> first | rfl | exact Subsingleton.elim (α := Fin 1) _ _⟩
  refine Eq.trans ?_ (congrArg (res16 m c) (emb16 t g r l)).symm
  show block16 m c t (ix5 0 g 0 r l) = _
  unfold block16
  exact (vs_left c _ _ _ _ _ _ _ _ _ _ _ _ _ _ _ _ _ _ _ _ _ _ _ _ _ _ _ _ _ _ _ _ _ _ _ _ _ _ _ _ _ _ _ _ _ _ _ _ _ _ _ _ _ _ _ g r l).trans (vs_row m c t g r l)

set_option maxHeartbeats 4000000 in
theorem final16 : (dats m 0 c).arrAt 16 cfg0.N = res16 m c :=
  (dats m 0 c).arrAt_eq_of_cover 16 (res16 m c) (fun t _ => flush_eq16 m c t) fun i => by
    have h0 : (i 0 : Nat) < 2 := (i 0).isLt
    have h1 : (i 1 : Nat) < 4 := (i 1).isLt
    have h2 : (i 2 : Nat) < 16 := (i 2).isLt
    have h3 : (i 3 : Nat) < 80 := (i 3).isLt
    have h4 : (i 4 : Nat) < 512 := (i 4).isLt
    have hN : cfg0.N = 32 := N_0
    let t : Fin cfg0.N := ⟨16 * (i 0 : Nat) + (i 2 : Nat) / 1, by omega⟩
    have e : (t : Nat) = 16 * (i 0 : Nat) + (i 2 : Nat) / 1 := rfl
    refine ⟨t, flush0_16 t, ?_⟩
    show i ∈ ((View.whole main_v90_4).slice (win0_16.rect t)).set
    rw [View.set_slice_whole, Rect.mem_set_unit]
    intro a
    match a with
    | ⟨0, _⟩ => show win0_16.index t 0 * 1 ≤ (i 0 : Nat) ∧ (i 0 : Nat) < win0_16.index t 0 * 1 + 1
                rw [at16_0 t]; omega
    | ⟨1, _⟩ => show win0_16.index t 1 * 4 ≤ (i 1 : Nat) ∧ (i 1 : Nat) < win0_16.index t 1 * 4 + 4
                rw [at16_1 t]; omega
    | ⟨2, _⟩ => show win0_16.index t 2 * 1 ≤ (i 2 : Nat) ∧ (i 2 : Nat) < win0_16.index t 2 * 1 + 1
                rw [at16_2 t]; omega
    | ⟨3, _⟩ => show win0_16.index t 3 * 80 ≤ (i 3 : Nat) ∧ (i 3 : Nat) < win0_16.index t 3 * 80 + 80
                rw [at16_3 t]; omega
    | ⟨4, _⟩ => show win0_16.index t 4 * 512 ≤ (i 4 : Nat) ∧ (i 4 : Nat) < win0_16.index t 4 * 512 + 512
                rw [at16_4 t]; omega

/-- Result 5. -/
def res17 : Buf (Elt Ideal) ((c : Thread nD τ).loc main_v90_5) := fun i => vwR (aX m c) (aG m c) (aW m c) (i 0) (i 1) (i 2) (i 3) (i 4)

theorem at17_0 : ∀ t : Fin grid0.N, win0_17.index t 0 = t.val / 16 := by decide +kernel

theorem at17_1 : ∀ t : Fin grid0.N, win0_17.index t 1 = 0 := by decide +kernel

theorem at17_2 : ∀ t : Fin grid0.N, win0_17.index t 2 = t.val % 16 := by decide +kernel

theorem at17_3 : ∀ t : Fin grid0.N, win0_17.index t 3 = 0 := by decide +kernel

theorem at17_4 : ∀ t : Fin grid0.N, win0_17.index t 4 = 0 := by decide +kernel

theorem emb17 (t : Fin cfg0.N) (g : Fin 4) (b : Fin 4) (r : Fin 80) (l : Fin 128) :
    (((cfg0.win 17).blk t).view.emb (ix5 0 g b r l) : S2x4x64x80x128.Idx) = ix5 (seqOf t) g ⟨4 * (t.val % 16) + b.val, by omega⟩ r l := by
  have ht := lt32 t
  funext a
  apply Fin.ext
  match a with
  | ⟨0, _⟩ => show win0_17.index t 0 * 1 + 1 * 0 = t.val / 16
              rw [at17_0 t]; omega
  | ⟨1, _⟩ => show win0_17.index t 1 * 4 + 1 * g.val = g.val
              rw [at17_1 t]; omega
  | ⟨2, _⟩ => show win0_17.index t 2 * 4 + 1 * b.val = 4 * (t.val % 16) + b.val
              rw [at17_2 t]; omega
  | ⟨3, _⟩ => show win0_17.index t 3 * 80 + 1 * r.val = r.val
              rw [at17_3 t]; omega
  | ⟨4, _⟩ => show win0_17.index t 4 * 128 + 1 * l.val = l.val
              rw [at17_4 t]; omega

set_option maxHeartbeats 4000000 in
theorem flush_eq17 (t : Fin cfg0.N) :
    (dats m 0 c).flushed 17 t = ((cfg0.win 17).blk t).view.read (Elt Ideal) (res17 m c) := by
  rw [flushed17]
  funext i
  rw [View.read_apply]
  obtain ⟨g, b, r, l, rfl⟩ : ∃ (g : Fin 4) (b : Fin 4) (r : Fin 80) (l : Fin 128), i = ix5 0 g b r l := ⟨i 1, i 2, i 3, i 4, funext fun a => by fin_cases a <;> first | rfl | exact Subsingleton.elim (α := Fin 1) _ _⟩
  refine Eq.trans ?_ (congrArg (res17 m c) (emb17 t g b r l)).symm
  show block17 m c t (ix5 0 g b r l) = _
  unfold block17
  exact (vw_left c _ _ _ _ _ _ _ _ _ _ _ _ _ _ _ _ _ _ _ _ _ _ _ _ _ _ _ _ _ _ _ _ _ _ _ _ _ _ _ _ _ _ _ _ _ _ _ _ _ _ _ _ _ _ _ g b r l).trans (vw_row m c t g b r l)

set_option maxHeartbeats 4000000 in
theorem final17 : (dats m 0 c).arrAt 17 cfg0.N = res17 m c :=
  (dats m 0 c).arrAt_eq_of_cover 17 (res17 m c) (fun t _ => flush_eq17 m c t) fun i => by
    have h0 : (i 0 : Nat) < 2 := (i 0).isLt
    have h1 : (i 1 : Nat) < 4 := (i 1).isLt
    have h2 : (i 2 : Nat) < 64 := (i 2).isLt
    have h3 : (i 3 : Nat) < 80 := (i 3).isLt
    have h4 : (i 4 : Nat) < 128 := (i 4).isLt
    have hN : cfg0.N = 32 := N_0
    let t : Fin cfg0.N := ⟨16 * (i 0 : Nat) + (i 2 : Nat) / 4, by omega⟩
    have e : (t : Nat) = 16 * (i 0 : Nat) + (i 2 : Nat) / 4 := rfl
    refine ⟨t, flush0_17 t, ?_⟩
    show i ∈ ((View.whole main_v90_5).slice (win0_17.rect t)).set
    rw [View.set_slice_whole, Rect.mem_set_unit]
    intro a
    match a with
    | ⟨0, _⟩ => show win0_17.index t 0 * 1 ≤ (i 0 : Nat) ∧ (i 0 : Nat) < win0_17.index t 0 * 1 + 1
                rw [at17_0 t]; omega
    | ⟨1, _⟩ => show win0_17.index t 1 * 4 ≤ (i 1 : Nat) ∧ (i 1 : Nat) < win0_17.index t 1 * 4 + 4
                rw [at17_1 t]; omega
    | ⟨2, _⟩ => show win0_17.index t 2 * 4 ≤ (i 2 : Nat) ∧ (i 2 : Nat) < win0_17.index t 2 * 4 + 4
                rw [at17_2 t]; omega
    | ⟨3, _⟩ => show win0_17.index t 3 * 80 ≤ (i 3 : Nat) ∧ (i 3 : Nat) < win0_17.index t 3 * 80 + 80
                rw [at17_3 t]; omega
    | ⟨4, _⟩ => show win0_17.index t 4 * 128 ≤ (i 4 : Nat) ∧ (i 4 : Nat) < win0_17.index t 4 * 128 + 128
                rw [at17_4 t]; omega

end Cert.Kernel5Ideal.Rows

end
-- ==== Proof.Att.BlockQ.lean ====
/-
  The queries of a block.
-/
module

public import proofs.«01_k».proof.Proof.Att.Pieces
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S64x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S1x4x32x1024 .bf16) (harg13 : arg13.IsWhole) (arg14 : Memref sig .tc .vmem S1x4x32x1024 .bf16) (harg14 : arg14.IsWhole) (arg15 : Memref sig .tc .vmem S1x4x512x128 .bf16) (harg15 : arg15.IsWhole) (arg16 : Memref sig .tc .vmem S1x4x512x64 .bf16) (harg16 : arg16.IsWhole) (arg17 : Memref sig .tc .vmem S1x4x1x80x512 .bf16) (harg17 : arg17.IsWhole) (arg18 : Memref sig .tc .vmem S1x4x4x80x128 .bf16) (harg18 : arg18.IsWhole) (arg19 : Memref sig .tc .vmem S1x4x64x2048 .bf16) (harg19 : arg19.IsWhole) (arg20 : Memref sig .tc .vmem S1x4x16x512 .f32) (harg20 : arg20.IsWhole) (arg21 : Memref sig .tc .vmem S32x16x128 .f32) (harg21 : arg21.IsWhole) (x0 : Vec Ideal S512x1024 .f32) (x1 : Vec Ideal S1x1024 .f32) (x2 : Vec Ideal S1x1024 .f32) (x3 : Vec Ideal S1024x1024 .bf16) (x4 : Vec Ideal S512x1024 .bf16) (x5 : Vec Ideal S1024x1024 .bf16) (x6 : Vec Ideal S64x1024 .bf16) (x7 : Vec Ideal S512x128 .f32) (x8 : Vec Ideal S512x128 .f32) (x9 : Vec Ideal S512x128 .f32) (x10 : Vec Ideal S8x512 .f32) (x11 : Vec Ideal S8x512 .f32)

set_option maxHeartbeats 8000000 in
/-- Result 6's stored block. -/
theorem q_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1 = (fun y : S1x4x64x2048.Idx => qB x0 x2 x5 x10 x11 (y 1) (y 2) (y 3)) := by
  funext y
  refine View.canon_apply_of_pieces ((fun y : S1x4x64x2048.Idx => qB x0 x2 x5 x10 x11 (y 1) (y 2) (y 3))) _ ?_ y (covered18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.r, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, View.readAt_eq_ld, Memref.IsWhole.read_unread, ld_w0, ld_w1, ld_w2, ld_w3, ld_w4, ld_w5, ld_w6]
  refine List.forall_mem_cons.2 ⟨fun x => q_piece x0 x2 x5 x10 x11 3 (by decide) 3 (by decide) 3 (by decide) 960 384 1920 (by decide) (by decide) (by decide) (by decide) (by decide) (by decide) x, ?_⟩
  refine List.forall_mem_cons.2 ⟨fun x => q_piece x0 x2 x5 x10 x11 3 (by decide) 3 (by decide) 2 (by decide) 960 256 1408 (by decide) (by decide) (by decide) (by decide) (by decide) (by decide) x, ?_⟩
  refine List.forall_mem_cons.2 ⟨fun x => q_piece x0 x2 x5 x10 x11 3 (by decide) 3 (by decide) 1 (by decide) 960 128 896 (by decide) (by decide) (by decide) (by decide) (by decide) (by decide) x, ?_⟩
  refine List.forall_mem_cons.2 ⟨fun x => q_piece x0 x2 x5 x10 x11 3 (by decide) 3 (by decide) 0 (by decide) 960 0 384 (by decide) (by decide) (by decide) (by decide) (by decide) (by decide) x, ?_⟩
  refine List.forall_mem_cons.2 ⟨fun x => q_piece x0 x2 x5 x10 x11 3 (by decide) 2 (by decide) 3 (by decide) 896 384 1792 (by decide) (by decide) (by decide) (by decide) (by decide) (by decide) x, ?_⟩
  refine List.forall_mem_cons.2 ⟨fun x => q_piece x0 x2 x5 x10 x11 3 (by decide) 2 (by decide) 2 (by decide) 896 256 1280 (by decide) (by decide) (by decide) (by decide) (by decide) (by decide) x, ?_⟩
  refine List.forall_mem_cons.2 ⟨fun x => q_piece x0 x2 x5 x10 x11 3 (by decide) 2 (by decide) 1 (by decide) 896 128 768 (by decide) (by decide) (by decide) (by decide) (by decide) (by decide) x, ?_⟩
  refine List.forall_mem_cons.2 ⟨fun x => q_piece x0 x2 x5 x10 x11 3 (by decide) 2 (by decide) 0 (by decide) 896 0 256 (by decide) (by decide) (by decide) (by decide) (by decide) (by decide) x, ?_⟩
  refine List.forall_mem_cons.2 ⟨fun x => q_piece x0 x2 x5 x10 x11 3 (by decide) 1 (by decide) 3 (by decide) 832 384 1664 (by decide) (by decide) (by decide) (by decide) (by decide) (by decide) x, ?_⟩
  refine List.forall_mem_cons.2 ⟨fun x => q_piece x0 x2 x5 x10 x11 3 (by decide) 1 (by decide) 2 (by decide) 832 256 1152 (by decide) (by decide) (by decide) (by decide) (by decide) (by decide) x, ?_⟩
  refine List.forall_mem_cons.2 ⟨fun x => q_piece x0 x2 x5 x10 x11 3 (by decide) 1 (by decide) 1 (by decide) 832 128 640 (by decide) (by decide) (by decide) (by decide) (by decide) (by decide) x, ?_⟩
  refine List.forall_mem_cons.2 ⟨fun x => q_piece x0 x2 x5 x10 x11 3 (by decide) 1 (by decide) 0 (by decide) 832 0 128 (by decide) (by decide) (by decide) (by decide) (by decide) (by decide) x, ?_⟩
  refine List.forall_mem_cons.2 ⟨fun x => q_piece x0 x2 x5 x10 x11 3 (by decide) 0 (by decide) 3 (by decide) 768 384 1536 (by decide) (by decide) (by decide) (by decide) (by decide) (by decide) x, ?_⟩
  refine List.forall_mem_cons.2 ⟨fun x => q_piece x0 x2 x5 x10 x11 3 (by decide) 0 (by decide) 2 (by decide) 768 256 1024 (by decide) (by decide) (by decide) (by decide) (by decide) (by decide) x, ?_⟩
  refine List.forall_mem_cons.2 ⟨fun x => q_piece x0 x2 x5 x10 x11 3 (by decide) 0 (by decide) 1 (by decide) 768 128 512 (by decide) (by decide) (by decide) (by decide) (by decide) (by decide) x, ?_⟩
  refine List.forall_mem_cons.2 ⟨fun x => q_piece x0 x2 x5 x10 x11 3 (by decide) 0 (by decide) 0 (by decide) 768 0 0 (by decide) (by decide) (by decide) (by decide) (by decide) (by decide) x, ?_⟩
  refine List.forall_mem_cons.2 ⟨fun x => q_piece x0 x2 x5 x10 x11 2 (by decide) 3 (by decide) 3 (by decide) 704 384 1920 (by decide) (by decide) (by decide) (by decide) (by decide) (by decide) x, ?_⟩
  refine List.forall_mem_cons.2 ⟨fun x => q_piece x0 x2 x5 x10 x11 2 (by decide) 3 (by decide) 2 (by decide) 704 256 1408 (by decide) (by decide) (by decide) (by decide) (by decide) (by decide) x, ?_⟩
  refine List.forall_mem_cons.2 ⟨fun x => q_piece x0 x2 x5 x10 x11 2 (by decide) 3 (by decide) 1 (by decide) 704 128 896 (by decide) (by decide) (by decide) (by decide) (by decide) (by decide) x, ?_⟩
  refine List.forall_mem_cons.2 ⟨fun x => q_piece x0 x2 x5 x10 x11 2 (by decide) 3 (by decide) 0 (by decide) 704 0 384 (by decide) (by decide) (by decide) (by decide) (by decide) (by decide) x, ?_⟩
  refine List.forall_mem_cons.2 ⟨fun x => q_piece x0 x2 x5 x10 x11 2 (by decide) 2 (by decide) 3 (by decide) 640 384 1792 (by decide) (by decide) (by decide) (by decide) (by decide) (by decide) x, ?_⟩
  refine List.forall_mem_cons.2 ⟨fun x => q_piece x0 x2 x5 x10 x11 2 (by decide) 2 (by decide) 2 (by decide) 640 256 1280 (by decide) (by decide) (by decide) (by decide) (by decide) (by decide) x, ?_⟩
  refine List.forall_mem_cons.2 ⟨fun x => q_piece x0 x2 x5 x10 x11 2 (by decide) 2 (by decide) 1 (by decide) 640 128 768 (by decide) (by decide) (by decide) (by decide) (by decide) (by decide) x, ?_⟩
  refine List.forall_mem_cons.2 ⟨fun x => q_piece x0 x2 x5 x10 x11 2 (by decide) 2 (by decide) 0 (by decide) 640 0 256 (by decide) (by decide) (by decide) (by decide) (by decide) (by decide) x, ?_⟩
  refine List.forall_mem_cons.2 ⟨fun x => q_piece x0 x2 x5 x10 x11 2 (by decide) 1 (by decide) 3 (by decide) 576 384 1664 (by decide) (by decide) (by decide) (by decide) (by decide) (by decide) x, ?_⟩
  refine List.forall_mem_cons.2 ⟨fun x => q_piece x0 x2 x5 x10 x11 2 (by decide) 1 (by decide) 2 (by decide) 576 256 1152 (by decide) (by decide) (by decide) (by decide) (by decide) (by decide) x, ?_⟩
  refine List.forall_mem_cons.2 ⟨fun x => q_piece x0 x2 x5 x10 x11 2 (by decide) 1 (by decide) 1 (by decide) 576 128 640 (by decide) (by decide) (by decide) (by decide) (by decide) (by decide) x, ?_⟩
  refine List.forall_mem_cons.2 ⟨fun x => q_piece x0 x2 x5 x10 x11 2 (by decide) 1 (by decide) 0 (by decide) 576 0 128 (by decide) (by decide) (by decide) (by decide) (by decide) (by decide) x, ?_⟩
  refine List.forall_mem_cons.2 ⟨fun x => q_piece x0 x2 x5 x10 x11 2 (by decide) 0 (by decide) 3 (by decide) 512 384 1536 (by decide) (by decide) (by decide) (by decide) (by decide) (by decide) x, ?_⟩
  refine List.forall_mem_cons.2 ⟨fun x => q_piece x0 x2 x5 x10 x11 2 (by decide) 0 (by decide) 2 (by decide) 512 256 1024 (by decide) (by decide) (by decide) (by decide) (by decide) (by decide) x, ?_⟩
  refine List.forall_mem_cons.2 ⟨fun x => q_piece x0 x2 x5 x10 x11 2 (by decide) 0 (by decide) 1 (by decide) 512 128 512 (by decide) (by decide) (by decide) (by decide) (by decide) (by decide) x, ?_⟩
  refine List.forall_mem_cons.2 ⟨fun x => q_piece x0 x2 x5 x10 x11 2 (by decide) 0 (by decide) 0 (by decide) 512 0 0 (by decide) (by decide) (by decide) (by decide) (by decide) (by decide) x, ?_⟩
  refine List.forall_mem_cons.2 ⟨fun x => q_piece x0 x2 x5 x10 x11 1 (by decide) 3 (by decide) 3 (by decide) 448 384 1920 (by decide) (by decide) (by decide) (by decide) (by decide) (by decide) x, ?_⟩
  refine List.forall_mem_cons.2 ⟨fun x => q_piece x0 x2 x5 x10 x11 1 (by decide) 3 (by decide) 2 (by decide) 448 256 1408 (by decide) (by decide) (by decide) (by decide) (by decide) (by decide) x, ?_⟩
  refine List.forall_mem_cons.2 ⟨fun x => q_piece x0 x2 x5 x10 x11 1 (by decide) 3 (by decide) 1 (by decide) 448 128 896 (by decide) (by decide) (by decide) (by decide) (by decide) (by decide) x, ?_⟩
  refine List.forall_mem_cons.2 ⟨fun x => q_piece x0 x2 x5 x10 x11 1 (by decide) 3 (by decide) 0 (by decide) 448 0 384 (by decide) (by decide) (by decide) (by decide) (by decide) (by decide) x, ?_⟩
  refine List.forall_mem_cons.2 ⟨fun x => q_piece x0 x2 x5 x10 x11 1 (by decide) 2 (by decide) 3 (by decide) 384 384 1792 (by decide) (by decide) (by decide) (by decide) (by decide) (by decide) x, ?_⟩
  refine List.forall_mem_cons.2 ⟨fun x => q_piece x0 x2 x5 x10 x11 1 (by decide) 2 (by decide) 2 (by decide) 384 256 1280 (by decide) (by decide) (by decide) (by decide) (by decide) (by decide) x, ?_⟩
  refine List.forall_mem_cons.2 ⟨fun x => q_piece x0 x2 x5 x10 x11 1 (by decide) 2 (by decide) 1 (by decide) 384 128 768 (by decide) (by decide) (by decide) (by decide) (by decide) (by decide) x, ?_⟩
  refine List.forall_mem_cons.2 ⟨fun x => q_piece x0 x2 x5 x10 x11 1 (by decide) 2 (by decide) 0 (by decide) 384 0 256 (by decide) (by decide) (by decide) (by decide) (by decide) (by decide) x, ?_⟩
  refine List.forall_mem_cons.2 ⟨fun x => q_piece x0 x2 x5 x10 x11 1 (by decide) 1 (by decide) 3 (by decide) 320 384 1664 (by decide) (by decide) (by decide) (by decide) (by decide) (by decide) x, ?_⟩
  refine List.forall_mem_cons.2 ⟨fun x => q_piece x0 x2 x5 x10 x11 1 (by decide) 1 (by decide) 2 (by decide) 320 256 1152 (by decide) (by decide) (by decide) (by decide) (by decide) (by decide) x, ?_⟩
  refine List.forall_mem_cons.2 ⟨fun x => q_piece x0 x2 x5 x10 x11 1 (by decide) 1 (by decide) 1 (by decide) 320 128 640 (by decide) (by decide) (by decide) (by decide) (by decide) (by decide) x, ?_⟩
  refine List.forall_mem_cons.2 ⟨fun x => q_piece x0 x2 x5 x10 x11 1 (by decide) 1 (by decide) 0 (by decide) 320 0 128 (by decide) (by decide) (by decide) (by decide) (by decide) (by decide) x, ?_⟩
  refine List.forall_mem_cons.2 ⟨fun x => q_piece x0 x2 x5 x10 x11 1 (by decide) 0 (by decide) 3 (by decide) 256 384 1536 (by decide) (by decide) (by decide) (by decide) (by decide) (by decide) x, ?_⟩
  refine List.forall_mem_cons.2 ⟨fun x => q_piece x0 x2 x5 x10 x11 1 (by decide) 0 (by decide) 2 (by decide) 256 256 1024 (by decide) (by decide) (by decide) (by decide) (by decide) (by decide) x, ?_⟩
  refine List.forall_mem_cons.2 ⟨fun x => q_piece x0 x2 x5 x10 x11 1 (by decide) 0 (by decide) 1 (by decide) 256 128 512 (by decide) (by decide) (by decide) (by decide) (by decide) (by decide) x, ?_⟩
  refine List.forall_mem_cons.2 ⟨fun x => q_piece x0 x2 x5 x10 x11 1 (by decide) 0 (by decide) 0 (by decide) 256 0 0 (by decide) (by decide) (by decide) (by decide) (by decide) (by decide) x, ?_⟩
  refine List.forall_mem_cons.2 ⟨fun x => q_piece x0 x2 x5 x10 x11 0 (by decide) 3 (by decide) 3 (by decide) 192 384 1920 (by decide) (by decide) (by decide) (by decide) (by decide) (by decide) x, ?_⟩
  refine List.forall_mem_cons.2 ⟨fun x => q_piece x0 x2 x5 x10 x11 0 (by decide) 3 (by decide) 2 (by decide) 192 256 1408 (by decide) (by decide) (by decide) (by decide) (by decide) (by decide) x, ?_⟩
  refine List.forall_mem_cons.2 ⟨fun x => q_piece x0 x2 x5 x10 x11 0 (by decide) 3 (by decide) 1 (by decide) 192 128 896 (by decide) (by decide) (by decide) (by decide) (by decide) (by decide) x, ?_⟩
  refine List.forall_mem_cons.2 ⟨fun x => q_piece x0 x2 x5 x10 x11 0 (by decide) 3 (by decide) 0 (by decide) 192 0 384 (by decide) (by decide) (by decide) (by decide) (by decide) (by decide) x, ?_⟩
  refine List.forall_mem_cons.2 ⟨fun x => q_piece x0 x2 x5 x10 x11 0 (by decide) 2 (by decide) 3 (by decide) 128 384 1792 (by decide) (by decide) (by decide) (by decide) (by decide) (by decide) x, ?_⟩
  refine List.forall_mem_cons.2 ⟨fun x => q_piece x0 x2 x5 x10 x11 0 (by decide) 2 (by decide) 2 (by decide) 128 256 1280 (by decide) (by decide) (by decide) (by decide) (by decide) (by decide) x, ?_⟩
  refine List.forall_mem_cons.2 ⟨fun x => q_piece x0 x2 x5 x10 x11 0 (by decide) 2 (by decide) 1 (by decide) 128 128 768 (by decide) (by decide) (by decide) (by decide) (by decide) (by decide) x, ?_⟩
  refine List.forall_mem_cons.2 ⟨fun x => q_piece x0 x2 x5 x10 x11 0 (by decide) 2 (by decide) 0 (by decide) 128 0 256 (by decide) (by decide) (by decide) (by decide) (by decide) (by decide) x, ?_⟩
  refine List.forall_mem_cons.2 ⟨fun x => q_piece x0 x2 x5 x10 x11 0 (by decide) 1 (by decide) 3 (by decide) 64 384 1664 (by decide) (by decide) (by decide) (by decide) (by decide) (by decide) x, ?_⟩
  refine List.forall_mem_cons.2 ⟨fun x => q_piece x0 x2 x5 x10 x11 0 (by decide) 1 (by decide) 2 (by decide) 64 256 1152 (by decide) (by decide) (by decide) (by decide) (by decide) (by decide) x, ?_⟩
  refine List.forall_mem_cons.2 ⟨fun x => q_piece x0 x2 x5 x10 x11 0 (by decide) 1 (by decide) 1 (by decide) 64 128 640 (by decide) (by decide) (by decide) (by decide) (by decide) (by decide) x, ?_⟩
  refine List.forall_mem_cons.2 ⟨fun x => q_piece x0 x2 x5 x10 x11 0 (by decide) 1 (by decide) 0 (by decide) 64 0 128 (by decide) (by decide) (by decide) (by decide) (by decide) (by decide) x, ?_⟩
  refine List.forall_mem_cons.2 ⟨fun x => q_piece x0 x2 x5 x10 x11 0 (by decide) 0 (by decide) 3 (by decide) 0 384 1536 (by decide) (by decide) (by decide) (by decide) (by decide) (by decide) x, ?_⟩
  refine List.forall_mem_cons.2 ⟨fun x => q_piece x0 x2 x5 x10 x11 0 (by decide) 0 (by decide) 2 (by decide) 0 256 1024 (by decide) (by decide) (by decide) (by decide) (by decide) (by decide) x, ?_⟩
  refine List.forall_mem_cons.2 ⟨fun x => q_piece x0 x2 x5 x10 x11 0 (by decide) 0 (by decide) 1 (by decide) 0 128 512 (by decide) (by decide) (by decide) (by decide) (by decide) (by decide) x, ?_⟩
  refine List.forall_mem_cons.2 ⟨fun x => q_piece x0 x2 x5 x10 x11 0 (by decide) 0 (by decide) 0 (by decide) 0 0 0 (by decide) (by decide) (by decide) (by decide) (by decide) (by decide) x, ?_⟩
  exact List.forall_mem_nil _

theorem q_left (g : Fin 4) (d : Fin 64) (l : Fin 2048) : left18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix4 0 g d l) = qB x0 x2 x5 x10 x11 g d l := by
  unfold left18
  rw [View.read_writes_eq_canon _ _ _ (covered18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (q_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix4 0 g d l)
end

end Cert.Kernel5Ideal.Rows

end
-- ==== Proof.Att.BlockGate.lean ====
/-
  The gates of a block.
-/
module

public import proofs.«01_k».proof.Proof.Att.Pieces
public import Idealize.ShloMosaic.Lib.Pipeline.ValueKit.Tiles

@[expose] public section

set_option maxRecDepth 16384

noncomputable section

open Idealize.ShloMosaic Idealize.ShloMosaic.TcCoe Idealize.SL.Sem
open scoped BigOperators

namespace Cert.Kernel5Ideal.Rows

open Cert.Kernel5Ideal Cert.Kernel5Ideal.Gen Cert.Kernel5Ideal.Att Cert.Ffn Cert.Att

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S64x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S1x4x32x1024 .bf16) (harg13 : arg13.IsWhole) (arg14 : Memref sig .tc .vmem S1x4x32x1024 .bf16) (harg14 : arg14.IsWhole) (arg15 : Memref sig .tc .vmem S1x4x512x128 .bf16) (harg15 : arg15.IsWhole) (arg16 : Memref sig .tc .vmem S1x4x512x64 .bf16) (harg16 : arg16.IsWhole) (arg17 : Memref sig .tc .vmem S1x4x1x80x512 .bf16) (harg17 : arg17.IsWhole) (arg18 : Memref sig .tc .vmem S1x4x4x80x128 .bf16) (harg18 : arg18.IsWhole) (arg19 : Memref sig .tc .vmem S1x4x64x2048 .bf16) (harg19 : arg19.IsWhole) (arg20 : Memref sig .tc .vmem S1x4x16x512 .f32) (harg20 : arg20.IsWhole) (arg21 : Memref sig .tc .vmem S32x16x128 .f32) (harg21 : arg21.IsWhole) (x0 : Vec Ideal S512x1024 .f32) (x1 : Vec Ideal S1x1024 .f32) (x2 : Vec Ideal S1x1024 .f32) (x3 : Vec Ideal S1024x1024 .bf16) (x4 : Vec Ideal S512x1024 .bf16) (x5 : Vec Ideal S1024x1024 .bf16) (x6 : Vec Ideal S64x1024 .bf16) (x7 : Vec Ideal S512x128 .f32) (x8 : Vec Ideal S512x128 .f32) (x9 : Vec Ideal S512x128 .f32) (x10 : Vec Ideal S8x512 .f32) (x11 : Vec Ideal S8x512 .f32)

set_option maxHeartbeats 8000000 in
/-- Result 7's stored block. -/
theorem gate_eq : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1 = (fun y : S1x4x16x512.Idx => gateB x0 x2 x6 (y 1) (y 2) (y 3)) := by
  funext y
  refine View.canon_apply_of_pieces ((fun y : S1x4x16x512.Idx => gateB x0 x2 x6 (y 1) (y 2) (y 3))) _ ?_ y (covered19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 y)
  unfold kernelRun0_A
  dsimp only
  simp only [kernelRun0_A.sl.r, kernelRun0_A.sl.cst_1033, kernelRun0_A.sl.r_40, kernelRun0_A.sl.r_67, View.readAt_eq_ld, Memref.IsWhole.read_unread, ld_w0, ld_w1, ld_w2, ld_w3, ld_w4, ld_w5, ld_w6]
  refine List.forall_mem_cons.2 ⟨fun x => gate_piece x0 x2 x6 3 (by decide) 48 (by decide) (by decide) (by decide) x, ?_⟩
  refine List.forall_mem_cons.2 ⟨fun x => gate_piece x0 x2 x6 2 (by decide) 32 (by decide) (by decide) (by decide) x, ?_⟩
  refine List.forall_mem_cons.2 ⟨fun x => gate_piece x0 x2 x6 1 (by decide) 16 (by decide) (by decide) (by decide) x, ?_⟩
  refine List.forall_mem_cons.2 ⟨fun x => gate_piece x0 x2 x6 0 (by decide) 0 (by decide) (by decide) (by decide) x, ?_⟩
  exact List.forall_mem_nil _

theorem gate_left (g : Fin 4) (r : Fin 16) (t : Fin 512) : left19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 (ix4 0 g r t) = gateB x0 x2 x6 g r t := by
  unfold left19
  rw [View.read_writes_eq_canon _ _ _ (covered19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11)]
  exact congrFun (gate_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11) (ix4 0 g r t)
end

end Cert.Kernel5Ideal.Rows

end
-- ==== Proof.Att.ArrQ.lean ====
/-
  The attention's projections, the arrays of queries and gates.
-/
module

public import proofs.«01_k».proof.Proof.Att.BlockQ
public import proofs.«01_k».proof.Proof.Att.BlockGate
public import proofs.«01_k».proof.Proof.Att.Points

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Rows

open Cert.Kernel5Ideal Cert.Kernel5Ideal.Gen Cert.Kernel5Ideal.Att Cert.Ffn Cert.Att

variable (m : (ℓ : Loc nD τ sig) → Buf (Elt Ideal) ℓ) (c : Dev nD)

/-- Result 6. -/
def res18 : Buf (Elt Ideal) ((c : Thread nD τ).loc main_v90_6) := fun i => qR (aX m c) (aN m c) (aU m c) (i 0) (i 1) (i 2) (i 3)

theorem at18_0 : ∀ t : Fin grid0.N, win0_18.index t 0 = t.val / 16 := by decide +kernel

theorem at18_1 : ∀ t : Fin grid0.N, win0_18.index t 1 = 0 := by decide +kernel

theorem at18_2 : ∀ t : Fin grid0.N, win0_18.index t 2 = 0 := by decide +kernel

theorem at18_3 : ∀ t : Fin grid0.N, win0_18.index t 3 = t.val % 16 := by decide +kernel

theorem emb18 (t : Fin cfg0.N) (g : Fin 4) (r : Fin 64) (l : Fin 2048) :
    (((cfg0.win 18).blk t).view.emb (ix4 0 g r l) : S2x4x64x32768.Idx) = ix4 (seqOf t) g r ⟨2048 * (t.val % 16) + l.val, by omega⟩ := by
  have ht := lt32 t
  funext a
  apply Fin.ext
  match a with
  | ⟨0, _⟩ => show win0_18.index t 0 * 1 + 1 * 0 = t.val / 16
              rw [at18_0 t]; omega
  | ⟨1, _⟩ => show win0_18.index t 1 * 4 + 1 * g.val = g.val
              rw [at18_1 t]; omega
  | ⟨2, _⟩ => show win0_18.index t 2 * 64 + 1 * r.val = r.val
              rw [at18_2 t]; omega
  | ⟨3, _⟩ => show win0_18.index t 3 * 2048 + 1 * l.val = 2048 * (t.val % 16) + l.val
              rw [at18_3 t]; omega

set_option maxHeartbeats 4000000 in
theorem flush_eq18 (t : Fin cfg0.N) :
    (dats m 0 c).flushed 18 t = ((cfg0.win 18).blk t).view.read (Elt Ideal) (res18 m c) := by
  rw [flushed18]
  funext i
  rw [View.read_apply]
  obtain ⟨g, r, l, rfl⟩ : ∃ (g : Fin 4) (r : Fin 64) (l : Fin 2048), i = ix4 0 g r l := ⟨i 1, i 2, i 3, funext fun a => by fin_cases a <;> first | rfl | exact Subsingleton.elim (α := Fin 1) _ _⟩
  refine Eq.trans ?_ (congrArg (res18 m c) (emb18 t g r l)).symm
  show block18 m c t (ix4 0 g r l) = _
  unfold block18
  exact (q_left c _ _ _ _ _ _ _ _ _ _ _ _ _ _ _ _ _ _ _ _ _ _ _ _ _ _ _ _ _ _ _ _ _ _ _ _ _ _ _ _ _ _ _ _ _ _ _ _ _ _ _ _ _ _ _ g r l).trans (q_row m c t g r l)

set_option maxHeartbeats 4000000 in
theorem final18 : (dats m 0 c).arrAt 18 cfg0.N = res18 m c :=
  (dats m 0 c).arrAt_eq_of_cover 18 (res18 m c) (fun t _ => flush_eq18 m c t) fun i => by
    have h0 : (i 0 : Nat) < 2 := (i 0).isLt
    have h1 : (i 1 : Nat) < 4 := (i 1).isLt
    have h2 : (i 2 : Nat) < 64 := (i 2).isLt
    have h3 : (i 3 : Nat) < 32768 := (i 3).isLt
    have hN : cfg0.N = 32 := N_0
    let t : Fin cfg0.N := ⟨16 * (i 0 : Nat) + (i 3 : Nat) / 2048, by omega⟩
    have e : (t : Nat) = 16 * (i 0 : Nat) + (i 3 : Nat) / 2048 := rfl
    refine ⟨t, flush0_18 t, ?_⟩
    show i ∈ ((View.whole main_v90_6).slice (win0_18.rect t)).set
    rw [View.set_slice_whole, Rect.mem_set_unit]
    intro a
    match a with
    | ⟨0, _⟩ => show win0_18.index t 0 * 1 ≤ (i 0 : Nat) ∧ (i 0 : Nat) < win0_18.index t 0 * 1 + 1
                rw [at18_0 t]; omega
    | ⟨1, _⟩ => show win0_18.index t 1 * 4 ≤ (i 1 : Nat) ∧ (i 1 : Nat) < win0_18.index t 1 * 4 + 4
                rw [at18_1 t]; omega
    | ⟨2, _⟩ => show win0_18.index t 2 * 64 ≤ (i 2 : Nat) ∧ (i 2 : Nat) < win0_18.index t 2 * 64 + 64
                rw [at18_2 t]; omega
    | ⟨3, _⟩ => show win0_18.index t 3 * 2048 ≤ (i 3 : Nat) ∧ (i 3 : Nat) < win0_18.index t 3 * 2048 + 2048
                rw [at18_3 t]; omega

/-- Result 7. -/
def res19 : Buf (Elt Ideal) ((c : Thread nD τ).loc main_v90_7) := fun i => gateR (aX m c) (aN m c) (aU m c) (i 0) (i 1) (i 2) (i 3)

theorem at19_0 : ∀ t : Fin grid0.N, win0_19.index t 0 = t.val / 16 := by decide +kernel

theorem at19_1 : ∀ t : Fin grid0.N, win0_19.index t 1 = 0 := by decide +kernel

theorem at19_2 : ∀ t : Fin grid0.N, win0_19.index t 2 = 0 := by decide +kernel

theorem at19_3 : ∀ t : Fin grid0.N, win0_19.index t 3 = t.val % 16 := by decide +kernel

theorem emb19 (t : Fin cfg0.N) (g : Fin 4) (r : Fin 16) (l : Fin 512) :
    (((cfg0.win 19).blk t).view.emb (ix4 0 g r l) : S2x4x16x8192.Idx) = ix4 (seqOf t) g r (posOf t l) := by
  have ht := lt32 t
  funext a
  apply Fin.ext
  match a with
  | ⟨0, _⟩ => show win0_19.index t 0 * 1 + 1 * 0 = t.val / 16
              rw [at19_0 t]; omega
  | ⟨1, _⟩ => show win0_19.index t 1 * 4 + 1 * g.val = g.val
              rw [at19_1 t]; omega
  | ⟨2, _⟩ => show win0_19.index t 2 * 16 + 1 * r.val = r.val
              rw [at19_2 t]; omega
  | ⟨3, _⟩ => show win0_19.index t 3 * 512 + 1 * l.val = 512 * (t.val % 16) + l.val
              rw [at19_3 t]; omega

set_option maxHeartbeats 4000000 in
theorem flush_eq19 (t : Fin cfg0.N) :
    (dats m 0 c).flushed 19 t = ((cfg0.win 19).blk t).view.read (Elt Ideal) (res19 m c) := by
  rw [flushed19]
  funext i
  rw [View.read_apply]
  obtain ⟨g, r, l, rfl⟩ : ∃ (g : Fin 4) (r : Fin 16) (l : Fin 512), i = ix4 0 g r l := ⟨i 1, i 2, i 3, funext fun a => by fin_cases a <;> first | rfl | exact Subsingleton.elim (α := Fin 1) _ _⟩
  refine Eq.trans ?_ (congrArg (res19 m c) (emb19 t g r l)).symm
  show block19 m c t (ix4 0 g r l) = _
  unfold block19
  exact (gate_left c _ _ _ _ _ _ _ _ _ _ _ _ _ _ _ _ _ _ _ _ _ _ _ _ _ _ _ _ _ _ _ _ _ _ _ _ _ _ _ _ _ _ _ _ _ _ _ _ _ _ _ _ _ _ _ g r l).trans (gate_row m c t g r l)

set_option maxHeartbeats 4000000 in
theorem final19 : (dats m 0 c).arrAt 19 cfg0.N = res19 m c :=
  (dats m 0 c).arrAt_eq_of_cover 19 (res19 m c) (fun t _ => flush_eq19 m c t) fun i => by
    have h0 : (i 0 : Nat) < 2 := (i 0).isLt
    have h1 : (i 1 : Nat) < 4 := (i 1).isLt
    have h2 : (i 2 : Nat) < 16 := (i 2).isLt
    have h3 : (i 3 : Nat) < 8192 := (i 3).isLt
    have hN : cfg0.N = 32 := N_0
    let t : Fin cfg0.N := ⟨16 * (i 0 : Nat) + (i 3 : Nat) / 512, by omega⟩
    have e : (t : Nat) = 16 * (i 0 : Nat) + (i 3 : Nat) / 512 := rfl
    refine ⟨t, flush0_19 t, ?_⟩
    show i ∈ ((View.whole main_v90_7).slice (win0_19.rect t)).set
    rw [View.set_slice_whole, Rect.mem_set_unit]
    intro a
    match a with
    | ⟨0, _⟩ => show win0_19.index t 0 * 1 ≤ (i 0 : Nat) ∧ (i 0 : Nat) < win0_19.index t 0 * 1 + 1
                rw [at19_0 t]; omega
    | ⟨1, _⟩ => show win0_19.index t 1 * 4 ≤ (i 1 : Nat) ∧ (i 1 : Nat) < win0_19.index t 1 * 4 + 4
                rw [at19_1 t]; omega
    | ⟨2, _⟩ => show win0_19.index t 2 * 16 ≤ (i 2 : Nat) ∧ (i 2 : Nat) < win0_19.index t 2 * 16 + 16
                rw [at19_2 t]; omega
    | ⟨3, _⟩ => show win0_19.index t 3 * 512 ≤ (i 3 : Nat) ∧ (i 3 : Nat) < win0_19.index t 3 * 512 + 512
                rw [at19_3 t]; omega

end Cert.Kernel5Ideal.Rows

end
-- ==== Proof.Att.Ref.lean ====
/-
  The attention's projections' reference: its eight results read at an index.
-/
module

public import proofs.«01_k».proof.Proof.Gen.Reference5Ideal.Run
public import proofs.«01_k».proof.Proof.Att.Spec

@[expose] public section

set_option maxRecDepth 16384

noncomputable section

open Idealize.ShloMosaic Idealize.ShloMosaic.TcCoe Idealize.SL.Sem
open scoped BigOperators

namespace Cert.Reference5Ideal.Rows

open Cert.Reference5Ideal Cert.Reference5Ideal.Gen Cert.Reference5Ideal.Value Cert.Ffn Cert.Att
open Cert.Proj (num)

/-! ## The turned heads -/

/-- Heads turned by the angles whose cosines and sines are given. -/
def turned4 (T : FVec Ideal S2x8192x4x64 .f32) (C S : FVec Ideal S1x8192x1x8 .f32) : FVec Ideal S2x8192x4x64 .f32 :=
  (concatenate S2x8192x4x64 3 [⟨S2x8192x4x8, ((subf (mulf (extractStridedSlice S2x8192x4x8 ![0, 0, 0, 0] T slices_S2x8192x4x64_S2x8192x4x8_0_0_0_0) (broadcastInDim S2x8192x4x8 ![0, 1, 2, 3] bcast_S1x8192x1x8_S2x8192x4x8_0_1_2_3 C)) (mulf (extractStridedSlice S2x8192x4x8 ![0, 0, 0, 8] T slices_S2x8192x4x64_S2x8192x4x8_0_0_0_8) (broadcastInDim S2x8192x4x8 ![0, 1, 2, 3] bcast_S1x8192x1x8_S2x8192x4x8_0_1_2_3 S))) : FVec Ideal S2x8192x4x8 .f32)⟩, ⟨S2x8192x4x8, ((addf (mulf (extractStridedSlice S2x8192x4x8 ![0, 0, 0, 0] T slices_S2x8192x4x64_S2x8192x4x8_0_0_0_0) (broadcastInDim S2x8192x4x8 ![0, 1, 2, 3] bcast_S1x8192x1x8_S2x8192x4x8_0_1_2_3 S)) (mulf (extractStridedSlice S2x8192x4x8 ![0, 0, 0, 8] T slices_S2x8192x4x64_S2x8192x4x8_0_0_0_8) (broadcastInDim S2x8192x4x8 ![0, 1, 2, 3] bcast_S1x8192x1x8_S2x8192x4x8_0_1_2_3 C))) : FVec Ideal S2x8192x4x8 .f32)⟩, ⟨S2x8192x4x48, ((extractStridedSlice S2x8192x4x48 ![0, 0, 0, 16] T slices_S2x8192x4x64_S2x8192x4x48_0_0_0_16) : FVec Ideal S2x8192x4x48 .f32)⟩] concatenates_S2x8192x4x8_S2x8192x4x8_S2x8192x4x48_S2x8192x4x64_d3 : FVec Ideal S2x8192x4x64 .f32)

theorem turned4_at (T : FVec Ideal S2x8192x4x64 .f32) (C S : FVec Ideal S1x8192x1x8 .f32) (b : Fin 2) (t : Fin 8192) (h : Fin 4) (d : Fin 64) :
    turned4 T C S (ix4 b t h d) = head (fun e => T (ix4 b t h e)) (fun e => C (ix4 0 t 0 e)) (fun e => S (ix4 0 t 0 e)) d := by
  unfold turned4 head
  pointwise
  by_cases h0 : d.val < 8
  · rw [dif_pos h0, dif_pos h0]
    simp only [Nat.add_comm 8 d.val]
  · by_cases h1 : d.val < 16
    · rw [dif_neg h0, dif_neg h0, dif_pos (by omega), dif_pos h1]
      simp only [show 8 + (d.val - 8) = d.val by omega]
    · rw [dif_neg h0, dif_neg h0, dif_neg (by omega), dif_neg h1]
      simp only [Nat.sub_sub, Nat.reduceAdd, show 16 + (d.val - 16) = d.val by omega]

/-- Heads turned by the angles whose cosines and sines are given. -/
def turned16 (T : FVec Ideal S2x8192x16x64 .f32) (C S : FVec Ideal S1x8192x1x8 .f32) : FVec Ideal S2x8192x16x64 .f32 :=
  (concatenate S2x8192x16x64 3 [⟨S2x8192x16x8, ((subf (mulf (extractStridedSlice S2x8192x16x8 ![0, 0, 0, 0] T slices_S2x8192x16x64_S2x8192x16x8_0_0_0_0) (broadcastInDim S2x8192x16x8 ![0, 1, 2, 3] bcast_S1x8192x1x8_S2x8192x16x8_0_1_2_3 C)) (mulf (extractStridedSlice S2x8192x16x8 ![0, 0, 0, 8] T slices_S2x8192x16x64_S2x8192x16x8_0_0_0_8) (broadcastInDim S2x8192x16x8 ![0, 1, 2, 3] bcast_S1x8192x1x8_S2x8192x16x8_0_1_2_3 S))) : FVec Ideal S2x8192x16x8 .f32)⟩, ⟨S2x8192x16x8, ((addf (mulf (extractStridedSlice S2x8192x16x8 ![0, 0, 0, 0] T slices_S2x8192x16x64_S2x8192x16x8_0_0_0_0) (broadcastInDim S2x8192x16x8 ![0, 1, 2, 3] bcast_S1x8192x1x8_S2x8192x16x8_0_1_2_3 S)) (mulf (extractStridedSlice S2x8192x16x8 ![0, 0, 0, 8] T slices_S2x8192x16x64_S2x8192x16x8_0_0_0_8) (broadcastInDim S2x8192x16x8 ![0, 1, 2, 3] bcast_S1x8192x1x8_S2x8192x16x8_0_1_2_3 C))) : FVec Ideal S2x8192x16x8 .f32)⟩, ⟨S2x8192x16x48, ((extractStridedSlice S2x8192x16x48 ![0, 0, 0, 16] T slices_S2x8192x16x64_S2x8192x16x48_0_0_0_16) : FVec Ideal S2x8192x16x48 .f32)⟩] concatenates_S2x8192x16x8_S2x8192x16x8_S2x8192x16x48_S2x8192x16x64_d3 : FVec Ideal S2x8192x16x64 .f32)

theorem turned16_at (T : FVec Ideal S2x8192x16x64 .f32) (C S : FVec Ideal S1x8192x1x8 .f32) (b : Fin 2) (t : Fin 8192) (h : Fin 16) (d : Fin 64) :
    turned16 T C S (ix4 b t h d) = head (fun e => T (ix4 b t h e)) (fun e => C (ix4 0 t 0 e)) (fun e => S (ix4 0 t 0 e)) d := by
  unfold turned16 head
  pointwise
  by_cases h0 : d.val < 8
  · rw [dif_pos h0, dif_pos h0]
    simp only [Nat.add_comm 8 d.val]
  · by_cases h1 : d.val < 16
    · rw [dif_neg h0, dif_neg h0, dif_pos (by omega), dif_pos h1]
      simp only [show 8 + (d.val - 8) = d.val by omega]
    · rw [dif_neg h0, dif_neg h0, dif_neg (by omega), dif_neg h1]
      simp only [Nat.sub_sub, Nat.reduceAdd, show 16 + (d.val - 16) = d.val by omega]

variable (V0 : Valuation τ sig (Elt Ideal))

/-! ## The angles -/

theorem freq_at (d : Fin 8) : (res_main_v35 (F := Ideal) V0 : FVec Ideal S8 .f32) (ix1 d) = freq d := by
  unfold res_main_v35 freq num
  pointwise
  rfl

/-- The positions' angles, from the frequencies. -/
def angles (f : FVec Ideal S8 .f32) : FVec Ideal S8192x8 .f32 :=
  mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 f))

theorem angles_at (f : FVec Ideal S8 .f32) (t : Fin 8192) (d : Fin 8) : angles f (ix2 t d) = num t.val * f (ix1 d) := by
  unfold angles num
  pointwise
  rfl

/-- The cosines with their two axes of size one. -/
def cosines (f : FVec Ideal S8 .f32) : FVec Ideal S1x8192x1x8 .f32 := broadcastInDim S1x8192x1x8 ![1, 3] bcast_S8192x8_S1x8192x1x8_1_3 (Host.cos (angles f))

/-- The sines with their two axes of size one. -/
def sines (f : FVec Ideal S8 .f32) : FVec Ideal S1x8192x1x8 .f32 := broadcastInDim S1x8192x1x8 ![1, 3] bcast_S8192x8_S1x8192x1x8_1_3 (Host.sin (angles f))

theorem cosines_at (t : Fin 8192) (d : Fin 8) : cosines (res_main_v35 (F := Ideal) V0) (ix4 0 t 0 d) = cosAt t.val d := by
  unfold cosAt angle
  rw [← freq_at V0, ← angles_at]
  unfold cosines
  generalize angles (res_main_v35 (F := Ideal) V0) = A
  pointwise

theorem sines_at (t : Fin 8192) (d : Fin 8) : sines (res_main_v35 (F := Ideal) V0) (ix4 0 t 0 d) = sinAt t.val d := by
  unfold sinAt angle
  rw [← freq_at V0, ← angles_at]
  unfold sines
  generalize angles (res_main_v35 (F := Ideal) V0) = A
  pointwise

/-! ## The projected rows -/

/-- The arguments. -/
abbrev aX : FVec Ideal S2x8192x1024 .f32 := V0 (Proc.devRef .tc main_arg0)
/-- The norms' gains. -/
abbrev aN : FVec Ideal S2x4x1024 .f32 := V0 (Proc.devRef .tc main_arg1)
/-- The gain of the keys and the values. -/
abbrev aG : FVec Ideal S1024 .f32 := V0 (Proc.devRef .tc main_arg2)
/-- The weight of the keys and the values. -/
abbrev aW : FVec Ideal S1024x1536 .f32 := V0 (Proc.devRef .tc main_arg3)
/-- The weight of the queries and the gates. -/
abbrev aU : FVec Ideal S1x1024x1072 .f32 := V0 (Proc.devRef .tc main_arg4)

theorem kv_at (b : Fin 2) (t : Fin 8192) (o : Fin 1536) :
    (res_main_v13 (F := Ideal) V0 : FVec Ideal S2x8192x1536 .f32) (ix3 b t o) = kv (aX V0) (aG V0) (aW V0) b t o := by
  unfold res_main_v13 kv aX aG aW
  generalize (V0 (Proc.devRef .tc main_arg0) : FVec Ideal S2x8192x1024 .f32) = X
  generalize (V0 (Proc.devRef .tc main_arg2) : FVec Ideal S1024 .f32) = G
  generalize (V0 (Proc.devRef .tc main_arg3) : FVec Ideal S1024x1536 .f32) = W
  pointwise
  rfl

theorem qg_at (b : Fin 2) (t : Fin 8192) (o : Fin 1072) :
    (res_main_v124 (F := Ideal) V0 : FVec Ideal S2x8192x1072 .f32) (ix3 b t o) = qg (aX V0) (aN V0) (aU V0) b t o := by
  unfold res_main_v124 qg aX aN aU
  generalize (V0 (Proc.devRef .tc main_arg0) : FVec Ideal S2x8192x1024 .f32) = X
  generalize (V0 (Proc.devRef .tc main_arg1) : FVec Ideal S2x4x1024 .f32) = N
  generalize (V0 (Proc.devRef .tc main_arg4) : FVec Ideal S1x1024x1072 .f32) = U
  pointwise
  rfl

/-- Section of 256 columns from column 0, in four heads. -/
def sec0 (A : FVec Ideal S2x8192x1536 .f32) : FVec Ideal S2x8192x4x64 .f32 :=
  shapeCast _ (extractStridedSlice S2x8192x256 ![0, 0, 0] A slices_S2x8192x1536_S2x8192x256_0_0_0) shapeCasts_S2x8192x256_S2x8192x4x64

theorem sec0_at (b : Fin 2) (t : Fin 8192) (g : Fin 4) (d : Fin 64) :
    sec0 (res_main_v13 (F := Ideal) V0) (ix4 b t g d) = part (aX V0) (aG V0) (aW V0) 0 (by omega) b t g d := by
  have e : ∀ A : FVec Ideal S2x8192x1536 .f32, sec0 A (ix4 b t g d) = A (ix3 b t ⟨0 + (64 * g.val + d.val), by omega⟩) := by
    intro A
    unfold sec0
    pointwise
    exact congrArg A (congrArg (ix3 b t) (Fin.ext (by simp only []; omega)))
  rw [e, kv_at]
  rfl

/-- Section of 256 columns from column 256, in four heads. -/
def sec256 (A : FVec Ideal S2x8192x1536 .f32) : FVec Ideal S2x8192x4x64 .f32 :=
  shapeCast _ (extractStridedSlice S2x8192x256 ![0, 0, 256] A slices_S2x8192x1536_S2x8192x256_0_0_256) shapeCasts_S2x8192x256_S2x8192x4x64

theorem sec256_at (b : Fin 2) (t : Fin 8192) (g : Fin 4) (d : Fin 64) :
    sec256 (res_main_v13 (F := Ideal) V0) (ix4 b t g d) = part (aX V0) (aG V0) (aW V0) 256 (by omega) b t g d := by
  have e : ∀ A : FVec Ideal S2x8192x1536 .f32, sec256 A (ix4 b t g d) = A (ix3 b t ⟨256 + (64 * g.val + d.val), by omega⟩) := by
    intro A
    unfold sec256
    pointwise
    exact congrArg A (congrArg (ix3 b t) (Fin.ext (by simp only []; omega)))
  rw [e, kv_at]
  rfl

/-- Section of 256 columns from column 512, in four heads. -/
def sec512 (A : FVec Ideal S2x8192x1536 .f32) : FVec Ideal S2x8192x4x64 .f32 :=
  shapeCast _ (extractStridedSlice S2x8192x256 ![0, 0, 512] A slices_S2x8192x1536_S2x8192x256_0_0_512) shapeCasts_S2x8192x256_S2x8192x4x64

theorem sec512_at (b : Fin 2) (t : Fin 8192) (g : Fin 4) (d : Fin 64) :
    sec512 (res_main_v13 (F := Ideal) V0) (ix4 b t g d) = part (aX V0) (aG V0) (aW V0) 512 (by omega) b t g d := by
  have e : ∀ A : FVec Ideal S2x8192x1536 .f32, sec512 A (ix4 b t g d) = A (ix3 b t ⟨512 + (64 * g.val + d.val), by omega⟩) := by
    intro A
    unfold sec512
    pointwise
    exact congrArg A (congrArg (ix3 b t) (Fin.ext (by simp only []; omega)))
  rw [e, kv_at]
  rfl

/-- Section of 256 columns from column 768, in four heads. -/
def sec768 (A : FVec Ideal S2x8192x1536 .f32) : FVec Ideal S2x8192x4x64 .f32 :=
  shapeCast _ (extractStridedSlice S2x8192x256 ![0, 0, 768] A slices_S2x8192x1536_S2x8192x256_0_0_768) shapeCasts_S2x8192x256_S2x8192x4x64

theorem sec768_at (b : Fin 2) (t : Fin 8192) (g : Fin 4) (d : Fin 64) :
    sec768 (res_main_v13 (F := Ideal) V0) (ix4 b t g d) = part (aX V0) (aG V0) (aW V0) 768 (by omega) b t g d := by
  have e : ∀ A : FVec Ideal S2x8192x1536 .f32, sec768 A (ix4 b t g d) = A (ix3 b t ⟨768 + (64 * g.val + d.val), by omega⟩) := by
    intro A
    unfold sec768
    pointwise
    exact congrArg A (congrArg (ix3 b t) (Fin.ext (by simp only []; omega)))
  rw [e, kv_at]
  rfl

/-- Section of 256 columns from column 1024, in four heads. -/
def sec1024 (A : FVec Ideal S2x8192x1536 .f32) : FVec Ideal S2x8192x4x64 .f32 :=
  shapeCast _ (extractStridedSlice S2x8192x256 ![0, 0, 1024] A slices_S2x8192x1536_S2x8192x256_0_0_1024) shapeCasts_S2x8192x256_S2x8192x4x64

theorem sec1024_at (b : Fin 2) (t : Fin 8192) (g : Fin 4) (d : Fin 64) :
    sec1024 (res_main_v13 (F := Ideal) V0) (ix4 b t g d) = part (aX V0) (aG V0) (aW V0) 1024 (by omega) b t g d := by
  have e : ∀ A : FVec Ideal S2x8192x1536 .f32, sec1024 A (ix4 b t g d) = A (ix3 b t ⟨1024 + (64 * g.val + d.val), by omega⟩) := by
    intro A
    unfold sec1024
    pointwise
    exact congrArg A (congrArg (ix3 b t) (Fin.ext (by simp only []; omega)))
  rw [e, kv_at]
  rfl

/-- Section of 256 columns from column 1280, in four heads. -/
def sec1280 (A : FVec Ideal S2x8192x1536 .f32) : FVec Ideal S2x8192x4x64 .f32 :=
  shapeCast _ (extractStridedSlice S2x8192x256 ![0, 0, 1280] A slices_S2x8192x1536_S2x8192x256_0_0_1280) shapeCasts_S2x8192x256_S2x8192x4x64

theorem sec1280_at (b : Fin 2) (t : Fin 8192) (g : Fin 4) (d : Fin 64) :
    sec1280 (res_main_v13 (F := Ideal) V0) (ix4 b t g d) = part (aX V0) (aG V0) (aW V0) 1280 (by omega) b t g d := by
  have e : ∀ A : FVec Ideal S2x8192x1536 .f32, sec1280 A (ix4 b t g d) = A (ix3 b t ⟨1280 + (64 * g.val + d.val), by omega⟩) := by
    intro A
    unfold sec1280
    pointwise
    exact congrArg A (congrArg (ix3 b t) (Fin.ext (by simp only []; omega)))
  rw [e, kv_at]
  rfl

/-! ## The results -/

/-- The reference's result `kc`. -/
def kcE : FVec Ideal S2x4x512x1024 .bf16 := truncf .bf16 (shapeCast _ (transpose S2x4x8192x64 [0, 2, 1, 3] ((turned4 (res_main_v20 V0) (res_main_v43 V0) (res_main_v45 V0))) transposes_S2x8192x4x64_S2x4x8192x64_0_2_1_3) shapeCasts_S2x4x8192x64_S2x4x512x1024) bitsLt_bf16_f32

/-- The reference's result `vc`. -/
def vcE : FVec Ideal S2x4x512x1024 .bf16 := truncf .bf16 (shapeCast _ (transpose S2x4x8192x64 [0, 2, 1, 3] (shapeCast _ (extractStridedSlice S2x8192x256 ![0, 0, 256] (res_main_v13 V0) slices_S2x8192x1536_S2x8192x256_0_0_256) shapeCasts_S2x8192x256_S2x8192x4x64) transposes_S2x8192x4x64_S2x4x8192x64_0_2_1_3) shapeCasts_S2x4x8192x64_S2x4x512x1024) bitsLt_bf16_f32

/-- The reference's result `ks`. -/
def ksE : FVec Ideal S2x4x8192x128 .bf16 := truncf .bf16 (concatenate S2x4x8192x128 3 [⟨S2x4x8192x64, (transpose S2x4x8192x64 [0, 2, 1, 3] ((turned4 (res_main_v22 V0) (res_main_v67 V0) (res_main_v69 V0))) transposes_S2x8192x4x64_S2x4x8192x64_0_2_1_3)⟩, ⟨S2x4x8192x64, (broadcastInDim S2x4x8192x64 ![0, 1, 2, 3] bcast_S1x1x8192x64_S2x4x8192x64_0_1_2_3 (broadcastInDim S1x1x8192x64 ![2, 3] bcast_S8192x64_S1x1x8192x64_2_3 (shapeCast _ (broadcastInDim S16x8x64x64 ![0, 1, 2, 3] bcast_S1x8x1x64_S16x8x64x64_0_1_2_3 (broadcastInDim S1x8x1x64 ![1, 3] bcast_S8x64_S1x8x1x64_1_3 (uitofp .f32 (cmpi .eq (addi (iotaInDim S8x64 32 0) (broadcastInDim S8x64 ![] bcast_S_S8x64 (constantI S_ 32 0#32))) (iotaInDim S8x64 32 1))))) shapeCasts_S16x8x64x64_S8192x64)))⟩] concatenates_S2x4x8192x64_S2x4x8192x64_S2x4x8192x128_d3) bitsLt_bf16_f32

/-- The reference's result `kw`. -/
def kwE : FVec Ideal S2x4x8192x64 .bf16 := truncf .bf16 (transpose S2x4x8192x64 [0, 2, 1, 3] ((turned4 (res_main_v24 V0) (res_main_v91 V0) (res_main_v93 V0))) transposes_S2x8192x4x64_S2x4x8192x64_0_2_1_3) bitsLt_bf16_f32

/-- The reference's result `vs`. -/
def vsE : FVec Ideal S2x4x16x80x512 .bf16 := truncf .bf16 (concatenate S2x4x16x80x512 3 [⟨S2x4x16x64x512, (transpose S2x4x16x64x512 [0, 3, 1, 4, 2] (shapeCast _ (shapeCast _ (extractStridedSlice S2x8192x256 ![0, 0, 768] (res_main_v13 V0) slices_S2x8192x1536_S2x8192x256_0_0_768) shapeCasts_S2x8192x256_S2x8192x4x64) shapeCasts_S2x8192x4x64_S2x16x512x4x64) transposes_S2x16x512x4x64_S2x4x16x64x512_0_3_1_4_2)⟩, ⟨S2x4x16x16x512, (broadcastInDim S2x4x16x16x512 ![] bcast_S_S2x4x16x16x512 (constant S_ .f32 0x3F800000#32))⟩] concatenates_S2x4x16x64x512_S2x4x16x16x512_S2x4x16x80x512_d3) bitsLt_bf16_f32

/-- The reference's result `vw`. -/
def vwE : FVec Ideal S2x4x64x80x128 .bf16 := truncf .bf16 (concatenate S2x4x64x80x128 3 [⟨S2x4x64x64x128, (transpose S2x4x64x64x128 [0, 3, 1, 4, 2] (shapeCast _ (shapeCast _ (extractStridedSlice S2x8192x256 ![0, 0, 1280] (res_main_v13 V0) slices_S2x8192x1536_S2x8192x256_0_0_1280) shapeCasts_S2x8192x256_S2x8192x4x64) shapeCasts_S2x8192x4x64_S2x64x128x4x64) transposes_S2x64x128x4x64_S2x4x64x64x128_0_3_1_4_2)⟩, ⟨S2x4x64x16x128, (broadcastInDim S2x4x64x16x128 ![] bcast_S_S2x4x64x16x128 (constant S_ .f32 0x3F800000#32))⟩] concatenates_S2x4x64x64x128_S2x4x64x16x128_S2x4x64x80x128_d3) bitsLt_bf16_f32

/-- The reference's result `q`. -/
def qE : FVec Ideal S2x4x64x32768 .bf16 := truncf .bf16 (shapeCast _ (transpose S2x4x64x64x4x128 [0, 3, 5, 1, 4, 2] (shapeCast _ (mulf (mulf ((turned16 (res_main_v126 V0) (res_main_v134 V0) (res_main_v136 V0))) (broadcastInDim S2x8192x16x64 ![] bcast_S_S2x8192x16x64 (constant S_ .f32 0x3E000000#32))) (broadcastInDim S2x8192x16x64 ![] bcast_S_S2x8192x16x64 (constant S_ .f32 0x3FB8AA3B#32))) shapeCasts_S2x8192x16x64_S2x64x128x4x4x64) transposes_S2x64x128x4x4x64_S2x4x64x64x4x128_0_3_5_1_4_2) shapeCasts_S2x4x64x64x4x128_S2x4x64x32768) bitsLt_bf16_f32

/-- The reference's result `gate`. -/
def gateE : FVec Ideal S2x4x16x8192 .f32 := pad S2x4x16x8192 ![0, 0, 0, 0] ![0, 0, 4, 0] ![0, 0, 0, 0] (shapeCast _ (transpose S2x4x3x4x8192 [0, 2, 4, 3, 1] (shapeCast _ (Host.divf (broadcastInDim S2x8192x48 ![] bcast_S_S2x8192x48 (constant S_ .f32 0x3F800000#32)) (addf (broadcastInDim S2x8192x48 ![] bcast_S_S2x8192x48 (constant S_ .f32 0x3F800000#32)) (Host.exp (Host.negf (extractStridedSlice S2x8192x48 ![0, 0, 1024] (res_main_v124 V0) slices_S2x8192x1072_S2x8192x48_0_0_1024))))) shapeCasts_S2x8192x48_S2x8192x4x4x3) transposes_S2x8192x4x4x3_S2x4x3x4x8192_0_2_4_3_1) shapeCasts_S2x4x3x4x8192_S2x4x12x8192) (id (constant S_ .f32 0x3F000000#32)) pads_S2x4x12x8192_S2x4x16x8192_000_000_040_000 h_S_

theorem key0_at (b : Fin 2) (t : Fin 8192) (g : Fin 4) (d : Fin 64) :
    turned4 (sec0 (res_main_v13 (F := Ideal) V0)) (cosines (res_main_v35 (F := Ideal) V0)) (sines (res_main_v35 (F := Ideal) V0)) (ix4 b t g d)
      = key (aX V0) (aG V0) (aW V0) 0 (by omega) b t g d := by
  rw [turned4_at]
  unfold key
  simp only [sec0_at, cosines_at, sines_at]

theorem key512_at (b : Fin 2) (t : Fin 8192) (g : Fin 4) (d : Fin 64) :
    turned4 (sec512 (res_main_v13 (F := Ideal) V0)) (cosines (res_main_v35 (F := Ideal) V0)) (sines (res_main_v35 (F := Ideal) V0)) (ix4 b t g d)
      = key (aX V0) (aG V0) (aW V0) 512 (by omega) b t g d := by
  rw [turned4_at]
  unfold key
  simp only [sec512_at, cosines_at, sines_at]

theorem key1024_at (b : Fin 2) (t : Fin 8192) (g : Fin 4) (d : Fin 64) :
    turned4 (sec1024 (res_main_v13 (F := Ideal) V0)) (cosines (res_main_v35 (F := Ideal) V0)) (sines (res_main_v35 (F := Ideal) V0)) (ix4 b t g d)
      = key (aX V0) (aG V0) (aW V0) 1024 (by omega) b t g d := by
  rw [turned4_at]
  unfold key
  simp only [sec1024_at, cosines_at, sines_at]

theorem kc_at (b : Fin 2) (g : Fin 4) (n : Fin 512) (l : Fin 1024) : kcE V0 (ix4 b g n l) = kcR (aX V0) (aG V0) (aW V0) b g n l := by
  have e : ∀ A : FVec Ideal S2x8192x4x64 .f32, (truncf .bf16 (shapeCast S2x4x512x1024 (transpose S2x4x8192x64 [0, 2, 1, 3] A transposes_S2x8192x4x64_S2x4x8192x64_0_2_1_3) shapeCasts_S2x4x8192x64_S2x4x512x1024) bitsLt_bf16_f32 : FVec Ideal S2x4x512x1024 .bf16) (ix4 b g n l)
      = A (ix4 b ⟨n.val * 16 + l.val / 64, by omega⟩ g ⟨l.val % 64, by omega⟩) := by
    intro A
    pointwise
  exact (e _).trans (key0_at V0 b _ g _)

theorem vc_at (b : Fin 2) (g : Fin 4) (n : Fin 512) (l : Fin 1024) : vcE V0 (ix4 b g n l) = vcR (aX V0) (aG V0) (aW V0) b g n l := by
  have e : ∀ A : FVec Ideal S2x8192x4x64 .f32, (truncf .bf16 (shapeCast S2x4x512x1024 (transpose S2x4x8192x64 [0, 2, 1, 3] A transposes_S2x8192x4x64_S2x4x8192x64_0_2_1_3) shapeCasts_S2x4x8192x64_S2x4x512x1024) bitsLt_bf16_f32 : FVec Ideal S2x4x512x1024 .bf16) (ix4 b g n l)
      = A (ix4 b ⟨n.val * 16 + l.val / 64, by omega⟩ g ⟨l.val % 64, by omega⟩) := by
    intro A
    pointwise
  exact (e _).trans (sec256_at V0 b _ g _)

theorem kw_at (b : Fin 2) (g : Fin 4) (t : Fin 8192) (l : Fin 64) : kwE V0 (ix4 b g t l) = kwR (aX V0) (aG V0) (aW V0) b g t l := by
  have e : ∀ A : FVec Ideal S2x8192x4x64 .f32, (truncf .bf16 (transpose S2x4x8192x64 [0, 2, 1, 3] A transposes_S2x8192x4x64_S2x4x8192x64_0_2_1_3) bitsLt_bf16_f32 : FVec Ideal S2x4x8192x64 .bf16) (ix4 b g t l)
      = A (ix4 b t g l) := by
    intro A
    pointwise
  exact (e _).trans (key1024_at V0 b _ g _)

/-- The mark: one exactly where two small numbers agree. -/
theorem mark_at (p q : ℕ) (hp : p < 2 ^ 32) (hq : q < 2 ^ 32) :
    (FloatOps.uitofp FTy.f32 (IntOp.cmpi .eq (IntOp.addi (BitVec.ofNat 32 p) 0#32) (BitVec.ofNat 32 q)) : Ideal FTy.f32) = if q = p then (1 : EReal) else 0 := by
  by_cases h : q = p
  · subst h
    have e : IntOp.cmpi .eq (IntOp.addi (BitVec.ofNat 32 q) 0#32) (BitVec.ofNat 32 q) = 1#1 := by
      simp [IntOp.cmpi, IntOp.addi]
    rw [e, if_pos rfl]
    show (((1#1 : BitVec 1).toNat : ℝ) : EReal) = 1
    simp
  · have e : IntOp.cmpi .eq (IntOp.addi (BitVec.ofNat 32 p) 0#32) (BitVec.ofNat 32 q) = 0#1 := by
      have n : ¬ BitVec.ofNat 32 p = BitVec.ofNat 32 q := by
        intro k
        have k2 := congrArg BitVec.toNat k
        rw [BitVec.toNat_ofNat, BitVec.toNat_ofNat, Nat.mod_eq_of_lt hp, Nat.mod_eq_of_lt hq] at k2
        exact h k2.symm
      have n2 : (BitVec.ofNat 32 p == BitVec.ofNat 32 q) = false := beq_false_of_ne n
      simp [IntOp.cmpi, IntOp.addi, n2]
    rw [e, if_neg h]
    show (((0#1 : BitVec 1).toNat : ℝ) : EReal) = 0
    simp

theorem ks_at (b : Fin 2) (g : Fin 4) (t : Fin 8192) (l : Fin 128) : ksE V0 (ix4 b g t l) = ksR (aX V0) (aG V0) (aW V0) b g t l := by
  have k : ∀ h : l.val < 64, _ := fun h => key512_at V0 b t g ⟨l.val, h⟩
  unfold ksR
  simp only [← k]
  unfold ksE
  rw [show res_main_v22 (F := Ideal) V0 = sec512 (res_main_v13 (F := Ideal) V0) from rfl, show res_main_v67 (F := Ideal) V0 = cosines (res_main_v35 (F := Ideal) V0) from rfl,
    show res_main_v69 (F := Ideal) V0 = sines (res_main_v35 (F := Ideal) V0) from rfl]
  generalize turned4 (sec512 (res_main_v13 (F := Ideal) V0)) (cosines (res_main_v35 (F := Ideal) V0)) (sines (res_main_v35 (F := Ideal) V0)) = A
  pointwise
  by_cases h : l.val < 64
  · rw [dif_pos h, dif_pos h]
  · rw [dif_neg h, dif_neg h]
    exact mark_at _ _ (by omega) (by omega)

theorem vs_at (b : Fin 2) (g : Fin 4) (n : Fin 16) (r : Fin 80) (l : Fin 512) : vsE V0 (ix5 b g n r l) = vsR (aX V0) (aG V0) (aW V0) b g n r l := by
  have k : ∀ h : r.val < 64, _ := fun h => sec768_at V0 b ⟨n.val * 512 + l.val, by omega⟩ g ⟨r.val, h⟩
  unfold vsR
  simp only [← k]
  show (truncf .bf16 (concatenate S2x4x16x80x512 3 [⟨S2x4x16x64x512, (transpose S2x4x16x64x512 [0, 3, 1, 4, 2] (shapeCast S2x16x512x4x64 (sec768 (res_main_v13 (F := Ideal) V0)) shapeCasts_S2x8192x4x64_S2x16x512x4x64) transposes_S2x16x512x4x64_S2x4x16x64x512_0_3_1_4_2)⟩, ⟨S2x4x16x16x512, (broadcastInDim S2x4x16x16x512 ![] bcast_S_S2x4x16x16x512 (constant S_ .f32 0x3F800000#32))⟩] concatenates_S2x4x16x64x512_S2x4x16x16x512_S2x4x16x80x512_d3) bitsLt_bf16_f32 : FVec Ideal S2x4x16x80x512 .bf16) (ix5 b g n r l) = _
  generalize sec768 (res_main_v13 (F := Ideal) V0) = A
  pointwise

theorem vw_at (b : Fin 2) (g : Fin 4) (n : Fin 64) (r : Fin 80) (l : Fin 128) : vwE V0 (ix5 b g n r l) = vwR (aX V0) (aG V0) (aW V0) b g n r l := by
  have k : ∀ h : r.val < 64, _ := fun h => sec1280_at V0 b ⟨n.val * 128 + l.val, by omega⟩ g ⟨r.val, h⟩
  unfold vwR
  simp only [← k]
  show (truncf .bf16 (concatenate S2x4x64x80x128 3 [⟨S2x4x64x64x128, (transpose S2x4x64x64x128 [0, 3, 1, 4, 2] (shapeCast S2x64x128x4x64 (sec1280 (res_main_v13 (F := Ideal) V0)) shapeCasts_S2x8192x4x64_S2x64x128x4x64) transposes_S2x64x128x4x64_S2x4x64x64x128_0_3_1_4_2)⟩, ⟨S2x4x64x16x128, (broadcastInDim S2x4x64x16x128 ![] bcast_S_S2x4x64x16x128 (constant S_ .f32 0x3F800000#32))⟩] concatenates_S2x4x64x64x128_S2x4x64x16x128_S2x4x64x80x128_d3) bitsLt_bf16_f32 : FVec Ideal S2x4x64x80x128 .bf16) (ix5 b g n r l) = _
  generalize sec1280 (res_main_v13 (F := Ideal) V0) = A
  pointwise

/-- The queries' heads. -/
def qheads (A : FVec Ideal S2x8192x1072 .f32) : FVec Ideal S2x8192x16x64 .f32 :=
  shapeCast _ (extractStridedSlice S2x8192x1024 ![0, 0, 0] A slices_S2x8192x1072_S2x8192x1024_0_0_0) shapeCasts_S2x8192x1024_S2x8192x16x64

theorem qheads_at (b : Fin 2) (t : Fin 8192) (h : Fin 16) (d : Fin 64) :
    qheads (res_main_v124 (F := Ideal) V0) (ix4 b t h d) = qg (aX V0) (aN V0) (aU V0) b t ⟨64 * h.val + d.val, by omega⟩ := by
  have e : ∀ A : FVec Ideal S2x8192x1072 .f32, qheads A (ix4 b t h d) = A (ix3 b t ⟨64 * h.val + d.val, by omega⟩) := by
    intro A
    unfold qheads
    pointwise
    exact congrArg A (congrArg (ix3 b t) (Fin.ext (by simp only []; omega)))
  rw [e, qg_at]

theorem query_at (b : Fin 2) (t : Fin 8192) (h : Fin 16) (d : Fin 64) :
    turned16 (qheads (res_main_v124 (F := Ideal) V0)) (cosines (res_main_v35 (F := Ideal) V0)) (sines (res_main_v35 (F := Ideal) V0)) (ix4 b t h d)
      = query (aX V0) (aN V0) (aU V0) b t h d := by
  rw [turned16_at]
  unfold query
  simp only [qheads_at, cosines_at, sines_at]

theorem q_at (b : Fin 2) (g : Fin 4) (d : Fin 64) (l : Fin 32768) : qE V0 (ix4 b g d l) = qR (aX V0) (aN V0) (aU V0) b g d l := by
  unfold qR
  rw [← query_at]
  show (truncf .bf16 (shapeCast S2x4x64x32768 (transpose S2x4x64x64x4x128 [0, 3, 5, 1, 4, 2] (shapeCast S2x64x128x4x4x64 (mulf (mulf (turned16 (qheads (res_main_v124 (F := Ideal) V0)) (cosines (res_main_v35 (F := Ideal) V0)) (sines (res_main_v35 (F := Ideal) V0))) (broadcastInDim S2x8192x16x64 ![] bcast_S_S2x8192x16x64 (constant S_ .f32 0x3E000000#32))) (broadcastInDim S2x8192x16x64 ![] bcast_S_S2x8192x16x64 (constant S_ .f32 0x3FB8AA3B#32))) shapeCasts_S2x8192x16x64_S2x64x128x4x4x64) transposes_S2x64x128x4x4x64_S2x4x64x64x4x128_0_3_5_1_4_2) shapeCasts_S2x4x64x64x4x128_S2x4x64x32768) bitsLt_bf16_f32 : FVec Ideal S2x4x64x32768 .bf16) (ix4 b g d l) = _
  generalize turned16 (qheads (res_main_v124 (F := Ideal) V0)) (cosines (res_main_v35 (F := Ideal) V0)) (sines (res_main_v35 (F := Ideal) V0)) = A
  pointwise

theorem gate_at (b : Fin 2) (g : Fin 4) (r : Fin 16) (t : Fin 8192) : gateE V0 (ix4 b g r t) = gateR (aX V0) (aN V0) (aU V0) b g r t := by
  unfold gateR
  simp only [← qg_at]
  unfold gateE
  generalize res_main_v124 (F := Ideal) V0 = A
  pointwise
  rfl

end Cert.Reference5Ideal.Rows

end
-- ==== Proof.Att.Run.lean ====
/-
  The run of the attention's projections: what each grid point leaves in the eight results' blocks, the obligation of
  the body at a point, and the run of the whole program with its arguments unchanged.
-/
module

public import proofs.«01_k».proof.Proof.Gen.Kernel5.Frame.RunA
public import Idealize.ShloMosaic.Lib.Claim
public import Idealize.ShloMosaic.Lib.Pipeline.Value

@[expose] public section

set_option maxRecDepth 16384

noncomputable section

namespace Cert.Kernel5.Att

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What a point's stores leave -/

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S64x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S1x4x32x1024 .bf16) (harg13 : arg13.IsWhole) (arg14 : Memref sig .tc .vmem S1x4x32x1024 .bf16) (harg14 : arg14.IsWhole) (arg15 : Memref sig .tc .vmem S1x4x512x128 .bf16) (harg15 : arg15.IsWhole) (arg16 : Memref sig .tc .vmem S1x4x512x64 .bf16) (harg16 : arg16.IsWhole) (arg17 : Memref sig .tc .vmem S1x4x1x80x512 .bf16) (harg17 : arg17.IsWhole) (arg18 : Memref sig .tc .vmem S1x4x4x80x128 .bf16) (harg18 : arg18.IsWhole) (arg19 : Memref sig .tc .vmem S1x4x64x2048 .bf16) (harg19 : arg19.IsWhole) (arg20 : Memref sig .tc .vmem S1x4x16x512 .f32) (harg20 : arg20.IsWhole) (arg21 : Memref sig .tc .vmem S32x16x128 .f32) (harg21 : arg21.IsWhole)
  (x0 : Vec F S512x1024 .f32) (x1 : Vec F S1x1024 .f32) (x2 : Vec F S1x1024 .f32) (x3 : Vec F S1024x1024 .bf16) (x4 : Vec F S512x1024 .bf16) (x5 : Vec F S1024x1024 .bf16) (x6 : Vec F S64x1024 .bf16) (x7 : Vec F S512x128 .f32) (x8 : Vec F S512x128 .f32) (x9 : Vec F S512x128 .f32) (x10 : Vec F S8x512 .f32) (x11 : Vec F S8x512 .f32)

theorem covered12 (y : S1x4x32x1024.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1 S1x1x32x128.size (by sl_kernel_rfl) y

/-- What the stores leave in result 0's block. -/
def left12 : Vec F S1x4x32x1024 .bf16 :=
  VO0_12.read (Elt F) (VO0_12.writes (Elt F) VO0_12.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1)

theorem covered13 (y : S1x4x32x1024.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1 S1x1x32x128.size (by sl_kernel_rfl) y

/-- What the stores leave in result 1's block. -/
def left13 : Vec F S1x4x32x1024 .bf16 :=
  VO0_13.read (Elt F) (VO0_13.writes (Elt F) VO0_13.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1)

theorem covered14 (y : S1x4x512x128.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1 S1x1x512x128.size (by sl_kernel_rfl) y

/-- What the stores leave in result 2's block. -/
def left14 : Vec F S1x4x512x128 .bf16 :=
  VO0_14.read (Elt F) (VO0_14.writes (Elt F) VO0_14.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1)

theorem covered15 (y : S1x4x512x64.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1 S1x1x512x64.size (by sl_kernel_rfl) y

/-- What the stores leave in result 3's block. -/
def left15 : Vec F S1x4x512x64 .bf16 :=
  VO0_15.read (Elt F) (VO0_15.writes (Elt F) VO0_15.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1)

theorem covered16 (y : S1x4x1x80x512.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1, y ∈ pc.1.set :=
  View.cover_of_tiledBy (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1 ![1, 1, 1, 16, 512] (by sl_kernel_rfl) y

/-- What the stores leave in result 4's block. -/
def left16 : Vec F S1x4x1x80x512 .bf16 :=
  VO0_16.read (Elt F) (VO0_16.writes (Elt F) VO0_16.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1)

theorem covered17 (y : S1x4x4x80x128.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1, y ∈ pc.1.set :=
  View.cover_of_tiledBy (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1 ![1, 1, 1, 16, 128] (by sl_kernel_rfl) y

/-- What the stores leave in result 5's block. -/
def left17 : Vec F S1x4x4x80x128 .bf16 :=
  VO0_17.read (Elt F) (VO0_17.writes (Elt F) VO0_17.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1)

theorem covered18 (y : S1x4x64x2048.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1 S1x1x64x128.size (by sl_kernel_rfl) y

/-- What the stores leave in result 6's block. -/
def left18 : Vec F S1x4x64x2048 .bf16 :=
  VO0_18.read (Elt F) (VO0_18.writes (Elt F) VO0_18.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1)

theorem covered19 (y : S1x4x16x512.Idx) : ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1 S1x1x16x512.size (by sl_kernel_rfl) y

/-- What the stores leave in result 7's block. -/
def left19 : Vec F S1x4x16x512 .f32 :=
  VO0_19.read (Elt F) (VO0_19.writes (Elt F) VO0_19.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1)

end

variable (m : (ℓ : Loc nD τ sig) → Buf (Elt F) ℓ) (ρ : Dev nD → PrngReg)

/-- Result 0's block after point `t`. -/
def block12 (c : Dev nD) (t : Fin cfg0.N) : Vec F S1x4x32x1024 .bf16 :=
  left12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 1's block after point `t`. -/
def block13 (c : Dev nD) (t : Fin cfg0.N) : Vec F S1x4x32x1024 .bf16 :=
  left13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 2's block after point `t`. -/
def block14 (c : Dev nD) (t : Fin cfg0.N) : Vec F S1x4x512x128 .bf16 :=
  left14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 3's block after point `t`. -/
def block15 (c : Dev nD) (t : Fin cfg0.N) : Vec F S1x4x512x64 .bf16 :=
  left15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 4's block after point `t`. -/
def block16 (c : Dev nD) (t : Fin cfg0.N) : Vec F S1x4x1x80x512 .bf16 :=
  left16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 5's block after point `t`. -/
def block17 (c : Dev nD) (t : Fin cfg0.N) : Vec F S1x4x4x80x128 .bf16 :=
  left17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 6's block after point `t`. -/
def block18 (c : Dev nD) (t : Fin cfg0.N) : Vec F S1x4x64x2048 .bf16 :=
  left18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Result 7's block after point `t`. -/
def block19 (c : Dev nD) (t : Fin cfg0.N) : Vec F S1x4x16x512 .f32 :=
  left19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The data of the run: inputs keep their blocks, results take the blocks above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => block12 m c t
    | ⟨13, _⟩ => block13 m c t
    | ⟨14, _⟩ => block14 m c t
    | ⟨15, _⟩ => block15 m c t
    | ⟨16, _⟩ => block16 m c t
    | ⟨17, _⟩ => block17 m c t
    | ⟨18, _⟩ => block18 m c t
    | ⟨19, _⟩ => block19 m c t
    | ⟨_ + 20, h⟩ => absurd h (Nat.not_lt.2 (Nat.le_add_left _ _))
  Φ _ := Pipeline.ΦA spec0 c
  q _ := fullShare
  owed _ := 0

theorem array_eq (c : Dev nD) (w : Fin cfg0.W) : (dats m 0 c).A w = V m c (Pipeline.arrRef spec0 w) := by
  dsimp only [dats]

section
variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = block12 m c t := by dsimp only [dats]
theorem after13 : (dats m 0 c).after 13 t = block13 m c t := by dsimp only [dats]
theorem after14 : (dats m 0 c).after 14 t = block14 m c t := by dsimp only [dats]
theorem after15 : (dats m 0 c).after 15 t = block15 m c t := by dsimp only [dats]
theorem after16 : (dats m 0 c).after 16 t = block16 m c t := by dsimp only [dats]
theorem after17 : (dats m 0 c).after 17 t = block17 m c t := by dsimp only [dats]
theorem after18 : (dats m 0 c).after 18 t = block18 m c t := by dsimp only [dats]
theorem after19 : (dats m 0 c).after 19 t = block19 m c t := by dsimp only [dats]
theorem before0 (d) : (dats m 0 c).before 0 t d = iblk m c 0 t := before0_0_of m (dats m 0 c) (array_eq m c 0) (after0 m c) t d
theorem before1 (d) : (dats m 0 c).before 1 t d = iblk m c 1 t := before0_1_of m (dats m 0 c) (array_eq m c 1) (after1 m c) t d
theorem before2 (d) : (dats m 0 c).before 2 t d = iblk m c 2 t := before0_2_of m (dats m 0 c) (array_eq m c 2) (after2 m c) t d
theorem before3 (d) : (dats m 0 c).before 3 t d = iblk m c 3 t := before0_3_of m (dats m 0 c) (array_eq m c 3) (after3 m c) t d
theorem before4 (d) : (dats m 0 c).before 4 t d = iblk m c 4 t := before0_4_of m (dats m 0 c) (array_eq m c 4) (after4 m c) t d
theorem before5 (d) : (dats m 0 c).before 5 t d = iblk m c 5 t := before0_5_of m (dats m 0 c) (array_eq m c 5) (after5 m c) t d
theorem before6 (d) : (dats m 0 c).before 6 t d = iblk m c 6 t := before0_6_of m (dats m 0 c) (array_eq m c 6) (after6 m c) t d
theorem before7 (d) : (dats m 0 c).before 7 t d = iblk m c 7 t := before0_7_of m (dats m 0 c) (array_eq m c 7) (after7 m c) t d
theorem before8 (d) : (dats m 0 c).before 8 t d = iblk m c 8 t := before0_8_of m (dats m 0 c) (array_eq m c 8) (after8 m c) t d
theorem before9 (d) : (dats m 0 c).before 9 t d = iblk m c 9 t := before0_9_of m (dats m 0 c) (array_eq m c 9) (after9 m c) t d
theorem before10 (d) : (dats m 0 c).before 10 t d = iblk m c 10 t := before0_10_of m (dats m 0 c) (array_eq m c 10) (after10 m c) t d
theorem before11 (d) : (dats m 0 c).before 11 t d = iblk m c 11 t := before0_11_of m (dats m 0 c) (array_eq m c 11) (after11 m c) t d

/-- What the body is given at a point, window by window. -/
def given : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body returns at a point, window by window. -/
def returned : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
theorem sound : given m c t ⊢ wp frame (wpE (defs₀ (F := F)) Variants.none c none) Set.univ (bodyAt0 t) (fun _ => returned m c t) := by
  unfold given returned bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  rw [show (dats m 0 c).Φ t.castSucc = Pipeline.ΦA spec0 c from rfl, PhiA0_eq]
  unfold block12 block13 block14 block15 block16 block17 block18 block19
  unfold left12 left13 left14 left15 left16 left17 left18 left19
  dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (covered12 c _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (covered13 c _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (covered14 c _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (covered15 c _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (covered16 c _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (covered17 c _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (covered18 c _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (covered19 c _ _ _ _ _ _ _ _ _ _ _ _ _ _ _ _ _ _ _ _ _ _ _ _ _ _ _ _ _ _ _ _ _ _ _ _ _ _ _ _ _ _ _ _ _ _ _ _ _ _ _ _ _ _ _)

theorem row_eq : defs₀ (F := F) .tc cfg0.body (cfg0.bodyArgs t (cfg0.slots t)) = bodyAt0 t := by
  unfold defs₀; rw [Defs.onTc_tc]
end

set_option maxHeartbeats 2000000 in
theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := array_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The program ends, its arguments are unchanged, and its counters end at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (array_eq m) (run m ρ)) ((θ_run defs _ _).mono (fun _ h => h.2) (run_quiet m ρ))

end Cert.Kernel5.Att

end
-- ==== Proof.Att.Claim.lean ====
/-
  The claims about the attention's projections: the three frames, and the values — the kernel's eight result arrays and
  the reference's are the same rows.
-/
module

public import proofs.«01_k».proof.Defs
public import proofs.«01_k».proof.Proof.Att.ArrComp
public import proofs.«01_k».proof.Proof.Att.ArrKeys
public import proofs.«01_k».proof.Proof.Att.ArrVals
public import proofs.«01_k».proof.Proof.Att.ArrQ
public import proofs.«01_k».proof.Proof.Att.Ref
public import proofs.«01_k».proof.Proof.Att.Run

@[expose] public section

set_option maxRecDepth 16384

noncomputable section

open Idealize.ShloMosaic Idealize.SL.Sem

namespace Cert.Proof.Att

theorem frame_kernel : Cert.quiescent_Kernel5 := fun m ρ _ => Cert.Kernel5.Att.frame_run m ρ

theorem frame_ideal : Cert.quiescent_Kernel5Ideal := fun m ρ _ => Cert.Kernel5Ideal.Att.frame_run m ρ

theorem frame_reference : Cert.quiescent_Reference5Ideal := fun m ρ _ =>
  (θ_run Cert.Reference5Ideal.defs _ _).mono
    (fun r h => ⟨fun c => (h c).2.2.2.2.2.2.2.2, sem_eq_zero_of_no_sems (by decide) r.2⟩)
    (Cert.Reference5Ideal.Value.run (F := Ideal) m ρ)

theorem preserves : Cert.preserves_Kernel5_Kernel5Ideal := trivial

/-! ## Where the arguments agree the two results are one array -/

section
variable (m : (ℓ : Loc Cert.Kernel5Ideal.nD Cert.Kernel5Ideal.τ Cert.Kernel5Ideal.sig) → Buf (Elt Ideal) ℓ)
    (V0 : Valuation Cert.Reference5Ideal.τ Cert.Reference5Ideal.sig (Elt Ideal)) (c : Dev 1)

theorem same_kc (h0 : (Cert.Reference5Ideal.Rows.aX V0 : Cert.Reference5Ideal.S2x8192x1024.Idx → EReal) = Cert.Kernel5Ideal.Rows.aX m c) (h2 : (Cert.Reference5Ideal.Rows.aG V0 : Cert.Reference5Ideal.S1024.Idx → EReal) = Cert.Kernel5Ideal.Rows.aG m c) (h3 : (Cert.Reference5Ideal.Rows.aW V0 : Cert.Reference5Ideal.S1024x1536.Idx → EReal) = Cert.Kernel5Ideal.Rows.aW m c) :
    (Cert.Reference5Ideal.Rows.kcE V0 : Cert.Reference5Ideal.S2x4x512x1024.Idx → EReal) = Cert.Kernel5Ideal.Rows.res12 m c := by
  funext i
  obtain ⟨b, g, n, l, rfl⟩ : ∃ (b : Fin 2) (g : Fin 4) (n : Fin 512) (l : Fin 1024), i = (ix4 b g n l : Cert.Reference5Ideal.S2x4x512x1024.Idx) := ⟨i 0, i 1, i 2, i 3, funext fun a => by fin_cases a <;> rfl⟩
  refine (Cert.Reference5Ideal.Rows.kc_at V0 b g n l).trans ?_
  rw [h0, h2, h3]
  rfl

theorem same_vc (h0 : (Cert.Reference5Ideal.Rows.aX V0 : Cert.Reference5Ideal.S2x8192x1024.Idx → EReal) = Cert.Kernel5Ideal.Rows.aX m c) (h2 : (Cert.Reference5Ideal.Rows.aG V0 : Cert.Reference5Ideal.S1024.Idx → EReal) = Cert.Kernel5Ideal.Rows.aG m c) (h3 : (Cert.Reference5Ideal.Rows.aW V0 : Cert.Reference5Ideal.S1024x1536.Idx → EReal) = Cert.Kernel5Ideal.Rows.aW m c) :
    (Cert.Reference5Ideal.Rows.vcE V0 : Cert.Reference5Ideal.S2x4x512x1024.Idx → EReal) = Cert.Kernel5Ideal.Rows.res13 m c := by
  funext i
  obtain ⟨b, g, n, l, rfl⟩ : ∃ (b : Fin 2) (g : Fin 4) (n : Fin 512) (l : Fin 1024), i = (ix4 b g n l : Cert.Reference5Ideal.S2x4x512x1024.Idx) := ⟨i 0, i 1, i 2, i 3, funext fun a => by fin_cases a <;> rfl⟩
  refine (Cert.Reference5Ideal.Rows.vc_at V0 b g n l).trans ?_
  rw [h0, h2, h3]
  rfl

theorem same_ks (h0 : (Cert.Reference5Ideal.Rows.aX V0 : Cert.Reference5Ideal.S2x8192x1024.Idx → EReal) = Cert.Kernel5Ideal.Rows.aX m c) (h2 : (Cert.Reference5Ideal.Rows.aG V0 : Cert.Reference5Ideal.S1024.Idx → EReal) = Cert.Kernel5Ideal.Rows.aG m c) (h3 : (Cert.Reference5Ideal.Rows.aW V0 : Cert.Reference5Ideal.S1024x1536.Idx → EReal) = Cert.Kernel5Ideal.Rows.aW m c) :
    (Cert.Reference5Ideal.Rows.ksE V0 : Cert.Reference5Ideal.S2x4x8192x128.Idx → EReal) = Cert.Kernel5Ideal.Rows.res14 m c := by
  funext i
  obtain ⟨b, g, n, l, rfl⟩ : ∃ (b : Fin 2) (g : Fin 4) (n : Fin 8192) (l : Fin 128), i = (ix4 b g n l : Cert.Reference5Ideal.S2x4x8192x128.Idx) := ⟨i 0, i 1, i 2, i 3, funext fun a => by fin_cases a <;> rfl⟩
  refine (Cert.Reference5Ideal.Rows.ks_at V0 b g n l).trans ?_
  rw [h0, h2, h3]
  rfl

theorem same_kw (h0 : (Cert.Reference5Ideal.Rows.aX V0 : Cert.Reference5Ideal.S2x8192x1024.Idx → EReal) = Cert.Kernel5Ideal.Rows.aX m c) (h2 : (Cert.Reference5Ideal.Rows.aG V0 : Cert.Reference5Ideal.S1024.Idx → EReal) = Cert.Kernel5Ideal.Rows.aG m c) (h3 : (Cert.Reference5Ideal.Rows.aW V0 : Cert.Reference5Ideal.S1024x1536.Idx → EReal) = Cert.Kernel5Ideal.Rows.aW m c) :
    (Cert.Reference5Ideal.Rows.kwE V0 : Cert.Reference5Ideal.S2x4x8192x64.Idx → EReal) = Cert.Kernel5Ideal.Rows.res15 m c := by
  funext i
  obtain ⟨b, g, n, l, rfl⟩ : ∃ (b : Fin 2) (g : Fin 4) (n : Fin 8192) (l : Fin 64), i = (ix4 b g n l : Cert.Reference5Ideal.S2x4x8192x64.Idx) := ⟨i 0, i 1, i 2, i 3, funext fun a => by fin_cases a <;> rfl⟩
  refine (Cert.Reference5Ideal.Rows.kw_at V0 b g n l).trans ?_
  rw [h0, h2, h3]
  rfl

theorem same_vs (h0 : (Cert.Reference5Ideal.Rows.aX V0 : Cert.Reference5Ideal.S2x8192x1024.Idx → EReal) = Cert.Kernel5Ideal.Rows.aX m c) (h2 : (Cert.Reference5Ideal.Rows.aG V0 : Cert.Reference5Ideal.S1024.Idx → EReal) = Cert.Kernel5Ideal.Rows.aG m c) (h3 : (Cert.Reference5Ideal.Rows.aW V0 : Cert.Reference5Ideal.S1024x1536.Idx → EReal) = Cert.Kernel5Ideal.Rows.aW m c) :
    (Cert.Reference5Ideal.Rows.vsE V0 : Cert.Reference5Ideal.S2x4x16x80x512.Idx → EReal) = Cert.Kernel5Ideal.Rows.res16 m c := by
  funext i
  obtain ⟨b, g, n, r, l, rfl⟩ : ∃ (b : Fin 2) (g : Fin 4) (n : Fin 16) (r : Fin 80) (l : Fin 512), i = (ix5 b g n r l : Cert.Reference5Ideal.S2x4x16x80x512.Idx) := ⟨i 0, i 1, i 2, i 3, i 4, funext fun a => by fin_cases a <;> rfl⟩
  refine (Cert.Reference5Ideal.Rows.vs_at V0 b g n r l).trans ?_
  rw [h0, h2, h3]
  rfl

theorem same_vw (h0 : (Cert.Reference5Ideal.Rows.aX V0 : Cert.Reference5Ideal.S2x8192x1024.Idx → EReal) = Cert.Kernel5Ideal.Rows.aX m c) (h2 : (Cert.Reference5Ideal.Rows.aG V0 : Cert.Reference5Ideal.S1024.Idx → EReal) = Cert.Kernel5Ideal.Rows.aG m c) (h3 : (Cert.Reference5Ideal.Rows.aW V0 : Cert.Reference5Ideal.S1024x1536.Idx → EReal) = Cert.Kernel5Ideal.Rows.aW m c) :
    (Cert.Reference5Ideal.Rows.vwE V0 : Cert.Reference5Ideal.S2x4x64x80x128.Idx → EReal) = Cert.Kernel5Ideal.Rows.res17 m c := by
  funext i
  obtain ⟨b, g, n, r, l, rfl⟩ : ∃ (b : Fin 2) (g : Fin 4) (n : Fin 64) (r : Fin 80) (l : Fin 128), i = (ix5 b g n r l : Cert.Reference5Ideal.S2x4x64x80x128.Idx) := ⟨i 0, i 1, i 2, i 3, i 4, funext fun a => by fin_cases a <;> rfl⟩
  refine (Cert.Reference5Ideal.Rows.vw_at V0 b g n r l).trans ?_
  rw [h0, h2, h3]
  rfl

theorem same_q (h0 : (Cert.Reference5Ideal.Rows.aX V0 : Cert.Reference5Ideal.S2x8192x1024.Idx → EReal) = Cert.Kernel5Ideal.Rows.aX m c) (h1 : (Cert.Reference5Ideal.Rows.aN V0 : Cert.Reference5Ideal.S2x4x1024.Idx → EReal) = Cert.Kernel5Ideal.Rows.aN m c) (h4 : (Cert.Reference5Ideal.Rows.aU V0 : Cert.Reference5Ideal.S1x1024x1072.Idx → EReal) = Cert.Kernel5Ideal.Rows.aU m c) :
    (Cert.Reference5Ideal.Rows.qE V0 : Cert.Reference5Ideal.S2x4x64x32768.Idx → EReal) = Cert.Kernel5Ideal.Rows.res18 m c := by
  funext i
  obtain ⟨b, g, n, l, rfl⟩ : ∃ (b : Fin 2) (g : Fin 4) (n : Fin 64) (l : Fin 32768), i = (ix4 b g n l : Cert.Reference5Ideal.S2x4x64x32768.Idx) := ⟨i 0, i 1, i 2, i 3, funext fun a => by fin_cases a <;> rfl⟩
  refine (Cert.Reference5Ideal.Rows.q_at V0 b g n l).trans ?_
  rw [h0, h1, h4]
  rfl

theorem same_gate (h0 : (Cert.Reference5Ideal.Rows.aX V0 : Cert.Reference5Ideal.S2x8192x1024.Idx → EReal) = Cert.Kernel5Ideal.Rows.aX m c) (h1 : (Cert.Reference5Ideal.Rows.aN V0 : Cert.Reference5Ideal.S2x4x1024.Idx → EReal) = Cert.Kernel5Ideal.Rows.aN m c) (h4 : (Cert.Reference5Ideal.Rows.aU V0 : Cert.Reference5Ideal.S1x1024x1072.Idx → EReal) = Cert.Kernel5Ideal.Rows.aU m c) :
    (Cert.Reference5Ideal.Rows.gateE V0 : Cert.Reference5Ideal.S2x4x16x8192.Idx → EReal) = Cert.Kernel5Ideal.Rows.res19 m c := by
  funext i
  obtain ⟨b, g, n, l, rfl⟩ : ∃ (b : Fin 2) (g : Fin 4) (n : Fin 16) (l : Fin 8192), i = (ix4 b g n l : Cert.Reference5Ideal.S2x4x16x8192.Idx) := ⟨i 0, i 1, i 2, i 3, funext fun a => by fin_cases a <;> rfl⟩
  refine (Cert.Reference5Ideal.Rows.gate_at V0 b g n l).trans ?_
  rw [h0, h1, h4]
  rfl
end

set_option maxHeartbeats 8000000 in
theorem algebraic : Cert.algebraic_Kernel5Ideal_Reference5Ideal := by
  intro m g m' g' _ hagree
  refine ⟨fun c => Cert.Kernel5Ideal.Rows.res12 m c, fun c => Cert.Kernel5Ideal.Rows.res13 m c, fun c => Cert.Kernel5Ideal.Rows.res14 m c, fun c => Cert.Kernel5Ideal.Rows.res15 m c, fun c => Cert.Kernel5Ideal.Rows.res16 m c, fun c => Cert.Kernel5Ideal.Rows.res17 m c, fun c => Cert.Kernel5Ideal.Rows.res18 m c, fun c => Cert.Kernel5Ideal.Rows.res19 m c, ?_, ?_⟩
  · refine (θ_run Cert.Kernel5Ideal.defs _ _).mono (fun _ hh c => ?_) (Cert.Kernel5Ideal.Att.run_named (F := Ideal) m g)
    have h := hh c
    exact ⟨h.1.trans (Cert.Kernel5Ideal.Rows.final12 m c), h.2.1.trans (Cert.Kernel5Ideal.Rows.final13 m c), h.2.2.1.trans (Cert.Kernel5Ideal.Rows.final14 m c), h.2.2.2.1.trans (Cert.Kernel5Ideal.Rows.final15 m c), h.2.2.2.2.1.trans (Cert.Kernel5Ideal.Rows.final16 m c), h.2.2.2.2.2.1.trans (Cert.Kernel5Ideal.Rows.final17 m c), h.2.2.2.2.2.2.1.trans (Cert.Kernel5Ideal.Rows.final18 m c), h.2.2.2.2.2.2.2.1.trans (Cert.Kernel5Ideal.Rows.final19 m c), h.2.2.2.2.2.2.2.2⟩
  · refine (θ_run Cert.Reference5Ideal.defs _ _).mono (fun _ hh c => ?_) (Cert.Reference5Ideal.Value.run (F := Ideal) m' g')
    obtain ⟨h0, h1, h2, h3, h4⟩ := hagree c
    have h := hh c
    exact ⟨h.1.trans (same_kc m (StableHlo.launchContents m' c) c h0 h2 h3),
      h.2.1.trans (same_vc m (StableHlo.launchContents m' c) c h0 h2 h3),
      h.2.2.1.trans (same_ks m (StableHlo.launchContents m' c) c h0 h2 h3),
      h.2.2.2.1.trans (same_kw m (StableHlo.launchContents m' c) c h0 h2 h3),
      h.2.2.2.2.1.trans (same_vs m (StableHlo.launchContents m' c) c h0 h2 h3),
      h.2.2.2.2.2.1.trans (same_vw m (StableHlo.launchContents m' c) c h0 h2 h3),
      h.2.2.2.2.2.2.1.trans (same_q m (StableHlo.launchContents m' c) c h0 h1 h4),
      h.2.2.2.2.2.2.2.1.trans (same_gate m (StableHlo.launchContents m' c) c h0 h1 h4),
      h.2.2.2.2.2.2.2.2⟩

end Cert.Proof.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame.RunA
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame.RunA
public import proofs.«01_k».proof.Proof.Gen.Reference5Ideal
public import proofs.«01_k».proof.Proof.Gen.Reference5Ideal.Run
public import proofs.«01_k».proof.Proof.Ret.Claim
public import proofs.«01_k».proof.Proof.Ffn.Claim1
public import proofs.«01_k».proof.Proof.Ffn.Claim0
public import proofs.«01_k».proof.Proof.Proj.Claim
public import proofs.«01_k».proof.Proof.Att.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Ret.frame_kernel, Ret.frame_ideal, Ret.frame_reference, Ffn1.frame_kernel, Ffn1.frame_ideal, Ffn1.frame_reference, Ffn0.frame_kernel, Ffn0.frame_ideal, Ffn0.frame_reference, Proj.frame_kernel, Proj.frame_ideal, Proj.frame_reference, Att.frame_kernel, Att.frame_ideal, Att.frame_reference,
  Ret.preserves, Ret.algebraic, Ffn1.preserves, Ffn1.algebraic, Ffn0.preserves, Ffn0.algebraic, Proj.preserves, Proj.algebraic, Att.preserves, Att.algebraic⟩

end Cert.Proof

end
